-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v17_1)) (v1 : (c : Dev Cert.KernelIdeal.nD) → Buf (Elt Ideal) ((c.tc : Thread Cert.KernelIdeal.nD Cert.KernelIdeal.τ).loc Cert.KernelIdeal.main_v17_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_1) = v0 c
          ∧ r.2.mem ((c.tc : Thread Cert.KernelIdeal.nD Cert.KernelIdeal.τ).loc Cert.KernelIdeal.main_v17_2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_v124) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S10x1x32x96 : Shape := ⟨4, ![10, 1, 32, 96]⟩
abbrev S10x1x8x96 : Shape := ⟨4, ![10, 1, 8, 96]⟩
abbrev S10x8x20480x48 : Shape := ⟨4, ![10, 8, 20480, 48]⟩
abbrev S10x8x320x96 : Shape := ⟨4, ![10, 8, 320, 96]⟩
abbrev S10x8x20480 : Shape := ⟨3, ![10, 8, 20480]⟩
abbrev S10 : Shape := ⟨1, ![10]⟩
abbrev S_ : Shape := ⟨0, ![]⟩

class Facts : Prop where
  bcast_S_S10 : S_.BroadcastsInDim S10 (![] : Fin 0 → Fin S10.rank)

variable [Facts]

def fn {F : FTy → Type} [FloatOps F] (main_arg0 : FVec F S10x1x32x96 .bf16) (main_arg1 : FVec F S10x1x8x96 .bf16) (main_arg2 : FVec F S10x1x8x96 .bf16) (main_arg3 : IVec S10x8x20480x48 8) (main_arg4 : IVec S10x8x20480x48 8) (main_arg5 : FVec F S10x8x320x96 .f32) (main_arg6 : FVec F S10x8x20480 .f32) (main_arg7 : IVec S10 32) (main_arg8 : IVec S10 32) : IVec S10 1 :=
  let main_c : IVec S_ 32 := constantI S_ 32 20480#32
  let main_v0 : IVec S10 32 := broadcastInDim S10 ![] bcast_S_S10 main_c
  let main_v1 : IVec S10 1 := cmpi .sle main_arg7 main_v0
  let main_c_0 : IVec S_ 32 := constantI S_ 32 0#32
  let main_v2 : IVec S10 32 := broadcastInDim S10 ![] bcast_S_S10 main_c_0
  let main_v3 : IVec S10 32 := maxsi main_arg7 main_v2
  let main_c_1 : IVec S_ 32 := constantI S_ 32 2147483647#32
  let main_v4 : IVec S10 32 := broadcastInDim S10 ![] bcast_S_S10 main_c_1
  let main_v5 : IVec S10 32 := subi main_v4 main_v3
  let main_v6 : IVec S10 1 := cmpi .sle main_arg8 main_v5
  let main_v7 : IVec S10 1 := andi main_v1 main_v6
  main_v7
-- ==== Kernel.lean ====
abbrev S10x1x32x96 : Shape := ⟨4, ![10, 1, 32, 96]⟩
abbrev S10x1x8x96 : Shape := ⟨4, ![10, 1, 8, 96]⟩
abbrev S10x8x20480x48 : Shape := ⟨4, ![10, 8, 20480, 48]⟩
abbrev S10x8x320x96 : Shape := ⟨4, ![10, 8, 320, 96]⟩
abbrev S10x8x20480 : Shape := ⟨3, ![10, 8, 20480]⟩
abbrev S10 : Shape := ⟨1, ![10]⟩
abbrev S48 : Shape := ⟨1, ![48]⟩
abbrev S_ : Shape := ⟨0, ![]⟩
abbrev S10x32x96 : Shape := ⟨3, ![10, 32, 96]⟩
abbrev S10x8x96 : Shape := ⟨3, ![10, 8, 96]⟩
abbrev S10x8x48x20480 : Shape := ⟨4, ![10, 8, 48, 20480]⟩
abbrev S10x8x96x320 : Shape := ⟨4, ![10, 8, 96, 320]⟩
abbrev S48x1 : Shape := ⟨2, ![48, 1]⟩
abbrev S1x48 : Shape := ⟨2, ![1, 48]⟩
abbrev S10x1x32x20480 : Shape := ⟨4, ![10, 1, 32, 20480]⟩
abbrev S1x8x48x2048 : Shape := ⟨4, ![1, 8, 48, 2048]⟩
abbrev S1 : Shape := ⟨1, ![1]⟩
abbrev S1x8x96x320 : Shape := ⟨4, ![1, 8, 96, 320]⟩
abbrev S1x8x2048 : Shape := ⟨3, ![1, 8, 2048]⟩
abbrev S1x32x96 : Shape := ⟨3, ![1, 32, 96]⟩
abbrev S1x1x32x2048 : Shape := ⟨4, ![1, 1, 32, 2048]⟩
abbrev S2x48x128 : Shape := ⟨3, ![2, 48, 128]⟩
abbrev S2x48x256 : Shape := ⟨3, ![2, 48, 256]⟩
abbrev S8x96x384 : Shape := ⟨3, ![8, 96, 384]⟩
abbrev S4x8x192 : Shape := ⟨3, ![4, 8, 192]⟩
abbrev S8x8x128 : Shape := ⟨3, ![8, 8, 128]⟩
abbrev S4x8x128 : Shape := ⟨3, ![4, 8, 128]⟩
abbrev S768x128 : Shape := ⟨2, ![768, 128]⟩
abbrev S48x128 : Shape := ⟨2, ![48, 128]⟩
abbrev S1x48x128 : Shape := ⟨3, ![1, 48, 128]⟩
abbrev S48x128x1 : Shape := ⟨3, ![48, 128, 1]⟩
abbrev S1x1x96x320 : Shape := ⟨4, ![1, 1, 96, 320]⟩
abbrev S96x320 : Shape := ⟨2, ![96, 320]⟩
abbrev S1x96x320 : Shape := ⟨3, ![1, 96, 320]⟩
abbrev S96x96 : Shape := ⟨2, ![96, 96]⟩
abbrev S32x96 : Shape := ⟨2, ![32, 96]⟩
abbrev S32x48 : Shape := ⟨2, ![32, 48]⟩
abbrev S1x8x96 : Shape := ⟨3, ![1, 8, 96]⟩
abbrev S8x96 : Shape := ⟨2, ![8, 96]⟩
abbrev S8x48 : Shape := ⟨2, ![8, 48]⟩
abbrev S8x192 : Shape := ⟨2, ![8, 192]⟩
abbrev S1x8x192 : Shape := ⟨3, ![1, 8, 192]⟩
abbrev S1x96 : Shape := ⟨2, ![1, 96]⟩
abbrev S8 : Shape := ⟨1, ![8]⟩
abbrev S8x1 : Shape := ⟨2, ![8, 1]⟩
abbrev S8x128 : Shape := ⟨2, ![8, 128]⟩
abbrev S1x8x128 : Shape := ⟨3, ![1, 8, 128]⟩
abbrev S8x96x128 : Shape := ⟨3, ![8, 96, 128]⟩
abbrev S768x128x1 : Shape := ⟨3, ![768, 128, 1]⟩
abbrev S1x8x48x128 : Shape := ⟨4, ![1, 8, 48, 128]⟩
abbrev S8x48x128 : Shape := ⟨3, ![8, 48, 128]⟩
abbrev S8x48x1x128 : Shape := ⟨4, ![8, 48, 1, 128]⟩
abbrev S8x48x2x128 : Shape := ⟨4, ![8, 48, 2, 128]⟩
abbrev S8x96x512 : Shape := ⟨3, ![8, 96, 512]⟩
abbrev S8x512 : Shape := ⟨2, ![8, 512]⟩
abbrev S2x96x512 : Shape := ⟨3, ![2, 96, 512]⟩
abbrev S192x512 : Shape := ⟨2, ![192, 512]⟩
abbrev S1x1x8x512 : Shape := ⟨4, ![1, 1, 8, 512]⟩
abbrev S1x1x512 : Shape := ⟨3, ![1, 1, 512]⟩
abbrev S1x512 : Shape := ⟨2, ![1, 512]⟩
abbrev S32x512 : Shape := ⟨2, ![32, 512]⟩
abbrev S1x1x32x512 : Shape := ⟨4, ![1, 1, 32, 512]⟩

abbrev nBuf : Space → Nat
  | .hbm => 31
  | .vmem => 29
  | .smem => 2
  | _ => 0

abbrev bufTy : (tb : Table) → Fin (tcTables nBuf tb) → BufTy
  | .hbm, ⟨0, _⟩ => ⟨S10x1x32x96, .bf16⟩
  | .hbm, ⟨1, _⟩ => ⟨S10x1x8x96, .bf16⟩
  | .hbm, ⟨2, _⟩ => ⟨S10x1x8x96, .bf16⟩
  | .hbm, ⟨3, _⟩ => ⟨S10x8x20480x48, .i8⟩
  | .hbm, ⟨4, _⟩ => ⟨S10x8x20480x48, .i8⟩
  | .hbm, ⟨5, _⟩ => ⟨S10x8x320x96, .f32⟩
  | .hbm, ⟨6, _⟩ => ⟨S10x8x20480, .f32⟩
  | .hbm, ⟨7, _⟩ => ⟨S48, .f32⟩
  | .hbm, ⟨8, _⟩ => ⟨S_, .f32⟩
  | .hbm, ⟨9, _⟩ => ⟨S48, .f32⟩
  | .hbm, ⟨10, _⟩ => ⟨S48, .f32⟩
  | .hbm, ⟨11, _⟩ => ⟨S_, .f32⟩
  | .hbm, ⟨12, _⟩ => ⟨S48, .f32⟩
  | .hbm, ⟨13, _⟩ => ⟨S48, .f32⟩
  | .hbm, ⟨14, _⟩ => ⟨S_, .f32⟩
  | .hbm, ⟨15, _⟩ => ⟨S48, .f32⟩
  | .hbm, ⟨16, _⟩ => ⟨S48, .f32⟩
  | .hbm, ⟨17, _⟩ => ⟨S_, .f32⟩
  | .hbm, ⟨18, _⟩ => ⟨S48, .f32⟩
  | .hbm, ⟨19, _⟩ => ⟨S48, .f32⟩
  | .hbm, ⟨20, _⟩ => ⟨S10x32x96, .bf16⟩
  | .hbm, ⟨21, _⟩ => ⟨S10x8x96, .bf16⟩
  | .hbm, ⟨22, _⟩ => ⟨S10x8x96, .bf16⟩
  | .hbm, ⟨23, _⟩ => ⟨S10x8x48x20480, .i8⟩
  | .hbm, ⟨24, _⟩ => ⟨S10x8x48x20480, .i8⟩
  | .hbm, ⟨25, _⟩ => ⟨S10x8x96x320, .f32⟩
  | .hbm, ⟨26, _⟩ => ⟨S48x1, .f32⟩
  | .hbm, ⟨27, _⟩ => ⟨S1x48, .f32⟩
  | .hbm, ⟨28, _⟩ => ⟨S10x32x96, .bf16⟩
  | .hbm, ⟨29, _⟩ => ⟨S10x32x96, .bf16⟩
  | .hbm, ⟨30, _⟩ => ⟨S10x1x32x20480, .f32⟩
  | .local _ .vmem, ⟨0, _⟩ => ⟨S10x32x96, .bf16⟩
  | .local _ .vmem, ⟨1, _⟩ => ⟨S10x8x96, .bf16⟩
  | .local _ .vmem, ⟨2, _⟩ => ⟨S10x8x96, .bf16⟩
  | .local _ .vmem, ⟨3, _⟩ => ⟨S1x8x48x2048, .i8⟩
  | .local _ .vmem, ⟨4, _⟩ => ⟨S1x8x48x2048, .i8⟩
  | .local _ .vmem, ⟨5, _⟩ => ⟨S1x8x48x2048, .i8⟩
  | .local _ .vmem, ⟨6, _⟩ => ⟨S1x8x48x2048, .i8⟩
  | .local _ .vmem, ⟨7, _⟩ => ⟨S1x8x96x320, .f32⟩
  | .local _ .vmem, ⟨8, _⟩ => ⟨S1x8x96x320, .f32⟩
  | .local _ .vmem, ⟨9, _⟩ => ⟨S1x8x2048, .f32⟩
  | .local _ .vmem, ⟨10, _⟩ => ⟨S1x8x2048, .f32⟩
  | .local _ .vmem, ⟨11, _⟩ => ⟨S48x1, .f32⟩
  | .local _ .vmem, ⟨12, _⟩ => ⟨S1x48, .f32⟩
  | .local _ .vmem, ⟨13, _⟩ => ⟨S1x32x96, .bf16⟩
  | .local _ .vmem, ⟨14, _⟩ => ⟨S1x32x96, .bf16⟩
  | .local _ .vmem, ⟨15, _⟩ => ⟨S1x32x96, .bf16⟩
  | .local _ .vmem, ⟨16, _⟩ => ⟨S1x32x96, .bf16⟩
  | .local _ .vmem, ⟨17, _⟩ => ⟨S1x1x32x2048, .f32⟩
  | .local _ .vmem, ⟨18, _⟩ => ⟨S1x1x32x2048, .f32⟩
  | .local _ .vmem, ⟨19, _⟩ => ⟨S2x48x128, .f32⟩
  | .local _ .vmem, ⟨20, _⟩ => ⟨S2x48x256, .f32⟩
  | .local _ .vmem, ⟨21, _⟩ => ⟨S2x48x128, .f32⟩
  | .local _ .vmem, ⟨22, _⟩ => ⟨S2x48x256, .f32⟩
  | .local _ .vmem, ⟨23, _⟩ => ⟨S2x48x128, .f32⟩
  | .local _ .vmem, ⟨24, _⟩ => ⟨S8x96x384, .f32⟩
  | .local _ .vmem, ⟨25, _⟩ => ⟨S4x8x192, .bf16⟩
  | .local _ .vmem, ⟨26, _⟩ => ⟨S8x8x128, .f32⟩
  | .local _ .vmem, ⟨27, _⟩ => ⟨S4x8x128, .f32⟩
  | .local _ .vmem, ⟨28, _⟩ => ⟨S4x8x192, .f32⟩
  | .local _ .smem, ⟨0, _⟩ => ⟨S10, .i32⟩
  | .local _ .smem, ⟨1, _⟩ => ⟨S10, .i32⟩
  | _, _ => ⟨S10x1x32x96, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17_0 : Ref sig .tc := ⟨.hbm, 28, rfl⟩
abbrev main_v17_1 : Ref sig .tc := ⟨.hbm, 29, rfl⟩
abbrev main_v17_2 : Ref sig .tc := ⟨.hbm, 30, rfl⟩
abbrev main_arg7 : Ref sig .tc := ⟨.smem, 0, rfl⟩
abbrev main_arg8 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc0_scratch7 : Ref sig .tc := ⟨.vmem, 26, rfl⟩
abbrev cc0_scratch8 : Ref sig .tc := ⟨.vmem, 27, rfl⟩
abbrev cc0_scratch9 : Ref sig .tc := ⟨.vmem, 28, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![10, 10], ![false, false]⟩

abbrev pre0 : Pipeline.Prefetch sig := ⟨2, ![main_arg7.idx, main_arg8.idx], fun | 0 => main_arg7.names | 1 => main_arg8.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) : BitVec 1 :=
  let arg1 : BitVec 32 := BitVec.ofNat 32 (i 1).val
  let c0_i32_10 : BitVec 32 := 0#32
  let v31 : BitVec 1 := Scalar.cmpi .eq arg1 c0_i32_10
  let v32 : BitVec 32 := Scalar.extui v31
  let c0_i32_11 : BitVec 32 := 0#32
  let v33 : BitVec 1 := Scalar.cmpi .ne v32 c0_i32_11
  v33

def k0_off2 (i : grid0.Coords) : Fin 1 → Nat :=
  let arg0 : BitVec 32 := BitVec.ofNat 32 (i 0).val
  let v156 : Index := Scalar.indexCast arg0
  ![v156.toNat]
def k0_off3 (i : grid0.Coords) : Fin 3 → Nat :=
  let arg0 : BitVec 32 := BitVec.ofNat 32 (i 0).val
  let v179 : Index := Scalar.indexCast arg0
  let c0_104 : Index := 0#32
  let c0_105 : Index := 0#32
  ![v179.toNat, 0, 0]
def k0_off4 (i : grid0.Coords) : Fin 3 → Nat :=
  let arg0 : BitVec 32 := BitVec.ofNat 32 (i 0).val
  let v197 : Index := Scalar.indexCast arg0
  let c0_106 : Index := 0#32
  let c0_107 : Index := 0#32
  ![v197.toNat, 0, 0]
@[reducible] def k0_t1_loop (i : grid0.Coords) (v1 : BitVec 32) : Scf.Loop 32 :=
  let c0_i32_28 : BitVec 32 := 0#32
  let c4_i32 : BitVec 32 := 4#32
  let c0_i32_6 : BitVec 32 := 0#32
  let arg1 : BitVec 32 := BitVec.ofNat 32 (i 1).val
  let c2048_i32 : BitVec 32 := 2048#32
  let v2 : BitVec 32 := Scalar.muli arg1 c2048_i32
  let v3 : BitVec 32 := Scalar.subi v1 v2
  let c512_i32 : BitVec 32 := 512#32
  let v4 : BitVec 32 := Scalar.addi v3 c512_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c512_i32_0 : BitVec 32 := 512#32
  let c0_i32_2 : BitVec 32 := 0#32
  let v12 : BitVec 1 := Scalar.cmpi .sgt c512_i32_0 c0_i32_2
  let v13 : BitVec 32 := Scalar.extui v12
  let c0_i32_3 : BitVec 32 := 0#32
  let v14 : BitVec 1 := Scalar.cmpi .slt c512_i32_0 c0_i32_3
  let v15 : BitVec 32 := Scalar.extui v14
  let v16 : BitVec 32 := Scalar.subi v13 v15
  let v17 : BitVec 1 := Scalar.cmpi .ne v11 v16
  let v18 : BitVec 32 := Scalar.remsi v5 c512_i32_0
  let c0_i32_4 : BitVec 32 := 0#32
  let v19 : BitVec 1 := Scalar.cmpi .ne v18 c0_i32_4
  let v20 : BitVec 1 := Scalar.andi v17 v19
  let v6 : BitVec 32 := Scalar.divsi v5 c512_i32_0
  let c1_i32_5 : BitVec 32 := 1#32
  let v21 : BitVec 32 := Scalar.subi v6 c1_i32_5
  let v22 : BitVec 32 := Scalar.select v20 v21 v6
  let v23 : BitVec 32 := Scalar.maxsi c0_i32_6 v22
  let v24 : BitVec 32 := Scalar.minsi c4_i32 v23
  let v55 : BitVec 32 := Scalar.subi v24 c0_i32_28
  let c1_i32_29 : BitVec 32 := 1#32
  let v57 : BitVec 32 := Scalar.divsi v55 c1_i32_29
  let v58 : BitVec 32 := Scalar.muli v57 c1_i32_29
  let v59 : BitVec 32 := Scalar.addi c0_i32_28 v58
  let c1_i32_30 : BitVec 32 := 1#32
  ⟨c0_i32_28, v59, c1_i32_30⟩
def k0_cond3 (i : grid0.Coords) (v1 : BitVec 32) : BitVec 1 :=
  let c4_i32 : BitVec 32 := 4#32
  let c0_i32_6 : BitVec 32 := 0#32
  let arg1 : BitVec 32 := BitVec.ofNat 32 (i 1).val
  let c2048_i32 : BitVec 32 := 2048#32
  let v2 : BitVec 32 := Scalar.muli arg1 c2048_i32
  let v3 : BitVec 32 := Scalar.subi v1 v2
  let c512_i32 : BitVec 32 := 512#32
  let v4 : BitVec 32 := Scalar.addi v3 c512_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c512_i32_0 : BitVec 32 := 512#32
  let c0_i32_2 : BitVec 32 := 0#32
  let v12 : BitVec 1 := Scalar.cmpi .sgt c512_i32_0 c0_i32_2
  let v13 : BitVec 32 := Scalar.extui v12
  let c0_i32_3 : BitVec 32 := 0#32
  let v14 : BitVec 1 := Scalar.cmpi .slt c512_i32_0 c0_i32_3
  let v15 : BitVec 32 := Scalar.extui v14
  let v16 : BitVec 32 := Scalar.subi v13 v15
  let v17 : BitVec 1 := Scalar.cmpi .ne v11 v16
  let v18 : BitVec 32 := Scalar.remsi v5 c512_i32_0
  let c0_i32_4 : BitVec 32 := 0#32
  let v19 : BitVec 1 := Scalar.cmpi .ne v18 c0_i32_4
  let v20 : BitVec 1 := Scalar.andi v17 v19
  let v6 : BitVec 32 := Scalar.divsi v5 c512_i32_0
  let c1_i32_5 : BitVec 32 := 1#32
  let v21 : BitVec 32 := Scalar.subi v6 c1_i32_5
  let v22 : BitVec 32 := Scalar.select v20 v21 v6
  let v23 : BitVec 32 := Scalar.maxsi c0_i32_6 v22
  let v24 : BitVec 32 := Scalar.minsi c4_i32 v23
  let c0_i32_12 : BitVec 32 := 0#32
  let v34 : BitVec 1 := Scalar.cmpi .sgt v24 c0_i32_12
  let v35 : BitVec 32 := Scalar.extui v34
  let c0_i32_13 : BitVec 32 := 0#32
  let v36 : BitVec 1 := Scalar.cmpi .ne v35 c0_i32_13
  v36

def k0_mult1 (i : grid0.Coords) (v1 : BitVec 32) (k0_t1 : Fin (k0_t1_loop i v1).trips) : BitVec 32 :=
  let c0_i32_28 : BitVec 32 := 0#32
  let c1_i32_30 : BitVec 32 := 1#32
  let arg26 : BitVec 32 := Scf.iv c0_i32_28 c1_i32_30 k0_t1
  let c512_i32_112 : BitVec 32 := 512#32
  let v169 : BitVec 32 := Scalar.muli arg26 c512_i32_112
  v169
def k0_mult2 (i : grid0.Coords) (v1 : BitVec 32) (k0_t1 : Fin (k0_t1_loop i v1).trips) : BitVec 32 :=
  let c0_i32_28 : BitVec 32 := 0#32
  let c1_i32_30 : BitVec 32 := 1#32
  let arg26 : BitVec 32 := Scf.iv c0_i32_28 c1_i32_30 k0_t1
  let c512_i32_112 : BitVec 32 := 512#32
  let v169 : BitVec 32 := Scalar.muli arg26 c512_i32_112
  let v170 : BitVec 32 := v169
  let c0_i32_113 : BitVec 32 := 0#32
  let v171 : BitVec 32 := Scalar.addi v170 c0_i32_113
  v171
def k0_mult3 (i : grid0.Coords) (v1 : BitVec 32) (k0_t1 : Fin (k0_t1_loop i v1).trips) : BitVec 32 :=
  let arg1 : BitVec 32 := BitVec.ofNat 32 (i 1).val
  let c16_i32 : BitVec 32 := 16#32
  let v173 : BitVec 32 := Scalar.muli arg1 c16_i32
  let c0_i32_28 : BitVec 32 := 0#32
  let c1_i32_30 : BitVec 32 := 1#32
  let arg26 : BitVec 32 := Scf.iv c0_i32_28 c1_i32_30 k0_t1
  let c4_i32_114 : BitVec 32 := 4#32
  let v174 : BitVec 32 := Scalar.muli arg26 c4_i32_114
  let v175 : BitVec 32 := Scalar.addi v173 v174
  let c0_i32_115 : BitVec 32 := 0#32
  let v176 : BitVec 32 := Scalar.addi v175 c0_i32_115
  let c0_i32_116 : BitVec 32 := 0#32
  let v178 : BitVec 1 := Scalar.cmpi .sgt v176 c0_i32_116
  let v179 : BitVec 32 := Scalar.extui v178
  let c0_i32_117 : BitVec 32 := 0#32
  let v180 : BitVec 1 := Scalar.cmpi .slt v176 c0_i32_117
  let v181 : BitVec 32 := Scalar.extui v180
  let v182 : BitVec 32 := Scalar.subi v179 v181
  let c128_i32 : BitVec 32 := 128#32
  let c0_i32_118 : BitVec 32 := 0#32
  let v183 : BitVec 1 := Scalar.cmpi .sgt c128_i32 c0_i32_118
  let v184 : BitVec 32 := Scalar.extui v183
  let c0_i32_119 : BitVec 32 := 0#32
  let v185 : BitVec 1 := Scalar.cmpi .slt c128_i32 c0_i32_119
  let v186 : BitVec 32 := Scalar.extui v185
  let v187 : BitVec 32 := Scalar.subi v184 v186
  let v188 : BitVec 1 := Scalar.cmpi .ne v182 v187
  let v189 : BitVec 32 := Scalar.remsi v176 c128_i32
  let c0_i32_120 : BitVec 32 := 0#32
  let v190 : BitVec 1 := Scalar.cmpi .ne v189 c0_i32_120
  let v191 : BitVec 1 := Scalar.andi v188 v190
  let v177 : BitVec 32 := Scalar.divsi v176 c128_i32
  let c1_i32_121 : BitVec 32 := 1#32
  let v192 : BitVec 32 := Scalar.subi v177 c1_i32_121
  let v193 : BitVec 32 := Scalar.select v191 v192 v177
  let c128_i32_122 : BitVec 32 := 128#32
  let v194 : BitVec 32 := Scalar.muli v193 c128_i32_122
  v194
def k0_mult4 (i : grid0.Coords) (v1 : BitVec 32) (k0_t1 : Fin (k0_t1_loop i v1).trips) : BitVec 32 :=
  let arg1 : BitVec 32 := BitVec.ofNat 32 (i 1).val
  let c16_i32 : BitVec 32 := 16#32
  let v173 : BitVec 32 := Scalar.muli arg1 c16_i32
  let c0_i32_28 : BitVec 32 := 0#32
  let c1_i32_30 : BitVec 32 := 1#32
  let arg26 : BitVec 32 := Scf.iv c0_i32_28 c1_i32_30 k0_t1
  let c4_i32_114 : BitVec 32 := 4#32
  let v174 : BitVec 32 := Scalar.muli arg26 c4_i32_114
  let v175 : BitVec 32 := Scalar.addi v173 v174
  let c0_i32_115 : BitVec 32 := 0#32
  let v176 : BitVec 32 := Scalar.addi v175 c0_i32_115
  let c0_i32_129 : BitVec 32 := 0#32
  let v208 : BitVec 1 := Scalar.cmpi .sgt v176 c0_i32_129
  let v209 : BitVec 32 := Scalar.extui v208
  let c0_i32_130 : BitVec 32 := 0#32
  let v210 : BitVec 1 := Scalar.cmpi .slt v176 c0_i32_130
  let v211 : BitVec 32 := Scalar.extui v210
  let v212 : BitVec 32 := Scalar.subi v209 v211
  let c64_i32 : BitVec 32 := 64#32
  let c0_i32_131 : BitVec 32 := 0#32
  let v213 : BitVec 1 := Scalar.cmpi .sgt c64_i32 c0_i32_131
  let v214 : BitVec 32 := Scalar.extui v213
  let c0_i32_132 : BitVec 32 := 0#32
  let v215 : BitVec 1 := Scalar.cmpi .slt c64_i32 c0_i32_132
  let v216 : BitVec 32 := Scalar.extui v215
  let v217 : BitVec 32 := Scalar.subi v214 v216
  let v218 : BitVec 1 := Scalar.cmpi .ne v212 v217
  let v219 : BitVec 32 := Scalar.remsi v176 c64_i32
  let c0_i32_133 : BitVec 32 := 0#32
  let v220 : BitVec 1 := Scalar.cmpi .ne v219 c0_i32_133
  let v221 : BitVec 1 := Scalar.andi v218 v220
  let v207 : BitVec 32 := Scalar.divsi v176 c64_i32
  let c1_i32_134 : BitVec 32 := 1#32
  let v222 : BitVec 32 := Scalar.subi v207 c1_i32_134
  let v223 : BitVec 32 := Scalar.select v221 v222 v207
  let c128_i32_135 : BitVec 32 := 128#32
  let v224 : BitVec 32 := Scalar.muli v223 c128_i32_135
  v224
def k0_off5 (i : grid0.Coords) (v1 : BitVec 32) (k0_t1 : Fin (k0_t1_loop i v1).trips) (c0_i32_115 : BitVec 32) : Fin 3 → Nat :=
  let c0_143 : Index := 0#32
  let c0_144 : Index := 0#32
  let arg1 : BitVec 32 := BitVec.ofNat 32 (i 1).val
  let c16_i32 : BitVec 32 := 16#32
  let v173 : BitVec 32 := Scalar.muli arg1 c16_i32
  let c0_i32_28 : BitVec 32 := 0#32
  let c1_i32_30 : BitVec 32 := 1#32
  let arg26 : BitVec 32 := Scf.iv c0_i32_28 c1_i32_30 k0_t1
  let c4_i32_114 : BitVec 32 := 4#32
  let v174 : BitVec 32 := Scalar.muli arg26 c4_i32_114
  let v175 : BitVec 32 := Scalar.addi v173 v174
  let v176 : BitVec 32 := Scalar.addi v175 c0_i32_115
  let c0_i32_116 : BitVec 32 := 0#32
  let v178 : BitVec 1 := Scalar.cmpi .sgt v176 c0_i32_116
  let v179 : BitVec 32 := Scalar.extui v178
  let c0_i32_117 : BitVec 32 := 0#32
  let v180 : BitVec 1 := Scalar.cmpi .slt v176 c0_i32_117
  let v181 : BitVec 32 := Scalar.extui v180
  let v182 : BitVec 32 := Scalar.subi v179 v181
  let c128_i32 : BitVec 32 := 128#32
  let c0_i32_118 : BitVec 32 := 0#32
  let v183 : BitVec 1 := Scalar.cmpi .sgt c128_i32 c0_i32_118
  let v184 : BitVec 32 := Scalar.extui v183
  let c0_i32_119 : BitVec 32 := 0#32
  let v185 : BitVec 1 := Scalar.cmpi .slt c128_i32 c0_i32_119
  let v186 : BitVec 32 := Scalar.extui v185
  let v187 : BitVec 32 := Scalar.subi v184 v186
  let v188 : BitVec 1 := Scalar.cmpi .ne v182 v187
  let v189 : BitVec 32 := Scalar.remsi v176 c128_i32
  let c0_i32_120 : BitVec 32 := 0#32
  let v190 : BitVec 1 := Scalar.cmpi .ne v189 c0_i32_120
  let v191 : BitVec 1 := Scalar.andi v188 v190
  let v177 : BitVec 32 := Scalar.divsi v176 c128_i32
  let c1_i32_121 : BitVec 32 := 1#32
  let v192 : BitVec 32 := Scalar.subi v177 c1_i32_121
  let v193 : BitVec 32 := Scalar.select v191 v192 v177
  let c128_i32_122 : BitVec 32 := 128#32
  let v194 : BitVec 32 := Scalar.muli v193 c128_i32_122
  let v195 : BitVec 32 := v194
  let v242 : Index := Scalar.indexCast v195
  ![0, 0, v242.toNat]
def k0_off6 (i : grid0.Coords) (v1 : BitVec 32) (k0_t1 : Fin (k0_t1_loop i v1).trips) (c0_i32_115 : BitVec 32) : Fin 3 → Nat :=
  let c1_147 : Index := 1#32
  let c0_148 : Index := 0#32
  let arg1 : BitVec 32 := BitVec.ofNat 32 (i 1).val
  let c16_i32 : BitVec 32 := 16#32
  let v173 : BitVec 32 := Scalar.muli arg1 c16_i32
  let c0_i32_28 : BitVec 32 := 0#32
  let c1_i32_30 : BitVec 32 := 1#32
  let arg26 : BitVec 32 := Scf.iv c0_i32_28 c1_i32_30 k0_t1
  let c4_i32_114 : BitVec 32 := 4#32
  let v174 : BitVec 32 := Scalar.muli arg26 c4_i32_114
  let v175 : BitVec 32 := Scalar.addi v173 v174
  let v176 : BitVec 32 := Scalar.addi v175 c0_i32_115
  let c0_i32_116 : BitVec 32 := 0#32
  let v178 : BitVec 1 := Scalar.cmpi .sgt v176 c0_i32_116
  let v179 : BitVec 32 := Scalar.extui v178
  let c0_i32_117 : BitVec 32 := 0#32
  let v180 : BitVec 1 := Scalar.cmpi .slt v176 c0_i32_117
  let v181 : BitVec 32 := Scalar.extui v180
  let v182 : BitVec 32 := Scalar.subi v179 v181
  let c128_i32 : BitVec 32 := 128#32
  let c0_i32_118 : BitVec 32 := 0#32
  let v183 : BitVec 1 := Scalar.cmpi .sgt c128_i32 c0_i32_118
  let v184 : BitVec 32 := Scalar.extui v183
  let c0_i32_119 : BitVec 32 := 0#32
  let v185 : BitVec 1 := Scalar.cmpi .slt c128_i32 c0_i32_119
  let v186 : BitVec 32 := Scalar.extui v185
  let v187 : BitVec 32 := Scalar.subi v184 v186
  let v188 : BitVec 1 := Scalar.cmpi .ne v182 v187
  let v189 : BitVec 32 := Scalar.remsi v176 c128_i32
  let c0_i32_120 : BitVec 32 := 0#32
  let v190 : BitVec 1 := Scalar.cmpi .ne v189 c0_i32_120
  let v191 : BitVec 1 := Scalar.andi v188 v190
  let v177 : BitVec 32 := Scalar.divsi v176 c128_i32
  let c1_i32_121 : BitVec 32 := 1#32
  let v192 : BitVec 32 := Scalar.subi v177 c1_i32_121
  let v193 : BitVec 32 := Scalar.select v191 v192 v177
  let c128_i32_122 : BitVec 32 := 128#32
  let v194 : BitVec 32 := Scalar.muli v193 c128_i32_122
  let v195 : BitVec 32 := v194
  let v253 : Index := Scalar.indexCast v195
  ![1, 0, v253.toNat]
def k0_off7 (i : grid0.Coords) (v1 : BitVec 32) (k0_t1 : Fin (k0_t1_loop i v1).trips) (c0_i32_115 : BitVec 32) : Fin 3 → Nat :=
  let c0_157 : Index := 0#32
  let c0_158 : Index := 0#32
  let arg1 : BitVec 32 := BitVec.ofNat 32 (i 1).val
  let c16_i32 : BitVec 32 := 16#32
  let v173 : BitVec 32 := Scalar.muli arg1 c16_i32
  let c0_i32_28 : BitVec 32 := 0#32
  let c1_i32_30 : BitVec 32 := 1#32
  let arg26 : BitVec 32 := Scf.iv c0_i32_28 c1_i32_30 k0_t1
  let c4_i32_114 : BitVec 32 := 4#32
  let v174 : BitVec 32 := Scalar.muli arg26 c4_i32_114
  let v175 : BitVec 32 := Scalar.addi v173 v174
  let v176 : BitVec 32 := Scalar.addi v175 c0_i32_115
  let c0_i32_129 : BitVec 32 := 0#32
  let v208 : BitVec 1 := Scalar.cmpi .sgt v176 c0_i32_129
  let v209 : BitVec 32 := Scalar.extui v208
  let c0_i32_130 : BitVec 32 := 0#32
  let v210 : BitVec 1 := Scalar.cmpi .slt v176 c0_i32_130
  let v211 : BitVec 32 := Scalar.extui v210
  let v212 : BitVec 32 := Scalar.subi v209 v211
  let c64_i32 : BitVec 32 := 64#32
  let c0_i32_131 : BitVec 32 := 0#32
  let v213 : BitVec 1 := Scalar.cmpi .sgt c64_i32 c0_i32_131
  let v214 : BitVec 32 := Scalar.extui v213
  let c0_i32_132 : BitVec 32 := 0#32
  let v215 : BitVec 1 := Scalar.cmpi .slt c64_i32 c0_i32_132
  let v216 : BitVec 32 := Scalar.extui v215
  let v217 : BitVec 32 := Scalar.subi v214 v216
  let v218 : BitVec 1 := Scalar.cmpi .ne v212 v217
  let v219 : BitVec 32 := Scalar.remsi v176 c64_i32
  let c0_i32_133 : BitVec 32 := 0#32
  let v220 : BitVec 1 := Scalar.cmpi .ne v219 c0_i32_133
  let v221 : BitVec 1 := Scalar.andi v218 v220
  let v207 : BitVec 32 := Scalar.divsi v176 c64_i32
  let c1_i32_134 : BitVec 32 := 1#32
  let v222 : BitVec 32 := Scalar.subi v207 c1_i32_134
  let v223 : BitVec 32 := Scalar.select v221 v222 v207
  let c128_i32_135 : BitVec 32 := 128#32
  let v224 : BitVec 32 := Scalar.muli v223 c128_i32_135
  let v225 : BitVec 32 := v224
  let v274 : Index := Scalar.indexCast v225
  ![0, 0, v274.toNat]
def k0_off8 (i : grid0.Coords) (v1 : BitVec 32) (k0_t1 : Fin (k0_t1_loop i v1).trips) (c0_i32_113 : BitVec 32) : Fin 4 → Nat :=
  let c0_161 : Index := 0#32
  let c0_162 : Index := 0#32
  let c0_163 : Index := 0#32
  let c0_i32_28 : BitVec 32 := 0#32
  let c1_i32_30 : BitVec 32 := 1#32
  let arg26 : BitVec 32 := Scf.iv c0_i32_28 c1_i32_30 k0_t1
  let c512_i32_112 : BitVec 32 := 512#32
  let v169 : BitVec 32 := Scalar.muli arg26 c512_i32_112
  let v170 : BitVec 32 := v169
  let v171 : BitVec 32 := Scalar.addi v170 c0_i32_113
  let v172 : BitVec 32 := v171
  let v287 : Index := Scalar.indexCast v172
  ![0, 0, 0, v287.toNat]
def k0_mult5 (i : grid0.Coords) (v1 : BitVec 32) (k0_t1 : Fin (k0_t1_loop i v1).trips) : BitVec 32 :=
  let c0_i32_28 : BitVec 32 := 0#32
  let c1_i32_30 : BitVec 32 := 1#32
  let arg26 : BitVec 32 := Scf.iv c0_i32_28 c1_i32_30 k0_t1
  let c512_i32_112 : BitVec 32 := 512#32
  let v169 : BitVec 32 := Scalar.muli arg26 c512_i32_112
  let v170 : BitVec 32 := v169
  let c128_i32_166 : BitVec 32 := 128#32
  let v327 : BitVec 32 := Scalar.addi v170 c128_i32_166
  v327
def k0_mult6 (i : grid0.Coords) (v1 : BitVec 32) (k0_t1 : Fin (k0_t1_loop i v1).trips) : BitVec 32 :=
  let arg1 : BitVec 32 := BitVec.ofNat 32 (i 1).val
  let c16_i32_167 : BitVec 32 := 16#32
  let v329 : BitVec 32 := Scalar.muli arg1 c16_i32_167
  let c0_i32_28 : BitVec 32 := 0#32
  let c1_i32_30 : BitVec 32 := 1#32
  let arg26 : BitVec 32 := Scf.iv c0_i32_28 c1_i32_30 k0_t1
  let c4_i32_168 : BitVec 32 := 4#32
  let v330 : BitVec 32 := Scalar.muli arg26 c4_i32_168
  let v331 : BitVec 32 := Scalar.addi v329 v330
  let c1_i32_169 : BitVec 32 := 1#32
  let v332 : BitVec 32 := Scalar.addi v331 c1_i32_169
  let c0_i32_171 : BitVec 32 := 0#32
  let v334 : BitVec 1 := Scalar.cmpi .sgt v332 c0_i32_171
  let v335 : BitVec 32 := Scalar.extui v334
  let c0_i32_172 : BitVec 32 := 0#32
  let v336 : BitVec 1 := Scalar.cmpi .slt v332 c0_i32_172
  let v337 : BitVec 32 := Scalar.extui v336
  let v338 : BitVec 32 := Scalar.subi v335 v337
  let c128_i32_170 : BitVec 32 := 128#32
  let c0_i32_173 : BitVec 32 := 0#32
  let v339 : BitVec 1 := Scalar.cmpi .sgt c128_i32_170 c0_i32_173
  let v340 : BitVec 32 := Scalar.extui v339
  let c0_i32_174 : BitVec 32 := 0#32
  let v341 : BitVec 1 := Scalar.cmpi .slt c128_i32_170 c0_i32_174
  let v342 : BitVec 32 := Scalar.extui v341
  let v343 : BitVec 32 := Scalar.subi v340 v342
  let v344 : BitVec 1 := Scalar.cmpi .ne v338 v343
  let v345 : BitVec 32 := Scalar.remsi v332 c128_i32_170
  let c0_i32_175 : BitVec 32 := 0#32
  let v346 : BitVec 1 := Scalar.cmpi .ne v345 c0_i32_175
  let v347 : BitVec 1 := Scalar.andi v344 v346
  let v333 : BitVec 32 := Scalar.divsi v332 c128_i32_170
  let c1_i32_176 : BitVec 32 := 1#32
  let v348 : BitVec 32 := Scalar.subi v333 c1_i32_176
  let v349 : BitVec 32 := Scalar.select v347 v348 v333
  let c128_i32_177 : BitVec 32 := 128#32
  let v350 : BitVec 32 := Scalar.muli v349 c128_i32_177
  v350
def k0_mult7 (i : grid0.Coords) (v1 : BitVec 32) (k0_t1 : Fin (k0_t1_loop i v1).trips) : BitVec 32 :=
  let arg1 : BitVec 32 := BitVec.ofNat 32 (i 1).val
  let c16_i32_167 : BitVec 32 := 16#32
  let v329 : BitVec 32 := Scalar.muli arg1 c16_i32_167
  let c0_i32_28 : BitVec 32 := 0#32
  let c1_i32_30 : BitVec 32 := 1#32
  let arg26 : BitVec 32 := Scf.iv c0_i32_28 c1_i32_30 k0_t1
  let c4_i32_168 : BitVec 32 := 4#32
  let v330 : BitVec 32 := Scalar.muli arg26 c4_i32_168
  let v331 : BitVec 32 := Scalar.addi v329 v330
  let c1_i32_169 : BitVec 32 := 1#32
  let v332 : BitVec 32 := Scalar.addi v331 c1_i32_169
  let c0_i32_185 : BitVec 32 := 0#32
  let v364 : BitVec 1 := Scalar.cmpi .sgt v332 c0_i32_185
  let v365 : BitVec 32 := Scalar.extui v364
  let c0_i32_186 : BitVec 32 := 0#32
  let v366 : BitVec 1 := Scalar.cmpi .slt v332 c0_i32_186
  let v367 : BitVec 32 := Scalar.extui v366
  let v368 : BitVec 32 := Scalar.subi v365 v367
  let c64_i32_184 : BitVec 32 := 64#32
  let c0_i32_187 : BitVec 32 := 0#32
  let v369 : BitVec 1 := Scalar.cmpi .sgt c64_i32_184 c0_i32_187
  let v370 : BitVec 32 := Scalar.extui v369
  let c0_i32_188 : BitVec 32 := 0#32
  let v371 : BitVec 1 := Scalar.cmpi .slt c64_i32_184 c0_i32_188
  let v372 : BitVec 32 := Scalar.extui v371
  let v373 : BitVec 32 := Scalar.subi v370 v372
  let v374 : BitVec 1 := Scalar.cmpi .ne v368 v373
  let v375 : BitVec 32 := Scalar.remsi v332 c64_i32_184
  let c0_i32_189 : BitVec 32 := 0#32
  let v376 : BitVec 1 := Scalar.cmpi .ne v375 c0_i32_189
  let v377 : BitVec 1 := Scalar.andi v374 v376
  let v363 : BitVec 32 := Scalar.divsi v332 c64_i32_184
  let c1_i32_190 : BitVec 32 := 1#32
  let v378 : BitVec 32 := Scalar.subi v363 c1_i32_190
  let v379 : BitVec 32 := Scalar.select v377 v378 v363
  let c128_i32_191 : BitVec 32 := 128#32
  let v380 : BitVec 32 := Scalar.muli v379 c128_i32_191
  v380
def k0_mult8 (i : grid0.Coords) (v1 : BitVec 32) (k0_t1 : Fin (k0_t1_loop i v1).trips) : BitVec 32 :=
  let c0_i32_28 : BitVec 32 := 0#32
  let c1_i32_30 : BitVec 32 := 1#32
  let arg26 : BitVec 32 := Scf.iv c0_i32_28 c1_i32_30 k0_t1
  let c512_i32_112 : BitVec 32 := 512#32
  let v169 : BitVec 32 := Scalar.muli arg26 c512_i32_112
  let v170 : BitVec 32 := v169
  let c256_i32 : BitVec 32 := 256#32
  let v483 : BitVec 32 := Scalar.addi v170 c256_i32
  v483
def k0_mult9 (i : grid0.Coords) (v1 : BitVec 32) (k0_t1 : Fin (k0_t1_loop i v1).trips) : BitVec 32 :=
  let arg1 : BitVec 32 := BitVec.ofNat 32 (i 1).val
  let c16_i32_225 : BitVec 32 := 16#32
  let v485 : BitVec 32 := Scalar.muli arg1 c16_i32_225
  let c0_i32_28 : BitVec 32 := 0#32
  let c1_i32_30 : BitVec 32 := 1#32
  let arg26 : BitVec 32 := Scf.iv c0_i32_28 c1_i32_30 k0_t1
  let c4_i32_226 : BitVec 32 := 4#32
  let v486 : BitVec 32 := Scalar.muli arg26 c4_i32_226
  let v487 : BitVec 32 := Scalar.addi v485 v486
  let c2_i32_227 : BitVec 32 := 2#32
  let v488 : BitVec 32 := Scalar.addi v487 c2_i32_227
  let c0_i32_229 : BitVec 32 := 0#32
  let v490 : BitVec 1 := Scalar.cmpi .sgt v488 c0_i32_229
  let v491 : BitVec 32 := Scalar.extui v490
  let c0_i32_230 : BitVec 32 := 0#32
  let v492 : BitVec 1 := Scalar.cmpi .slt v488 c0_i32_230
  let v493 : BitVec 32 := Scalar.extui v492
  let v494 : BitVec 32 := Scalar.subi v491 v493
  let c128_i32_228 : BitVec 32 := 128#32
  let c0_i32_231 : BitVec 32 := 0#32
  let v495 : BitVec 1 := Scalar.cmpi .sgt c128_i32_228 c0_i32_231
  let v496 : BitVec 32 := Scalar.extui v495
  let c0_i32_232 : BitVec 32 := 0#32
  let v497 : BitVec 1 := Scalar.cmpi .slt c128_i32_228 c0_i32_232
  let v498 : BitVec 32 := Scalar.extui v497
  let v499 : BitVec 32 := Scalar.subi v496 v498
  let v500 : BitVec 1 := Scalar.cmpi .ne v494 v499
  let v501 : BitVec 32 := Scalar.remsi v488 c128_i32_228
  let c0_i32_233 : BitVec 32 := 0#32
  let v502 : BitVec 1 := Scalar.cmpi .ne v501 c0_i32_233
  let v503 : BitVec 1 := Scalar.andi v500 v502
  let v489 : BitVec 32 := Scalar.divsi v488 c128_i32_228
  let c1_i32_234 : BitVec 32 := 1#32
  let v504 : BitVec 32 := Scalar.subi v489 c1_i32_234
  let v505 : BitVec 32 := Scalar.select v503 v504 v489
  let c128_i32_235 : BitVec 32 := 128#32
  let v506 : BitVec 32 := Scalar.muli v505 c128_i32_235
  v506
def k0_mult10 (i : grid0.Coords) (v1 : BitVec 32) (k0_t1 : Fin (k0_t1_loop i v1).trips) : BitVec 32 :=
  let arg1 : BitVec 32 := BitVec.ofNat 32 (i 1).val
  let c16_i32_225 : BitVec 32 := 16#32
  let v485 : BitVec 32 := Scalar.muli arg1 c16_i32_225
  let c0_i32_28 : BitVec 32 := 0#32
  let c1_i32_30 : BitVec 32 := 1#32
  let arg26 : BitVec 32 := Scf.iv c0_i32_28 c1_i32_30 k0_t1
  let c4_i32_226 : BitVec 32 := 4#32
  let v486 : BitVec 32 := Scalar.muli arg26 c4_i32_226
  let v487 : BitVec 32 := Scalar.addi v485 v486
  let c2_i32_227 : BitVec 32 := 2#32
  let v488 : BitVec 32 := Scalar.addi v487 c2_i32_227
  let c0_i32_243 : BitVec 32 := 0#32
  let v520 : BitVec 1 := Scalar.cmpi .sgt v488 c0_i32_243
  let v521 : BitVec 32 := Scalar.extui v520
  let c0_i32_244 : BitVec 32 := 0#32
  let v522 : BitVec 1 := Scalar.cmpi .slt v488 c0_i32_244
  let v523 : BitVec 32 := Scalar.extui v522
  let v524 : BitVec 32 := Scalar.subi v521 v523
  let c64_i32_242 : BitVec 32 := 64#32
  let c0_i32_245 : BitVec 32 := 0#32
  let v525 : BitVec 1 := Scalar.cmpi .sgt c64_i32_242 c0_i32_245
  let v526 : BitVec 32 := Scalar.extui v525
  let c0_i32_246 : BitVec 32 := 0#32
  let v527 : BitVec 1 := Scalar.cmpi .slt c64_i32_242 c0_i32_246
  let v528 : BitVec 32 := Scalar.extui v527
  let v529 : BitVec 32 := Scalar.subi v526 v528
  let v530 : BitVec 1 := Scalar.cmpi .ne v524 v529
  let v531 : BitVec 32 := Scalar.remsi v488 c64_i32_242
  let c0_i32_247 : BitVec 32 := 0#32
  let v532 : BitVec 1 := Scalar.cmpi .ne v531 c0_i32_247
  let v533 : BitVec 1 := Scalar.andi v530 v532
  let v519 : BitVec 32 := Scalar.divsi v488 c64_i32_242
  let c1_i32_248 : BitVec 32 := 1#32
  let v534 : BitVec 32 := Scalar.subi v519 c1_i32_248
  let v535 : BitVec 32 := Scalar.select v533 v534 v519
  let c128_i32_249 : BitVec 32 := 128#32
  let v536 : BitVec 32 := Scalar.muli v535 c128_i32_249
  v536
def k0_mult11 (i : grid0.Coords) (v1 : BitVec 32) (k0_t1 : Fin (k0_t1_loop i v1).trips) : BitVec 32 :=
  let c0_i32_28 : BitVec 32 := 0#32
  let c1_i32_30 : BitVec 32 := 1#32
  let arg26 : BitVec 32 := Scf.iv c0_i32_28 c1_i32_30 k0_t1
  let c512_i32_112 : BitVec 32 := 512#32
  let v169 : BitVec 32 := Scalar.muli arg26 c512_i32_112
  let v170 : BitVec 32 := v169
  let c384_i32 : BitVec 32 := 384#32
  let v639 : BitVec 32 := Scalar.addi v170 c384_i32
  v639
def k0_mult12 (i : grid0.Coords) (v1 : BitVec 32) (k0_t1 : Fin (k0_t1_loop i v1).trips) : BitVec 32 :=
  let arg1 : BitVec 32 := BitVec.ofNat 32 (i 1).val
  let c16_i32_283 : BitVec 32 := 16#32
  let v641 : BitVec 32 := Scalar.muli arg1 c16_i32_283
  let c0_i32_28 : BitVec 32 := 0#32
  let c1_i32_30 : BitVec 32 := 1#32
  let arg26 : BitVec 32 := Scf.iv c0_i32_28 c1_i32_30 k0_t1
  let c4_i32_284 : BitVec 32 := 4#32
  let v642 : BitVec 32 := Scalar.muli arg26 c4_i32_284
  let v643 : BitVec 32 := Scalar.addi v641 v642
  let c3_i32 : BitVec 32 := 3#32
  let v644 : BitVec 32 := Scalar.addi v643 c3_i32
  let c0_i32_286 : BitVec 32 := 0#32
  let v646 : BitVec 1 := Scalar.cmpi .sgt v644 c0_i32_286
  let v647 : BitVec 32 := Scalar.extui v646
  let c0_i32_287 : BitVec 32 := 0#32
  let v648 : BitVec 1 := Scalar.cmpi .slt v644 c0_i32_287
  let v649 : BitVec 32 := Scalar.extui v648
  let v650 : BitVec 32 := Scalar.subi v647 v649
  let c128_i32_285 : BitVec 32 := 128#32
  let c0_i32_288 : BitVec 32 := 0#32
  let v651 : BitVec 1 := Scalar.cmpi .sgt c128_i32_285 c0_i32_288
  let v652 : BitVec 32 := Scalar.extui v651
  let c0_i32_289 : BitVec 32 := 0#32
  let v653 : BitVec 1 := Scalar.cmpi .slt c128_i32_285 c0_i32_289
  let v654 : BitVec 32 := Scalar.extui v653
  let v655 : BitVec 32 := Scalar.subi v652 v654
  let v656 : BitVec 1 := Scalar.cmpi .ne v650 v655
  let v657 : BitVec 32 := Scalar.remsi v644 c128_i32_285
  let c0_i32_290 : BitVec 32 := 0#32
  let v658 : BitVec 1 := Scalar.cmpi .ne v657 c0_i32_290
  let v659 : BitVec 1 := Scalar.andi v656 v658
  let v645 : BitVec 32 := Scalar.divsi v644 c128_i32_285
  let c1_i32_291 : BitVec 32 := 1#32
  let v660 : BitVec 32 := Scalar.subi v645 c1_i32_291
  let v661 : BitVec 32 := Scalar.select v659 v660 v645
  let c128_i32_292 : BitVec 32 := 128#32
  let v662 : BitVec 32 := Scalar.muli v661 c128_i32_292
  v662
def k0_mult13 (i : grid0.Coords) (v1 : BitVec 32) (k0_t1 : Fin (k0_t1_loop i v1).trips) : BitVec 32 :=
  let arg1 : BitVec 32 := BitVec.ofNat 32 (i 1).val
  let c16_i32_283 : BitVec 32 := 16#32
  let v641 : BitVec 32 := Scalar.muli arg1 c16_i32_283
  let c0_i32_28 : BitVec 32 := 0#32
  let c1_i32_30 : BitVec 32 := 1#32
  let arg26 : BitVec 32 := Scf.iv c0_i32_28 c1_i32_30 k0_t1
  let c4_i32_284 : BitVec 32 := 4#32
  let v642 : BitVec 32 := Scalar.muli arg26 c4_i32_284
  let v643 : BitVec 32 := Scalar.addi v641 v642
  let c3_i32 : BitVec 32 := 3#32
  let v644 : BitVec 32 := Scalar.addi v643 c3_i32
  let c0_i32_300 : BitVec 32 := 0#32
  let v676 : BitVec 1 := Scalar.cmpi .sgt v644 c0_i32_300
  let v677 : BitVec 32 := Scalar.extui v676
  let c0_i32_301 : BitVec 32 := 0#32
  let v678 : BitVec 1 := Scalar.cmpi .slt v644 c0_i32_301
  let v679 : BitVec 32 := Scalar.extui v678
  let v680 : BitVec 32 := Scalar.subi v677 v679
  let c64_i32_299 : BitVec 32 := 64#32
  let c0_i32_302 : BitVec 32 := 0#32
  let v681 : BitVec 1 := Scalar.cmpi .sgt c64_i32_299 c0_i32_302
  let v682 : BitVec 32 := Scalar.extui v681
  let c0_i32_303 : BitVec 32 := 0#32
  let v683 : BitVec 1 := Scalar.cmpi .slt c64_i32_299 c0_i32_303
  let v684 : BitVec 32 := Scalar.extui v683
  let v685 : BitVec 32 := Scalar.subi v682 v684
  let v686 : BitVec 1 := Scalar.cmpi .ne v680 v685
  let v687 : BitVec 32 := Scalar.remsi v644 c64_i32_299
  let c0_i32_304 : BitVec 32 := 0#32
  let v688 : BitVec 1 := Scalar.cmpi .ne v687 c0_i32_304
  let v689 : BitVec 1 := Scalar.andi v686 v688
  let v675 : BitVec 32 := Scalar.divsi v644 c64_i32_299
  let c1_i32_305 : BitVec 32 := 1#32
  let v690 : BitVec 32 := Scalar.subi v675 c1_i32_305
  let v691 : BitVec 32 := Scalar.select v689 v690 v675
  let c128_i32_306 : BitVec 32 := 128#32
  let v692 : BitVec 32 := Scalar.muli v691 c128_i32_306
  v692
def k0_off9 (i : grid0.Coords) (v1 : BitVec 32) (k0_t1 : Fin (k0_t1_loop i v1).trips) : Fin 4 → Nat :=
  let c0_347 : Index := 0#32
  let c0_348 : Index := 0#32
  let c0_349 : Index := 0#32
  let c0_i32_28 : BitVec 32 := 0#32
  let c1_i32_30 : BitVec 32 := 1#32
  let arg26 : BitVec 32 := Scf.iv c0_i32_28 c1_i32_30 k0_t1
  let c512_i32_112 : BitVec 32 := 512#32
  let v169 : BitVec 32 := Scalar.muli arg26 c512_i32_112
  let v170 : BitVec 32 := v169
  let v812 : Index := Scalar.indexCast v170
  ![0, 0, 0, v812.toNat]
def k0_off10 (i : grid0.Coords) (v1 : BitVec 32) (k0_t1 : Fin (k0_t1_loop i v1).trips) : Fin 4 → Nat :=
  let c0_357 : Index := 0#32
  let c0_358 : Index := 0#32
  let c8 : Index := 8#32
  let c0_i32_28 : BitVec 32 := 0#32
  let c1_i32_30 : BitVec 32 := 1#32
  let arg26 : BitVec 32 := Scf.iv c0_i32_28 c1_i32_30 k0_t1
  let c512_i32_112 : BitVec 32 := 512#32
  let v169 : BitVec 32 := Scalar.muli arg26 c512_i32_112
  let v170 : BitVec 32 := v169
  let v835 : Index := Scalar.indexCast v170
  ![0, 0, 8, v835.toNat]
def k0_off11 (i : grid0.Coords) (v1 : BitVec 32) (k0_t1 : Fin (k0_t1_loop i v1).trips) : Fin 4 → Nat :=
  let c0_366 : Index := 0#32
  let c0_367 : Index := 0#32
  let c16 : Index := 16#32
  let c0_i32_28 : BitVec 32 := 0#32
  let c1_i32_30 : BitVec 32 := 1#32
  let arg26 : BitVec 32 := Scf.iv c0_i32_28 c1_i32_30 k0_t1
  let c512_i32_112 : BitVec 32 := 512#32
  let v169 : BitVec 32 := Scalar.muli arg26 c512_i32_112
  let v170 : BitVec 32 := v169
  let v858 : Index := Scalar.indexCast v170
  ![0, 0, 16, v858.toNat]
def k0_off12 (i : grid0.Coords) (v1 : BitVec 32) (k0_t1 : Fin (k0_t1_loop i v1).trips) : Fin 4 → Nat :=
  let c0_375 : Index := 0#32
  let c0_376 : Index := 0#32
  let c24 : Index := 24#32
  let c0_i32_28 : BitVec 32 := 0#32
  let c1_i32_30 : BitVec 32 := 1#32
  let arg26 : BitVec 32 := Scf.iv c0_i32_28 c1_i32_30 k0_t1
  let c512_i32_112 : BitVec 32 := 512#32
  let v169 : BitVec 32 := Scalar.muli arg26 c512_i32_112
  let v170 : BitVec 32 := v169
  let v881 : Index := Scalar.indexCast v170
  ![0, 0, 24, v881.toNat]
@[reducible] def k0_t2_loop (i : grid0.Coords) (v1 : BitVec 32) : Scf.Loop 32 :=
  let c0_i32_28 : BitVec 32 := 0#32
  let c4_i32 : BitVec 32 := 4#32
  let c0_i32_6 : BitVec 32 := 0#32
  let arg1 : BitVec 32 := BitVec.ofNat 32 (i 1).val
  let c2048_i32 : BitVec 32 := 2048#32
  let v2 : BitVec 32 := Scalar.muli arg1 c2048_i32
  let v3 : BitVec 32 := Scalar.subi v1 v2
  let c512_i32 : BitVec 32 := 512#32
  let v4 : BitVec 32 := Scalar.addi v3 c512_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c512_i32_0 : BitVec 32 := 512#32
  let c0_i32_2 : BitVec 32 := 0#32
  let v12 : BitVec 1 := Scalar.cmpi .sgt c512_i32_0 c0_i32_2
  let v13 : BitVec 32 := Scalar.extui v12
  let c0_i32_3 : BitVec 32 := 0#32
  let v14 : BitVec 1 := Scalar.cmpi .slt c512_i32_0 c0_i32_3
  let v15 : BitVec 32 := Scalar.extui v14
  let v16 : BitVec 32 := Scalar.subi v13 v15
  let v17 : BitVec 1 := Scalar.cmpi .ne v11 v16
  let v18 : BitVec 32 := Scalar.remsi v5 c512_i32_0
  let c0_i32_4 : BitVec 32 := 0#32
  let v19 : BitVec 1 := Scalar.cmpi .ne v18 c0_i32_4
  let v20 : BitVec 1 := Scalar.andi v17 v19
  let v6 : BitVec 32 := Scalar.divsi v5 c512_i32_0
  let c1_i32_5 : BitVec 32 := 1#32
  let v21 : BitVec 32 := Scalar.subi v6 c1_i32_5
  let v22 : BitVec 32 := Scalar.select v20 v21 v6
  let v23 : BitVec 32 := Scalar.maxsi c0_i32_6 v22
  let v24 : BitVec 32 := Scalar.minsi c4_i32 v23
  let v55 : BitVec 32 := Scalar.subi v24 c0_i32_28
  let c1_i32_29 : BitVec 32 := 1#32
  let v57 : BitVec 32 := Scalar.divsi v55 c1_i32_29
  let v58 : BitVec 32 := Scalar.muli v57 c1_i32_29
  let v59 : BitVec 32 := Scalar.addi c0_i32_28 v58
  let v56 : BitVec 32 := Scalar.addi c0_i32_28 v55
  let c1_i32_31 : BitVec 32 := 1#32
  ⟨v59, v56, c1_i32_31⟩
def k0_mult14 (i : grid0.Coords) (v1 : BitVec 32) (k0_t2 : Fin (k0_t2_loop i v1).trips) : BitVec 32 :=
  let c0_i32_28 : BitVec 32 := 0#32
  let c4_i32 : BitVec 32 := 4#32
  let c0_i32_6 : BitVec 32 := 0#32
  let arg1 : BitVec 32 := BitVec.ofNat 32 (i 1).val
  let c2048_i32 : BitVec 32 := 2048#32
  let v2 : BitVec 32 := Scalar.muli arg1 c2048_i32
  let v3 : BitVec 32 := Scalar.subi v1 v2
  let c512_i32 : BitVec 32 := 512#32
  let v4 : BitVec 32 := Scalar.addi v3 c512_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c512_i32_0 : BitVec 32 := 512#32
  let c0_i32_2 : BitVec 32 := 0#32
  let v12 : BitVec 1 := Scalar.cmpi .sgt c512_i32_0 c0_i32_2
  let v13 : BitVec 32 := Scalar.extui v12
  let c0_i32_3 : BitVec 32 := 0#32
  let v14 : BitVec 1 := Scalar.cmpi .slt c512_i32_0 c0_i32_3
  let v15 : BitVec 32 := Scalar.extui v14
  let v16 : BitVec 32 := Scalar.subi v13 v15
  let v17 : BitVec 1 := Scalar.cmpi .ne v11 v16
  let v18 : BitVec 32 := Scalar.remsi v5 c512_i32_0
  let c0_i32_4 : BitVec 32 := 0#32
  let v19 : BitVec 1 := Scalar.cmpi .ne v18 c0_i32_4
  let v20 : BitVec 1 := Scalar.andi v17 v19
  let v6 : BitVec 32 := Scalar.divsi v5 c512_i32_0
  let c1_i32_5 : BitVec 32 := 1#32
  let v21 : BitVec 32 := Scalar.subi v6 c1_i32_5
  let v22 : BitVec 32 := Scalar.select v20 v21 v6
  let v23 : BitVec 32 := Scalar.maxsi c0_i32_6 v22
  let v24 : BitVec 32 := Scalar.minsi c4_i32 v23
  let v55 : BitVec 32 := Scalar.subi v24 c0_i32_28
  let c1_i32_29 : BitVec 32 := 1#32
  let v57 : BitVec 32 := Scalar.divsi v55 c1_i32_29
  let v58 : BitVec 32 := Scalar.muli v57 c1_i32_29
  let v59 : BitVec 32 := Scalar.addi c0_i32_28 v58
  let c1_i32_31 : BitVec 32 := 1#32
  let arg26 : BitVec 32 := Scf.iv v59 c1_i32_31 k0_t2
  let c512_i32_112 : BitVec 32 := 512#32
  let v169 : BitVec 32 := Scalar.muli arg26 c512_i32_112
  v169
def k0_mult15 (i : grid0.Coords) (v1 : BitVec 32) (k0_t2 : Fin (k0_t2_loop i v1).trips) : BitVec 32 :=
  let c0_i32_28 : BitVec 32 := 0#32
  let c4_i32 : BitVec 32 := 4#32
  let c0_i32_6 : BitVec 32 := 0#32
  let arg1 : BitVec 32 := BitVec.ofNat 32 (i 1).val
  let c2048_i32 : BitVec 32 := 2048#32
  let v2 : BitVec 32 := Scalar.muli arg1 c2048_i32
  let v3 : BitVec 32 := Scalar.subi v1 v2
  let c512_i32 : BitVec 32 := 512#32
  let v4 : BitVec 32 := Scalar.addi v3 c512_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c512_i32_0 : BitVec 32 := 512#32
  let c0_i32_2 : BitVec 32 := 0#32
  let v12 : BitVec 1 := Scalar.cmpi .sgt c512_i32_0 c0_i32_2
  let v13 : BitVec 32 := Scalar.extui v12
  let c0_i32_3 : BitVec 32 := 0#32
  let v14 : BitVec 1 := Scalar.cmpi .slt c512_i32_0 c0_i32_3
  let v15 : BitVec 32 := Scalar.extui v14
  let v16 : BitVec 32 := Scalar.subi v13 v15
  let v17 : BitVec 1 := Scalar.cmpi .ne v11 v16
  let v18 : BitVec 32 := Scalar.remsi v5 c512_i32_0
  let c0_i32_4 : BitVec 32 := 0#32
  let v19 : BitVec 1 := Scalar.cmpi .ne v18 c0_i32_4
  let v20 : BitVec 1 := Scalar.andi v17 v19
  let v6 : BitVec 32 := Scalar.divsi v5 c512_i32_0
  let c1_i32_5 : BitVec 32 := 1#32
  let v21 : BitVec 32 := Scalar.subi v6 c1_i32_5
  let v22 : BitVec 32 := Scalar.select v20 v21 v6
  let v23 : BitVec 32 := Scalar.maxsi c0_i32_6 v22
  let v24 : BitVec 32 := Scalar.minsi c4_i32 v23
  let v55 : BitVec 32 := Scalar.subi v24 c0_i32_28
  let c1_i32_29 : BitVec 32 := 1#32
  let v57 : BitVec 32 := Scalar.divsi v55 c1_i32_29
  let v58 : BitVec 32 := Scalar.muli v57 c1_i32_29
  let v59 : BitVec 32 := Scalar.addi c0_i32_28 v58
  let c1_i32_31 : BitVec 32 := 1#32
  let arg26 : BitVec 32 := Scf.iv v59 c1_i32_31 k0_t2
  let c512_i32_112 : BitVec 32 := 512#32
  let v169 : BitVec 32 := Scalar.muli arg26 c512_i32_112
  let v170 : BitVec 32 := v169
  let c0_i32_113 : BitVec 32 := 0#32
  let v171 : BitVec 32 := Scalar.addi v170 c0_i32_113
  v171
def k0_mult16 (i : grid0.Coords) (v1 : BitVec 32) (k0_t2 : Fin (k0_t2_loop i v1).trips) : BitVec 32 :=
  let arg1 : BitVec 32 := BitVec.ofNat 32 (i 1).val
  let c16_i32 : BitVec 32 := 16#32
  let v173 : BitVec 32 := Scalar.muli arg1 c16_i32
  let c0_i32_28 : BitVec 32 := 0#32
  let c4_i32 : BitVec 32 := 4#32
  let c0_i32_6 : BitVec 32 := 0#32
  let c2048_i32 : BitVec 32 := 2048#32
  let v2 : BitVec 32 := Scalar.muli arg1 c2048_i32
  let v3 : BitVec 32 := Scalar.subi v1 v2
  let c512_i32 : BitVec 32 := 512#32
  let v4 : BitVec 32 := Scalar.addi v3 c512_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c512_i32_0 : BitVec 32 := 512#32
  let c0_i32_2 : BitVec 32 := 0#32
  let v12 : BitVec 1 := Scalar.cmpi .sgt c512_i32_0 c0_i32_2
  let v13 : BitVec 32 := Scalar.extui v12
  let c0_i32_3 : BitVec 32 := 0#32
  let v14 : BitVec 1 := Scalar.cmpi .slt c512_i32_0 c0_i32_3
  let v15 : BitVec 32 := Scalar.extui v14
  let v16 : BitVec 32 := Scalar.subi v13 v15
  let v17 : BitVec 1 := Scalar.cmpi .ne v11 v16
  let v18 : BitVec 32 := Scalar.remsi v5 c512_i32_0
  let c0_i32_4 : BitVec 32 := 0#32
  let v19 : BitVec 1 := Scalar.cmpi .ne v18 c0_i32_4
  let v20 : BitVec 1 := Scalar.andi v17 v19
  let v6 : BitVec 32 := Scalar.divsi v5 c512_i32_0
  let c1_i32_5 : BitVec 32 := 1#32
  let v21 : BitVec 32 := Scalar.subi v6 c1_i32_5
  let v22 : BitVec 32 := Scalar.select v20 v21 v6
  let v23 : BitVec 32 := Scalar.maxsi c0_i32_6 v22
  let v24 : BitVec 32 := Scalar.minsi c4_i32 v23
  let v55 : BitVec 32 := Scalar.subi v24 c0_i32_28
  let c1_i32_29 : BitVec 32 := 1#32
  let v57 : BitVec 32 := Scalar.divsi v55 c1_i32_29
  let v58 : BitVec 32 := Scalar.muli v57 c1_i32_29
  let v59 : BitVec 32 := Scalar.addi c0_i32_28 v58
  let c1_i32_31 : BitVec 32 := 1#32
  let arg26 : BitVec 32 := Scf.iv v59 c1_i32_31 k0_t2
  let c4_i32_114 : BitVec 32 := 4#32
  let v174 : BitVec 32 := Scalar.muli arg26 c4_i32_114
  let v175 : BitVec 32 := Scalar.addi v173 v174
  let c0_i32_115 : BitVec 32 := 0#32
  let v176 : BitVec 32 := Scalar.addi v175 c0_i32_115
  let c0_i32_116 : BitVec 32 := 0#32
  let v178 : BitVec 1 := Scalar.cmpi .sgt v176 c0_i32_116
  let v179 : BitVec 32 := Scalar.extui v178
  let c0_i32_117 : BitVec 32 := 0#32
  let v180 : BitVec 1 := Scalar.cmpi .slt v176 c0_i32_117
  let v181 : BitVec 32 := Scalar.extui v180
  let v182 : BitVec 32 := Scalar.subi v179 v181
  let c128_i32 : BitVec 32 := 128#32
  let c0_i32_118 : BitVec 32 := 0#32
  let v183 : BitVec 1 := Scalar.cmpi .sgt c128_i32 c0_i32_118
  let v184 : BitVec 32 := Scalar.extui v183
  let c0_i32_119 : BitVec 32 := 0#32
  let v185 : BitVec 1 := Scalar.cmpi .slt c128_i32 c0_i32_119
  let v186 : BitVec 32 := Scalar.extui v185
  let v187 : BitVec 32 := Scalar.subi v184 v186
  let v188 : BitVec 1 := Scalar.cmpi .ne v182 v187
  let v189 : BitVec 32 := Scalar.remsi v176 c128_i32
  let c0_i32_120 : BitVec 32 := 0#32
  let v190 : BitVec 1 := Scalar.cmpi .ne v189 c0_i32_120
  let v191 : BitVec 1 := Scalar.andi v188 v190
  let v177 : BitVec 32 := Scalar.divsi v176 c128_i32
  let c1_i32_121 : BitVec 32 := 1#32
  let v192 : BitVec 32 := Scalar.subi v177 c1_i32_121
  let v193 : BitVec 32 := Scalar.select v191 v192 v177
  let c128_i32_122 : BitVec 32 := 128#32
  let v194 : BitVec 32 := Scalar.muli v193 c128_i32_122
  v194
def k0_mult17 (i : grid0.Coords) (v1 : BitVec 32) (k0_t2 : Fin (k0_t2_loop i v1).trips) : BitVec 32 :=
  let arg1 : BitVec 32 := BitVec.ofNat 32 (i 1).val
  let c16_i32 : BitVec 32 := 16#32
  let v173 : BitVec 32 := Scalar.muli arg1 c16_i32
  let c0_i32_28 : BitVec 32 := 0#32
  let c4_i32 : BitVec 32 := 4#32
  let c0_i32_6 : BitVec 32 := 0#32
  let c2048_i32 : BitVec 32 := 2048#32
  let v2 : BitVec 32 := Scalar.muli arg1 c2048_i32
  let v3 : BitVec 32 := Scalar.subi v1 v2
  let c512_i32 : BitVec 32 := 512#32
  let v4 : BitVec 32 := Scalar.addi v3 c512_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c512_i32_0 : BitVec 32 := 512#32
  let c0_i32_2 : BitVec 32 := 0#32
  let v12 : BitVec 1 := Scalar.cmpi .sgt c512_i32_0 c0_i32_2
  let v13 : BitVec 32 := Scalar.extui v12
  let c0_i32_3 : BitVec 32 := 0#32
  let v14 : BitVec 1 := Scalar.cmpi .slt c512_i32_0 c0_i32_3
  let v15 : BitVec 32 := Scalar.extui v14
  let v16 : BitVec 32 := Scalar.subi v13 v15
  let v17 : BitVec 1 := Scalar.cmpi .ne v11 v16
  let v18 : BitVec 32 := Scalar.remsi v5 c512_i32_0
  let c0_i32_4 : BitVec 32 := 0#32
  let v19 : BitVec 1 := Scalar.cmpi .ne v18 c0_i32_4
  let v20 : BitVec 1 := Scalar.andi v17 v19
  let v6 : BitVec 32 := Scalar.divsi v5 c512_i32_0
  let c1_i32_5 : BitVec 32 := 1#32
  let v21 : BitVec 32 := Scalar.subi v6 c1_i32_5
  let v22 : BitVec 32 := Scalar.select v20 v21 v6
  let v23 : BitVec 32 := Scalar.maxsi c0_i32_6 v22
  let v24 : BitVec 32 := Scalar.minsi c4_i32 v23
  let v55 : BitVec 32 := Scalar.subi v24 c0_i32_28
  let c1_i32_29 : BitVec 32 := 1#32
  let v57 : BitVec 32 := Scalar.divsi v55 c1_i32_29
  let v58 : BitVec 32 := Scalar.muli v57 c1_i32_29
  let v59 : BitVec 32 := Scalar.addi c0_i32_28 v58
  let c1_i32_31 : BitVec 32 := 1#32
  let arg26 : BitVec 32 := Scf.iv v59 c1_i32_31 k0_t2
  let c4_i32_114 : BitVec 32 := 4#32
  let v174 : BitVec 32 := Scalar.muli arg26 c4_i32_114
  let v175 : BitVec 32 := Scalar.addi v173 v174
  let c0_i32_115 : BitVec 32 := 0#32
  let v176 : BitVec 32 := Scalar.addi v175 c0_i32_115
  let c0_i32_129 : BitVec 32 := 0#32
  let v208 : BitVec 1 := Scalar.cmpi .sgt v176 c0_i32_129
  let v209 : BitVec 32 := Scalar.extui v208
  let c0_i32_130 : BitVec 32 := 0#32
  let v210 : BitVec 1 := Scalar.cmpi .slt v176 c0_i32_130
  let v211 : BitVec 32 := Scalar.extui v210
  let v212 : BitVec 32 := Scalar.subi v209 v211
  let c64_i32 : BitVec 32 := 64#32
  let c0_i32_131 : BitVec 32 := 0#32
  let v213 : BitVec 1 := Scalar.cmpi .sgt c64_i32 c0_i32_131
  let v214 : BitVec 32 := Scalar.extui v213
  let c0_i32_132 : BitVec 32 := 0#32
  let v215 : BitVec 1 := Scalar.cmpi .slt c64_i32 c0_i32_132
  let v216 : BitVec 32 := Scalar.extui v215
  let v217 : BitVec 32 := Scalar.subi v214 v216
  let v218 : BitVec 1 := Scalar.cmpi .ne v212 v217
  let v219 : BitVec 32 := Scalar.remsi v176 c64_i32
  let c0_i32_133 : BitVec 32 := 0#32
  let v220 : BitVec 1 := Scalar.cmpi .ne v219 c0_i32_133
  let v221 : BitVec 1 := Scalar.andi v218 v220
  let v207 : BitVec 32 := Scalar.divsi v176 c64_i32
  let c1_i32_134 : BitVec 32 := 1#32
  let v222 : BitVec 32 := Scalar.subi v207 c1_i32_134
  let v223 : BitVec 32 := Scalar.select v221 v222 v207
  let c128_i32_135 : BitVec 32 := 128#32
  let v224 : BitVec 32 := Scalar.muli v223 c128_i32_135
  v224
def k0_off13 (i : grid0.Coords) (v1 : BitVec 32) (k0_t2 : Fin (k0_t2_loop i v1).trips) (c0_i32_115 : BitVec 32) : Fin 3 → Nat :=
  let c0_143 : Index := 0#32
  let c0_144 : Index := 0#32
  let arg1 : BitVec 32 := BitVec.ofNat 32 (i 1).val
  let c16_i32 : BitVec 32 := 16#32
  let v173 : BitVec 32 := Scalar.muli arg1 c16_i32
  let c0_i32_28 : BitVec 32 := 0#32
  let c4_i32 : BitVec 32 := 4#32
  let c0_i32_6 : BitVec 32 := 0#32
  let c2048_i32 : BitVec 32 := 2048#32
  let v2 : BitVec 32 := Scalar.muli arg1 c2048_i32
  let v3 : BitVec 32 := Scalar.subi v1 v2
  let c512_i32 : BitVec 32 := 512#32
  let v4 : BitVec 32 := Scalar.addi v3 c512_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c512_i32_0 : BitVec 32 := 512#32
  let c0_i32_2 : BitVec 32 := 0#32
  let v12 : BitVec 1 := Scalar.cmpi .sgt c512_i32_0 c0_i32_2
  let v13 : BitVec 32 := Scalar.extui v12
  let c0_i32_3 : BitVec 32 := 0#32
  let v14 : BitVec 1 := Scalar.cmpi .slt c512_i32_0 c0_i32_3
  let v15 : BitVec 32 := Scalar.extui v14
  let v16 : BitVec 32 := Scalar.subi v13 v15
  let v17 : BitVec 1 := Scalar.cmpi .ne v11 v16
  let v18 : BitVec 32 := Scalar.remsi v5 c512_i32_0
  let c0_i32_4 : BitVec 32 := 0#32
  let v19 : BitVec 1 := Scalar.cmpi .ne v18 c0_i32_4
  let v20 : BitVec 1 := Scalar.andi v17 v19
  let v6 : BitVec 32 := Scalar.divsi v5 c512_i32_0
  let c1_i32_5 : BitVec 32 := 1#32
  let v21 : BitVec 32 := Scalar.subi v6 c1_i32_5
  let v22 : BitVec 32 := Scalar.select v20 v21 v6
  let v23 : BitVec 32 := Scalar.maxsi c0_i32_6 v22
  let v24 : BitVec 32 := Scalar.minsi c4_i32 v23
  let v55 : BitVec 32 := Scalar.subi v24 c0_i32_28
  let c1_i32_29 : BitVec 32 := 1#32
  let v57 : BitVec 32 := Scalar.divsi v55 c1_i32_29
  let v58 : BitVec 32 := Scalar.muli v57 c1_i32_29
  let v59 : BitVec 32 := Scalar.addi c0_i32_28 v58
  let c1_i32_31 : BitVec 32 := 1#32
  let arg26 : BitVec 32 := Scf.iv v59 c1_i32_31 k0_t2
  let c4_i32_114 : BitVec 32 := 4#32
  let v174 : BitVec 32 := Scalar.muli arg26 c4_i32_114
  let v175 : BitVec 32 := Scalar.addi v173 v174
  let v176 : BitVec 32 := Scalar.addi v175 c0_i32_115
  let c0_i32_116 : BitVec 32 := 0#32
  let v178 : BitVec 1 := Scalar.cmpi .sgt v176 c0_i32_116
  let v179 : BitVec 32 := Scalar.extui v178
  let c0_i32_117 : BitVec 32 := 0#32
  let v180 : BitVec 1 := Scalar.cmpi .slt v176 c0_i32_117
  let v181 : BitVec 32 := Scalar.extui v180
  let v182 : BitVec 32 := Scalar.subi v179 v181
  let c128_i32 : BitVec 32 := 128#32
  let c0_i32_118 : BitVec 32 := 0#32
  let v183 : BitVec 1 := Scalar.cmpi .sgt c128_i32 c0_i32_118
  let v184 : BitVec 32 := Scalar.extui v183
  let c0_i32_119 : BitVec 32 := 0#32
  let v185 : BitVec 1 := Scalar.cmpi .slt c128_i32 c0_i32_119
  let v186 : BitVec 32 := Scalar.extui v185
  let v187 : BitVec 32 := Scalar.subi v184 v186
  let v188 : BitVec 1 := Scalar.cmpi .ne v182 v187
  let v189 : BitVec 32 := Scalar.remsi v176 c128_i32
  let c0_i32_120 : BitVec 32 := 0#32
  let v190 : BitVec 1 := Scalar.cmpi .ne v189 c0_i32_120
  let v191 : BitVec 1 := Scalar.andi v188 v190
  let v177 : BitVec 32 := Scalar.divsi v176 c128_i32
  let c1_i32_121 : BitVec 32 := 1#32
  let v192 : BitVec 32 := Scalar.subi v177 c1_i32_121
  let v193 : BitVec 32 := Scalar.select v191 v192 v177
  let c128_i32_122 : BitVec 32 := 128#32
  let v194 : BitVec 32 := Scalar.muli v193 c128_i32_122
  let v195 : BitVec 32 := v194
  let v242 : Index := Scalar.indexCast v195
  ![0, 0, v242.toNat]
def k0_off14 (i : grid0.Coords) (v1 : BitVec 32) (k0_t2 : Fin (k0_t2_loop i v1).trips) (c0_i32_115 : BitVec 32) : Fin 3 → Nat :=
  let c1_147 : Index := 1#32
  let c0_148 : Index := 0#32
  let arg1 : BitVec 32 := BitVec.ofNat 32 (i 1).val
  let c16_i32 : BitVec 32 := 16#32
  let v173 : BitVec 32 := Scalar.muli arg1 c16_i32
  let c0_i32_28 : BitVec 32 := 0#32
  let c4_i32 : BitVec 32 := 4#32
  let c0_i32_6 : BitVec 32 := 0#32
  let c2048_i32 : BitVec 32 := 2048#32
  let v2 : BitVec 32 := Scalar.muli arg1 c2048_i32
  let v3 : BitVec 32 := Scalar.subi v1 v2
  let c512_i32 : BitVec 32 := 512#32
  let v4 : BitVec 32 := Scalar.addi v3 c512_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c512_i32_0 : BitVec 32 := 512#32
  let c0_i32_2 : BitVec 32 := 0#32
  let v12 : BitVec 1 := Scalar.cmpi .sgt c512_i32_0 c0_i32_2
  let v13 : BitVec 32 := Scalar.extui v12
  let c0_i32_3 : BitVec 32 := 0#32
  let v14 : BitVec 1 := Scalar.cmpi .slt c512_i32_0 c0_i32_3
  let v15 : BitVec 32 := Scalar.extui v14
  let v16 : BitVec 32 := Scalar.subi v13 v15
  let v17 : BitVec 1 := Scalar.cmpi .ne v11 v16
  let v18 : BitVec 32 := Scalar.remsi v5 c512_i32_0
  let c0_i32_4 : BitVec 32 := 0#32
  let v19 : BitVec 1 := Scalar.cmpi .ne v18 c0_i32_4
  let v20 : BitVec 1 := Scalar.andi v17 v19
  let v6 : BitVec 32 := Scalar.divsi v5 c512_i32_0
  let c1_i32_5 : BitVec 32 := 1#32
  let v21 : BitVec 32 := Scalar.subi v6 c1_i32_5
  let v22 : BitVec 32 := Scalar.select v20 v21 v6
  let v23 : BitVec 32 := Scalar.maxsi c0_i32_6 v22
  let v24 : BitVec 32 := Scalar.minsi c4_i32 v23
  let v55 : BitVec 32 := Scalar.subi v24 c0_i32_28
  let c1_i32_29 : BitVec 32 := 1#32
  let v57 : BitVec 32 := Scalar.divsi v55 c1_i32_29
  let v58 : BitVec 32 := Scalar.muli v57 c1_i32_29
  let v59 : BitVec 32 := Scalar.addi c0_i32_28 v58
  let c1_i32_31 : BitVec 32 := 1#32
  let arg26 : BitVec 32 := Scf.iv v59 c1_i32_31 k0_t2
  let c4_i32_114 : BitVec 32 := 4#32
  let v174 : BitVec 32 := Scalar.muli arg26 c4_i32_114
  let v175 : BitVec 32 := Scalar.addi v173 v174
  let v176 : BitVec 32 := Scalar.addi v175 c0_i32_115
  let c0_i32_116 : BitVec 32 := 0#32
  let v178 : BitVec 1 := Scalar.cmpi .sgt v176 c0_i32_116
  let v179 : BitVec 32 := Scalar.extui v178
  let c0_i32_117 : BitVec 32 := 0#32
  let v180 : BitVec 1 := Scalar.cmpi .slt v176 c0_i32_117
  let v181 : BitVec 32 := Scalar.extui v180
  let v182 : BitVec 32 := Scalar.subi v179 v181
  let c128_i32 : BitVec 32 := 128#32
  let c0_i32_118 : BitVec 32 := 0#32
  let v183 : BitVec 1 := Scalar.cmpi .sgt c128_i32 c0_i32_118
  let v184 : BitVec 32 := Scalar.extui v183
  let c0_i32_119 : BitVec 32 := 0#32
  let v185 : BitVec 1 := Scalar.cmpi .slt c128_i32 c0_i32_119
  let v186 : BitVec 32 := Scalar.extui v185
  let v187 : BitVec 32 := Scalar.subi v184 v186
  let v188 : BitVec 1 := Scalar.cmpi .ne v182 v187
  let v189 : BitVec 32 := Scalar.remsi v176 c128_i32
  let c0_i32_120 : BitVec 32 := 0#32
  let v190 : BitVec 1 := Scalar.cmpi .ne v189 c0_i32_120
  let v191 : BitVec 1 := Scalar.andi v188 v190
  let v177 : BitVec 32 := Scalar.divsi v176 c128_i32
  let c1_i32_121 : BitVec 32 := 1#32
  let v192 : BitVec 32 := Scalar.subi v177 c1_i32_121
  let v193 : BitVec 32 := Scalar.select v191 v192 v177
  let c128_i32_122 : BitVec 32 := 128#32
  let v194 : BitVec 32 := Scalar.muli v193 c128_i32_122
  let v195 : BitVec 32 := v194
  let v253 : Index := Scalar.indexCast v195
  ![1, 0, v253.toNat]
def k0_off15 (i : grid0.Coords) (v1 : BitVec 32) (k0_t2 : Fin (k0_t2_loop i v1).trips) (c0_i32_115 : BitVec 32) : Fin 3 → Nat :=
  let c0_157 : Index := 0#32
  let c0_158 : Index := 0#32
  let arg1 : BitVec 32 := BitVec.ofNat 32 (i 1).val
  let c16_i32 : BitVec 32 := 16#32
  let v173 : BitVec 32 := Scalar.muli arg1 c16_i32
  let c0_i32_28 : BitVec 32 := 0#32
  let c4_i32 : BitVec 32 := 4#32
  let c0_i32_6 : BitVec 32 := 0#32
  let c2048_i32 : BitVec 32 := 2048#32
  let v2 : BitVec 32 := Scalar.muli arg1 c2048_i32
  let v3 : BitVec 32 := Scalar.subi v1 v2
  let c512_i32 : BitVec 32 := 512#32
  let v4 : BitVec 32 := Scalar.addi v3 c512_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c512_i32_0 : BitVec 32 := 512#32
  let c0_i32_2 : BitVec 32 := 0#32
  let v12 : BitVec 1 := Scalar.cmpi .sgt c512_i32_0 c0_i32_2
  let v13 : BitVec 32 := Scalar.extui v12
  let c0_i32_3 : BitVec 32 := 0#32
  let v14 : BitVec 1 := Scalar.cmpi .slt c512_i32_0 c0_i32_3
  let v15 : BitVec 32 := Scalar.extui v14
  let v16 : BitVec 32 := Scalar.subi v13 v15
  let v17 : BitVec 1 := Scalar.cmpi .ne v11 v16
  let v18 : BitVec 32 := Scalar.remsi v5 c512_i32_0
  let c0_i32_4 : BitVec 32 := 0#32
  let v19 : BitVec 1 := Scalar.cmpi .ne v18 c0_i32_4
  let v20 : BitVec 1 := Scalar.andi v17 v19
  let v6 : BitVec 32 := Scalar.divsi v5 c512_i32_0
  let c1_i32_5 : BitVec 32 := 1#32
  let v21 : BitVec 32 := Scalar.subi v6 c1_i32_5
  let v22 : BitVec 32 := Scalar.select v20 v21 v6
  let v23 : BitVec 32 := Scalar.maxsi c0_i32_6 v22
  let v24 : BitVec 32 := Scalar.minsi c4_i32 v23
  let v55 : BitVec 32 := Scalar.subi v24 c0_i32_28
  let c1_i32_29 : BitVec 32 := 1#32
  let v57 : BitVec 32 := Scalar.divsi v55 c1_i32_29
  let v58 : BitVec 32 := Scalar.muli v57 c1_i32_29
  let v59 : BitVec 32 := Scalar.addi c0_i32_28 v58
  let c1_i32_31 : BitVec 32 := 1#32
  let arg26 : BitVec 32 := Scf.iv v59 c1_i32_31 k0_t2
  let c4_i32_114 : BitVec 32 := 4#32
  let v174 : BitVec 32 := Scalar.muli arg26 c4_i32_114
  let v175 : BitVec 32 := Scalar.addi v173 v174
  let v176 : BitVec 32 := Scalar.addi v175 c0_i32_115
  let c0_i32_129 : BitVec 32 := 0#32
  let v208 : BitVec 1 := Scalar.cmpi .sgt v176 c0_i32_129
  let v209 : BitVec 32 := Scalar.extui v208
  let c0_i32_130 : BitVec 32 := 0#32
  let v210 : BitVec 1 := Scalar.cmpi .slt v176 c0_i32_130
  let v211 : BitVec 32 := Scalar.extui v210
  let v212 : BitVec 32 := Scalar.subi v209 v211
  let c64_i32 : BitVec 32 := 64#32
  let c0_i32_131 : BitVec 32 := 0#32
  let v213 : BitVec 1 := Scalar.cmpi .sgt c64_i32 c0_i32_131
  let v214 : BitVec 32 := Scalar.extui v213
  let c0_i32_132 : BitVec 32 := 0#32
  let v215 : BitVec 1 := Scalar.cmpi .slt c64_i32 c0_i32_132
  let v216 : BitVec 32 := Scalar.extui v215
  let v217 : BitVec 32 := Scalar.subi v214 v216
  let v218 : BitVec 1 := Scalar.cmpi .ne v212 v217
  let v219 : BitVec 32 := Scalar.remsi v176 c64_i32
  let c0_i32_133 : BitVec 32 := 0#32
  let v220 : BitVec 1 := Scalar.cmpi .ne v219 c0_i32_133
  let v221 : BitVec 1 := Scalar.andi v218 v220
  let v207 : BitVec 32 := Scalar.divsi v176 c64_i32
  let c1_i32_134 : BitVec 32 := 1#32
  let v222 : BitVec 32 := Scalar.subi v207 c1_i32_134
  let v223 : BitVec 32 := Scalar.select v221 v222 v207
  let c128_i32_135 : BitVec 32 := 128#32
  let v224 : BitVec 32 := Scalar.muli v223 c128_i32_135
  let v225 : BitVec 32 := v224
  let v274 : Index := Scalar.indexCast v225
  ![0, 0, v274.toNat]
def k0_off16 (i : grid0.Coords) (v1 : BitVec 32) (k0_t2 : Fin (k0_t2_loop i v1).trips) (c0_i32_113 : BitVec 32) : Fin 4 → Nat :=
  let c0_161 : Index := 0#32
  let c0_162 : Index := 0#32
  let c0_163 : Index := 0#32
  let c0_i32_28 : BitVec 32 := 0#32
  let c4_i32 : BitVec 32 := 4#32
  let c0_i32_6 : BitVec 32 := 0#32
  let arg1 : BitVec 32 := BitVec.ofNat 32 (i 1).val
  let c2048_i32 : BitVec 32 := 2048#32
  let v2 : BitVec 32 := Scalar.muli arg1 c2048_i32
  let v3 : BitVec 32 := Scalar.subi v1 v2
  let c512_i32 : BitVec 32 := 512#32
  let v4 : BitVec 32 := Scalar.addi v3 c512_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c512_i32_0 : BitVec 32 := 512#32
  let c0_i32_2 : BitVec 32 := 0#32
  let v12 : BitVec 1 := Scalar.cmpi .sgt c512_i32_0 c0_i32_2
  let v13 : BitVec 32 := Scalar.extui v12
  let c0_i32_3 : BitVec 32 := 0#32
  let v14 : BitVec 1 := Scalar.cmpi .slt c512_i32_0 c0_i32_3
  let v15 : BitVec 32 := Scalar.extui v14
  let v16 : BitVec 32 := Scalar.subi v13 v15
  let v17 : BitVec 1 := Scalar.cmpi .ne v11 v16
  let v18 : BitVec 32 := Scalar.remsi v5 c512_i32_0
  let c0_i32_4 : BitVec 32 := 0#32
  let v19 : BitVec 1 := Scalar.cmpi .ne v18 c0_i32_4
  let v20 : BitVec 1 := Scalar.andi v17 v19
  let v6 : BitVec 32 := Scalar.divsi v5 c512_i32_0
  let c1_i32_5 : BitVec 32 := 1#32
  let v21 : BitVec 32 := Scalar.subi v6 c1_i32_5
  let v22 : BitVec 32 := Scalar.select v20 v21 v6
  let v23 : BitVec 32 := Scalar.maxsi c0_i32_6 v22
  let v24 : BitVec 32 := Scalar.minsi c4_i32 v23
  let v55 : BitVec 32 := Scalar.subi v24 c0_i32_28
  let c1_i32_29 : BitVec 32 := 1#32
  let v57 : BitVec 32 := Scalar.divsi v55 c1_i32_29
  let v58 : BitVec 32 := Scalar.muli v57 c1_i32_29
  let v59 : BitVec 32 := Scalar.addi c0_i32_28 v58
  let c1_i32_31 : BitVec 32 := 1#32
  let arg26 : BitVec 32 := Scf.iv v59 c1_i32_31 k0_t2
  let c512_i32_112 : BitVec 32 := 512#32
  let v169 : BitVec 32 := Scalar.muli arg26 c512_i32_112
  let v170 : BitVec 32 := v169
  let v171 : BitVec 32 := Scalar.addi v170 c0_i32_113
  let v172 : BitVec 32 := v171
  let v287 : Index := Scalar.indexCast v172
  ![0, 0, 0, v287.toNat]
def k0_mult18 (i : grid0.Coords) (v1 : BitVec 32) (k0_t2 : Fin (k0_t2_loop i v1).trips) : BitVec 32 :=
  let c0_i32_28 : BitVec 32 := 0#32
  let c4_i32 : BitVec 32 := 4#32
  let c0_i32_6 : BitVec 32 := 0#32
  let arg1 : BitVec 32 := BitVec.ofNat 32 (i 1).val
  let c2048_i32 : BitVec 32 := 2048#32
  let v2 : BitVec 32 := Scalar.muli arg1 c2048_i32
  let v3 : BitVec 32 := Scalar.subi v1 v2
  let c512_i32 : BitVec 32 := 512#32
  let v4 : BitVec 32 := Scalar.addi v3 c512_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c512_i32_0 : BitVec 32 := 512#32
  let c0_i32_2 : BitVec 32 := 0#32
  let v12 : BitVec 1 := Scalar.cmpi .sgt c512_i32_0 c0_i32_2
  let v13 : BitVec 32 := Scalar.extui v12
  let c0_i32_3 : BitVec 32 := 0#32
  let v14 : BitVec 1 := Scalar.cmpi .slt c512_i32_0 c0_i32_3
  let v15 : BitVec 32 := Scalar.extui v14
  let v16 : BitVec 32 := Scalar.subi v13 v15
  let v17 : BitVec 1 := Scalar.cmpi .ne v11 v16
  let v18 : BitVec 32 := Scalar.remsi v5 c512_i32_0
  let c0_i32_4 : BitVec 32 := 0#32
  let v19 : BitVec 1 := Scalar.cmpi .ne v18 c0_i32_4
  let v20 : BitVec 1 := Scalar.andi v17 v19
  let v6 : BitVec 32 := Scalar.divsi v5 c512_i32_0
  let c1_i32_5 : BitVec 32 := 1#32
  let v21 : BitVec 32 := Scalar.subi v6 c1_i32_5
  let v22 : BitVec 32 := Scalar.select v20 v21 v6
  let v23 : BitVec 32 := Scalar.maxsi c0_i32_6 v22
  let v24 : BitVec 32 := Scalar.minsi c4_i32 v23
  let v55 : BitVec 32 := Scalar.subi v24 c0_i32_28
  let c1_i32_29 : BitVec 32 := 1#32
  let v57 : BitVec 32 := Scalar.divsi v55 c1_i32_29
  let v58 : BitVec 32 := Scalar.muli v57 c1_i32_29
  let v59 : BitVec 32 := Scalar.addi c0_i32_28 v58
  let c1_i32_31 : BitVec 32 := 1#32
  let arg26 : BitVec 32 := Scf.iv v59 c1_i32_31 k0_t2
  let c512_i32_112 : BitVec 32 := 512#32
  let v169 : BitVec 32 := Scalar.muli arg26 c512_i32_112
  let v170 : BitVec 32 := v169
  let c128_i32_166 : BitVec 32 := 128#32
  let v327 : BitVec 32 := Scalar.addi v170 c128_i32_166
  v327
def k0_mult19 (i : grid0.Coords) (v1 : BitVec 32) (k0_t2 : Fin (k0_t2_loop i v1).trips) : BitVec 32 :=
  let arg1 : BitVec 32 := BitVec.ofNat 32 (i 1).val
  let c16_i32_167 : BitVec 32 := 16#32
  let v329 : BitVec 32 := Scalar.muli arg1 c16_i32_167
  let c0_i32_28 : BitVec 32 := 0#32
  let c4_i32 : BitVec 32 := 4#32
  let c0_i32_6 : BitVec 32 := 0#32
  let c2048_i32 : BitVec 32 := 2048#32
  let v2 : BitVec 32 := Scalar.muli arg1 c2048_i32
  let v3 : BitVec 32 := Scalar.subi v1 v2
  let c512_i32 : BitVec 32 := 512#32
  let v4 : BitVec 32 := Scalar.addi v3 c512_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c512_i32_0 : BitVec 32 := 512#32
  let c0_i32_2 : BitVec 32 := 0#32
  let v12 : BitVec 1 := Scalar.cmpi .sgt c512_i32_0 c0_i32_2
  let v13 : BitVec 32 := Scalar.extui v12
  let c0_i32_3 : BitVec 32 := 0#32
  let v14 : BitVec 1 := Scalar.cmpi .slt c512_i32_0 c0_i32_3
  let v15 : BitVec 32 := Scalar.extui v14
  let v16 : BitVec 32 := Scalar.subi v13 v15
  let v17 : BitVec 1 := Scalar.cmpi .ne v11 v16
  let v18 : BitVec 32 := Scalar.remsi v5 c512_i32_0
  let c0_i32_4 : BitVec 32 := 0#32
  let v19 : BitVec 1 := Scalar.cmpi .ne v18 c0_i32_4
  let v20 : BitVec 1 := Scalar.andi v17 v19
  let v6 : BitVec 32 := Scalar.divsi v5 c512_i32_0
  let c1_i32_5 : BitVec 32 := 1#32
  let v21 : BitVec 32 := Scalar.subi v6 c1_i32_5
  let v22 : BitVec 32 := Scalar.select v20 v21 v6
  let v23 : BitVec 32 := Scalar.maxsi c0_i32_6 v22
  let v24 : BitVec 32 := Scalar.minsi c4_i32 v23
  let v55 : BitVec 32 := Scalar.subi v24 c0_i32_28
  let c1_i32_29 : BitVec 32 := 1#32
  let v57 : BitVec 32 := Scalar.divsi v55 c1_i32_29
  let v58 : BitVec 32 := Scalar.muli v57 c1_i32_29
  let v59 : BitVec 32 := Scalar.addi c0_i32_28 v58
  let c1_i32_31 : BitVec 32 := 1#32
  let arg26 : BitVec 32 := Scf.iv v59 c1_i32_31 k0_t2
  let c4_i32_168 : BitVec 32 := 4#32
  let v330 : BitVec 32 := Scalar.muli arg26 c4_i32_168
  let v331 : BitVec 32 := Scalar.addi v329 v330
  let c1_i32_169 : BitVec 32 := 1#32
  let v332 : BitVec 32 := Scalar.addi v331 c1_i32_169
  let c0_i32_171 : BitVec 32 := 0#32
  let v334 : BitVec 1 := Scalar.cmpi .sgt v332 c0_i32_171
  let v335 : BitVec 32 := Scalar.extui v334
  let c0_i32_172 : BitVec 32 := 0#32
  let v336 : BitVec 1 := Scalar.cmpi .slt v332 c0_i32_172
  let v337 : BitVec 32 := Scalar.extui v336
  let v338 : BitVec 32 := Scalar.subi v335 v337
  let c128_i32_170 : BitVec 32 := 128#32
  let c0_i32_173 : BitVec 32 := 0#32
  let v339 : BitVec 1 := Scalar.cmpi .sgt c128_i32_170 c0_i32_173
  let v340 : BitVec 32 := Scalar.extui v339
  let c0_i32_174 : BitVec 32 := 0#32
  let v341 : BitVec 1 := Scalar.cmpi .slt c128_i32_170 c0_i32_174
  let v342 : BitVec 32 := Scalar.extui v341
  let v343 : BitVec 32 := Scalar.subi v340 v342
  let v344 : BitVec 1 := Scalar.cmpi .ne v338 v343
  let v345 : BitVec 32 := Scalar.remsi v332 c128_i32_170
  let c0_i32_175 : BitVec 32 := 0#32
  let v346 : BitVec 1 := Scalar.cmpi .ne v345 c0_i32_175
  let v347 : BitVec 1 := Scalar.andi v344 v346
  let v333 : BitVec 32 := Scalar.divsi v332 c128_i32_170
  let c1_i32_176 : BitVec 32 := 1#32
  let v348 : BitVec 32 := Scalar.subi v333 c1_i32_176
  let v349 : BitVec 32 := Scalar.select v347 v348 v333
  let c128_i32_177 : BitVec 32 := 128#32
  let v350 : BitVec 32 := Scalar.muli v349 c128_i32_177
  v350
def k0_mult20 (i : grid0.Coords) (v1 : BitVec 32) (k0_t2 : Fin (k0_t2_loop i v1).trips) : BitVec 32 :=
  let arg1 : BitVec 32 := BitVec.ofNat 32 (i 1).val
  let c16_i32_167 : BitVec 32 := 16#32
  let v329 : BitVec 32 := Scalar.muli arg1 c16_i32_167
  let c0_i32_28 : BitVec 32 := 0#32
  let c4_i32 : BitVec 32 := 4#32
  let c0_i32_6 : BitVec 32 := 0#32
  let c2048_i32 : BitVec 32 := 2048#32
  let v2 : BitVec 32 := Scalar.muli arg1 c2048_i32
  let v3 : BitVec 32 := Scalar.subi v1 v2
  let c512_i32 : BitVec 32 := 512#32
  let v4 : BitVec 32 := Scalar.addi v3 c512_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c512_i32_0 : BitVec 32 := 512#32
  let c0_i32_2 : BitVec 32 := 0#32
  let v12 : BitVec 1 := Scalar.cmpi .sgt c512_i32_0 c0_i32_2
  let v13 : BitVec 32 := Scalar.extui v12
  let c0_i32_3 : BitVec 32 := 0#32
  let v14 : BitVec 1 := Scalar.cmpi .slt c512_i32_0 c0_i32_3
  let v15 : BitVec 32 := Scalar.extui v14
  let v16 : BitVec 32 := Scalar.subi v13 v15
  let v17 : BitVec 1 := Scalar.cmpi .ne v11 v16
  let v18 : BitVec 32 := Scalar.remsi v5 c512_i32_0
  let c0_i32_4 : BitVec 32 := 0#32
  let v19 : BitVec 1 := Scalar.cmpi .ne v18 c0_i32_4
  let v20 : BitVec 1 := Scalar.andi v17 v19
  let v6 : BitVec 32 := Scalar.divsi v5 c512_i32_0
  let c1_i32_5 : BitVec 32 := 1#32
  let v21 : BitVec 32 := Scalar.subi v6 c1_i32_5
  let v22 : BitVec 32 := Scalar.select v20 v21 v6
  let v23 : BitVec 32 := Scalar.maxsi c0_i32_6 v22
  let v24 : BitVec 32 := Scalar.minsi c4_i32 v23
  let v55 : BitVec 32 := Scalar.subi v24 c0_i32_28
  let c1_i32_29 : BitVec 32 := 1#32
  let v57 : BitVec 32 := Scalar.divsi v55 c1_i32_29
  let v58 : BitVec 32 := Scalar.muli v57 c1_i32_29
  let v59 : BitVec 32 := Scalar.addi c0_i32_28 v58
  let c1_i32_31 : BitVec 32 := 1#32
  let arg26 : BitVec 32 := Scf.iv v59 c1_i32_31 k0_t2
  let c4_i32_168 : BitVec 32 := 4#32
  let v330 : BitVec 32 := Scalar.muli arg26 c4_i32_168
  let v331 : BitVec 32 := Scalar.addi v329 v330
  let c1_i32_169 : BitVec 32 := 1#32
  let v332 : BitVec 32 := Scalar.addi v331 c1_i32_169
  let c0_i32_185 : BitVec 32 := 0#32
  let v364 : BitVec 1 := Scalar.cmpi .sgt v332 c0_i32_185
  let v365 : BitVec 32 := Scalar.extui v364
  let c0_i32_186 : BitVec 32 := 0#32
  let v366 : BitVec 1 := Scalar.cmpi .slt v332 c0_i32_186
  let v367 : BitVec 32 := Scalar.extui v366
  let v368 : BitVec 32 := Scalar.subi v365 v367
  let c64_i32_184 : BitVec 32 := 64#32
  let c0_i32_187 : BitVec 32 := 0#32
  let v369 : BitVec 1 := Scalar.cmpi .sgt c64_i32_184 c0_i32_187
  let v370 : BitVec 32 := Scalar.extui v369
  let c0_i32_188 : BitVec 32 := 0#32
  let v371 : BitVec 1 := Scalar.cmpi .slt c64_i32_184 c0_i32_188
  let v372 : BitVec 32 := Scalar.extui v371
  let v373 : BitVec 32 := Scalar.subi v370 v372
  let v374 : BitVec 1 := Scalar.cmpi .ne v368 v373
  let v375 : BitVec 32 := Scalar.remsi v332 c64_i32_184
  let c0_i32_189 : BitVec 32 := 0#32
  let v376 : BitVec 1 := Scalar.cmpi .ne v375 c0_i32_189
  let v377 : BitVec 1 := Scalar.andi v374 v376
  let v363 : BitVec 32 := Scalar.divsi v332 c64_i32_184
  let c1_i32_190 : BitVec 32 := 1#32
  let v378 : BitVec 32 := Scalar.subi v363 c1_i32_190
  let v379 : BitVec 32 := Scalar.select v377 v378 v363
  let c128_i32_191 : BitVec 32 := 128#32
  let v380 : BitVec 32 := Scalar.muli v379 c128_i32_191
  v380
def k0_mult21 (i : grid0.Coords) (v1 : BitVec 32) (k0_t2 : Fin (k0_t2_loop i v1).trips) : BitVec 32 :=
  let c0_i32_28 : BitVec 32 := 0#32
  let c4_i32 : BitVec 32 := 4#32
  let c0_i32_6 : BitVec 32 := 0#32
  let arg1 : BitVec 32 := BitVec.ofNat 32 (i 1).val
  let c2048_i32 : BitVec 32 := 2048#32
  let v2 : BitVec 32 := Scalar.muli arg1 c2048_i32
  let v3 : BitVec 32 := Scalar.subi v1 v2
  let c512_i32 : BitVec 32 := 512#32
  let v4 : BitVec 32 := Scalar.addi v3 c512_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c512_i32_0 : BitVec 32 := 512#32
  let c0_i32_2 : BitVec 32 := 0#32
  let v12 : BitVec 1 := Scalar.cmpi .sgt c512_i32_0 c0_i32_2
  let v13 : BitVec 32 := Scalar.extui v12
  let c0_i32_3 : BitVec 32 := 0#32
  let v14 : BitVec 1 := Scalar.cmpi .slt c512_i32_0 c0_i32_3
  let v15 : BitVec 32 := Scalar.extui v14
  let v16 : BitVec 32 := Scalar.subi v13 v15
  let v17 : BitVec 1 := Scalar.cmpi .ne v11 v16
  let v18 : BitVec 32 := Scalar.remsi v5 c512_i32_0
  let c0_i32_4 : BitVec 32 := 0#32
  let v19 : BitVec 1 := Scalar.cmpi .ne v18 c0_i32_4
  let v20 : BitVec 1 := Scalar.andi v17 v19
  let v6 : BitVec 32 := Scalar.divsi v5 c512_i32_0
  let c1_i32_5 : BitVec 32 := 1#32
  let v21 : BitVec 32 := Scalar.subi v6 c1_i32_5
  let v22 : BitVec 32 := Scalar.select v20 v21 v6
  let v23 : BitVec 32 := Scalar.maxsi c0_i32_6 v22
  let v24 : BitVec 32 := Scalar.minsi c4_i32 v23
  let v55 : BitVec 32 := Scalar.subi v24 c0_i32_28
  let c1_i32_29 : BitVec 32 := 1#32
  let v57 : BitVec 32 := Scalar.divsi v55 c1_i32_29
  let v58 : BitVec 32 := Scalar.muli v57 c1_i32_29
  let v59 : BitVec 32 := Scalar.addi c0_i32_28 v58
  let c1_i32_31 : BitVec 32 := 1#32
  let arg26 : BitVec 32 := Scf.iv v59 c1_i32_31 k0_t2
  let c512_i32_112 : BitVec 32 := 512#32
  let v169 : BitVec 32 := Scalar.muli arg26 c512_i32_112
  let v170 : BitVec 32 := v169
  let c256_i32 : BitVec 32 := 256#32
  let v483 : BitVec 32 := Scalar.addi v170 c256_i32
  v483
def k0_mult22 (i : grid0.Coords) (v1 : BitVec 32) (k0_t2 : Fin (k0_t2_loop i v1).trips) : BitVec 32 :=
  let arg1 : BitVec 32 := BitVec.ofNat 32 (i 1).val
  let c16_i32_225 : BitVec 32 := 16#32
  let v485 : BitVec 32 := Scalar.muli arg1 c16_i32_225
  let c0_i32_28 : BitVec 32 := 0#32
  let c4_i32 : BitVec 32 := 4#32
  let c0_i32_6 : BitVec 32 := 0#32
  let c2048_i32 : BitVec 32 := 2048#32
  let v2 : BitVec 32 := Scalar.muli arg1 c2048_i32
  let v3 : BitVec 32 := Scalar.subi v1 v2
  let c512_i32 : BitVec 32 := 512#32
  let v4 : BitVec 32 := Scalar.addi v3 c512_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c512_i32_0 : BitVec 32 := 512#32
  let c0_i32_2 : BitVec 32 := 0#32
  let v12 : BitVec 1 := Scalar.cmpi .sgt c512_i32_0 c0_i32_2
  let v13 : BitVec 32 := Scalar.extui v12
  let c0_i32_3 : BitVec 32 := 0#32
  let v14 : BitVec 1 := Scalar.cmpi .slt c512_i32_0 c0_i32_3
  let v15 : BitVec 32 := Scalar.extui v14
  let v16 : BitVec 32 := Scalar.subi v13 v15
  let v17 : BitVec 1 := Scalar.cmpi .ne v11 v16
  let v18 : BitVec 32 := Scalar.remsi v5 c512_i32_0
  let c0_i32_4 : BitVec 32 := 0#32
  let v19 : BitVec 1 := Scalar.cmpi .ne v18 c0_i32_4
  let v20 : BitVec 1 := Scalar.andi v17 v19
  let v6 : BitVec 32 := Scalar.divsi v5 c512_i32_0
  let c1_i32_5 : BitVec 32 := 1#32
  let v21 : BitVec 32 := Scalar.subi v6 c1_i32_5
  let v22 : BitVec 32 := Scalar.select v20 v21 v6
  let v23 : BitVec 32 := Scalar.maxsi c0_i32_6 v22
  let v24 : BitVec 32 := Scalar.minsi c4_i32 v23
  let v55 : BitVec 32 := Scalar.subi v24 c0_i32_28
  let c1_i32_29 : BitVec 32 := 1#32
  let v57 : BitVec 32 := Scalar.divsi v55 c1_i32_29
  let v58 : BitVec 32 := Scalar.muli v57 c1_i32_29
  let v59 : BitVec 32 := Scalar.addi c0_i32_28 v58
  let c1_i32_31 : BitVec 32 := 1#32
  let arg26 : BitVec 32 := Scf.iv v59 c1_i32_31 k0_t2
  let c4_i32_226 : BitVec 32 := 4#32
  let v486 : BitVec 32 := Scalar.muli arg26 c4_i32_226
  let v487 : BitVec 32 := Scalar.addi v485 v486
  let c2_i32_227 : BitVec 32 := 2#32
  let v488 : BitVec 32 := Scalar.addi v487 c2_i32_227
  let c0_i32_229 : BitVec 32 := 0#32
  let v490 : BitVec 1 := Scalar.cmpi .sgt v488 c0_i32_229
  let v491 : BitVec 32 := Scalar.extui v490
  let c0_i32_230 : BitVec 32 := 0#32
  let v492 : BitVec 1 := Scalar.cmpi .slt v488 c0_i32_230
  let v493 : BitVec 32 := Scalar.extui v492
  let v494 : BitVec 32 := Scalar.subi v491 v493
  let c128_i32_228 : BitVec 32 := 128#32
  let c0_i32_231 : BitVec 32 := 0#32
  let v495 : BitVec 1 := Scalar.cmpi .sgt c128_i32_228 c0_i32_231
  let v496 : BitVec 32 := Scalar.extui v495
  let c0_i32_232 : BitVec 32 := 0#32
  let v497 : BitVec 1 := Scalar.cmpi .slt c128_i32_228 c0_i32_232
  let v498 : BitVec 32 := Scalar.extui v497
  let v499 : BitVec 32 := Scalar.subi v496 v498
  let v500 : BitVec 1 := Scalar.cmpi .ne v494 v499
  let v501 : BitVec 32 := Scalar.remsi v488 c128_i32_228
  let c0_i32_233 : BitVec 32 := 0#32
  let v502 : BitVec 1 := Scalar.cmpi .ne v501 c0_i32_233
  let v503 : BitVec 1 := Scalar.andi v500 v502
  let v489 : BitVec 32 := Scalar.divsi v488 c128_i32_228
  let c1_i32_234 : BitVec 32 := 1#32
  let v504 : BitVec 32 := Scalar.subi v489 c1_i32_234
  let v505 : BitVec 32 := Scalar.select v503 v504 v489
  let c128_i32_235 : BitVec 32 := 128#32
  let v506 : BitVec 32 := Scalar.muli v505 c128_i32_235
  v506
def k0_mult23 (i : grid0.Coords) (v1 : BitVec 32) (k0_t2 : Fin (k0_t2_loop i v1).trips) : BitVec 32 :=
  let arg1 : BitVec 32 := BitVec.ofNat 32 (i 1).val
  let c16_i32_225 : BitVec 32 := 16#32
  let v485 : BitVec 32 := Scalar.muli arg1 c16_i32_225
  let c0_i32_28 : BitVec 32 := 0#32
  let c4_i32 : BitVec 32 := 4#32
  let c0_i32_6 : BitVec 32 := 0#32
  let c2048_i32 : BitVec 32 := 2048#32
  let v2 : BitVec 32 := Scalar.muli arg1 c2048_i32
  let v3 : BitVec 32 := Scalar.subi v1 v2
  let c512_i32 : BitVec 32 := 512#32
  let v4 : BitVec 32 := Scalar.addi v3 c512_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c512_i32_0 : BitVec 32 := 512#32
  let c0_i32_2 : BitVec 32 := 0#32
  let v12 : BitVec 1 := Scalar.cmpi .sgt c512_i32_0 c0_i32_2
  let v13 : BitVec 32 := Scalar.extui v12
  let c0_i32_3 : BitVec 32 := 0#32
  let v14 : BitVec 1 := Scalar.cmpi .slt c512_i32_0 c0_i32_3
  let v15 : BitVec 32 := Scalar.extui v14
  let v16 : BitVec 32 := Scalar.subi v13 v15
  let v17 : BitVec 1 := Scalar.cmpi .ne v11 v16
  let v18 : BitVec 32 := Scalar.remsi v5 c512_i32_0
  let c0_i32_4 : BitVec 32 := 0#32
  let v19 : BitVec 1 := Scalar.cmpi .ne v18 c0_i32_4
  let v20 : BitVec 1 := Scalar.andi v17 v19
  let v6 : BitVec 32 := Scalar.divsi v5 c512_i32_0
  let c1_i32_5 : BitVec 32 := 1#32
  let v21 : BitVec 32 := Scalar.subi v6 c1_i32_5
  let v22 : BitVec 32 := Scalar.select v20 v21 v6
  let v23 : BitVec 32 := Scalar.maxsi c0_i32_6 v22
  let v24 : BitVec 32 := Scalar.minsi c4_i32 v23
  let v55 : BitVec 32 := Scalar.subi v24 c0_i32_28
  let c1_i32_29 : BitVec 32 := 1#32
  let v57 : BitVec 32 := Scalar.divsi v55 c1_i32_29
  let v58 : BitVec 32 := Scalar.muli v57 c1_i32_29
  let v59 : BitVec 32 := Scalar.addi c0_i32_28 v58
  let c1_i32_31 : BitVec 32 := 1#32
  let arg26 : BitVec 32 := Scf.iv v59 c1_i32_31 k0_t2
  let c4_i32_226 : BitVec 32 := 4#32
  let v486 : BitVec 32 := Scalar.muli arg26 c4_i32_226
  let v487 : BitVec 32 := Scalar.addi v485 v486
  let c2_i32_227 : BitVec 32 := 2#32
  let v488 : BitVec 32 := Scalar.addi v487 c2_i32_227
  let c0_i32_243 : BitVec 32 := 0#32
  let v520 : BitVec 1 := Scalar.cmpi .sgt v488 c0_i32_243
  let v521 : BitVec 32 := Scalar.extui v520
  let c0_i32_244 : BitVec 32 := 0#32
  let v522 : BitVec 1 := Scalar.cmpi .slt v488 c0_i32_244
  let v523 : BitVec 32 := Scalar.extui v522
  let v524 : BitVec 32 := Scalar.subi v521 v523
  let c64_i32_242 : BitVec 32 := 64#32
  let c0_i32_245 : BitVec 32 := 0#32
  let v525 : BitVec 1 := Scalar.cmpi .sgt c64_i32_242 c0_i32_245
  let v526 : BitVec 32 := Scalar.extui v525
  let c0_i32_246 : BitVec 32 := 0#32
  let v527 : BitVec 1 := Scalar.cmpi .slt c64_i32_242 c0_i32_246
  let v528 : BitVec 32 := Scalar.extui v527
  let v529 : BitVec 32 := Scalar.subi v526 v528
  let v530 : BitVec 1 := Scalar.cmpi .ne v524 v529
  let v531 : BitVec 32 := Scalar.remsi v488 c64_i32_242
  let c0_i32_247 : BitVec 32 := 0#32
  let v532 : BitVec 1 := Scalar.cmpi .ne v531 c0_i32_247
  let v533 : BitVec 1 := Scalar.andi v530 v532
  let v519 : BitVec 32 := Scalar.divsi v488 c64_i32_242
  let c1_i32_248 : BitVec 32 := 1#32
  let v534 : BitVec 32 := Scalar.subi v519 c1_i32_248
  let v535 : BitVec 32 := Scalar.select v533 v534 v519
  let c128_i32_249 : BitVec 32 := 128#32
  let v536 : BitVec 32 := Scalar.muli v535 c128_i32_249
  v536
def k0_mult24 (i : grid0.Coords) (v1 : BitVec 32) (k0_t2 : Fin (k0_t2_loop i v1).trips) : BitVec 32 :=
  let c0_i32_28 : BitVec 32 := 0#32
  let c4_i32 : BitVec 32 := 4#32
  let c0_i32_6 : BitVec 32 := 0#32
  let arg1 : BitVec 32 := BitVec.ofNat 32 (i 1).val
  let c2048_i32 : BitVec 32 := 2048#32
  let v2 : BitVec 32 := Scalar.muli arg1 c2048_i32
  let v3 : BitVec 32 := Scalar.subi v1 v2
  let c512_i32 : BitVec 32 := 512#32
  let v4 : BitVec 32 := Scalar.addi v3 c512_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c512_i32_0 : BitVec 32 := 512#32
  let c0_i32_2 : BitVec 32 := 0#32
  let v12 : BitVec 1 := Scalar.cmpi .sgt c512_i32_0 c0_i32_2
  let v13 : BitVec 32 := Scalar.extui v12
  let c0_i32_3 : BitVec 32 := 0#32
  let v14 : BitVec 1 := Scalar.cmpi .slt c512_i32_0 c0_i32_3
  let v15 : BitVec 32 := Scalar.extui v14
  let v16 : BitVec 32 := Scalar.subi v13 v15
  let v17 : BitVec 1 := Scalar.cmpi .ne v11 v16
  let v18 : BitVec 32 := Scalar.remsi v5 c512_i32_0
  let c0_i32_4 : BitVec 32 := 0#32
  let v19 : BitVec 1 := Scalar.cmpi .ne v18 c0_i32_4
  let v20 : BitVec 1 := Scalar.andi v17 v19
  let v6 : BitVec 32 := Scalar.divsi v5 c512_i32_0
  let c1_i32_5 : BitVec 32 := 1#32
  let v21 : BitVec 32 := Scalar.subi v6 c1_i32_5
  let v22 : BitVec 32 := Scalar.select v20 v21 v6
  let v23 : BitVec 32 := Scalar.maxsi c0_i32_6 v22
  let v24 : BitVec 32 := Scalar.minsi c4_i32 v23
  let v55 : BitVec 32 := Scalar.subi v24 c0_i32_28
  let c1_i32_29 : BitVec 32 := 1#32
  let v57 : BitVec 32 := Scalar.divsi v55 c1_i32_29
  let v58 : BitVec 32 := Scalar.muli v57 c1_i32_29
  let v59 : BitVec 32 := Scalar.addi c0_i32_28 v58
  let c1_i32_31 : BitVec 32 := 1#32
  let arg26 : BitVec 32 := Scf.iv v59 c1_i32_31 k0_t2
  let c512_i32_112 : BitVec 32 := 512#32
  let v169 : BitVec 32 := Scalar.muli arg26 c512_i32_112
  let v170 : BitVec 32 := v169
  let c384_i32 : BitVec 32 := 384#32
  let v639 : BitVec 32 := Scalar.addi v170 c384_i32
  v639
def k0_mult25 (i : grid0.Coords) (v1 : BitVec 32) (k0_t2 : Fin (k0_t2_loop i v1).trips) : BitVec 32 :=
  let arg1 : BitVec 32 := BitVec.ofNat 32 (i 1).val
  let c16_i32_283 : BitVec 32 := 16#32
  let v641 : BitVec 32 := Scalar.muli arg1 c16_i32_283
  let c0_i32_28 : BitVec 32 := 0#32
  let c4_i32 : BitVec 32 := 4#32
  let c0_i32_6 : BitVec 32 := 0#32
  let c2048_i32 : BitVec 32 := 2048#32
  let v2 : BitVec 32 := Scalar.muli arg1 c2048_i32
  let v3 : BitVec 32 := Scalar.subi v1 v2
  let c512_i32 : BitVec 32 := 512#32
  let v4 : BitVec 32 := Scalar.addi v3 c512_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c512_i32_0 : BitVec 32 := 512#32
  let c0_i32_2 : BitVec 32 := 0#32
  let v12 : BitVec 1 := Scalar.cmpi .sgt c512_i32_0 c0_i32_2
  let v13 : BitVec 32 := Scalar.extui v12
  let c0_i32_3 : BitVec 32 := 0#32
  let v14 : BitVec 1 := Scalar.cmpi .slt c512_i32_0 c0_i32_3
  let v15 : BitVec 32 := Scalar.extui v14
  let v16 : BitVec 32 := Scalar.subi v13 v15
  let v17 : BitVec 1 := Scalar.cmpi .ne v11 v16
  let v18 : BitVec 32 := Scalar.remsi v5 c512_i32_0
  let c0_i32_4 : BitVec 32 := 0#32
  let v19 : BitVec 1 := Scalar.cmpi .ne v18 c0_i32_4
  let v20 : BitVec 1 := Scalar.andi v17 v19
  let v6 : BitVec 32 := Scalar.divsi v5 c512_i32_0
  let c1_i32_5 : BitVec 32 := 1#32
  let v21 : BitVec 32 := Scalar.subi v6 c1_i32_5
  let v22 : BitVec 32 := Scalar.select v20 v21 v6
  let v23 : BitVec 32 := Scalar.maxsi c0_i32_6 v22
  let v24 : BitVec 32 := Scalar.minsi c4_i32 v23
  let v55 : BitVec 32 := Scalar.subi v24 c0_i32_28
  let c1_i32_29 : BitVec 32 := 1#32
  let v57 : BitVec 32 := Scalar.divsi v55 c1_i32_29
  let v58 : BitVec 32 := Scalar.muli v57 c1_i32_29
  let v59 : BitVec 32 := Scalar.addi c0_i32_28 v58
  let c1_i32_31 : BitVec 32 := 1#32
  let arg26 : BitVec 32 := Scf.iv v59 c1_i32_31 k0_t2
  let c4_i32_284 : BitVec 32 := 4#32
  let v642 : BitVec 32 := Scalar.muli arg26 c4_i32_284
  let v643 : BitVec 32 := Scalar.addi v641 v642
  let c3_i32 : BitVec 32 := 3#32
  let v644 : BitVec 32 := Scalar.addi v643 c3_i32
  let c0_i32_286 : BitVec 32 := 0#32
  let v646 : BitVec 1 := Scalar.cmpi .sgt v644 c0_i32_286
  let v647 : BitVec 32 := Scalar.extui v646
  let c0_i32_287 : BitVec 32 := 0#32
  let v648 : BitVec 1 := Scalar.cmpi .slt v644 c0_i32_287
  let v649 : BitVec 32 := Scalar.extui v648
  let v650 : BitVec 32 := Scalar.subi v647 v649
  let c128_i32_285 : BitVec 32 := 128#32
  let c0_i32_288 : BitVec 32 := 0#32
  let v651 : BitVec 1 := Scalar.cmpi .sgt c128_i32_285 c0_i32_288
  let v652 : BitVec 32 := Scalar.extui v651
  let c0_i32_289 : BitVec 32 := 0#32
  let v653 : BitVec 1 := Scalar.cmpi .slt c128_i32_285 c0_i32_289
  let v654 : BitVec 32 := Scalar.extui v653
  let v655 : BitVec 32 := Scalar.subi v652 v654
  let v656 : BitVec 1 := Scalar.cmpi .ne v650 v655
  let v657 : BitVec 32 := Scalar.remsi v644 c128_i32_285
  let c0_i32_290 : BitVec 32 := 0#32
  let v658 : BitVec 1 := Scalar.cmpi .ne v657 c0_i32_290
  let v659 : BitVec 1 := Scalar.andi v656 v658
  let v645 : BitVec 32 := Scalar.divsi v644 c128_i32_285
  let c1_i32_291 : BitVec 32 := 1#32
  let v660 : BitVec 32 := Scalar.subi v645 c1_i32_291
  let v661 : BitVec 32 := Scalar.select v659 v660 v645
  let c128_i32_292 : BitVec 32 := 128#32
  let v662 : BitVec 32 := Scalar.muli v661 c128_i32_292
  v662
def k0_mult26 (i : grid0.Coords) (v1 : BitVec 32) (k0_t2 : Fin (k0_t2_loop i v1).trips) : BitVec 32 :=
  let arg1 : BitVec 32 := BitVec.ofNat 32 (i 1).val
  let c16_i32_283 : BitVec 32 := 16#32
  let v641 : BitVec 32 := Scalar.muli arg1 c16_i32_283
  let c0_i32_28 : BitVec 32 := 0#32
  let c4_i32 : BitVec 32 := 4#32
  let c0_i32_6 : BitVec 32 := 0#32
  let c2048_i32 : BitVec 32 := 2048#32
  let v2 : BitVec 32 := Scalar.muli arg1 c2048_i32
  let v3 : BitVec 32 := Scalar.subi v1 v2
  let c512_i32 : BitVec 32 := 512#32
  let v4 : BitVec 32 := Scalar.addi v3 c512_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c512_i32_0 : BitVec 32 := 512#32
  let c0_i32_2 : BitVec 32 := 0#32
  let v12 : BitVec 1 := Scalar.cmpi .sgt c512_i32_0 c0_i32_2
  let v13 : BitVec 32 := Scalar.extui v12
  let c0_i32_3 : BitVec 32 := 0#32
  let v14 : BitVec 1 := Scalar.cmpi .slt c512_i32_0 c0_i32_3
  let v15 : BitVec 32 := Scalar.extui v14
  let v16 : BitVec 32 := Scalar.subi v13 v15
  let v17 : BitVec 1 := Scalar.cmpi .ne v11 v16
  let v18 : BitVec 32 := Scalar.remsi v5 c512_i32_0
  let c0_i32_4 : BitVec 32 := 0#32
  let v19 : BitVec 1 := Scalar.cmpi .ne v18 c0_i32_4
  let v20 : BitVec 1 := Scalar.andi v17 v19
  let v6 : BitVec 32 := Scalar.divsi v5 c512_i32_0
  let c1_i32_5 : BitVec 32 := 1#32
  let v21 : BitVec 32 := Scalar.subi v6 c1_i32_5
  let v22 : BitVec 32 := Scalar.select v20 v21 v6
  let v23 : BitVec 32 := Scalar.maxsi c0_i32_6 v22
  let v24 : BitVec 32 := Scalar.minsi c4_i32 v23
  let v55 : BitVec 32 := Scalar.subi v24 c0_i32_28
  let c1_i32_29 : BitVec 32 := 1#32
  let v57 : BitVec 32 := Scalar.divsi v55 c1_i32_29
  let v58 : BitVec 32 := Scalar.muli v57 c1_i32_29
  let v59 : BitVec 32 := Scalar.addi c0_i32_28 v58
  let c1_i32_31 : BitVec 32 := 1#32
  let arg26 : BitVec 32 := Scf.iv v59 c1_i32_31 k0_t2
  let c4_i32_284 : BitVec 32 := 4#32
  let v642 : BitVec 32 := Scalar.muli arg26 c4_i32_284
  let v643 : BitVec 32 := Scalar.addi v641 v642
  let c3_i32 : BitVec 32 := 3#32
  let v644 : BitVec 32 := Scalar.addi v643 c3_i32
  let c0_i32_300 : BitVec 32 := 0#32
  let v676 : BitVec 1 := Scalar.cmpi .sgt v644 c0_i32_300
  let v677 : BitVec 32 := Scalar.extui v676
  let c0_i32_301 : BitVec 32 := 0#32
  let v678 : BitVec 1 := Scalar.cmpi .slt v644 c0_i32_301
  let v679 : BitVec 32 := Scalar.extui v678
  let v680 : BitVec 32 := Scalar.subi v677 v679
  let c64_i32_299 : BitVec 32 := 64#32
  let c0_i32_302 : BitVec 32 := 0#32
  let v681 : BitVec 1 := Scalar.cmpi .sgt c64_i32_299 c0_i32_302
  let v682 : BitVec 32 := Scalar.extui v681
  let c0_i32_303 : BitVec 32 := 0#32
  let v683 : BitVec 1 := Scalar.cmpi .slt c64_i32_299 c0_i32_303
  let v684 : BitVec 32 := Scalar.extui v683
  let v685 : BitVec 32 := Scalar.subi v682 v684
  let v686 : BitVec 1 := Scalar.cmpi .ne v680 v685
  let v687 : BitVec 32 := Scalar.remsi v644 c64_i32_299
  let c0_i32_304 : BitVec 32 := 0#32
  let v688 : BitVec 1 := Scalar.cmpi .ne v687 c0_i32_304
  let v689 : BitVec 1 := Scalar.andi v686 v688
  let v675 : BitVec 32 := Scalar.divsi v644 c64_i32_299
  let c1_i32_305 : BitVec 32 := 1#32
  let v690 : BitVec 32 := Scalar.subi v675 c1_i32_305
  let v691 : BitVec 32 := Scalar.select v689 v690 v675
  let c128_i32_306 : BitVec 32 := 128#32
  let v692 : BitVec 32 := Scalar.muli v691 c128_i32_306
  v692
def k0_off17 (i : grid0.Coords) (v1 : BitVec 32) (k0_t2 : Fin (k0_t2_loop i v1).trips) : Fin 4 → Nat :=
  let c0_347 : Index := 0#32
  let c0_348 : Index := 0#32
  let c0_349 : Index := 0#32
  let c0_i32_28 : BitVec 32 := 0#32
  let c4_i32 : BitVec 32 := 4#32
  let c0_i32_6 : BitVec 32 := 0#32
  let arg1 : BitVec 32 := BitVec.ofNat 32 (i 1).val
  let c2048_i32 : BitVec 32 := 2048#32
  let v2 : BitVec 32 := Scalar.muli arg1 c2048_i32
  let v3 : BitVec 32 := Scalar.subi v1 v2
  let c512_i32 : BitVec 32 := 512#32
  let v4 : BitVec 32 := Scalar.addi v3 c512_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c512_i32_0 : BitVec 32 := 512#32
  let c0_i32_2 : BitVec 32 := 0#32
  let v12 : BitVec 1 := Scalar.cmpi .sgt c512_i32_0 c0_i32_2
  let v13 : BitVec 32 := Scalar.extui v12
  let c0_i32_3 : BitVec 32 := 0#32
  let v14 : BitVec 1 := Scalar.cmpi .slt c512_i32_0 c0_i32_3
  let v15 : BitVec 32 := Scalar.extui v14
  let v16 : BitVec 32 := Scalar.subi v13 v15
  let v17 : BitVec 1 := Scalar.cmpi .ne v11 v16
  let v18 : BitVec 32 := Scalar.remsi v5 c512_i32_0
  let c0_i32_4 : BitVec 32 := 0#32
  let v19 : BitVec 1 := Scalar.cmpi .ne v18 c0_i32_4
  let v20 : BitVec 1 := Scalar.andi v17 v19
  let v6 : BitVec 32 := Scalar.divsi v5 c512_i32_0
  let c1_i32_5 : BitVec 32 := 1#32
  let v21 : BitVec 32 := Scalar.subi v6 c1_i32_5
  let v22 : BitVec 32 := Scalar.select v20 v21 v6
  let v23 : BitVec 32 := Scalar.maxsi c0_i32_6 v22
  let v24 : BitVec 32 := Scalar.minsi c4_i32 v23
  let v55 : BitVec 32 := Scalar.subi v24 c0_i32_28
  let c1_i32_29 : BitVec 32 := 1#32
  let v57 : BitVec 32 := Scalar.divsi v55 c1_i32_29
  let v58 : BitVec 32 := Scalar.muli v57 c1_i32_29
  let v59 : BitVec 32 := Scalar.addi c0_i32_28 v58
  let c1_i32_31 : BitVec 32 := 1#32
  let arg26 : BitVec 32 := Scf.iv v59 c1_i32_31 k0_t2
  let c512_i32_112 : BitVec 32 := 512#32
  let v169 : BitVec 32 := Scalar.muli arg26 c512_i32_112
  let v170 : BitVec 32 := v169
  let v812 : Index := Scalar.indexCast v170
  ![0, 0, 0, v812.toNat]
def k0_off18 (i : grid0.Coords) (v1 : BitVec 32) (k0_t2 : Fin (k0_t2_loop i v1).trips) : Fin 4 → Nat :=
  let c0_357 : Index := 0#32
  let c0_358 : Index := 0#32
  let c8 : Index := 8#32
  let c0_i32_28 : BitVec 32 := 0#32
  let c4_i32 : BitVec 32 := 4#32
  let c0_i32_6 : BitVec 32 := 0#32
  let arg1 : BitVec 32 := BitVec.ofNat 32 (i 1).val
  let c2048_i32 : BitVec 32 := 2048#32
  let v2 : BitVec 32 := Scalar.muli arg1 c2048_i32
  let v3 : BitVec 32 := Scalar.subi v1 v2
  let c512_i32 : BitVec 32 := 512#32
  let v4 : BitVec 32 := Scalar.addi v3 c512_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c512_i32_0 : BitVec 32 := 512#32
  let c0_i32_2 : BitVec 32 := 0#32
  let v12 : BitVec 1 := Scalar.cmpi .sgt c512_i32_0 c0_i32_2
  let v13 : BitVec 32 := Scalar.extui v12
  let c0_i32_3 : BitVec 32 := 0#32
  let v14 : BitVec 1 := Scalar.cmpi .slt c512_i32_0 c0_i32_3
  let v15 : BitVec 32 := Scalar.extui v14
  let v16 : BitVec 32 := Scalar.subi v13 v15
  let v17 : BitVec 1 := Scalar.cmpi .ne v11 v16
  let v18 : BitVec 32 := Scalar.remsi v5 c512_i32_0
  let c0_i32_4 : BitVec 32 := 0#32
  let v19 : BitVec 1 := Scalar.cmpi .ne v18 c0_i32_4
  let v20 : BitVec 1 := Scalar.andi v17 v19
  let v6 : BitVec 32 := Scalar.divsi v5 c512_i32_0
  let c1_i32_5 : BitVec 32 := 1#32
  let v21 : BitVec 32 := Scalar.subi v6 c1_i32_5
  let v22 : BitVec 32 := Scalar.select v20 v21 v6
  let v23 : BitVec 32 := Scalar.maxsi c0_i32_6 v22
  let v24 : BitVec 32 := Scalar.minsi c4_i32 v23
  let v55 : BitVec 32 := Scalar.subi v24 c0_i32_28
  let c1_i32_29 : BitVec 32 := 1#32
  let v57 : BitVec 32 := Scalar.divsi v55 c1_i32_29
  let v58 : BitVec 32 := Scalar.muli v57 c1_i32_29
  let v59 : BitVec 32 := Scalar.addi c0_i32_28 v58
  let c1_i32_31 : BitVec 32 := 1#32
  let arg26 : BitVec 32 := Scf.iv v59 c1_i32_31 k0_t2
  let c512_i32_112 : BitVec 32 := 512#32
  let v169 : BitVec 32 := Scalar.muli arg26 c512_i32_112
  let v170 : BitVec 32 := v169
  let v835 : Index := Scalar.indexCast v170
  ![0, 0, 8, v835.toNat]
def k0_off19 (i : grid0.Coords) (v1 : BitVec 32) (k0_t2 : Fin (k0_t2_loop i v1).trips) : Fin 4 → Nat :=
  let c0_366 : Index := 0#32
  let c0_367 : Index := 0#32
  let c16 : Index := 16#32
  let c0_i32_28 : BitVec 32 := 0#32
  let c4_i32 : BitVec 32 := 4#32
  let c0_i32_6 : BitVec 32 := 0#32
  let arg1 : BitVec 32 := BitVec.ofNat 32 (i 1).val
  let c2048_i32 : BitVec 32 := 2048#32
  let v2 : BitVec 32 := Scalar.muli arg1 c2048_i32
  let v3 : BitVec 32 := Scalar.subi v1 v2
  let c512_i32 : BitVec 32 := 512#32
  let v4 : BitVec 32 := Scalar.addi v3 c512_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c512_i32_0 : BitVec 32 := 512#32
  let c0_i32_2 : BitVec 32 := 0#32
  let v12 : BitVec 1 := Scalar.cmpi .sgt c512_i32_0 c0_i32_2
  let v13 : BitVec 32 := Scalar.extui v12
  let c0_i32_3 : BitVec 32 := 0#32
  let v14 : BitVec 1 := Scalar.cmpi .slt c512_i32_0 c0_i32_3
  let v15 : BitVec 32 := Scalar.extui v14
  let v16 : BitVec 32 := Scalar.subi v13 v15
  let v17 : BitVec 1 := Scalar.cmpi .ne v11 v16
  let v18 : BitVec 32 := Scalar.remsi v5 c512_i32_0
  let c0_i32_4 : BitVec 32 := 0#32
  let v19 : BitVec 1 := Scalar.cmpi .ne v18 c0_i32_4
  let v20 : BitVec 1 := Scalar.andi v17 v19
  let v6 : BitVec 32 := Scalar.divsi v5 c512_i32_0
  let c1_i32_5 : BitVec 32 := 1#32
  let v21 : BitVec 32 := Scalar.subi v6 c1_i32_5
  let v22 : BitVec 32 := Scalar.select v20 v21 v6
  let v23 : BitVec 32 := Scalar.maxsi c0_i32_6 v22
  let v24 : BitVec 32 := Scalar.minsi c4_i32 v23
  let v55 : BitVec 32 := Scalar.subi v24 c0_i32_28
  let c1_i32_29 : BitVec 32 := 1#32
  let v57 : BitVec 32 := Scalar.divsi v55 c1_i32_29
  let v58 : BitVec 32 := Scalar.muli v57 c1_i32_29
  let v59 : BitVec 32 := Scalar.addi c0_i32_28 v58
  let c1_i32_31 : BitVec 32 := 1#32
  let arg26 : BitVec 32 := Scf.iv v59 c1_i32_31 k0_t2
  let c512_i32_112 : BitVec 32 := 512#32
  let v169 : BitVec 32 := Scalar.muli arg26 c512_i32_112
  let v170 : BitVec 32 := v169
  let v858 : Index := Scalar.indexCast v170
  ![0, 0, 16, v858.toNat]
def k0_off20 (i : grid0.Coords) (v1 : BitVec 32) (k0_t2 : Fin (k0_t2_loop i v1).trips) : Fin 4 → Nat :=
  let c0_375 : Index := 0#32
  let c0_376 : Index := 0#32
  let c24 : Index := 24#32
  let c0_i32_28 : BitVec 32 := 0#32
  let c4_i32 : BitVec 32 := 4#32
  let c0_i32_6 : BitVec 32 := 0#32
  let arg1 : BitVec 32 := BitVec.ofNat 32 (i 1).val
  let c2048_i32 : BitVec 32 := 2048#32
  let v2 : BitVec 32 := Scalar.muli arg1 c2048_i32
  let v3 : BitVec 32 := Scalar.subi v1 v2
  let c512_i32 : BitVec 32 := 512#32
  let v4 : BitVec 32 := Scalar.addi v3 c512_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c512_i32_0 : BitVec 32 := 512#32
  let c0_i32_2 : BitVec 32 := 0#32
  let v12 : BitVec 1 := Scalar.cmpi .sgt c512_i32_0 c0_i32_2
  let v13 : BitVec 32 := Scalar.extui v12
  let c0_i32_3 : BitVec 32 := 0#32
  let v14 : BitVec 1 := Scalar.cmpi .slt c512_i32_0 c0_i32_3
  let v15 : BitVec 32 := Scalar.extui v14
  let v16 : BitVec 32 := Scalar.subi v13 v15
  let v17 : BitVec 1 := Scalar.cmpi .ne v11 v16
  let v18 : BitVec 32 := Scalar.remsi v5 c512_i32_0
  let c0_i32_4 : BitVec 32 := 0#32
  let v19 : BitVec 1 := Scalar.cmpi .ne v18 c0_i32_4
  let v20 : BitVec 1 := Scalar.andi v17 v19
  let v6 : BitVec 32 := Scalar.divsi v5 c512_i32_0
  let c1_i32_5 : BitVec 32 := 1#32
  let v21 : BitVec 32 := Scalar.subi v6 c1_i32_5
  let v22 : BitVec 32 := Scalar.select v20 v21 v6
  let v23 : BitVec 32 := Scalar.maxsi c0_i32_6 v22
  let v24 : BitVec 32 := Scalar.minsi c4_i32 v23
  let v55 : BitVec 32 := Scalar.subi v24 c0_i32_28
  let c1_i32_29 : BitVec 32 := 1#32
  let v57 : BitVec 32 := Scalar.divsi v55 c1_i32_29
  let v58 : BitVec 32 := Scalar.muli v57 c1_i32_29
  let v59 : BitVec 32 := Scalar.addi c0_i32_28 v58
  let c1_i32_31 : BitVec 32 := 1#32
  let arg26 : BitVec 32 := Scf.iv v59 c1_i32_31 k0_t2
  let c512_i32_112 : BitVec 32 := 512#32
  let v169 : BitVec 32 := Scalar.muli arg26 c512_i32_112
  let v170 : BitVec 32 := v169
  let v881 : Index := Scalar.indexCast v170
  ![0, 0, 24, v881.toNat]
@[reducible] def k0_t3_loop (i : grid0.Coords) (v1 : BitVec 32) : Scf.Loop 32 :=
  let c0_i32_107 : BitVec 32 := 0#32
  let c4_i32 : BitVec 32 := 4#32
  let c0_i32_6 : BitVec 32 := 0#32
  let arg1 : BitVec 32 := BitVec.ofNat 32 (i 1).val
  let c2048_i32 : BitVec 32 := 2048#32
  let v2 : BitVec 32 := Scalar.muli arg1 c2048_i32
  let v3 : BitVec 32 := Scalar.subi v1 v2
  let c512_i32 : BitVec 32 := 512#32
  let v4 : BitVec 32 := Scalar.addi v3 c512_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c512_i32_0 : BitVec 32 := 512#32
  let c0_i32_2 : BitVec 32 := 0#32
  let v12 : BitVec 1 := Scalar.cmpi .sgt c512_i32_0 c0_i32_2
  let v13 : BitVec 32 := Scalar.extui v12
  let c0_i32_3 : BitVec 32 := 0#32
  let v14 : BitVec 1 := Scalar.cmpi .slt c512_i32_0 c0_i32_3
  let v15 : BitVec 32 := Scalar.extui v14
  let v16 : BitVec 32 := Scalar.subi v13 v15
  let v17 : BitVec 1 := Scalar.cmpi .ne v11 v16
  let v18 : BitVec 32 := Scalar.remsi v5 c512_i32_0
  let c0_i32_4 : BitVec 32 := 0#32
  let v19 : BitVec 1 := Scalar.cmpi .ne v18 c0_i32_4
  let v20 : BitVec 1 := Scalar.andi v17 v19
  let v6 : BitVec 32 := Scalar.divsi v5 c512_i32_0
  let c1_i32_5 : BitVec 32 := 1#32
  let v21 : BitVec 32 := Scalar.subi v6 c1_i32_5
  let v22 : BitVec 32 := Scalar.select v20 v21 v6
  let v23 : BitVec 32 := Scalar.maxsi c0_i32_6 v22
  let v24 : BitVec 32 := Scalar.minsi c4_i32 v23
  let v162 : BitVec 32 := Scalar.subi v24 c0_i32_107
  let c1_i32_109 : BitVec 32 := 1#32
  let v164 : BitVec 32 := Scalar.divsi v162 c1_i32_109
  let v165 : BitVec 32 := Scalar.muli v164 c1_i32_109
  let v166 : BitVec 32 := Scalar.addi c0_i32_107 v165
  let c1_i32_110 : BitVec 32 := 1#32
  ⟨c0_i32_107, v166, c1_i32_110⟩
def k0_mult27 (i : grid0.Coords) (v1 : BitVec 32) (k0_t3 : Fin (k0_t3_loop i v1).trips) : BitVec 32 :=
  let c0_i32_107 : BitVec 32 := 0#32
  let c1_i32_110 : BitVec 32 := 1#32
  let arg26 : BitVec 32 := Scf.iv c0_i32_107 c1_i32_110 k0_t3
  let c512_i32_112 : BitVec 32 := 512#32
  let v169 : BitVec 32 := Scalar.muli arg26 c512_i32_112
  v169
def k0_mult28 (i : grid0.Coords) (v1 : BitVec 32) (k0_t3 : Fin (k0_t3_loop i v1).trips) : BitVec 32 :=
  let c0_i32_107 : BitVec 32 := 0#32
  let c1_i32_110 : BitVec 32 := 1#32
  let arg26 : BitVec 32 := Scf.iv c0_i32_107 c1_i32_110 k0_t3
  let c512_i32_112 : BitVec 32 := 512#32
  let v169 : BitVec 32 := Scalar.muli arg26 c512_i32_112
  let v170 : BitVec 32 := v169
  let c0_i32_114 : BitVec 32 := 0#32
  let v178 : BitVec 32 := Scalar.addi v170 c0_i32_114
  v178
def k0_off21 (i : grid0.Coords) (v1 : BitVec 32) (k0_t3 : Fin (k0_t3_loop i v1).trips) (c0_i32_114 : BitVec 32) : Fin 4 → Nat :=
  let c0_115 : Index := 0#32
  let c0_116 : Index := 0#32
  let c0_117 : Index := 0#32
  let c0_i32_107 : BitVec 32 := 0#32
  let c1_i32_110 : BitVec 32 := 1#32
  let arg26 : BitVec 32 := Scf.iv c0_i32_107 c1_i32_110 k0_t3
  let c512_i32_112 : BitVec 32 := 512#32
  let v169 : BitVec 32 := Scalar.muli arg26 c512_i32_112
  let v170 : BitVec 32 := v169
  let v178 : BitVec 32 := Scalar.addi v170 c0_i32_114
  let v179 : BitVec 32 := v178
  let v180 : Index := Scalar.indexCast v179
  ![0, 0, 0, v180.toNat]
def k0_mult29 (i : grid0.Coords) (v1 : BitVec 32) (k0_t3 : Fin (k0_t3_loop i v1).trips) : BitVec 32 :=
  let c0_i32_107 : BitVec 32 := 0#32
  let c1_i32_110 : BitVec 32 := 1#32
  let arg26 : BitVec 32 := Scf.iv c0_i32_107 c1_i32_110 k0_t3
  let c512_i32_112 : BitVec 32 := 512#32
  let v169 : BitVec 32 := Scalar.muli arg26 c512_i32_112
  let v170 : BitVec 32 := v169
  let c128_i32 : BitVec 32 := 128#32
  let v198 : BitVec 32 := Scalar.addi v170 c128_i32
  v198
def k0_mult30 (i : grid0.Coords) (v1 : BitVec 32) (k0_t3 : Fin (k0_t3_loop i v1).trips) : BitVec 32 :=
  let c0_i32_107 : BitVec 32 := 0#32
  let c1_i32_110 : BitVec 32 := 1#32
  let arg26 : BitVec 32 := Scf.iv c0_i32_107 c1_i32_110 k0_t3
  let c512_i32_112 : BitVec 32 := 512#32
  let v169 : BitVec 32 := Scalar.muli arg26 c512_i32_112
  let v170 : BitVec 32 := v169
  let c256_i32 : BitVec 32 := 256#32
  let v218 : BitVec 32 := Scalar.addi v170 c256_i32
  v218
def k0_mult31 (i : grid0.Coords) (v1 : BitVec 32) (k0_t3 : Fin (k0_t3_loop i v1).trips) : BitVec 32 :=
  let c0_i32_107 : BitVec 32 := 0#32
  let c1_i32_110 : BitVec 32 := 1#32
  let arg26 : BitVec 32 := Scf.iv c0_i32_107 c1_i32_110 k0_t3
  let c512_i32_112 : BitVec 32 := 512#32
  let v169 : BitVec 32 := Scalar.muli arg26 c512_i32_112
  let v170 : BitVec 32 := v169
  let c384_i32 : BitVec 32 := 384#32
  let v238 : BitVec 32 := Scalar.addi v170 c384_i32
  v238
def k0_off22 (i : grid0.Coords) (v1 : BitVec 32) (k0_t3 : Fin (k0_t3_loop i v1).trips) : Fin 4 → Nat :=
  let c0_142 : Index := 0#32
  let c0_143 : Index := 0#32
  let c0_144 : Index := 0#32
  let c0_i32_107 : BitVec 32 := 0#32
  let c1_i32_110 : BitVec 32 := 1#32
  let arg26 : BitVec 32 := Scf.iv c0_i32_107 c1_i32_110 k0_t3
  let c512_i32_112 : BitVec 32 := 512#32
  let v169 : BitVec 32 := Scalar.muli arg26 c512_i32_112
  let v170 : BitVec 32 := v169
  let v262 : Index := Scalar.indexCast v170
  ![0, 0, 0, v262.toNat]
def k0_off23 (i : grid0.Coords) (v1 : BitVec 32) (k0_t3 : Fin (k0_t3_loop i v1).trips) : Fin 3 → Nat :=
  let c0_152 : Index := 0#32
  let c0_153 : Index := 0#32
  let c0_i32_107 : BitVec 32 := 0#32
  let c1_i32_110 : BitVec 32 := 1#32
  let arg26 : BitVec 32 := Scf.iv c0_i32_107 c1_i32_110 k0_t3
  let c512_i32_112 : BitVec 32 := 512#32
  let v169 : BitVec 32 := Scalar.muli arg26 c512_i32_112
  let v170 : BitVec 32 := v169
  let v284 : Index := Scalar.indexCast v170
  ![0, 0, v284.toNat]
def k0_off24 (i : grid0.Coords) (v1 : BitVec 32) (k0_t3 : Fin (k0_t3_loop i v1).trips) : Fin 3 → Nat :=
  let c0_154 : Index := 0#32
  let c1_155 : Index := 1#32
  let c0_i32_107 : BitVec 32 := 0#32
  let c1_i32_110 : BitVec 32 := 1#32
  let arg26 : BitVec 32 := Scf.iv c0_i32_107 c1_i32_110 k0_t3
  let c512_i32_112 : BitVec 32 := 512#32
  let v169 : BitVec 32 := Scalar.muli arg26 c512_i32_112
  let v170 : BitVec 32 := v169
  let v287 : Index := Scalar.indexCast v170
  ![0, 1, v287.toNat]
def k0_off25 (i : grid0.Coords) (v1 : BitVec 32) (k0_t3 : Fin (k0_t3_loop i v1).trips) : Fin 4 → Nat :=
  let c0_163 : Index := 0#32
  let c0_164 : Index := 0#32
  let c8 : Index := 8#32
  let c0_i32_107 : BitVec 32 := 0#32
  let c1_i32_110 : BitVec 32 := 1#32
  let arg26 : BitVec 32 := Scf.iv c0_i32_107 c1_i32_110 k0_t3
  let c512_i32_112 : BitVec 32 := 512#32
  let v169 : BitVec 32 := Scalar.muli arg26 c512_i32_112
  let v170 : BitVec 32 := v169
  let v306 : Index := Scalar.indexCast v170
  ![0, 0, 8, v306.toNat]
def k0_off26 (i : grid0.Coords) (v1 : BitVec 32) (k0_t3 : Fin (k0_t3_loop i v1).trips) : Fin 3 → Nat :=
  let c0_172 : Index := 0#32
  let c2_173 : Index := 2#32
  let c0_i32_107 : BitVec 32 := 0#32
  let c1_i32_110 : BitVec 32 := 1#32
  let arg26 : BitVec 32 := Scf.iv c0_i32_107 c1_i32_110 k0_t3
  let c512_i32_112 : BitVec 32 := 512#32
  let v169 : BitVec 32 := Scalar.muli arg26 c512_i32_112
  let v170 : BitVec 32 := v169
  let v328 : Index := Scalar.indexCast v170
  ![0, 2, v328.toNat]
def k0_off27 (i : grid0.Coords) (v1 : BitVec 32) (k0_t3 : Fin (k0_t3_loop i v1).trips) : Fin 3 → Nat :=
  let c0_174 : Index := 0#32
  let c3_175 : Index := 3#32
  let c0_i32_107 : BitVec 32 := 0#32
  let c1_i32_110 : BitVec 32 := 1#32
  let arg26 : BitVec 32 := Scf.iv c0_i32_107 c1_i32_110 k0_t3
  let c512_i32_112 : BitVec 32 := 512#32
  let v169 : BitVec 32 := Scalar.muli arg26 c512_i32_112
  let v170 : BitVec 32 := v169
  let v331 : Index := Scalar.indexCast v170
  ![0, 3, v331.toNat]
def k0_off28 (i : grid0.Coords) (v1 : BitVec 32) (k0_t3 : Fin (k0_t3_loop i v1).trips) : Fin 4 → Nat :=
  let c0_183 : Index := 0#32
  let c0_184 : Index := 0#32
  let c16 : Index := 16#32
  let c0_i32_107 : BitVec 32 := 0#32
  let c1_i32_110 : BitVec 32 := 1#32
  let arg26 : BitVec 32 := Scf.iv c0_i32_107 c1_i32_110 k0_t3
  let c512_i32_112 : BitVec 32 := 512#32
  let v169 : BitVec 32 := Scalar.muli arg26 c512_i32_112
  let v170 : BitVec 32 := v169
  let v350 : Index := Scalar.indexCast v170
  ![0, 0, 16, v350.toNat]
def k0_off29 (i : grid0.Coords) (v1 : BitVec 32) (k0_t3 : Fin (k0_t3_loop i v1).trips) : Fin 3 → Nat :=
  let c0_192 : Index := 0#32
  let c4 : Index := 4#32
  let c0_i32_107 : BitVec 32 := 0#32
  let c1_i32_110 : BitVec 32 := 1#32
  let arg26 : BitVec 32 := Scf.iv c0_i32_107 c1_i32_110 k0_t3
  let c512_i32_112 : BitVec 32 := 512#32
  let v169 : BitVec 32 := Scalar.muli arg26 c512_i32_112
  let v170 : BitVec 32 := v169
  let v372 : Index := Scalar.indexCast v170
  ![0, 4, v372.toNat]
def k0_off30 (i : grid0.Coords) (v1 : BitVec 32) (k0_t3 : Fin (k0_t3_loop i v1).trips) : Fin 3 → Nat :=
  let c0_193 : Index := 0#32
  let c5 : Index := 5#32
  let c0_i32_107 : BitVec 32 := 0#32
  let c1_i32_110 : BitVec 32 := 1#32
  let arg26 : BitVec 32 := Scf.iv c0_i32_107 c1_i32_110 k0_t3
  let c512_i32_112 : BitVec 32 := 512#32
  let v169 : BitVec 32 := Scalar.muli arg26 c512_i32_112
  let v170 : BitVec 32 := v169
  let v375 : Index := Scalar.indexCast v170
  ![0, 5, v375.toNat]
def k0_off31 (i : grid0.Coords) (v1 : BitVec 32) (k0_t3 : Fin (k0_t3_loop i v1).trips) : Fin 4 → Nat :=
  let c0_201 : Index := 0#32
  let c0_202 : Index := 0#32
  let c24 : Index := 24#32
  let c0_i32_107 : BitVec 32 := 0#32
  let c1_i32_110 : BitVec 32 := 1#32
  let arg26 : BitVec 32 := Scf.iv c0_i32_107 c1_i32_110 k0_t3
  let c512_i32_112 : BitVec 32 := 512#32
  let v169 : BitVec 32 := Scalar.muli arg26 c512_i32_112
  let v170 : BitVec 32 := v169
  let v394 : Index := Scalar.indexCast v170
  ![0, 0, 24, v394.toNat]
def k0_off32 (i : grid0.Coords) (v1 : BitVec 32) (k0_t3 : Fin (k0_t3_loop i v1).trips) : Fin 3 → Nat :=
  let c0_210 : Index := 0#32
  let c6 : Index := 6#32
  let c0_i32_107 : BitVec 32 := 0#32
  let c1_i32_110 : BitVec 32 := 1#32
  let arg26 : BitVec 32 := Scf.iv c0_i32_107 c1_i32_110 k0_t3
  let c512_i32_112 : BitVec 32 := 512#32
  let v169 : BitVec 32 := Scalar.muli arg26 c512_i32_112
  let v170 : BitVec 32 := v169
  let v416 : Index := Scalar.indexCast v170
  ![0, 6, v416.toNat]
def k0_off33 (i : grid0.Coords) (v1 : BitVec 32) (k0_t3 : Fin (k0_t3_loop i v1).trips) : Fin 3 → Nat :=
  let c0_211 : Index := 0#32
  let c7 : Index := 7#32
  let c0_i32_107 : BitVec 32 := 0#32
  let c1_i32_110 : BitVec 32 := 1#32
  let arg26 : BitVec 32 := Scf.iv c0_i32_107 c1_i32_110 k0_t3
  let c512_i32_112 : BitVec 32 := 512#32
  let v169 : BitVec 32 := Scalar.muli arg26 c512_i32_112
  let v170 : BitVec 32 := v169
  let v419 : Index := Scalar.indexCast v170
  ![0, 7, v419.toNat]
@[reducible] def k0_t4_loop (i : grid0.Coords) (v1 : BitVec 32) : Scf.Loop 32 :=
  let c0_i32_107 : BitVec 32 := 0#32
  let c4_i32 : BitVec 32 := 4#32
  let c0_i32_6 : BitVec 32 := 0#32
  let arg1 : BitVec 32 := BitVec.ofNat 32 (i 1).val
  let c2048_i32 : BitVec 32 := 2048#32
  let v2 : BitVec 32 := Scalar.muli arg1 c2048_i32
  let v3 : BitVec 32 := Scalar.subi v1 v2
  let c512_i32 : BitVec 32 := 512#32
  let v4 : BitVec 32 := Scalar.addi v3 c512_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c512_i32_0 : BitVec 32 := 512#32
  let c0_i32_2 : BitVec 32 := 0#32
  let v12 : BitVec 1 := Scalar.cmpi .sgt c512_i32_0 c0_i32_2
  let v13 : BitVec 32 := Scalar.extui v12
  let c0_i32_3 : BitVec 32 := 0#32
  let v14 : BitVec 1 := Scalar.cmpi .slt c512_i32_0 c0_i32_3
  let v15 : BitVec 32 := Scalar.extui v14
  let v16 : BitVec 32 := Scalar.subi v13 v15
  let v17 : BitVec 1 := Scalar.cmpi .ne v11 v16
  let v18 : BitVec 32 := Scalar.remsi v5 c512_i32_0
  let c0_i32_4 : BitVec 32 := 0#32
  let v19 : BitVec 1 := Scalar.cmpi .ne v18 c0_i32_4
  let v20 : BitVec 1 := Scalar.andi v17 v19
  let v6 : BitVec 32 := Scalar.divsi v5 c512_i32_0
  let c1_i32_5 : BitVec 32 := 1#32
  let v21 : BitVec 32 := Scalar.subi v6 c1_i32_5
  let v22 : BitVec 32 := Scalar.select v20 v21 v6
  let v23 : BitVec 32 := Scalar.maxsi c0_i32_6 v22
  let v24 : BitVec 32 := Scalar.minsi c4_i32 v23
  let v162 : BitVec 32 := Scalar.subi v24 c0_i32_107
  let c1_i32_109 : BitVec 32 := 1#32
  let v164 : BitVec 32 := Scalar.divsi v162 c1_i32_109
  let v165 : BitVec 32 := Scalar.muli v164 c1_i32_109
  let v166 : BitVec 32 := Scalar.addi c0_i32_107 v165
  let v163 : BitVec 32 := Scalar.addi c0_i32_107 v162
  let c1_i32_111 : BitVec 32 := 1#32
  ⟨v166, v163, c1_i32_111⟩
def k0_mult32 (i : grid0.Coords) (v1 : BitVec 32) (k0_t4 : Fin (k0_t4_loop i v1).trips) : BitVec 32 :=
  let c0_i32_107 : BitVec 32 := 0#32
  let c4_i32 : BitVec 32 := 4#32
  let c0_i32_6 : BitVec 32 := 0#32
  let arg1 : BitVec 32 := BitVec.ofNat 32 (i 1).val
  let c2048_i32 : BitVec 32 := 2048#32
  let v2 : BitVec 32 := Scalar.muli arg1 c2048_i32
  let v3 : BitVec 32 := Scalar.subi v1 v2
  let c512_i32 : BitVec 32 := 512#32
  let v4 : BitVec 32 := Scalar.addi v3 c512_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c512_i32_0 : BitVec 32 := 512#32
  let c0_i32_2 : BitVec 32 := 0#32
  let v12 : BitVec 1 := Scalar.cmpi .sgt c512_i32_0 c0_i32_2
  let v13 : BitVec 32 := Scalar.extui v12
  let c0_i32_3 : BitVec 32 := 0#32
  let v14 : BitVec 1 := Scalar.cmpi .slt c512_i32_0 c0_i32_3
  let v15 : BitVec 32 := Scalar.extui v14
  let v16 : BitVec 32 := Scalar.subi v13 v15
  let v17 : BitVec 1 := Scalar.cmpi .ne v11 v16
  let v18 : BitVec 32 := Scalar.remsi v5 c512_i32_0
  let c0_i32_4 : BitVec 32 := 0#32
  let v19 : BitVec 1 := Scalar.cmpi .ne v18 c0_i32_4
  let v20 : BitVec 1 := Scalar.andi v17 v19
  let v6 : BitVec 32 := Scalar.divsi v5 c512_i32_0
  let c1_i32_5 : BitVec 32 := 1#32
  let v21 : BitVec 32 := Scalar.subi v6 c1_i32_5
  let v22 : BitVec 32 := Scalar.select v20 v21 v6
  let v23 : BitVec 32 := Scalar.maxsi c0_i32_6 v22
  let v24 : BitVec 32 := Scalar.minsi c4_i32 v23
  let v162 : BitVec 32 := Scalar.subi v24 c0_i32_107
  let c1_i32_109 : BitVec 32 := 1#32
  let v164 : BitVec 32 := Scalar.divsi v162 c1_i32_109
  let v165 : BitVec 32 := Scalar.muli v164 c1_i32_109
  let v166 : BitVec 32 := Scalar.addi c0_i32_107 v165
  let c1_i32_111 : BitVec 32 := 1#32
  let arg26 : BitVec 32 := Scf.iv v166 c1_i32_111 k0_t4
  let c512_i32_112 : BitVec 32 := 512#32
  let v169 : BitVec 32 := Scalar.muli arg26 c512_i32_112
  v169
def k0_mult33 (i : grid0.Coords) (v1 : BitVec 32) (k0_t4 : Fin (k0_t4_loop i v1).trips) : BitVec 32 :=
  let c0_i32_107 : BitVec 32 := 0#32
  let c4_i32 : BitVec 32 := 4#32
  let c0_i32_6 : BitVec 32 := 0#32
  let arg1 : BitVec 32 := BitVec.ofNat 32 (i 1).val
  let c2048_i32 : BitVec 32 := 2048#32
  let v2 : BitVec 32 := Scalar.muli arg1 c2048_i32
  let v3 : BitVec 32 := Scalar.subi v1 v2
  let c512_i32 : BitVec 32 := 512#32
  let v4 : BitVec 32 := Scalar.addi v3 c512_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c512_i32_0 : BitVec 32 := 512#32
  let c0_i32_2 : BitVec 32 := 0#32
  let v12 : BitVec 1 := Scalar.cmpi .sgt c512_i32_0 c0_i32_2
  let v13 : BitVec 32 := Scalar.extui v12
  let c0_i32_3 : BitVec 32 := 0#32
  let v14 : BitVec 1 := Scalar.cmpi .slt c512_i32_0 c0_i32_3
  let v15 : BitVec 32 := Scalar.extui v14
  let v16 : BitVec 32 := Scalar.subi v13 v15
  let v17 : BitVec 1 := Scalar.cmpi .ne v11 v16
  let v18 : BitVec 32 := Scalar.remsi v5 c512_i32_0
  let c0_i32_4 : BitVec 32 := 0#32
  let v19 : BitVec 1 := Scalar.cmpi .ne v18 c0_i32_4
  let v20 : BitVec 1 := Scalar.andi v17 v19
  let v6 : BitVec 32 := Scalar.divsi v5 c512_i32_0
  let c1_i32_5 : BitVec 32 := 1#32
  let v21 : BitVec 32 := Scalar.subi v6 c1_i32_5
  let v22 : BitVec 32 := Scalar.select v20 v21 v6
  let v23 : BitVec 32 := Scalar.maxsi c0_i32_6 v22
  let v24 : BitVec 32 := Scalar.minsi c4_i32 v23
  let v162 : BitVec 32 := Scalar.subi v24 c0_i32_107
  let c1_i32_109 : BitVec 32 := 1#32
  let v164 : BitVec 32 := Scalar.divsi v162 c1_i32_109
  let v165 : BitVec 32 := Scalar.muli v164 c1_i32_109
  let v166 : BitVec 32 := Scalar.addi c0_i32_107 v165
  let c1_i32_111 : BitVec 32 := 1#32
  let arg26 : BitVec 32 := Scf.iv v166 c1_i32_111 k0_t4
  let c512_i32_112 : BitVec 32 := 512#32
  let v169 : BitVec 32 := Scalar.muli arg26 c512_i32_112
  let v170 : BitVec 32 := v169
  let c0_i32_114 : BitVec 32 := 0#32
  let v178 : BitVec 32 := Scalar.addi v170 c0_i32_114
  v178
def k0_off34 (i : grid0.Coords) (v1 : BitVec 32) (k0_t4 : Fin (k0_t4_loop i v1).trips) (c0_i32_114 : BitVec 32) : Fin 4 → Nat :=
  let c0_115 : Index := 0#32
  let c0_116 : Index := 0#32
  let c0_117 : Index := 0#32
  let c0_i32_107 : BitVec 32 := 0#32
  let c4_i32 : BitVec 32 := 4#32
  let c0_i32_6 : BitVec 32 := 0#32
  let arg1 : BitVec 32 := BitVec.ofNat 32 (i 1).val
  let c2048_i32 : BitVec 32 := 2048#32
  let v2 : BitVec 32 := Scalar.muli arg1 c2048_i32
  let v3 : BitVec 32 := Scalar.subi v1 v2
  let c512_i32 : BitVec 32 := 512#32
  let v4 : BitVec 32 := Scalar.addi v3 c512_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c512_i32_0 : BitVec 32 := 512#32
  let c0_i32_2 : BitVec 32 := 0#32
  let v12 : BitVec 1 := Scalar.cmpi .sgt c512_i32_0 c0_i32_2
  let v13 : BitVec 32 := Scalar.extui v12
  let c0_i32_3 : BitVec 32 := 0#32
  let v14 : BitVec 1 := Scalar.cmpi .slt c512_i32_0 c0_i32_3
  let v15 : BitVec 32 := Scalar.extui v14
  let v16 : BitVec 32 := Scalar.subi v13 v15
  let v17 : BitVec 1 := Scalar.cmpi .ne v11 v16
  let v18 : BitVec 32 := Scalar.remsi v5 c512_i32_0
  let c0_i32_4 : BitVec 32 := 0#32
  let v19 : BitVec 1 := Scalar.cmpi .ne v18 c0_i32_4
  let v20 : BitVec 1 := Scalar.andi v17 v19
  let v6 : BitVec 32 := Scalar.divsi v5 c512_i32_0
  let c1_i32_5 : BitVec 32 := 1#32
  let v21 : BitVec 32 := Scalar.subi v6 c1_i32_5
  let v22 : BitVec 32 := Scalar.select v20 v21 v6
  let v23 : BitVec 32 := Scalar.maxsi c0_i32_6 v22
  let v24 : BitVec 32 := Scalar.minsi c4_i32 v23
  let v162 : BitVec 32 := Scalar.subi v24 c0_i32_107
  let c1_i32_109 : BitVec 32 := 1#32
  let v164 : BitVec 32 := Scalar.divsi v162 c1_i32_109
  let v165 : BitVec 32 := Scalar.muli v164 c1_i32_109
  let v166 : BitVec 32 := Scalar.addi c0_i32_107 v165
  let c1_i32_111 : BitVec 32 := 1#32
  let arg26 : BitVec 32 := Scf.iv v166 c1_i32_111 k0_t4
  let c512_i32_112 : BitVec 32 := 512#32
  let v169 : BitVec 32 := Scalar.muli arg26 c512_i32_112
  let v170 : BitVec 32 := v169
  let v178 : BitVec 32 := Scalar.addi v170 c0_i32_114
  let v179 : BitVec 32 := v178
  let v180 : Index := Scalar.indexCast v179
  ![0, 0, 0, v180.toNat]
def k0_mult34 (i : grid0.Coords) (v1 : BitVec 32) (k0_t4 : Fin (k0_t4_loop i v1).trips) : BitVec 32 :=
  let c0_i32_107 : BitVec 32 := 0#32
  let c4_i32 : BitVec 32 := 4#32
  let c0_i32_6 : BitVec 32 := 0#32
  let arg1 : BitVec 32 := BitVec.ofNat 32 (i 1).val
  let c2048_i32 : BitVec 32 := 2048#32
  let v2 : BitVec 32 := Scalar.muli arg1 c2048_i32
  let v3 : BitVec 32 := Scalar.subi v1 v2
  let c512_i32 : BitVec 32 := 512#32
  let v4 : BitVec 32 := Scalar.addi v3 c512_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c512_i32_0 : BitVec 32 := 512#32
  let c0_i32_2 : BitVec 32 := 0#32
  let v12 : BitVec 1 := Scalar.cmpi .sgt c512_i32_0 c0_i32_2
  let v13 : BitVec 32 := Scalar.extui v12
  let c0_i32_3 : BitVec 32 := 0#32
  let v14 : BitVec 1 := Scalar.cmpi .slt c512_i32_0 c0_i32_3
  let v15 : BitVec 32 := Scalar.extui v14
  let v16 : BitVec 32 := Scalar.subi v13 v15
  let v17 : BitVec 1 := Scalar.cmpi .ne v11 v16
  let v18 : BitVec 32 := Scalar.remsi v5 c512_i32_0
  let c0_i32_4 : BitVec 32 := 0#32
  let v19 : BitVec 1 := Scalar.cmpi .ne v18 c0_i32_4
  let v20 : BitVec 1 := Scalar.andi v17 v19
  let v6 : BitVec 32 := Scalar.divsi v5 c512_i32_0
  let c1_i32_5 : BitVec 32 := 1#32
  let v21 : BitVec 32 := Scalar.subi v6 c1_i32_5
  let v22 : BitVec 32 := Scalar.select v20 v21 v6
  let v23 : BitVec 32 := Scalar.maxsi c0_i32_6 v22
  let v24 : BitVec 32 := Scalar.minsi c4_i32 v23
  let v162 : BitVec 32 := Scalar.subi v24 c0_i32_107
  let c1_i32_109 : BitVec 32 := 1#32
  let v164 : BitVec 32 := Scalar.divsi v162 c1_i32_109
  let v165 : BitVec 32 := Scalar.muli v164 c1_i32_109
  let v166 : BitVec 32 := Scalar.addi c0_i32_107 v165
  let c1_i32_111 : BitVec 32 := 1#32
  let arg26 : BitVec 32 := Scf.iv v166 c1_i32_111 k0_t4
  let c512_i32_112 : BitVec 32 := 512#32
  let v169 : BitVec 32 := Scalar.muli arg26 c512_i32_112
  let v170 : BitVec 32 := v169
  let c128_i32 : BitVec 32 := 128#32
  let v198 : BitVec 32 := Scalar.addi v170 c128_i32
  v198
def k0_mult35 (i : grid0.Coords) (v1 : BitVec 32) (k0_t4 : Fin (k0_t4_loop i v1).trips) : BitVec 32 :=
  let c0_i32_107 : BitVec 32 := 0#32
  let c4_i32 : BitVec 32 := 4#32
  let c0_i32_6 : BitVec 32 := 0#32
  let arg1 : BitVec 32 := BitVec.ofNat 32 (i 1).val
  let c2048_i32 : BitVec 32 := 2048#32
  let v2 : BitVec 32 := Scalar.muli arg1 c2048_i32
  let v3 : BitVec 32 := Scalar.subi v1 v2
  let c512_i32 : BitVec 32 := 512#32
  let v4 : BitVec 32 := Scalar.addi v3 c512_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c512_i32_0 : BitVec 32 := 512#32
  let c0_i32_2 : BitVec 32 := 0#32
  let v12 : BitVec 1 := Scalar.cmpi .sgt c512_i32_0 c0_i32_2
  let v13 : BitVec 32 := Scalar.extui v12
  let c0_i32_3 : BitVec 32 := 0#32
  let v14 : BitVec 1 := Scalar.cmpi .slt c512_i32_0 c0_i32_3
  let v15 : BitVec 32 := Scalar.extui v14
  let v16 : BitVec 32 := Scalar.subi v13 v15
  let v17 : BitVec 1 := Scalar.cmpi .ne v11 v16
  let v18 : BitVec 32 := Scalar.remsi v5 c512_i32_0
  let c0_i32_4 : BitVec 32 := 0#32
  let v19 : BitVec 1 := Scalar.cmpi .ne v18 c0_i32_4
  let v20 : BitVec 1 := Scalar.andi v17 v19
  let v6 : BitVec 32 := Scalar.divsi v5 c512_i32_0
  let c1_i32_5 : BitVec 32 := 1#32
  let v21 : BitVec 32 := Scalar.subi v6 c1_i32_5
  let v22 : BitVec 32 := Scalar.select v20 v21 v6
  let v23 : BitVec 32 := Scalar.maxsi c0_i32_6 v22
  let v24 : BitVec 32 := Scalar.minsi c4_i32 v23
  let v162 : BitVec 32 := Scalar.subi v24 c0_i32_107
  let c1_i32_109 : BitVec 32 := 1#32
  let v164 : BitVec 32 := Scalar.divsi v162 c1_i32_109
  let v165 : BitVec 32 := Scalar.muli v164 c1_i32_109
  let v166 : BitVec 32 := Scalar.addi c0_i32_107 v165
  let c1_i32_111 : BitVec 32 := 1#32
  let arg26 : BitVec 32 := Scf.iv v166 c1_i32_111 k0_t4
  let c512_i32_112 : BitVec 32 := 512#32
  let v169 : BitVec 32 := Scalar.muli arg26 c512_i32_112
  let v170 : BitVec 32 := v169
  let c256_i32 : BitVec 32 := 256#32
  let v218 : BitVec 32 := Scalar.addi v170 c256_i32
  v218
def k0_mult36 (i : grid0.Coords) (v1 : BitVec 32) (k0_t4 : Fin (k0_t4_loop i v1).trips) : BitVec 32 :=
  let c0_i32_107 : BitVec 32 := 0#32
  let c4_i32 : BitVec 32 := 4#32
  let c0_i32_6 : BitVec 32 := 0#32
  let arg1 : BitVec 32 := BitVec.ofNat 32 (i 1).val
  let c2048_i32 : BitVec 32 := 2048#32
  let v2 : BitVec 32 := Scalar.muli arg1 c2048_i32
  let v3 : BitVec 32 := Scalar.subi v1 v2
  let c512_i32 : BitVec 32 := 512#32
  let v4 : BitVec 32 := Scalar.addi v3 c512_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c512_i32_0 : BitVec 32 := 512#32
  let c0_i32_2 : BitVec 32 := 0#32
  let v12 : BitVec 1 := Scalar.cmpi .sgt c512_i32_0 c0_i32_2
  let v13 : BitVec 32 := Scalar.extui v12
  let c0_i32_3 : BitVec 32 := 0#32
  let v14 : BitVec 1 := Scalar.cmpi .slt c512_i32_0 c0_i32_3
  let v15 : BitVec 32 := Scalar.extui v14
  let v16 : BitVec 32 := Scalar.subi v13 v15
  let v17 : BitVec 1 := Scalar.cmpi .ne v11 v16
  let v18 : BitVec 32 := Scalar.remsi v5 c512_i32_0
  let c0_i32_4 : BitVec 32 := 0#32
  let v19 : BitVec 1 := Scalar.cmpi .ne v18 c0_i32_4
  let v20 : BitVec 1 := Scalar.andi v17 v19
  let v6 : BitVec 32 := Scalar.divsi v5 c512_i32_0
  let c1_i32_5 : BitVec 32 := 1#32
  let v21 : BitVec 32 := Scalar.subi v6 c1_i32_5
  let v22 : BitVec 32 := Scalar.select v20 v21 v6
  let v23 : BitVec 32 := Scalar.maxsi c0_i32_6 v22
  let v24 : BitVec 32 := Scalar.minsi c4_i32 v23
  let v162 : BitVec 32 := Scalar.subi v24 c0_i32_107
  let c1_i32_109 : BitVec 32 := 1#32
  let v164 : BitVec 32 := Scalar.divsi v162 c1_i32_109
  let v165 : BitVec 32 := Scalar.muli v164 c1_i32_109
  let v166 : BitVec 32 := Scalar.addi c0_i32_107 v165
  let c1_i32_111 : BitVec 32 := 1#32
  let arg26 : BitVec 32 := Scf.iv v166 c1_i32_111 k0_t4
  let c512_i32_112 : BitVec 32 := 512#32
  let v169 : BitVec 32 := Scalar.muli arg26 c512_i32_112
  let v170 : BitVec 32 := v169
  let c384_i32 : BitVec 32 := 384#32
  let v238 : BitVec 32 := Scalar.addi v170 c384_i32
  v238
def k0_off35 (i : grid0.Coords) (v1 : BitVec 32) (k0_t4 : Fin (k0_t4_loop i v1).trips) : Fin 4 → Nat :=
  let c0_142 : Index := 0#32
  let c0_143 : Index := 0#32
  let c0_144 : Index := 0#32
  let c0_i32_107 : BitVec 32 := 0#32
  let c4_i32 : BitVec 32 := 4#32
  let c0_i32_6 : BitVec 32 := 0#32
  let arg1 : BitVec 32 := BitVec.ofNat 32 (i 1).val
  let c2048_i32 : BitVec 32 := 2048#32
  let v2 : BitVec 32 := Scalar.muli arg1 c2048_i32
  let v3 : BitVec 32 := Scalar.subi v1 v2
  let c512_i32 : BitVec 32 := 512#32
  let v4 : BitVec 32 := Scalar.addi v3 c512_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c512_i32_0 : BitVec 32 := 512#32
  let c0_i32_2 : BitVec 32 := 0#32
  let v12 : BitVec 1 := Scalar.cmpi .sgt c512_i32_0 c0_i32_2
  let v13 : BitVec 32 := Scalar.extui v12
  let c0_i32_3 : BitVec 32 := 0#32
  let v14 : BitVec 1 := Scalar.cmpi .slt c512_i32_0 c0_i32_3
  let v15 : BitVec 32 := Scalar.extui v14
  let v16 : BitVec 32 := Scalar.subi v13 v15
  let v17 : BitVec 1 := Scalar.cmpi .ne v11 v16
  let v18 : BitVec 32 := Scalar.remsi v5 c512_i32_0
  let c0_i32_4 : BitVec 32 := 0#32
  let v19 : BitVec 1 := Scalar.cmpi .ne v18 c0_i32_4
  let v20 : BitVec 1 := Scalar.andi v17 v19
  let v6 : BitVec 32 := Scalar.divsi v5 c512_i32_0
  let c1_i32_5 : BitVec 32 := 1#32
  let v21 : BitVec 32 := Scalar.subi v6 c1_i32_5
  let v22 : BitVec 32 := Scalar.select v20 v21 v6
  let v23 : BitVec 32 := Scalar.maxsi c0_i32_6 v22
  let v24 : BitVec 32 := Scalar.minsi c4_i32 v23
  let v162 : BitVec 32 := Scalar.subi v24 c0_i32_107
  let c1_i32_109 : BitVec 32 := 1#32
  let v164 : BitVec 32 := Scalar.divsi v162 c1_i32_109
  let v165 : BitVec 32 := Scalar.muli v164 c1_i32_109
  let v166 : BitVec 32 := Scalar.addi c0_i32_107 v165
  let c1_i32_111 : BitVec 32 := 1#32
  let arg26 : BitVec 32 := Scf.iv v166 c1_i32_111 k0_t4
  let c512_i32_112 : BitVec 32 := 512#32
  let v169 : BitVec 32 := Scalar.muli arg26 c512_i32_112
  let v170 : BitVec 32 := v169
  let v262 : Index := Scalar.indexCast v170
  ![0, 0, 0, v262.toNat]
def k0_off36 (i : grid0.Coords) (v1 : BitVec 32) (k0_t4 : Fin (k0_t4_loop i v1).trips) : Fin 3 → Nat :=
  let c0_152 : Index := 0#32
  let c0_153 : Index := 0#32
  let c0_i32_107 : BitVec 32 := 0#32
  let c4_i32 : BitVec 32 := 4#32
  let c0_i32_6 : BitVec 32 := 0#32
  let arg1 : BitVec 32 := BitVec.ofNat 32 (i 1).val
  let c2048_i32 : BitVec 32 := 2048#32
  let v2 : BitVec 32 := Scalar.muli arg1 c2048_i32
  let v3 : BitVec 32 := Scalar.subi v1 v2
  let c512_i32 : BitVec 32 := 512#32
  let v4 : BitVec 32 := Scalar.addi v3 c512_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c512_i32_0 : BitVec 32 := 512#32
  let c0_i32_2 : BitVec 32 := 0#32
  let v12 : BitVec 1 := Scalar.cmpi .sgt c512_i32_0 c0_i32_2
  let v13 : BitVec 32 := Scalar.extui v12
  let c0_i32_3 : BitVec 32 := 0#32
  let v14 : BitVec 1 := Scalar.cmpi .slt c512_i32_0 c0_i32_3
  let v15 : BitVec 32 := Scalar.extui v14
  let v16 : BitVec 32 := Scalar.subi v13 v15
  let v17 : BitVec 1 := Scalar.cmpi .ne v11 v16
  let v18 : BitVec 32 := Scalar.remsi v5 c512_i32_0
  let c0_i32_4 : BitVec 32 := 0#32
  let v19 : BitVec 1 := Scalar.cmpi .ne v18 c0_i32_4
  let v20 : BitVec 1 := Scalar.andi v17 v19
  let v6 : BitVec 32 := Scalar.divsi v5 c512_i32_0
  let c1_i32_5 : BitVec 32 := 1#32
  let v21 : BitVec 32 := Scalar.subi v6 c1_i32_5
  let v22 : BitVec 32 := Scalar.select v20 v21 v6
  let v23 : BitVec 32 := Scalar.maxsi c0_i32_6 v22
  let v24 : BitVec 32 := Scalar.minsi c4_i32 v23
  let v162 : BitVec 32 := Scalar.subi v24 c0_i32_107
  let c1_i32_109 : BitVec 32 := 1#32
  let v164 : BitVec 32 := Scalar.divsi v162 c1_i32_109
  let v165 : BitVec 32 := Scalar.muli v164 c1_i32_109
  let v166 : BitVec 32 := Scalar.addi c0_i32_107 v165
  let c1_i32_111 : BitVec 32 := 1#32
  let arg26 : BitVec 32 := Scf.iv v166 c1_i32_111 k0_t4
  let c512_i32_112 : BitVec 32 := 512#32
  let v169 : BitVec 32 := Scalar.muli arg26 c512_i32_112
  let v170 : BitVec 32 := v169
  let v284 : Index := Scalar.indexCast v170
  ![0, 0, v284.toNat]
def k0_off37 (i : grid0.Coords) (v1 : BitVec 32) (k0_t4 : Fin (k0_t4_loop i v1).trips) : Fin 3 → Nat :=
  let c0_154 : Index := 0#32
  let c1_155 : Index := 1#32
  let c0_i32_107 : BitVec 32 := 0#32
  let c4_i32 : BitVec 32 := 4#32
  let c0_i32_6 : BitVec 32 := 0#32
  let arg1 : BitVec 32 := BitVec.ofNat 32 (i 1).val
  let c2048_i32 : BitVec 32 := 2048#32
  let v2 : BitVec 32 := Scalar.muli arg1 c2048_i32
  let v3 : BitVec 32 := Scalar.subi v1 v2
  let c512_i32 : BitVec 32 := 512#32
  let v4 : BitVec 32 := Scalar.addi v3 c512_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c512_i32_0 : BitVec 32 := 512#32
  let c0_i32_2 : BitVec 32 := 0#32
  let v12 : BitVec 1 := Scalar.cmpi .sgt c512_i32_0 c0_i32_2
  let v13 : BitVec 32 := Scalar.extui v12
  let c0_i32_3 : BitVec 32 := 0#32
  let v14 : BitVec 1 := Scalar.cmpi .slt c512_i32_0 c0_i32_3
  let v15 : BitVec 32 := Scalar.extui v14
  let v16 : BitVec 32 := Scalar.subi v13 v15
  let v17 : BitVec 1 := Scalar.cmpi .ne v11 v16
  let v18 : BitVec 32 := Scalar.remsi v5 c512_i32_0
  let c0_i32_4 : BitVec 32 := 0#32
  let v19 : BitVec 1 := Scalar.cmpi .ne v18 c0_i32_4
  let v20 : BitVec 1 := Scalar.andi v17 v19
  let v6 : BitVec 32 := Scalar.divsi v5 c512_i32_0
  let c1_i32_5 : BitVec 32 := 1#32
  let v21 : BitVec 32 := Scalar.subi v6 c1_i32_5
  let v22 : BitVec 32 := Scalar.select v20 v21 v6
  let v23 : BitVec 32 := Scalar.maxsi c0_i32_6 v22
  let v24 : BitVec 32 := Scalar.minsi c4_i32 v23
  let v162 : BitVec 32 := Scalar.subi v24 c0_i32_107
  let c1_i32_109 : BitVec 32 := 1#32
  let v164 : BitVec 32 := Scalar.divsi v162 c1_i32_109
  let v165 : BitVec 32 := Scalar.muli v164 c1_i32_109
  let v166 : BitVec 32 := Scalar.addi c0_i32_107 v165
  let c1_i32_111 : BitVec 32 := 1#32
  let arg26 : BitVec 32 := Scf.iv v166 c1_i32_111 k0_t4
  let c512_i32_112 : BitVec 32 := 512#32
  let v169 : BitVec 32 := Scalar.muli arg26 c512_i32_112
  let v170 : BitVec 32 := v169
  let v287 : Index := Scalar.indexCast v170
  ![0, 1, v287.toNat]
def k0_off38 (i : grid0.Coords) (v1 : BitVec 32) (k0_t4 : Fin (k0_t4_loop i v1).trips) : Fin 4 → Nat :=
  let c0_163 : Index := 0#32
  let c0_164 : Index := 0#32
  let c8 : Index := 8#32
  let c0_i32_107 : BitVec 32 := 0#32
  let c4_i32 : BitVec 32 := 4#32
  let c0_i32_6 : BitVec 32 := 0#32
  let arg1 : BitVec 32 := BitVec.ofNat 32 (i 1).val
  let c2048_i32 : BitVec 32 := 2048#32
  let v2 : BitVec 32 := Scalar.muli arg1 c2048_i32
  let v3 : BitVec 32 := Scalar.subi v1 v2
  let c512_i32 : BitVec 32 := 512#32
  let v4 : BitVec 32 := Scalar.addi v3 c512_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c512_i32_0 : BitVec 32 := 512#32
  let c0_i32_2 : BitVec 32 := 0#32
  let v12 : BitVec 1 := Scalar.cmpi .sgt c512_i32_0 c0_i32_2
  let v13 : BitVec 32 := Scalar.extui v12
  let c0_i32_3 : BitVec 32 := 0#32
  let v14 : BitVec 1 := Scalar.cmpi .slt c512_i32_0 c0_i32_3
  let v15 : BitVec 32 := Scalar.extui v14
  let v16 : BitVec 32 := Scalar.subi v13 v15
  let v17 : BitVec 1 := Scalar.cmpi .ne v11 v16
  let v18 : BitVec 32 := Scalar.remsi v5 c512_i32_0
  let c0_i32_4 : BitVec 32 := 0#32
  let v19 : BitVec 1 := Scalar.cmpi .ne v18 c0_i32_4
  let v20 : BitVec 1 := Scalar.andi v17 v19
  let v6 : BitVec 32 := Scalar.divsi v5 c512_i32_0
  let c1_i32_5 : BitVec 32 := 1#32
  let v21 : BitVec 32 := Scalar.subi v6 c1_i32_5
  let v22 : BitVec 32 := Scalar.select v20 v21 v6
  let v23 : BitVec 32 := Scalar.maxsi c0_i32_6 v22
  let v24 : BitVec 32 := Scalar.minsi c4_i32 v23
  let v162 : BitVec 32 := Scalar.subi v24 c0_i32_107
  let c1_i32_109 : BitVec 32 := 1#32
  let v164 : BitVec 32 := Scalar.divsi v162 c1_i32_109
  let v165 : BitVec 32 := Scalar.muli v164 c1_i32_109
  let v166 : BitVec 32 := Scalar.addi c0_i32_107 v165
  let c1_i32_111 : BitVec 32 := 1#32
  let arg26 : BitVec 32 := Scf.iv v166 c1_i32_111 k0_t4
  let c512_i32_112 : BitVec 32 := 512#32
  let v169 : BitVec 32 := Scalar.muli arg26 c512_i32_112
  let v170 : BitVec 32 := v169
  let v306 : Index := Scalar.indexCast v170
  ![0, 0, 8, v306.toNat]
def k0_off39 (i : grid0.Coords) (v1 : BitVec 32) (k0_t4 : Fin (k0_t4_loop i v1).trips) : Fin 3 → Nat :=
  let c0_172 : Index := 0#32
  let c2_173 : Index := 2#32
  let c0_i32_107 : BitVec 32 := 0#32
  let c4_i32 : BitVec 32 := 4#32
  let c0_i32_6 : BitVec 32 := 0#32
  let arg1 : BitVec 32 := BitVec.ofNat 32 (i 1).val
  let c2048_i32 : BitVec 32 := 2048#32
  let v2 : BitVec 32 := Scalar.muli arg1 c2048_i32
  let v3 : BitVec 32 := Scalar.subi v1 v2
  let c512_i32 : BitVec 32 := 512#32
  let v4 : BitVec 32 := Scalar.addi v3 c512_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c512_i32_0 : BitVec 32 := 512#32
  let c0_i32_2 : BitVec 32 := 0#32
  let v12 : BitVec 1 := Scalar.cmpi .sgt c512_i32_0 c0_i32_2
  let v13 : BitVec 32 := Scalar.extui v12
  let c0_i32_3 : BitVec 32 := 0#32
  let v14 : BitVec 1 := Scalar.cmpi .slt c512_i32_0 c0_i32_3
  let v15 : BitVec 32 := Scalar.extui v14
  let v16 : BitVec 32 := Scalar.subi v13 v15
  let v17 : BitVec 1 := Scalar.cmpi .ne v11 v16
  let v18 : BitVec 32 := Scalar.remsi v5 c512_i32_0
  let c0_i32_4 : BitVec 32 := 0#32
  let v19 : BitVec 1 := Scalar.cmpi .ne v18 c0_i32_4
  let v20 : BitVec 1 := Scalar.andi v17 v19
  let v6 : BitVec 32 := Scalar.divsi v5 c512_i32_0
  let c1_i32_5 : BitVec 32 := 1#32
  let v21 : BitVec 32 := Scalar.subi v6 c1_i32_5
  let v22 : BitVec 32 := Scalar.select v20 v21 v6
  let v23 : BitVec 32 := Scalar.maxsi c0_i32_6 v22
  let v24 : BitVec 32 := Scalar.minsi c4_i32 v23
  let v162 : BitVec 32 := Scalar.subi v24 c0_i32_107
  let c1_i32_109 : BitVec 32 := 1#32
  let v164 : BitVec 32 := Scalar.divsi v162 c1_i32_109
  let v165 : BitVec 32 := Scalar.muli v164 c1_i32_109
  let v166 : BitVec 32 := Scalar.addi c0_i32_107 v165
  let c1_i32_111 : BitVec 32 := 1#32
  let arg26 : BitVec 32 := Scf.iv v166 c1_i32_111 k0_t4
  let c512_i32_112 : BitVec 32 := 512#32
  let v169 : BitVec 32 := Scalar.muli arg26 c512_i32_112
  let v170 : BitVec 32 := v169
  let v328 : Index := Scalar.indexCast v170
  ![0, 2, v328.toNat]
def k0_off40 (i : grid0.Coords) (v1 : BitVec 32) (k0_t4 : Fin (k0_t4_loop i v1).trips) : Fin 3 → Nat :=
  let c0_174 : Index := 0#32
  let c3_175 : Index := 3#32
  let c0_i32_107 : BitVec 32 := 0#32
  let c4_i32 : BitVec 32 := 4#32
  let c0_i32_6 : BitVec 32 := 0#32
  let arg1 : BitVec 32 := BitVec.ofNat 32 (i 1).val
  let c2048_i32 : BitVec 32 := 2048#32
  let v2 : BitVec 32 := Scalar.muli arg1 c2048_i32
  let v3 : BitVec 32 := Scalar.subi v1 v2
  let c512_i32 : BitVec 32 := 512#32
  let v4 : BitVec 32 := Scalar.addi v3 c512_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c512_i32_0 : BitVec 32 := 512#32
  let c0_i32_2 : BitVec 32 := 0#32
  let v12 : BitVec 1 := Scalar.cmpi .sgt c512_i32_0 c0_i32_2
  let v13 : BitVec 32 := Scalar.extui v12
  let c0_i32_3 : BitVec 32 := 0#32
  let v14 : BitVec 1 := Scalar.cmpi .slt c512_i32_0 c0_i32_3
  let v15 : BitVec 32 := Scalar.extui v14
  let v16 : BitVec 32 := Scalar.subi v13 v15
  let v17 : BitVec 1 := Scalar.cmpi .ne v11 v16
  let v18 : BitVec 32 := Scalar.remsi v5 c512_i32_0
  let c0_i32_4 : BitVec 32 := 0#32
  let v19 : BitVec 1 := Scalar.cmpi .ne v18 c0_i32_4
  let v20 : BitVec 1 := Scalar.andi v17 v19
  let v6 : BitVec 32 := Scalar.divsi v5 c512_i32_0
  let c1_i32_5 : BitVec 32 := 1#32
  let v21 : BitVec 32 := Scalar.subi v6 c1_i32_5
  let v22 : BitVec 32 := Scalar.select v20 v21 v6
  let v23 : BitVec 32 := Scalar.maxsi c0_i32_6 v22
  let v24 : BitVec 32 := Scalar.minsi c4_i32 v23
  let v162 : BitVec 32 := Scalar.subi v24 c0_i32_107
  let c1_i32_109 : BitVec 32 := 1#32
  let v164 : BitVec 32 := Scalar.divsi v162 c1_i32_109
  let v165 : BitVec 32 := Scalar.muli v164 c1_i32_109
  let v166 : BitVec 32 := Scalar.addi c0_i32_107 v165
  let c1_i32_111 : BitVec 32 := 1#32
  let arg26 : BitVec 32 := Scf.iv v166 c1_i32_111 k0_t4
  let c512_i32_112 : BitVec 32 := 512#32
  let v169 : BitVec 32 := Scalar.muli arg26 c512_i32_112
  let v170 : BitVec 32 := v169
  let v331 : Index := Scalar.indexCast v170
  ![0, 3, v331.toNat]
def k0_off41 (i : grid0.Coords) (v1 : BitVec 32) (k0_t4 : Fin (k0_t4_loop i v1).trips) : Fin 4 → Nat :=
  let c0_183 : Index := 0#32
  let c0_184 : Index := 0#32
  let c16 : Index := 16#32
  let c0_i32_107 : BitVec 32 := 0#32
  let c4_i32 : BitVec 32 := 4#32
  let c0_i32_6 : BitVec 32 := 0#32
  let arg1 : BitVec 32 := BitVec.ofNat 32 (i 1).val
  let c2048_i32 : BitVec 32 := 2048#32
  let v2 : BitVec 32 := Scalar.muli arg1 c2048_i32
  let v3 : BitVec 32 := Scalar.subi v1 v2
  let c512_i32 : BitVec 32 := 512#32
  let v4 : BitVec 32 := Scalar.addi v3 c512_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c512_i32_0 : BitVec 32 := 512#32
  let c0_i32_2 : BitVec 32 := 0#32
  let v12 : BitVec 1 := Scalar.cmpi .sgt c512_i32_0 c0_i32_2
  let v13 : BitVec 32 := Scalar.extui v12
  let c0_i32_3 : BitVec 32 := 0#32
  let v14 : BitVec 1 := Scalar.cmpi .slt c512_i32_0 c0_i32_3
  let v15 : BitVec 32 := Scalar.extui v14
  let v16 : BitVec 32 := Scalar.subi v13 v15
  let v17 : BitVec 1 := Scalar.cmpi .ne v11 v16
  let v18 : BitVec 32 := Scalar.remsi v5 c512_i32_0
  let c0_i32_4 : BitVec 32 := 0#32
  let v19 : BitVec 1 := Scalar.cmpi .ne v18 c0_i32_4
  let v20 : BitVec 1 := Scalar.andi v17 v19
  let v6 : BitVec 32 := Scalar.divsi v5 c512_i32_0
  let c1_i32_5 : BitVec 32 := 1#32
  let v21 : BitVec 32 := Scalar.subi v6 c1_i32_5
  let v22 : BitVec 32 := Scalar.select v20 v21 v6
  let v23 : BitVec 32 := Scalar.maxsi c0_i32_6 v22
  let v24 : BitVec 32 := Scalar.minsi c4_i32 v23
  let v162 : BitVec 32 := Scalar.subi v24 c0_i32_107
  let c1_i32_109 : BitVec 32 := 1#32
  let v164 : BitVec 32 := Scalar.divsi v162 c1_i32_109
  let v165 : BitVec 32 := Scalar.muli v164 c1_i32_109
  let v166 : BitVec 32 := Scalar.addi c0_i32_107 v165
  let c1_i32_111 : BitVec 32 := 1#32
  let arg26 : BitVec 32 := Scf.iv v166 c1_i32_111 k0_t4
  let c512_i32_112 : BitVec 32 := 512#32
  let v169 : BitVec 32 := Scalar.muli arg26 c512_i32_112
  let v170 : BitVec 32 := v169
  let v350 : Index := Scalar.indexCast v170
  ![0, 0, 16, v350.toNat]
def k0_off42 (i : grid0.Coords) (v1 : BitVec 32) (k0_t4 : Fin (k0_t4_loop i v1).trips) : Fin 3 → Nat :=
  let c0_192 : Index := 0#32
  let c4 : Index := 4#32
  let c0_i32_107 : BitVec 32 := 0#32
  let c4_i32 : BitVec 32 := 4#32
  let c0_i32_6 : BitVec 32 := 0#32
  let arg1 : BitVec 32 := BitVec.ofNat 32 (i 1).val
  let c2048_i32 : BitVec 32 := 2048#32
  let v2 : BitVec 32 := Scalar.muli arg1 c2048_i32
  let v3 : BitVec 32 := Scalar.subi v1 v2
  let c512_i32 : BitVec 32 := 512#32
  let v4 : BitVec 32 := Scalar.addi v3 c512_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c512_i32_0 : BitVec 32 := 512#32
  let c0_i32_2 : BitVec 32 := 0#32
  let v12 : BitVec 1 := Scalar.cmpi .sgt c512_i32_0 c0_i32_2
  let v13 : BitVec 32 := Scalar.extui v12
  let c0_i32_3 : BitVec 32 := 0#32
  let v14 : BitVec 1 := Scalar.cmpi .slt c512_i32_0 c0_i32_3
  let v15 : BitVec 32 := Scalar.extui v14
  let v16 : BitVec 32 := Scalar.subi v13 v15
  let v17 : BitVec 1 := Scalar.cmpi .ne v11 v16
  let v18 : BitVec 32 := Scalar.remsi v5 c512_i32_0
  let c0_i32_4 : BitVec 32 := 0#32
  let v19 : BitVec 1 := Scalar.cmpi .ne v18 c0_i32_4
  let v20 : BitVec 1 := Scalar.andi v17 v19
  let v6 : BitVec 32 := Scalar.divsi v5 c512_i32_0
  let c1_i32_5 : BitVec 32 := 1#32
  let v21 : BitVec 32 := Scalar.subi v6 c1_i32_5
  let v22 : BitVec 32 := Scalar.select v20 v21 v6
  let v23 : BitVec 32 := Scalar.maxsi c0_i32_6 v22
  let v24 : BitVec 32 := Scalar.minsi c4_i32 v23
  let v162 : BitVec 32 := Scalar.subi v24 c0_i32_107
  let c1_i32_109 : BitVec 32 := 1#32
  let v164 : BitVec 32 := Scalar.divsi v162 c1_i32_109
  let v165 : BitVec 32 := Scalar.muli v164 c1_i32_109
  let v166 : BitVec 32 := Scalar.addi c0_i32_107 v165
  let c1_i32_111 : BitVec 32 := 1#32
  let arg26 : BitVec 32 := Scf.iv v166 c1_i32_111 k0_t4
  let c512_i32_112 : BitVec 32 := 512#32
  let v169 : BitVec 32 := Scalar.muli arg26 c512_i32_112
  let v170 : BitVec 32 := v169
  let v372 : Index := Scalar.indexCast v170
  ![0, 4, v372.toNat]
def k0_off43 (i : grid0.Coords) (v1 : BitVec 32) (k0_t4 : Fin (k0_t4_loop i v1).trips) : Fin 3 → Nat :=
  let c0_193 : Index := 0#32
  let c5 : Index := 5#32
  let c0_i32_107 : BitVec 32 := 0#32
  let c4_i32 : BitVec 32 := 4#32
  let c0_i32_6 : BitVec 32 := 0#32
  let arg1 : BitVec 32 := BitVec.ofNat 32 (i 1).val
  let c2048_i32 : BitVec 32 := 2048#32
  let v2 : BitVec 32 := Scalar.muli arg1 c2048_i32
  let v3 : BitVec 32 := Scalar.subi v1 v2
  let c512_i32 : BitVec 32 := 512#32
  let v4 : BitVec 32 := Scalar.addi v3 c512_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c512_i32_0 : BitVec 32 := 512#32
  let c0_i32_2 : BitVec 32 := 0#32
  let v12 : BitVec 1 := Scalar.cmpi .sgt c512_i32_0 c0_i32_2
  let v13 : BitVec 32 := Scalar.extui v12
  let c0_i32_3 : BitVec 32 := 0#32
  let v14 : BitVec 1 := Scalar.cmpi .slt c512_i32_0 c0_i32_3
  let v15 : BitVec 32 := Scalar.extui v14
  let v16 : BitVec 32 := Scalar.subi v13 v15
  let v17 : BitVec 1 := Scalar.cmpi .ne v11 v16
  let v18 : BitVec 32 := Scalar.remsi v5 c512_i32_0
  let c0_i32_4 : BitVec 32 := 0#32
  let v19 : BitVec 1 := Scalar.cmpi .ne v18 c0_i32_4
  let v20 : BitVec 1 := Scalar.andi v17 v19
  let v6 : BitVec 32 := Scalar.divsi v5 c512_i32_0
  let c1_i32_5 : BitVec 32 := 1#32
  let v21 : BitVec 32 := Scalar.subi v6 c1_i32_5
  let v22 : BitVec 32 := Scalar.select v20 v21 v6
  let v23 : BitVec 32 := Scalar.maxsi c0_i32_6 v22
  let v24 : BitVec 32 := Scalar.minsi c4_i32 v23
  let v162 : BitVec 32 := Scalar.subi v24 c0_i32_107
  let c1_i32_109 : BitVec 32 := 1#32
  let v164 : BitVec 32 := Scalar.divsi v162 c1_i32_109
  let v165 : BitVec 32 := Scalar.muli v164 c1_i32_109
  let v166 : BitVec 32 := Scalar.addi c0_i32_107 v165
  let c1_i32_111 : BitVec 32 := 1#32
  let arg26 : BitVec 32 := Scf.iv v166 c1_i32_111 k0_t4
  let c512_i32_112 : BitVec 32 := 512#32
  let v169 : BitVec 32 := Scalar.muli arg26 c512_i32_112
  let v170 : BitVec 32 := v169
  let v375 : Index := Scalar.indexCast v170
  ![0, 5, v375.toNat]
def k0_off44 (i : grid0.Coords) (v1 : BitVec 32) (k0_t4 : Fin (k0_t4_loop i v1).trips) : Fin 4 → Nat :=
  let c0_201 : Index := 0#32
  let c0_202 : Index := 0#32
  let c24 : Index := 24#32
  let c0_i32_107 : BitVec 32 := 0#32
  let c4_i32 : BitVec 32 := 4#32
  let c0_i32_6 : BitVec 32 := 0#32
  let arg1 : BitVec 32 := BitVec.ofNat 32 (i 1).val
  let c2048_i32 : BitVec 32 := 2048#32
  let v2 : BitVec 32 := Scalar.muli arg1 c2048_i32
  let v3 : BitVec 32 := Scalar.subi v1 v2
  let c512_i32 : BitVec 32 := 512#32
  let v4 : BitVec 32 := Scalar.addi v3 c512_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c512_i32_0 : BitVec 32 := 512#32
  let c0_i32_2 : BitVec 32 := 0#32
  let v12 : BitVec 1 := Scalar.cmpi .sgt c512_i32_0 c0_i32_2
  let v13 : BitVec 32 := Scalar.extui v12
  let c0_i32_3 : BitVec 32 := 0#32
  let v14 : BitVec 1 := Scalar.cmpi .slt c512_i32_0 c0_i32_3
  let v15 : BitVec 32 := Scalar.extui v14
  let v16 : BitVec 32 := Scalar.subi v13 v15
  let v17 : BitVec 1 := Scalar.cmpi .ne v11 v16
  let v18 : BitVec 32 := Scalar.remsi v5 c512_i32_0
  let c0_i32_4 : BitVec 32 := 0#32
  let v19 : BitVec 1 := Scalar.cmpi .ne v18 c0_i32_4
  let v20 : BitVec 1 := Scalar.andi v17 v19
  let v6 : BitVec 32 := Scalar.divsi v5 c512_i32_0
  let c1_i32_5 : BitVec 32 := 1#32
  let v21 : BitVec 32 := Scalar.subi v6 c1_i32_5
  let v22 : BitVec 32 := Scalar.select v20 v21 v6
  let v23 : BitVec 32 := Scalar.maxsi c0_i32_6 v22
  let v24 : BitVec 32 := Scalar.minsi c4_i32 v23
  let v162 : BitVec 32 := Scalar.subi v24 c0_i32_107
  let c1_i32_109 : BitVec 32 := 1#32
  let v164 : BitVec 32 := Scalar.divsi v162 c1_i32_109
  let v165 : BitVec 32 := Scalar.muli v164 c1_i32_109
  let v166 : BitVec 32 := Scalar.addi c0_i32_107 v165
  let c1_i32_111 : BitVec 32 := 1#32
  let arg26 : BitVec 32 := Scf.iv v166 c1_i32_111 k0_t4
  let c512_i32_112 : BitVec 32 := 512#32
  let v169 : BitVec 32 := Scalar.muli arg26 c512_i32_112
  let v170 : BitVec 32 := v169
  let v394 : Index := Scalar.indexCast v170
  ![0, 0, 24, v394.toNat]
def k0_off45 (i : grid0.Coords) (v1 : BitVec 32) (k0_t4 : Fin (k0_t4_loop i v1).trips) : Fin 3 → Nat :=
  let c0_210 : Index := 0#32
  let c6 : Index := 6#32
  let c0_i32_107 : BitVec 32 := 0#32
  let c4_i32 : BitVec 32 := 4#32
  let c0_i32_6 : BitVec 32 := 0#32
  let arg1 : BitVec 32 := BitVec.ofNat 32 (i 1).val
  let c2048_i32 : BitVec 32 := 2048#32
  let v2 : BitVec 32 := Scalar.muli arg1 c2048_i32
  let v3 : BitVec 32 := Scalar.subi v1 v2
  let c512_i32 : BitVec 32 := 512#32
  let v4 : BitVec 32 := Scalar.addi v3 c512_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c512_i32_0 : BitVec 32 := 512#32
  let c0_i32_2 : BitVec 32 := 0#32
  let v12 : BitVec 1 := Scalar.cmpi .sgt c512_i32_0 c0_i32_2
  let v13 : BitVec 32 := Scalar.extui v12
  let c0_i32_3 : BitVec 32 := 0#32
  let v14 : BitVec 1 := Scalar.cmpi .slt c512_i32_0 c0_i32_3
  let v15 : BitVec 32 := Scalar.extui v14
  let v16 : BitVec 32 := Scalar.subi v13 v15
  let v17 : BitVec 1 := Scalar.cmpi .ne v11 v16
  let v18 : BitVec 32 := Scalar.remsi v5 c512_i32_0
  let c0_i32_4 : BitVec 32 := 0#32
  let v19 : BitVec 1 := Scalar.cmpi .ne v18 c0_i32_4
  let v20 : BitVec 1 := Scalar.andi v17 v19
  let v6 : BitVec 32 := Scalar.divsi v5 c512_i32_0
  let c1_i32_5 : BitVec 32 := 1#32
  let v21 : BitVec 32 := Scalar.subi v6 c1_i32_5
  let v22 : BitVec 32 := Scalar.select v20 v21 v6
  let v23 : BitVec 32 := Scalar.maxsi c0_i32_6 v22
  let v24 : BitVec 32 := Scalar.minsi c4_i32 v23
  let v162 : BitVec 32 := Scalar.subi v24 c0_i32_107
  let c1_i32_109 : BitVec 32 := 1#32
  let v164 : BitVec 32 := Scalar.divsi v162 c1_i32_109
  let v165 : BitVec 32 := Scalar.muli v164 c1_i32_109
  let v166 : BitVec 32 := Scalar.addi c0_i32_107 v165
  let c1_i32_111 : BitVec 32 := 1#32
  let arg26 : BitVec 32 := Scf.iv v166 c1_i32_111 k0_t4
  let c512_i32_112 : BitVec 32 := 512#32
  let v169 : BitVec 32 := Scalar.muli arg26 c512_i32_112
  let v170 : BitVec 32 := v169
  let v416 : Index := Scalar.indexCast v170
  ![0, 6, v416.toNat]
def k0_off46 (i : grid0.Coords) (v1 : BitVec 32) (k0_t4 : Fin (k0_t4_loop i v1).trips) : Fin 3 → Nat :=
  let c0_211 : Index := 0#32
  let c7 : Index := 7#32
  let c0_i32_107 : BitVec 32 := 0#32
  let c4_i32 : BitVec 32 := 4#32
  let c0_i32_6 : BitVec 32 := 0#32
  let arg1 : BitVec 32 := BitVec.ofNat 32 (i 1).val
  let c2048_i32 : BitVec 32 := 2048#32
  let v2 : BitVec 32 := Scalar.muli arg1 c2048_i32
  let v3 : BitVec 32 := Scalar.subi v1 v2
  let c512_i32 : BitVec 32 := 512#32
  let v4 : BitVec 32 := Scalar.addi v3 c512_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c512_i32_0 : BitVec 32 := 512#32
  let c0_i32_2 : BitVec 32 := 0#32
  let v12 : BitVec 1 := Scalar.cmpi .sgt c512_i32_0 c0_i32_2
  let v13 : BitVec 32 := Scalar.extui v12
  let c0_i32_3 : BitVec 32 := 0#32
  let v14 : BitVec 1 := Scalar.cmpi .slt c512_i32_0 c0_i32_3
  let v15 : BitVec 32 := Scalar.extui v14
  let v16 : BitVec 32 := Scalar.subi v13 v15
  let v17 : BitVec 1 := Scalar.cmpi .ne v11 v16
  let v18 : BitVec 32 := Scalar.remsi v5 c512_i32_0
  let c0_i32_4 : BitVec 32 := 0#32
  let v19 : BitVec 1 := Scalar.cmpi .ne v18 c0_i32_4
  let v20 : BitVec 1 := Scalar.andi v17 v19
  let v6 : BitVec 32 := Scalar.divsi v5 c512_i32_0
  let c1_i32_5 : BitVec 32 := 1#32
  let v21 : BitVec 32 := Scalar.subi v6 c1_i32_5
  let v22 : BitVec 32 := Scalar.select v20 v21 v6
  let v23 : BitVec 32 := Scalar.maxsi c0_i32_6 v22
  let v24 : BitVec 32 := Scalar.minsi c4_i32 v23
  let v162 : BitVec 32 := Scalar.subi v24 c0_i32_107
  let c1_i32_109 : BitVec 32 := 1#32
  let v164 : BitVec 32 := Scalar.divsi v162 c1_i32_109
  let v165 : BitVec 32 := Scalar.muli v164 c1_i32_109
  let v166 : BitVec 32 := Scalar.addi c0_i32_107 v165
  let c1_i32_111 : BitVec 32 := 1#32
  let arg26 : BitVec 32 := Scf.iv v166 c1_i32_111 k0_t4
  let c512_i32_112 : BitVec 32 := 512#32
  let v169 : BitVec 32 := Scalar.muli arg26 c512_i32_112
  let v170 : BitVec 32 := v169
  let v419 : Index := Scalar.indexCast v170
  ![0, 7, v419.toNat]
@[reducible] def k0_t5_loop (i : grid0.Coords) (v1 : BitVec 32) : Scf.Loop 32 :=
  let c4_i32 : BitVec 32 := 4#32
  let c0_i32_6 : BitVec 32 := 0#32
  let arg1 : BitVec 32 := BitVec.ofNat 32 (i 1).val
  let c2048_i32 : BitVec 32 := 2048#32
  let v2 : BitVec 32 := Scalar.muli arg1 c2048_i32
  let v3 : BitVec 32 := Scalar.subi v1 v2
  let c512_i32 : BitVec 32 := 512#32
  let v4 : BitVec 32 := Scalar.addi v3 c512_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c512_i32_0 : BitVec 32 := 512#32
  let c0_i32_2 : BitVec 32 := 0#32
  let v12 : BitVec 1 := Scalar.cmpi .sgt c512_i32_0 c0_i32_2
  let v13 : BitVec 32 := Scalar.extui v12
  let c0_i32_3 : BitVec 32 := 0#32
  let v14 : BitVec 1 := Scalar.cmpi .slt c512_i32_0 c0_i32_3
  let v15 : BitVec 32 := Scalar.extui v14
  let v16 : BitVec 32 := Scalar.subi v13 v15
  let v17 : BitVec 1 := Scalar.cmpi .ne v11 v16
  let v18 : BitVec 32 := Scalar.remsi v5 c512_i32_0
  let c0_i32_4 : BitVec 32 := 0#32
  let v19 : BitVec 1 := Scalar.cmpi .ne v18 c0_i32_4
  let v20 : BitVec 1 := Scalar.andi v17 v19
  let v6 : BitVec 32 := Scalar.divsi v5 c512_i32_0
  let c1_i32_5 : BitVec 32 := 1#32
  let v21 : BitVec 32 := Scalar.subi v6 c1_i32_5
  let v22 : BitVec 32 := Scalar.select v20 v21 v6
  let v23 : BitVec 32 := Scalar.maxsi c0_i32_6 v22
  let v24 : BitVec 32 := Scalar.minsi c4_i32 v23
  let c4_i32_14 : BitVec 32 := 4#32
  let v37 : BitVec 32 := Scalar.subi c4_i32_14 v24
  let c1_i32_16 : BitVec 32 := 1#32
  let v39 : BitVec 32 := Scalar.divsi v37 c1_i32_16
  let v40 : BitVec 32 := Scalar.muli v39 c1_i32_16
  let v41 : BitVec 32 := Scalar.addi v24 v40
  let c1_i32_17 : BitVec 32 := 1#32
  ⟨v24, v41, c1_i32_17⟩
def k0_mult37 (i : grid0.Coords) (v1 : BitVec 32) (k0_t5 : Fin (k0_t5_loop i v1).trips) : BitVec 32 :=
  let c4_i32 : BitVec 32 := 4#32
  let c0_i32_6 : BitVec 32 := 0#32
  let arg1 : BitVec 32 := BitVec.ofNat 32 (i 1).val
  let c2048_i32 : BitVec 32 := 2048#32
  let v2 : BitVec 32 := Scalar.muli arg1 c2048_i32
  let v3 : BitVec 32 := Scalar.subi v1 v2
  let c512_i32 : BitVec 32 := 512#32
  let v4 : BitVec 32 := Scalar.addi v3 c512_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c512_i32_0 : BitVec 32 := 512#32
  let c0_i32_2 : BitVec 32 := 0#32
  let v12 : BitVec 1 := Scalar.cmpi .sgt c512_i32_0 c0_i32_2
  let v13 : BitVec 32 := Scalar.extui v12
  let c0_i32_3 : BitVec 32 := 0#32
  let v14 : BitVec 1 := Scalar.cmpi .slt c512_i32_0 c0_i32_3
  let v15 : BitVec 32 := Scalar.extui v14
  let v16 : BitVec 32 := Scalar.subi v13 v15
  let v17 : BitVec 1 := Scalar.cmpi .ne v11 v16
  let v18 : BitVec 32 := Scalar.remsi v5 c512_i32_0
  let c0_i32_4 : BitVec 32 := 0#32
  let v19 : BitVec 1 := Scalar.cmpi .ne v18 c0_i32_4
  let v20 : BitVec 1 := Scalar.andi v17 v19
  let v6 : BitVec 32 := Scalar.divsi v5 c512_i32_0
  let c1_i32_5 : BitVec 32 := 1#32
  let v21 : BitVec 32 := Scalar.subi v6 c1_i32_5
  let v22 : BitVec 32 := Scalar.select v20 v21 v6
  let v23 : BitVec 32 := Scalar.maxsi c0_i32_6 v22
  let v24 : BitVec 32 := Scalar.minsi c4_i32 v23
  let c1_i32_17 : BitVec 32 := 1#32
  let arg26 : BitVec 32 := Scf.iv v24 c1_i32_17 k0_t5
  let c512_i32_20 : BitVec 32 := 512#32
  let v48 : BitVec 32 := Scalar.muli arg26 c512_i32_20
  v48
def k0_off47 (i : grid0.Coords) (v1 : BitVec 32) (k0_t5 : Fin (k0_t5_loop i v1).trips) : Fin 4 → Nat :=
  let c0 : Index := 0#32
  let c0_21 : Index := 0#32
  let c0_22 : Index := 0#32
  let c4_i32 : BitVec 32 := 4#32
  let c0_i32_6 : BitVec 32 := 0#32
  let arg1 : BitVec 32 := BitVec.ofNat 32 (i 1).val
  let c2048_i32 : BitVec 32 := 2048#32
  let v2 : BitVec 32 := Scalar.muli arg1 c2048_i32
  let v3 : BitVec 32 := Scalar.subi v1 v2
  let c512_i32 : BitVec 32 := 512#32
  let v4 : BitVec 32 := Scalar.addi v3 c512_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c512_i32_0 : BitVec 32 := 512#32
  let c0_i32_2 : BitVec 32 := 0#32
  let v12 : BitVec 1 := Scalar.cmpi .sgt c512_i32_0 c0_i32_2
  let v13 : BitVec 32 := Scalar.extui v12
  let c0_i32_3 : BitVec 32 := 0#32
  let v14 : BitVec 1 := Scalar.cmpi .slt c512_i32_0 c0_i32_3
  let v15 : BitVec 32 := Scalar.extui v14
  let v16 : BitVec 32 := Scalar.subi v13 v15
  let v17 : BitVec 1 := Scalar.cmpi .ne v11 v16
  let v18 : BitVec 32 := Scalar.remsi v5 c512_i32_0
  let c0_i32_4 : BitVec 32 := 0#32
  let v19 : BitVec 1 := Scalar.cmpi .ne v18 c0_i32_4
  let v20 : BitVec 1 := Scalar.andi v17 v19
  let v6 : BitVec 32 := Scalar.divsi v5 c512_i32_0
  let c1_i32_5 : BitVec 32 := 1#32
  let v21 : BitVec 32 := Scalar.subi v6 c1_i32_5
  let v22 : BitVec 32 := Scalar.select v20 v21 v6
  let v23 : BitVec 32 := Scalar.maxsi c0_i32_6 v22
  let v24 : BitVec 32 := Scalar.minsi c4_i32 v23
  let c1_i32_17 : BitVec 32 := 1#32
  let arg26 : BitVec 32 := Scf.iv v24 c1_i32_17 k0_t5
  let c512_i32_20 : BitVec 32 := 512#32
  let v48 : BitVec 32 := Scalar.muli arg26 c512_i32_20
  let v49 : BitVec 32 := v48
  let v50 : Index := Scalar.indexCast v49
  ![0, 0, 0, v50.toNat]
@[reducible] def k0_t6_loop (i : grid0.Coords) (v1 : BitVec 32) : Scf.Loop 32 :=
  let c4_i32 : BitVec 32 := 4#32
  let c0_i32_6 : BitVec 32 := 0#32
  let arg1 : BitVec 32 := BitVec.ofNat 32 (i 1).val
  let c2048_i32 : BitVec 32 := 2048#32
  let v2 : BitVec 32 := Scalar.muli arg1 c2048_i32
  let v3 : BitVec 32 := Scalar.subi v1 v2
  let c512_i32 : BitVec 32 := 512#32
  let v4 : BitVec 32 := Scalar.addi v3 c512_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c512_i32_0 : BitVec 32 := 512#32
  let c0_i32_2 : BitVec 32 := 0#32
  let v12 : BitVec 1 := Scalar.cmpi .sgt c512_i32_0 c0_i32_2
  let v13 : BitVec 32 := Scalar.extui v12
  let c0_i32_3 : BitVec 32 := 0#32
  let v14 : BitVec 1 := Scalar.cmpi .slt c512_i32_0 c0_i32_3
  let v15 : BitVec 32 := Scalar.extui v14
  let v16 : BitVec 32 := Scalar.subi v13 v15
  let v17 : BitVec 1 := Scalar.cmpi .ne v11 v16
  let v18 : BitVec 32 := Scalar.remsi v5 c512_i32_0
  let c0_i32_4 : BitVec 32 := 0#32
  let v19 : BitVec 1 := Scalar.cmpi .ne v18 c0_i32_4
  let v20 : BitVec 1 := Scalar.andi v17 v19
  let v6 : BitVec 32 := Scalar.divsi v5 c512_i32_0
  let c1_i32_5 : BitVec 32 := 1#32
  let v21 : BitVec 32 := Scalar.subi v6 c1_i32_5
  let v22 : BitVec 32 := Scalar.select v20 v21 v6
  let v23 : BitVec 32 := Scalar.maxsi c0_i32_6 v22
  let v24 : BitVec 32 := Scalar.minsi c4_i32 v23
  let c4_i32_14 : BitVec 32 := 4#32
  let v37 : BitVec 32 := Scalar.subi c4_i32_14 v24
  let c1_i32_16 : BitVec 32 := 1#32
  let v39 : BitVec 32 := Scalar.divsi v37 c1_i32_16
  let v40 : BitVec 32 := Scalar.muli v39 c1_i32_16
  let v41 : BitVec 32 := Scalar.addi v24 v40
  let v38 : BitVec 32 := Scalar.addi v24 v37
  let c1_i32_18 : BitVec 32 := 1#32
  ⟨v41, v38, c1_i32_18⟩
def k0_mult38 (i : grid0.Coords) (v1 : BitVec 32) (k0_t6 : Fin (k0_t6_loop i v1).trips) : BitVec 32 :=
  let c4_i32 : BitVec 32 := 4#32
  let c0_i32_6 : BitVec 32 := 0#32
  let arg1 : BitVec 32 := BitVec.ofNat 32 (i 1).val
  let c2048_i32 : BitVec 32 := 2048#32
  let v2 : BitVec 32 := Scalar.muli arg1 c2048_i32
  let v3 : BitVec 32 := Scalar.subi v1 v2
  let c512_i32 : BitVec 32 := 512#32
  let v4 : BitVec 32 := Scalar.addi v3 c512_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c512_i32_0 : BitVec 32 := 512#32
  let c0_i32_2 : BitVec 32 := 0#32
  let v12 : BitVec 1 := Scalar.cmpi .sgt c512_i32_0 c0_i32_2
  let v13 : BitVec 32 := Scalar.extui v12
  let c0_i32_3 : BitVec 32 := 0#32
  let v14 : BitVec 1 := Scalar.cmpi .slt c512_i32_0 c0_i32_3
  let v15 : BitVec 32 := Scalar.extui v14
  let v16 : BitVec 32 := Scalar.subi v13 v15
  let v17 : BitVec 1 := Scalar.cmpi .ne v11 v16
  let v18 : BitVec 32 := Scalar.remsi v5 c512_i32_0
  let c0_i32_4 : BitVec 32 := 0#32
  let v19 : BitVec 1 := Scalar.cmpi .ne v18 c0_i32_4
  let v20 : BitVec 1 := Scalar.andi v17 v19
  let v6 : BitVec 32 := Scalar.divsi v5 c512_i32_0
  let c1_i32_5 : BitVec 32 := 1#32
  let v21 : BitVec 32 := Scalar.subi v6 c1_i32_5
  let v22 : BitVec 32 := Scalar.select v20 v21 v6
  let v23 : BitVec 32 := Scalar.maxsi c0_i32_6 v22
  let v24 : BitVec 32 := Scalar.minsi c4_i32 v23
  let c4_i32_14 : BitVec 32 := 4#32
  let v37 : BitVec 32 := Scalar.subi c4_i32_14 v24
  let c1_i32_16 : BitVec 32 := 1#32
  let v39 : BitVec 32 := Scalar.divsi v37 c1_i32_16
  let v40 : BitVec 32 := Scalar.muli v39 c1_i32_16
  let v41 : BitVec 32 := Scalar.addi v24 v40
  let c1_i32_18 : BitVec 32 := 1#32
  let arg26 : BitVec 32 := Scf.iv v41 c1_i32_18 k0_t6
  let c512_i32_20 : BitVec 32 := 512#32
  let v48 : BitVec 32 := Scalar.muli arg26 c512_i32_20
  v48
def k0_off48 (i : grid0.Coords) (v1 : BitVec 32) (k0_t6 : Fin (k0_t6_loop i v1).trips) : Fin 4 → Nat :=
  let c0 : Index := 0#32
  let c0_21 : Index := 0#32
  let c0_22 : Index := 0#32
  let c4_i32 : BitVec 32 := 4#32
  let c0_i32_6 : BitVec 32 := 0#32
  let arg1 : BitVec 32 := BitVec.ofNat 32 (i 1).val
  let c2048_i32 : BitVec 32 := 2048#32
  let v2 : BitVec 32 := Scalar.muli arg1 c2048_i32
  let v3 : BitVec 32 := Scalar.subi v1 v2
  let c512_i32 : BitVec 32 := 512#32
  let v4 : BitVec 32 := Scalar.addi v3 c512_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c512_i32_0 : BitVec 32 := 512#32
  let c0_i32_2 : BitVec 32 := 0#32
  let v12 : BitVec 1 := Scalar.cmpi .sgt c512_i32_0 c0_i32_2
  let v13 : BitVec 32 := Scalar.extui v12
  let c0_i32_3 : BitVec 32 := 0#32
  let v14 : BitVec 1 := Scalar.cmpi .slt c512_i32_0 c0_i32_3
  let v15 : BitVec 32 := Scalar.extui v14
  let v16 : BitVec 32 := Scalar.subi v13 v15
  let v17 : BitVec 1 := Scalar.cmpi .ne v11 v16
  let v18 : BitVec 32 := Scalar.remsi v5 c512_i32_0
  let c0_i32_4 : BitVec 32 := 0#32
  let v19 : BitVec 1 := Scalar.cmpi .ne v18 c0_i32_4
  let v20 : BitVec 1 := Scalar.andi v17 v19
  let v6 : BitVec 32 := Scalar.divsi v5 c512_i32_0
  let c1_i32_5 : BitVec 32 := 1#32
  let v21 : BitVec 32 := Scalar.subi v6 c1_i32_5
  let v22 : BitVec 32 := Scalar.select v20 v21 v6
  let v23 : BitVec 32 := Scalar.maxsi c0_i32_6 v22
  let v24 : BitVec 32 := Scalar.minsi c4_i32 v23
  let c4_i32_14 : BitVec 32 := 4#32
  let v37 : BitVec 32 := Scalar.subi c4_i32_14 v24
  let c1_i32_16 : BitVec 32 := 1#32
  let v39 : BitVec 32 := Scalar.divsi v37 c1_i32_16
  let v40 : BitVec 32 := Scalar.muli v39 c1_i32_16
  let v41 : BitVec 32 := Scalar.addi v24 v40
  let c1_i32_18 : BitVec 32 := 1#32
  let arg26 : BitVec 32 := Scf.iv v41 c1_i32_18 k0_t6
  let c512_i32_20 : BitVec 32 := 512#32
  let v48 : BitVec 32 := Scalar.muli arg26 c512_i32_20
  let v49 : BitVec 32 := v48
  let v50 : Index := Scalar.indexCast v49
  ![0, 0, 0, v50.toNat]

def k0_chk1_0 (i : grid0.Coords) (v1 : BitVec 32) : Prop :=
  (∀ (k0_h3 : k0_cond3 i v1 = 1#1), (k0_t1_loop i v1).OK) ∧
  (∀ k0_t1 : Fin (k0_t1_loop i v1).trips, ∀ (k0_h3 : k0_cond3 i v1 = 1#1), 512 ∣ (k0_mult1 i v1 k0_t1).toNat) ∧
  (∀ k0_t1 : Fin (k0_t1_loop i v1).trips, ∀ (k0_h3 : k0_cond3 i v1 = 1#1), 128 ∣ (k0_mult2 i v1 k0_t1).toNat) ∧
  (∀ k0_t1 : Fin (k0_t1_loop i v1).trips, ∀ (k0_h3 : k0_cond3 i v1 = 1#1), 128 ∣ (k0_mult3 i v1 k0_t1).toNat) ∧
  (∀ k0_t1 : Fin (k0_t1_loop i v1).trips, ∀ (k0_h3 : k0_cond3 i v1 = 1#1), 128 ∣ (k0_mult4 i v1 k0_t1).toNat) ∧
  (∀ k0_t1 : Fin (k0_t1_loop i v1).trips, ∀ (k0_h3 : k0_cond3 i v1 = 1#1), ∀ (r : Fin 4), ∀ a, (k0_off5 i v1 k0_t1 (BitVec.ofNat 32 r.val)) a + S1x48x128.size a ≤ S2x48x256.size a) ∧
  (∀ k0_t1 : Fin (k0_t1_loop i v1).trips, ∀ (k0_h3 : k0_cond3 i v1 = 1#1), ∀ (r : Fin 4), ∀ a, (k0_off6 i v1 k0_t1 (BitVec.ofNat 32 r.val)) a + S1x48x128.size a ≤ S2x48x256.size a) ∧
  (∀ k0_t1 : Fin (k0_t1_loop i v1).trips, ∀ (k0_h3 : k0_cond3 i v1 = 1#1), ∀ (r : Fin 4), ∀ a, (k0_off7 i v1 k0_t1 (BitVec.ofNat 32 r.val)) a + S8x96x128.size a ≤ S8x96x384.size a) ∧
  (∀ k0_t1 : Fin (k0_t1_loop i v1).trips, ∀ (k0_h3 : k0_cond3 i v1 = 1#1), ∀ (r : Fin 4), ∀ a, (k0_off8 i v1 k0_t1 (BitVec.ofNat 32 (128 * r.val))) a + S1x8x48x128.size a ≤ S1x8x48x2048.size a) ∧
  (∀ k0_t1 : Fin (k0_t1_loop i v1).trips, ∀ (k0_h3 : k0_cond3 i v1 = 1#1), 128 ∣ (k0_mult5 i v1 k0_t1).toNat) ∧
  (∀ k0_t1 : Fin (k0_t1_loop i v1).trips, ∀ (k0_h3 : k0_cond3 i v1 = 1#1), 128 ∣ (k0_mult6 i v1 k0_t1).toNat) ∧
  (∀ k0_t1 : Fin (k0_t1_loop i v1).trips, ∀ (k0_h3 : k0_cond3 i v1 = 1#1), 128 ∣ (k0_mult7 i v1 k0_t1).toNat) ∧
  (∀ k0_t1 : Fin (k0_t1_loop i v1).trips, ∀ (k0_h3 : k0_cond3 i v1 = 1#1), 128 ∣ (k0_mult8 i v1 k0_t1).toNat) ∧
  (∀ k0_t1 : Fin (k0_t1_loop i v1).trips, ∀ (k0_h3 : k0_cond3 i v1 = 1#1), 128 ∣ (k0_mult9 i v1 k0_t1).toNat) ∧
  (∀ k0_t1 : Fin (k0_t1_loop i v1).trips, ∀ (k0_h3 : k0_cond3 i v1 = 1#1), 128 ∣ (k0_mult10 i v1 k0_t1).toNat) ∧
  (∀ k0_t1 : Fin (k0_t1_loop i v1).trips, ∀ (k0_h3 : k0_cond3 i v1 = 1#1), 128 ∣ (k0_mult11 i v1 k0_t1).toNat) ∧
  (∀ k0_t1 : Fin (k0_t1_loop i v1).trips, ∀ (k0_h3 : k0_cond3 i v1 = 1#1), 128 ∣ (k0_mult12 i v1 k0_t1).toNat) ∧
  (∀ k0_t1 : Fin (k0_t1_loop i v1).trips, ∀ (k0_h3 : k0_cond3 i v1 = 1#1), 128 ∣ (k0_mult13 i v1 k0_t1).toNat) ∧
  (∀ k0_t1 : Fin (k0_t1_loop i v1).trips, ∀ (k0_h3 : k0_cond3 i v1 = 1#1), ∀ a, (k0_off9 i v1 k0_t1) a + S1x1x8x512.size a ≤ S1x1x32x2048.size a) ∧
  (∀ k0_t1 : Fin (k0_t1_loop i v1).trips, ∀ (k0_h3 : k0_cond3 i v1 = 1#1), ∀ a, (k0_off10 i v1 k0_t1) a + S1x1x8x512.size a ≤ S1x1x32x2048.size a) ∧
  (∀ k0_t1 : Fin (k0_t1_loop i v1).trips, ∀ (k0_h3 : k0_cond3 i v1 = 1#1), ∀ a, (k0_off11 i v1 k0_t1) a + S1x1x8x512.size a ≤ S1x1x32x2048.size a) ∧
  (∀ k0_t1 : Fin (k0_t1_loop i v1).trips, ∀ (k0_h3 : k0_cond3 i v1 = 1#1), ∀ a, (k0_off12 i v1 k0_t1) a + S1x1x8x512.size a ≤ S1x1x32x2048.size a) ∧
  (∀ (k0_h3 : k0_cond3 i v1 = 1#1), (k0_t2_loop i v1).OK) ∧
  (∀ k0_t2 : Fin (k0_t2_loop i v1).trips, ∀ (k0_h3 : k0_cond3 i v1 = 1#1), 512 ∣ (k0_mult14 i v1 k0_t2).toNat) ∧
  (∀ k0_t2 : Fin (k0_t2_loop i v1).trips, ∀ (k0_h3 : k0_cond3 i v1 = 1#1), 128 ∣ (k0_mult15 i v1 k0_t2).toNat) ∧
  (∀ k0_t2 : Fin (k0_t2_loop i v1).trips, ∀ (k0_h3 : k0_cond3 i v1 = 1#1), 128 ∣ (k0_mult16 i v1 k0_t2).toNat) ∧
  (∀ k0_t2 : Fin (k0_t2_loop i v1).trips, ∀ (k0_h3 : k0_cond3 i v1 = 1#1), 128 ∣ (k0_mult17 i v1 k0_t2).toNat) ∧
  (∀ k0_t2 : Fin (k0_t2_loop i v1).trips, ∀ (k0_h3 : k0_cond3 i v1 = 1#1), ∀ (r : Fin 4), ∀ a, (k0_off13 i v1 k0_t2 (BitVec.ofNat 32 r.val)) a + S1x48x128.size a ≤ S2x48x256.size a) ∧
  (∀ k0_t2 : Fin (k0_t2_loop i v1).trips, ∀ (k0_h3 : k0_cond3 i v1 = 1#1), ∀ (r : Fin 4), ∀ a, (k0_off14 i v1 k0_t2 (BitVec.ofNat 32 r.val)) a + S1x48x128.size a ≤ S2x48x256.size a) ∧
  (∀ k0_t2 : Fin (k0_t2_loop i v1).trips, ∀ (k0_h3 : k0_cond3 i v1 = 1#1), ∀ (r : Fin 4), ∀ a, (k0_off15 i v1 k0_t2 (BitVec.ofNat 32 r.val)) a + S8x96x128.size a ≤ S8x96x384.size a) ∧
  (∀ k0_t2 : Fin (k0_t2_loop i v1).trips, ∀ (k0_h3 : k0_cond3 i v1 = 1#1), ∀ (r : Fin 4), ∀ a, (k0_off16 i v1 k0_t2 (BitVec.ofNat 32 (128 * r.val))) a + S1x8x48x128.size a ≤ S1x8x48x2048.size a) ∧
  (∀ k0_t2 : Fin (k0_t2_loop i v1).trips, ∀ (k0_h3 : k0_cond3 i v1 = 1#1), 128 ∣ (k0_mult18 i v1 k0_t2).toNat)
def k0_chk1_1 (i : grid0.Coords) (v1 : BitVec 32) : Prop :=
  (∀ k0_t2 : Fin (k0_t2_loop i v1).trips, ∀ (k0_h3 : k0_cond3 i v1 = 1#1), 128 ∣ (k0_mult19 i v1 k0_t2).toNat) ∧
  (∀ k0_t2 : Fin (k0_t2_loop i v1).trips, ∀ (k0_h3 : k0_cond3 i v1 = 1#1), 128 ∣ (k0_mult20 i v1 k0_t2).toNat) ∧
  (∀ k0_t2 : Fin (k0_t2_loop i v1).trips, ∀ (k0_h3 : k0_cond3 i v1 = 1#1), 128 ∣ (k0_mult21 i v1 k0_t2).toNat) ∧
  (∀ k0_t2 : Fin (k0_t2_loop i v1).trips, ∀ (k0_h3 : k0_cond3 i v1 = 1#1), 128 ∣ (k0_mult22 i v1 k0_t2).toNat) ∧
  (∀ k0_t2 : Fin (k0_t2_loop i v1).trips, ∀ (k0_h3 : k0_cond3 i v1 = 1#1), 128 ∣ (k0_mult23 i v1 k0_t2).toNat) ∧
  (∀ k0_t2 : Fin (k0_t2_loop i v1).trips, ∀ (k0_h3 : k0_cond3 i v1 = 1#1), 128 ∣ (k0_mult24 i v1 k0_t2).toNat) ∧
  (∀ k0_t2 : Fin (k0_t2_loop i v1).trips, ∀ (k0_h3 : k0_cond3 i v1 = 1#1), 128 ∣ (k0_mult25 i v1 k0_t2).toNat) ∧
  (∀ k0_t2 : Fin (k0_t2_loop i v1).trips, ∀ (k0_h3 : k0_cond3 i v1 = 1#1), 128 ∣ (k0_mult26 i v1 k0_t2).toNat) ∧
  (∀ k0_t2 : Fin (k0_t2_loop i v1).trips, ∀ (k0_h3 : k0_cond3 i v1 = 1#1), ∀ a, (k0_off17 i v1 k0_t2) a + S1x1x8x512.size a ≤ S1x1x32x2048.size a) ∧
  (∀ k0_t2 : Fin (k0_t2_loop i v1).trips, ∀ (k0_h3 : k0_cond3 i v1 = 1#1), ∀ a, (k0_off18 i v1 k0_t2) a + S1x1x8x512.size a ≤ S1x1x32x2048.size a) ∧
  (∀ k0_t2 : Fin (k0_t2_loop i v1).trips, ∀ (k0_h3 : k0_cond3 i v1 = 1#1), ∀ a, (k0_off19 i v1 k0_t2) a + S1x1x8x512.size a ≤ S1x1x32x2048.size a) ∧
  (∀ k0_t2 : Fin (k0_t2_loop i v1).trips, ∀ (k0_h3 : k0_cond3 i v1 = 1#1), ∀ a, (k0_off20 i v1 k0_t2) a + S1x1x8x512.size a ≤ S1x1x32x2048.size a) ∧
  (∀ (k0_h3 : k0_cond3 i v1 = 1#1), (k0_t3_loop i v1).OK) ∧
  (∀ k0_t3 : Fin (k0_t3_loop i v1).trips, ∀ (k0_h3 : k0_cond3 i v1 = 1#1), 512 ∣ (k0_mult27 i v1 k0_t3).toNat) ∧
  (∀ k0_t3 : Fin (k0_t3_loop i v1).trips, ∀ (k0_h3 : k0_cond3 i v1 = 1#1), 128 ∣ (k0_mult28 i v1 k0_t3).toNat) ∧
  (∀ k0_t3 : Fin (k0_t3_loop i v1).trips, ∀ (k0_h3 : k0_cond3 i v1 = 1#1), ∀ (r : Fin 4), ∀ a, (k0_off21 i v1 k0_t3 (BitVec.ofNat 32 (128 * r.val))) a + S1x8x48x128.size a ≤ S1x8x48x2048.size a) ∧
  (∀ k0_t3 : Fin (k0_t3_loop i v1).trips, ∀ (k0_h3 : k0_cond3 i v1 = 1#1), 128 ∣ (k0_mult29 i v1 k0_t3).toNat) ∧
  (∀ k0_t3 : Fin (k0_t3_loop i v1).trips, ∀ (k0_h3 : k0_cond3 i v1 = 1#1), 128 ∣ (k0_mult30 i v1 k0_t3).toNat) ∧
  (∀ k0_t3 : Fin (k0_t3_loop i v1).trips, ∀ (k0_h3 : k0_cond3 i v1 = 1#1), 128 ∣ (k0_mult31 i v1 k0_t3).toNat) ∧
  (∀ k0_t3 : Fin (k0_t3_loop i v1).trips, ∀ (k0_h3 : k0_cond3 i v1 = 1#1), ∀ a, (k0_off22 i v1 k0_t3) a + S1x1x8x512.size a ≤ S1x1x32x2048.size a) ∧
  (∀ k0_t3 : Fin (k0_t3_loop i v1).trips, ∀ (k0_h3 : k0_cond3 i v1 = 1#1), ∀ a, (k0_off23 i v1 k0_t3) a + S1x1x512.size a ≤ S1x8x2048.size a) ∧
  (∀ k0_t3 : Fin (k0_t3_loop i v1).trips, ∀ (k0_h3 : k0_cond3 i v1 = 1#1), ∀ a, (k0_off24 i v1 k0_t3) a + S1x1x512.size a ≤ S1x8x2048.size a) ∧
  (∀ k0_t3 : Fin (k0_t3_loop i v1).trips, ∀ (k0_h3 : k0_cond3 i v1 = 1#1), ∀ a, (k0_off25 i v1 k0_t3) a + S1x1x8x512.size a ≤ S1x1x32x2048.size a) ∧
  (∀ k0_t3 : Fin (k0_t3_loop i v1).trips, ∀ (k0_h3 : k0_cond3 i v1 = 1#1), ∀ a, (k0_off26 i v1 k0_t3) a + S1x1x512.size a ≤ S1x8x2048.size a) ∧
  (∀ k0_t3 : Fin (k0_t3_loop i v1).trips, ∀ (k0_h3 : k0_cond3 i v1 = 1#1), ∀ a, (k0_off27 i v1 k0_t3) a + S1x1x512.size a ≤ S1x8x2048.size a) ∧
  (∀ k0_t3 : Fin (k0_t3_loop i v1).trips, ∀ (k0_h3 : k0_cond3 i v1 = 1#1), ∀ a, (k0_off28 i v1 k0_t3) a + S1x1x8x512.size a ≤ S1x1x32x2048.size a) ∧
  (∀ k0_t3 : Fin (k0_t3_loop i v1).trips, ∀ (k0_h3 : k0_cond3 i v1 = 1#1), ∀ a, (k0_off29 i v1 k0_t3) a + S1x1x512.size a ≤ S1x8x2048.size a) ∧
  (∀ k0_t3 : Fin (k0_t3_loop i v1).trips, ∀ (k0_h3 : k0_cond3 i v1 = 1#1), ∀ a, (k0_off30 i v1 k0_t3) a + S1x1x512.size a ≤ S1x8x2048.size a) ∧
  (∀ k0_t3 : Fin (k0_t3_loop i v1).trips, ∀ (k0_h3 : k0_cond3 i v1 = 1#1), ∀ a, (k0_off31 i v1 k0_t3) a + S1x1x8x512.size a ≤ S1x1x32x2048.size a) ∧
  (∀ k0_t3 : Fin (k0_t3_loop i v1).trips, ∀ (k0_h3 : k0_cond3 i v1 = 1#1), ∀ a, (k0_off32 i v1 k0_t3) a + S1x1x512.size a ≤ S1x8x2048.size a) ∧
  (∀ k0_t3 : Fin (k0_t3_loop i v1).trips, ∀ (k0_h3 : k0_cond3 i v1 = 1#1), ∀ a, (k0_off33 i v1 k0_t3) a + S1x1x512.size a ≤ S1x8x2048.size a) ∧
  (∀ (k0_h3 : k0_cond3 i v1 = 1#1), (k0_t4_loop i v1).OK)
def k0_chk1_2 (i : grid0.Coords) (v1 : BitVec 32) : Prop :=
  (∀ k0_t4 : Fin (k0_t4_loop i v1).trips, ∀ (k0_h3 : k0_cond3 i v1 = 1#1), 512 ∣ (k0_mult32 i v1 k0_t4).toNat) ∧
  (∀ k0_t4 : Fin (k0_t4_loop i v1).trips, ∀ (k0_h3 : k0_cond3 i v1 = 1#1), 128 ∣ (k0_mult33 i v1 k0_t4).toNat) ∧
  (∀ k0_t4 : Fin (k0_t4_loop i v1).trips, ∀ (k0_h3 : k0_cond3 i v1 = 1#1), ∀ (r : Fin 4), ∀ a, (k0_off34 i v1 k0_t4 (BitVec.ofNat 32 (128 * r.val))) a + S1x8x48x128.size a ≤ S1x8x48x2048.size a) ∧
  (∀ k0_t4 : Fin (k0_t4_loop i v1).trips, ∀ (k0_h3 : k0_cond3 i v1 = 1#1), 128 ∣ (k0_mult34 i v1 k0_t4).toNat) ∧
  (∀ k0_t4 : Fin (k0_t4_loop i v1).trips, ∀ (k0_h3 : k0_cond3 i v1 = 1#1), 128 ∣ (k0_mult35 i v1 k0_t4).toNat) ∧
  (∀ k0_t4 : Fin (k0_t4_loop i v1).trips, ∀ (k0_h3 : k0_cond3 i v1 = 1#1), 128 ∣ (k0_mult36 i v1 k0_t4).toNat) ∧
  (∀ k0_t4 : Fin (k0_t4_loop i v1).trips, ∀ (k0_h3 : k0_cond3 i v1 = 1#1), ∀ a, (k0_off35 i v1 k0_t4) a + S1x1x8x512.size a ≤ S1x1x32x2048.size a) ∧
  (∀ k0_t4 : Fin (k0_t4_loop i v1).trips, ∀ (k0_h3 : k0_cond3 i v1 = 1#1), ∀ a, (k0_off36 i v1 k0_t4) a + S1x1x512.size a ≤ S1x8x2048.size a) ∧
  (∀ k0_t4 : Fin (k0_t4_loop i v1).trips, ∀ (k0_h3 : k0_cond3 i v1 = 1#1), ∀ a, (k0_off37 i v1 k0_t4) a + S1x1x512.size a ≤ S1x8x2048.size a) ∧
  (∀ k0_t4 : Fin (k0_t4_loop i v1).trips, ∀ (k0_h3 : k0_cond3 i v1 = 1#1), ∀ a, (k0_off38 i v1 k0_t4) a + S1x1x8x512.size a ≤ S1x1x32x2048.size a) ∧
  (∀ k0_t4 : Fin (k0_t4_loop i v1).trips, ∀ (k0_h3 : k0_cond3 i v1 = 1#1), ∀ a, (k0_off39 i v1 k0_t4) a + S1x1x512.size a ≤ S1x8x2048.size a) ∧
  (∀ k0_t4 : Fin (k0_t4_loop i v1).trips, ∀ (k0_h3 : k0_cond3 i v1 = 1#1), ∀ a, (k0_off40 i v1 k0_t4) a + S1x1x512.size a ≤ S1x8x2048.size a) ∧
  (∀ k0_t4 : Fin (k0_t4_loop i v1).trips, ∀ (k0_h3 : k0_cond3 i v1 = 1#1), ∀ a, (k0_off41 i v1 k0_t4) a + S1x1x8x512.size a ≤ S1x1x32x2048.size a) ∧
  (∀ k0_t4 : Fin (k0_t4_loop i v1).trips, ∀ (k0_h3 : k0_cond3 i v1 = 1#1), ∀ a, (k0_off42 i v1 k0_t4) a + S1x1x512.size a ≤ S1x8x2048.size a) ∧
  (∀ k0_t4 : Fin (k0_t4_loop i v1).trips, ∀ (k0_h3 : k0_cond3 i v1 = 1#1), ∀ a, (k0_off43 i v1 k0_t4) a + S1x1x512.size a ≤ S1x8x2048.size a) ∧
  (∀ k0_t4 : Fin (k0_t4_loop i v1).trips, ∀ (k0_h3 : k0_cond3 i v1 = 1#1), ∀ a, (k0_off44 i v1 k0_t4) a + S1x1x8x512.size a ≤ S1x1x32x2048.size a) ∧
  (∀ k0_t4 : Fin (k0_t4_loop i v1).trips, ∀ (k0_h3 : k0_cond3 i v1 = 1#1), ∀ a, (k0_off45 i v1 k0_t4) a + S1x1x512.size a ≤ S1x8x2048.size a) ∧
  (∀ k0_t4 : Fin (k0_t4_loop i v1).trips, ∀ (k0_h3 : k0_cond3 i v1 = 1#1), ∀ a, (k0_off46 i v1 k0_t4) a + S1x1x512.size a ≤ S1x8x2048.size a) ∧
  ((k0_t5_loop i v1).OK) ∧
  (∀ k0_t5 : Fin (k0_t5_loop i v1).trips, 512 ∣ (k0_mult37 i v1 k0_t5).toNat) ∧
  (∀ k0_t5 : Fin (k0_t5_loop i v1).trips, ∀ a, (k0_off47 i v1 k0_t5) a + S1x1x32x512.size a ≤ S1x1x32x2048.size a) ∧
  ((k0_t6_loop i v1).OK) ∧
  (∀ k0_t6 : Fin (k0_t6_loop i v1).trips, 512 ∣ (k0_mult38 i v1 k0_t6).toNat) ∧
  (∀ k0_t6 : Fin (k0_t6_loop i v1).trips, ∀ a, (k0_off48 i v1 k0_t6) a + S1x1x32x512.size a ≤ S1x1x32x2048.size a)
def k0_chk1 (i : grid0.Coords) (v1 : BitVec 32) : Prop :=
  k0_chk1_0 i v1 ∧
  k0_chk1_1 i v1 ∧
  k0_chk1_2 i v1
theorem k0_t1_ok : ∀ (i : grid0.Coords) (v1 : BitVec 32) (k0_hw1 : k0_chk1 i v1), ∀ (k0_h3 : k0_cond3 i v1 = 1#1), (k0_t1_loop i v1).OK := fun i v1 k0_hw1 k0_h3 => k0_hw1.1.1 k0_h3
theorem k0_mult1_dvd : ∀ (i : grid0.Coords) (v1 : BitVec 32) (k0_hw1 : k0_chk1 i v1) (k0_t1 : Fin (k0_t1_loop i v1).trips), ∀ (k0_h3 : k0_cond3 i v1 = 1#1), 512 ∣ (k0_mult1 i v1 k0_t1).toNat := fun i v1 k0_hw1 k0_t1 k0_h3 => k0_hw1.1.2.1 k0_t1 k0_h3
theorem k0_mult2_dvd : ∀ (i : grid0.Coords) (v1 : BitVec 32) (k0_hw1 : k0_chk1 i v1) (k0_t1 : Fin (k0_t1_loop i v1).trips), ∀ (k0_h3 : k0_cond3 i v1 = 1#1), 128 ∣ (k0_mult2 i v1 k0_t1).toNat := fun i v1 k0_hw1 k0_t1 k0_h3 => k0_hw1.1.2.2.1 k0_t1 k0_h3
theorem k0_mult3_dvd : ∀ (i : grid0.Coords) (v1 : BitVec 32) (k0_hw1 : k0_chk1 i v1) (k0_t1 : Fin (k0_t1_loop i v1).trips), ∀ (k0_h3 : k0_cond3 i v1 = 1#1), 128 ∣ (k0_mult3 i v1 k0_t1).toNat := fun i v1 k0_hw1 k0_t1 k0_h3 => k0_hw1.1.2.2.2.1 k0_t1 k0_h3
theorem k0_mult4_dvd : ∀ (i : grid0.Coords) (v1 : BitVec 32) (k0_hw1 : k0_chk1 i v1) (k0_t1 : Fin (k0_t1_loop i v1).trips), ∀ (k0_h3 : k0_cond3 i v1 = 1#1), 128 ∣ (k0_mult4 i v1 k0_t1).toNat := fun i v1 k0_hw1 k0_t1 k0_h3 => k0_hw1.1.2.2.2.2.1 k0_t1 k0_h3
theorem k0_off5_inb : ∀ (i : grid0.Coords) (v1 : BitVec 32) (k0_hw1 : k0_chk1 i v1) (k0_t1 : Fin (k0_t1_loop i v1).trips), ∀ (k0_h3 : k0_cond3 i v1 = 1#1), ∀ (r : Fin 4), ∀ a, (k0_off5 i v1 k0_t1 (BitVec.ofNat 32 r.val)) a + S1x48x128.size a ≤ S2x48x256.size a := fun i v1 k0_hw1 k0_t1 k0_h3 r => k0_hw1.1.2.2.2.2.2.1 k0_t1 k0_h3 r
theorem k0_off6_inb : ∀ (i : grid0.Coords) (v1 : BitVec 32) (k0_hw1 : k0_chk1 i v1) (k0_t1 : Fin (k0_t1_loop i v1).trips), ∀ (k0_h3 : k0_cond3 i v1 = 1#1), ∀ (r : Fin 4), ∀ a, (k0_off6 i v1 k0_t1 (BitVec.ofNat 32 r.val)) a + S1x48x128.size a ≤ S2x48x256.size a := fun i v1 k0_hw1 k0_t1 k0_h3 r => k0_hw1.1.2.2.2.2.2.2.1 k0_t1 k0_h3 r
theorem k0_off7_inb : ∀ (i : grid0.Coords) (v1 : BitVec 32) (k0_hw1 : k0_chk1 i v1) (k0_t1 : Fin (k0_t1_loop i v1).trips), ∀ (k0_h3 : k0_cond3 i v1 = 1#1), ∀ (r : Fin 4), ∀ a, (k0_off7 i v1 k0_t1 (BitVec.ofNat 32 r.val)) a + S8x96x128.size a ≤ S8x96x384.size a := fun i v1 k0_hw1 k0_t1 k0_h3 r => k0_hw1.1.2.2.2.2.2.2.2.1 k0_t1 k0_h3 r
theorem k0_off8_inb : ∀ (i : grid0.Coords) (v1 : BitVec 32) (k0_hw1 : k0_chk1 i v1) (k0_t1 : Fin (k0_t1_loop i v1).trips), ∀ (k0_h3 : k0_cond3 i v1 = 1#1), ∀ (r : Fin 4), ∀ a, (k0_off8 i v1 k0_t1 (BitVec.ofNat 32 (128 * r.val))) a + S1x8x48x128.size a ≤ S1x8x48x2048.size a := fun i v1 k0_hw1 k0_t1 k0_h3 r => k0_hw1.1.2.2.2.2.2.2.2.2.1 k0_t1 k0_h3 r
theorem k0_mult5_dvd : ∀ (i : grid0.Coords) (v1 : BitVec 32) (k0_hw1 : k0_chk1 i v1) (k0_t1 : Fin (k0_t1_loop i v1).trips), ∀ (k0_h3 : k0_cond3 i v1 = 1#1), 128 ∣ (k0_mult5 i v1 k0_t1).toNat := fun i v1 k0_hw1 k0_t1 k0_h3 => k0_hw1.1.2.2.2.2.2.2.2.2.2.1 k0_t1 k0_h3
theorem k0_mult6_dvd : ∀ (i : grid0.Coords) (v1 : BitVec 32) (k0_hw1 : k0_chk1 i v1) (k0_t1 : Fin (k0_t1_loop i v1).trips), ∀ (k0_h3 : k0_cond3 i v1 = 1#1), 128 ∣ (k0_mult6 i v1 k0_t1).toNat := fun i v1 k0_hw1 k0_t1 k0_h3 => k0_hw1.1.2.2.2.2.2.2.2.2.2.2.1 k0_t1 k0_h3
theorem k0_mult7_dvd : ∀ (i : grid0.Coords) (v1 : BitVec 32) (k0_hw1 : k0_chk1 i v1) (k0_t1 : Fin (k0_t1_loop i v1).trips), ∀ (k0_h3 : k0_cond3 i v1 = 1#1), 128 ∣ (k0_mult7 i v1 k0_t1).toNat := fun i v1 k0_hw1 k0_t1 k0_h3 => k0_hw1.1.2.2.2.2.2.2.2.2.2.2.2.1 k0_t1 k0_h3
theorem k0_mult8_dvd : ∀ (i : grid0.Coords) (v1 : BitVec 32) (k0_hw1 : k0_chk1 i v1) (k0_t1 : Fin (k0_t1_loop i v1).trips), ∀ (k0_h3 : k0_cond3 i v1 = 1#1), 128 ∣ (k0_mult8 i v1 k0_t1).toNat := fun i v1 k0_hw1 k0_t1 k0_h3 => k0_hw1.1.2.2.2.2.2.2.2.2.2.2.2.2.1 k0_t1 k0_h3
theorem k0_mult9_dvd : ∀ (i : grid0.Coords) (v1 : BitVec 32) (k0_hw1 : k0_chk1 i v1) (k0_t1 : Fin (k0_t1_loop i v1).trips), ∀ (k0_h3 : k0_cond3 i v1 = 1#1), 128 ∣ (k0_mult9 i v1 k0_t1).toNat := fun i v1 k0_hw1 k0_t1 k0_h3 => k0_hw1.1.2.2.2.2.2.2.2.2.2.2.2.2.2.1 k0_t1 k0_h3
theorem k0_mult10_dvd : ∀ (i : grid0.Coords) (v1 : BitVec 32) (k0_hw1 : k0_chk1 i v1) (k0_t1 : Fin (k0_t1_loop i v1).trips), ∀ (k0_h3 : k0_cond3 i v1 = 1#1), 128 ∣ (k0_mult10 i v1 k0_t1).toNat := fun i v1 k0_hw1 k0_t1 k0_h3 => k0_hw1.1.2.2.2.2.2.2.2.2.2.2.2.2.2.2.1 k0_t1 k0_h3
theorem k0_mult11_dvd : ∀ (i : grid0.Coords) (v1 : BitVec 32) (k0_hw1 : k0_chk1 i v1) (k0_t1 : Fin (k0_t1_loop i v1).trips), ∀ (k0_h3 : k0_cond3 i v1 = 1#1), 128 ∣ (k0_mult11 i v1 k0_t1).toNat := fun i v1 k0_hw1 k0_t1 k0_h3 => k0_hw1.1.2.2.2.2.2.2.2.2.2.2.2.2.2.2.2.1 k0_t1 k0_h3
theorem k0_mult12_dvd : ∀ (i : grid0.Coords) (v1 : BitVec 32) (k0_hw1 : k0_chk1 i v1) (k0_t1 : Fin (k0_t1_loop i v1).trips), ∀ (k0_h3 : k0_cond3 i v1 = 1#1), 128 ∣ (k0_mult12 i v1 k0_t1).toNat := fun i v1 k0_hw1 k0_t1 k0_h3 => k0_hw1.1.2.2.2.2.2.2.2.2.2.2.2.2.2.2.2.2.1 k0_t1 k0_h3
theorem k0_mult13_dvd : ∀ (i : grid0.Coords) (v1 : BitVec 32) (k0_hw1 : k0_chk1 i v1) (k0_t1 : Fin (k0_t1_loop i v1).trips), ∀ (k0_h3 : k0_cond3 i v1 = 1#1), 128 ∣ (k0_mult13 i v1 k0_t1).toNat := fun i v1 k0_hw1 k0_t1 k0_h3 => k0_hw1.1.2.2.2.2.2.2.2.2.2.2.2.2.2.2.2.2.2.1 k0_t1 k0_h3
theorem k0_off9_inb : ∀ (i : grid0.Coords) (v1 : BitVec 32) (k0_hw1 : k0_chk1 i v1) (k0_t1 : Fin (k0_t1_loop i v1).trips), ∀ (k0_h3 : k0_cond3 i v1 = 1#1), ∀ a, (k0_off9 i v1 k0_t1) a + S1x1x8x512.size a ≤ S1x1x32x2048.size a := fun i v1 k0_hw1 k0_t1 k0_h3 => k0_hw1.1.2.2.2.2.2.2.2.2.2.2.2.2.2.2.2.2.2.2.1 k0_t1 k0_h3
theorem k0_off10_inb : ∀ (i : grid0.Coords) (v1 : BitVec 32) (k0_hw1 : k0_chk1 i v1) (k0_t1 : Fin (k0_t1_loop i v1).trips), ∀ (k0_h3 : k0_cond3 i v1 = 1#1), ∀ a, (k0_off10 i v1 k0_t1) a + S1x1x8x512.size a ≤ S1x1x32x2048.size a := fun i v1 k0_hw1 k0_t1 k0_h3 => k0_hw1.1.2.2.2.2.2.2.2.2.2.2.2.2.2.2.2.2.2.2.2.1 k0_t1 k0_h3
theorem k0_off11_inb : ∀ (i : grid0.Coords) (v1 : BitVec 32) (k0_hw1 : k0_chk1 i v1) (k0_t1 : Fin (k0_t1_loop i v1).trips), ∀ (k0_h3 : k0_cond3 i v1 = 1#1), ∀ a, (k0_off11 i v1 k0_t1) a + S1x1x8x512.size a ≤ S1x1x32x2048.size a := fun i v1 k0_hw1 k0_t1 k0_h3 => k0_hw1.1.2.2.2.2.2.2.2.2.2.2.2.2.2.2.2.2.2.2.2.2.1 k0_t1 k0_h3
theorem k0_off12_inb : ∀ (i : grid0.Coords) (v1 : BitVec 32) (k0_hw1 : k0_chk1 i v1) (k0_t1 : Fin (k0_t1_loop i v1).trips), ∀ (k0_h3 : k0_cond3 i v1 = 1#1), ∀ a, (k0_off12 i v1 k0_t1) a + S1x1x8x512.size a ≤ S1x1x32x2048.size a := fun i v1 k0_hw1 k0_t1 k0_h3 => k0_hw1.1.2.2.2.2.2.2.2.2.2.2.2.2.2.2.2.2.2.2.2.2.2.1 k0_t1 k0_h3
theorem k0_t2_ok : ∀ (i : grid0.Coords) (v1 : BitVec 32) (k0_hw1 : k0_chk1 i v1), ∀ (k0_h3 : k0_cond3 i v1 = 1#1), (k0_t2_loop i v1).OK := fun i v1 k0_hw1 k0_h3 => k0_hw1.1.2.2.2.2.2.2.2.2.2.2.2.2.2.2.2.2.2.2.2.2.2.2.1 k0_h3
theorem k0_mult14_dvd : ∀ (i : grid0.Coords) (v1 : BitVec 32) (k0_hw1 : k0_chk1 i v1) (k0_t2 : Fin (k0_t2_loop i v1).trips), ∀ (k0_h3 : k0_cond3 i v1 = 1#1), 512 ∣ (k0_mult14 i v1 k0_t2).toNat := fun i v1 k0_hw1 k0_t2 k0_h3 => k0_hw1.1.2.2.2.2.2.2.2.2.2.2.2.2.2.2.2.2.2.2.2.2.2.2.2.1 k0_t2 k0_h3
theorem k0_mult15_dvd : ∀ (i : grid0.Coords) (v1 : BitVec 32) (k0_hw1 : k0_chk1 i v1) (k0_t2 : Fin (k0_t2_loop i v1).trips), ∀ (k0_h3 : k0_cond3 i v1 = 1#1), 128 ∣ (k0_mult15 i v1 k0_t2).toNat := fun i v1 k0_hw1 k0_t2 k0_h3 => k0_hw1.1.2.2.2.2.2.2.2.2.2.2.2.2.2.2.2.2.2.2.2.2.2.2.2.2.1 k0_t2 k0_h3
theorem k0_mult16_dvd : ∀ (i : grid0.Coords) (v1 : BitVec 32) (k0_hw1 : k0_chk1 i v1) (k0_t2 : Fin (k0_t2_loop i v1).trips), ∀ (k0_h3 : k0_cond3 i v1 = 1#1), 128 ∣ (k0_mult16 i v1 k0_t2).toNat := fun i v1 k0_hw1 k0_t2 k0_h3 => k0_hw1.1.2.2.2.2.2.2.2.2.2.2.2.2.2.2.2.2.2.2.2.2.2.2.2.2.2.1 k0_t2 k0_h3
theorem k0_mult17_dvd : ∀ (i : grid0.Coords) (v1 : BitVec 32) (k0_hw1 : k0_chk1 i v1) (k0_t2 : Fin (k0_t2_loop i v1).trips), ∀ (k0_h3 : k0_cond3 i v1 = 1#1), 128 ∣ (k0_mult17 i v1 k0_t2).toNat := fun i v1 k0_hw1 k0_t2 k0_h3 => k0_hw1.1.2.2.2.2.2.2.2.2.2.2.2.2.2.2.2.2.2.2.2.2.2.2.2.2.2.2.1 k0_t2 k0_h3
theorem k0_off13_inb : ∀ (i : grid0.Coords) (v1 : BitVec 32) (k0_hw1 : k0_chk1 i v1) (k0_t2 : Fin (k0_t2_loop i v1).trips), ∀ (k0_h3 : k0_cond3 i v1 = 1#1), ∀ (r : Fin 4), ∀ a, (k0_off13 i v1 k0_t2 (BitVec.ofNat 32 r.val)) a + S1x48x128.size a ≤ S2x48x256.size a := fun i v1 k0_hw1 k0_t2 k0_h3 r => k0_hw1.1.2.2.2.2.2.2.2.2.2.2.2.2.2.2.2.2.2.2.2.2.2.2.2.2.2.2.2.1 k0_t2 k0_h3 r
theorem k0_off14_inb : ∀ (i : grid0.Coords) (v1 : BitVec 32) (k0_hw1 : k0_chk1 i v1) (k0_t2 : Fin (k0_t2_loop i v1).trips), ∀ (k0_h3 : k0_cond3 i v1 = 1#1), ∀ (r : Fin 4), ∀ a, (k0_off14 i v1 k0_t2 (BitVec.ofNat 32 r.val)) a + S1x48x128.size a ≤ S2x48x256.size a := fun i v1 k0_hw1 k0_t2 k0_h3 r => k0_hw1.1.2.2.2.2.2.2.2.2.2.2.2.2.2.2.2.2.2.2.2.2.2.2.2.2.2.2.2.2.1 k0_t2 k0_h3 r
theorem k0_off15_inb : ∀ (i : grid0.Coords) (v1 : BitVec 32) (k0_hw1 : k0_chk1 i v1) (k0_t2 : Fin (k0_t2_loop i v1).trips), ∀ (k0_h3 : k0_cond3 i v1 = 1#1), ∀ (r : Fin 4), ∀ a, (k0_off15 i v1 k0_t2 (BitVec.ofNat 32 r.val)) a + S8x96x128.size a ≤ S8x96x384.size a := fun i v1 k0_hw1 k0_t2 k0_h3 r => k0_hw1.1.2.2.2.2.2.2.2.2.2.2.2.2.2.2.2.2.2.2.2.2.2.2.2.2.2.2.2.2.2.1 k0_t2 k0_h3 r
theorem k0_off16_inb : ∀ (i : grid0.Coords) (v1 : BitVec 32) (k0_hw1 : k0_chk1 i v1) (k0_t2 : Fin (k0_t2_loop i v1).trips), ∀ (k0_h3 : k0_cond3 i v1 = 1#1), ∀ (r : Fin 4), ∀ a, (k0_off16 i v1 k0_t2 (BitVec.ofNat 32 (128 * r.val))) a + S1x8x48x128.size a ≤ S1x8x48x2048.size a := fun i v1 k0_hw1 k0_t2 k0_h3 r => k0_hw1.1.2.2.2.2.2.2.2.2.2.2.2.2.2.2.2.2.2.2.2.2.2.2.2.2.2.2.2.2.2.2.1 k0_t2 k0_h3 r
theorem k0_mult18_dvd : ∀ (i : grid0.Coords) (v1 : BitVec 32) (k0_hw1 : k0_chk1 i v1) (k0_t2 : Fin (k0_t2_loop i v1).trips), ∀ (k0_h3 : k0_cond3 i v1 = 1#1), 128 ∣ (k0_mult18 i v1 k0_t2).toNat := fun i v1 k0_hw1 k0_t2 k0_h3 => k0_hw1.1.2.2.2.2.2.2.2.2.2.2.2.2.2.2.2.2.2.2.2.2.2.2.2.2.2.2.2.2.2.2.2 k0_t2 k0_h3
theorem k0_mult19_dvd : ∀ (i : grid0.Coords) (v1 : BitVec 32) (k0_hw1 : k0_chk1 i v1) (k0_t2 : Fin (k0_t2_loop i v1).trips), ∀ (k0_h3 : k0_cond3 i v1 = 1#1), 128 ∣ (k0_mult19 i v1 k0_t2).toNat := fun i v1 k0_hw1 k0_t2 k0_h3 => k0_hw1.2.1.1 k0_t2 k0_h3
theorem k0_mult20_dvd : ∀ (i : grid0.Coords) (v1 : BitVec 32) (k0_hw1 : k0_chk1 i v1) (k0_t2 : Fin (k0_t2_loop i v1).trips), ∀ (k0_h3 : k0_cond3 i v1 = 1#1), 128 ∣ (k0_mult20 i v1 k0_t2).toNat := fun i v1 k0_hw1 k0_t2 k0_h3 => k0_hw1.2.1.2.1 k0_t2 k0_h3
theorem k0_mult21_dvd : ∀ (i : grid0.Coords) (v1 : BitVec 32) (k0_hw1 : k0_chk1 i v1) (k0_t2 : Fin (k0_t2_loop i v1).trips), ∀ (k0_h3 : k0_cond3 i v1 = 1#1), 128 ∣ (k0_mult21 i v1 k0_t2).toNat := fun i v1 k0_hw1 k0_t2 k0_h3 => k0_hw1.2.1.2.2.1 k0_t2 k0_h3
theorem k0_mult22_dvd : ∀ (i : grid0.Coords) (v1 : BitVec 32) (k0_hw1 : k0_chk1 i v1) (k0_t2 : Fin (k0_t2_loop i v1).trips), ∀ (k0_h3 : k0_cond3 i v1 = 1#1), 128 ∣ (k0_mult22 i v1 k0_t2).toNat := fun i v1 k0_hw1 k0_t2 k0_h3 => k0_hw1.2.1.2.2.2.1 k0_t2 k0_h3
theorem k0_mult23_dvd : ∀ (i : grid0.Coords) (v1 : BitVec 32) (k0_hw1 : k0_chk1 i v1) (k0_t2 : Fin (k0_t2_loop i v1).trips), ∀ (k0_h3 : k0_cond3 i v1 = 1#1), 128 ∣ (k0_mult23 i v1 k0_t2).toNat := fun i v1 k0_hw1 k0_t2 k0_h3 => k0_hw1.2.1.2.2.2.2.1 k0_t2 k0_h3
theorem k0_mult24_dvd : ∀ (i : grid0.Coords) (v1 : BitVec 32) (k0_hw1 : k0_chk1 i v1) (k0_t2 : Fin (k0_t2_loop i v1).trips), ∀ (k0_h3 : k0_cond3 i v1 = 1#1), 128 ∣ (k0_mult24 i v1 k0_t2).toNat := fun i v1 k0_hw1 k0_t2 k0_h3 => k0_hw1.2.1.2.2.2.2.2.1 k0_t2 k0_h3
theorem k0_mult25_dvd : ∀ (i : grid0.Coords) (v1 : BitVec 32) (k0_hw1 : k0_chk1 i v1) (k0_t2 : Fin (k0_t2_loop i v1).trips), ∀ (k0_h3 : k0_cond3 i v1 = 1#1), 128 ∣ (k0_mult25 i v1 k0_t2).toNat := fun i v1 k0_hw1 k0_t2 k0_h3 => k0_hw1.2.1.2.2.2.2.2.2.1 k0_t2 k0_h3
theorem k0_mult26_dvd : ∀ (i : grid0.Coords) (v1 : BitVec 32) (k0_hw1 : k0_chk1 i v1) (k0_t2 : Fin (k0_t2_loop i v1).trips), ∀ (k0_h3 : k0_cond3 i v1 = 1#1), 128 ∣ (k0_mult26 i v1 k0_t2).toNat := fun i v1 k0_hw1 k0_t2 k0_h3 => k0_hw1.2.1.2.2.2.2.2.2.2.1 k0_t2 k0_h3
theorem k0_off17_inb : ∀ (i : grid0.Coords) (v1 : BitVec 32) (k0_hw1 : k0_chk1 i v1) (k0_t2 : Fin (k0_t2_loop i v1).trips), ∀ (k0_h3 : k0_cond3 i v1 = 1#1), ∀ a, (k0_off17 i v1 k0_t2) a + S1x1x8x512.size a ≤ S1x1x32x2048.size a := fun i v1 k0_hw1 k0_t2 k0_h3 => k0_hw1.2.1.2.2.2.2.2.2.2.2.1 k0_t2 k0_h3
theorem k0_off18_inb : ∀ (i : grid0.Coords) (v1 : BitVec 32) (k0_hw1 : k0_chk1 i v1) (k0_t2 : Fin (k0_t2_loop i v1).trips), ∀ (k0_h3 : k0_cond3 i v1 = 1#1), ∀ a, (k0_off18 i v1 k0_t2) a + S1x1x8x512.size a ≤ S1x1x32x2048.size a := fun i v1 k0_hw1 k0_t2 k0_h3 => k0_hw1.2.1.2.2.2.2.2.2.2.2.2.1 k0_t2 k0_h3
theorem k0_off19_inb : ∀ (i : grid0.Coords) (v1 : BitVec 32) (k0_hw1 : k0_chk1 i v1) (k0_t2 : Fin (k0_t2_loop i v1).trips), ∀ (k0_h3 : k0_cond3 i v1 = 1#1), ∀ a, (k0_off19 i v1 k0_t2) a + S1x1x8x512.size a ≤ S1x1x32x2048.size a := fun i v1 k0_hw1 k0_t2 k0_h3 => k0_hw1.2.1.2.2.2.2.2.2.2.2.2.2.1 k0_t2 k0_h3
theorem k0_off20_inb : ∀ (i : grid0.Coords) (v1 : BitVec 32) (k0_hw1 : k0_chk1 i v1) (k0_t2 : Fin (k0_t2_loop i v1).trips), ∀ (k0_h3 : k0_cond3 i v1 = 1#1), ∀ a, (k0_off20 i v1 k0_t2) a + S1x1x8x512.size a ≤ S1x1x32x2048.size a := fun i v1 k0_hw1 k0_t2 k0_h3 => k0_hw1.2.1.2.2.2.2.2.2.2.2.2.2.2.1 k0_t2 k0_h3
theorem k0_t3_ok : ∀ (i : grid0.Coords) (v1 : BitVec 32) (k0_hw1 : k0_chk1 i v1), ∀ (k0_h3 : k0_cond3 i v1 = 1#1), (k0_t3_loop i v1).OK := fun i v1 k0_hw1 k0_h3 => k0_hw1.2.1.2.2.2.2.2.2.2.2.2.2.2.2.1 k0_h3
theorem k0_mult27_dvd : ∀ (i : grid0.Coords) (v1 : BitVec 32) (k0_hw1 : k0_chk1 i v1) (k0_t3 : Fin (k0_t3_loop i v1).trips), ∀ (k0_h3 : k0_cond3 i v1 = 1#1), 512 ∣ (k0_mult27 i v1 k0_t3).toNat := fun i v1 k0_hw1 k0_t3 k0_h3 => k0_hw1.2.1.2.2.2.2.2.2.2.2.2.2.2.2.2.1 k0_t3 k0_h3
theorem k0_mult28_dvd : ∀ (i : grid0.Coords) (v1 : BitVec 32) (k0_hw1 : k0_chk1 i v1) (k0_t3 : Fin (k0_t3_loop i v1).trips), ∀ (k0_h3 : k0_cond3 i v1 = 1#1), 128 ∣ (k0_mult28 i v1 k0_t3).toNat := fun i v1 k0_hw1 k0_t3 k0_h3 => k0_hw1.2.1.2.2.2.2.2.2.2.2.2.2.2.2.2.2.1 k0_t3 k0_h3
theorem k0_off21_inb : ∀ (i : grid0.Coords) (v1 : BitVec 32) (k0_hw1 : k0_chk1 i v1) (k0_t3 : Fin (k0_t3_loop i v1).trips), ∀ (k0_h3 : k0_cond3 i v1 = 1#1), ∀ (r : Fin 4), ∀ a, (k0_off21 i v1 k0_t3 (BitVec.ofNat 32 (128 * r.val))) a + S1x8x48x128.size a ≤ S1x8x48x2048.size a := fun i v1 k0_hw1 k0_t3 k0_h3 r => k0_hw1.2.1.2.2.2.2.2.2.2.2.2.2.2.2.2.2.2.1 k0_t3 k0_h3 r
theorem k0_mult29_dvd : ∀ (i : grid0.Coords) (v1 : BitVec 32) (k0_hw1 : k0_chk1 i v1) (k0_t3 : Fin (k0_t3_loop i v1).trips), ∀ (k0_h3 : k0_cond3 i v1 = 1#1), 128 ∣ (k0_mult29 i v1 k0_t3).toNat := fun i v1 k0_hw1 k0_t3 k0_h3 => k0_hw1.2.1.2.2.2.2.2.2.2.2.2.2.2.2.2.2.2.2.1 k0_t3 k0_h3
theorem k0_mult30_dvd : ∀ (i : grid0.Coords) (v1 : BitVec 32) (k0_hw1 : k0_chk1 i v1) (k0_t3 : Fin (k0_t3_loop i v1).trips), ∀ (k0_h3 : k0_cond3 i v1 = 1#1), 128 ∣ (k0_mult30 i v1 k0_t3).toNat := fun i v1 k0_hw1 k0_t3 k0_h3 => k0_hw1.2.1.2.2.2.2.2.2.2.2.2.2.2.2.2.2.2.2.2.1 k0_t3 k0_h3
theorem k0_mult31_dvd : ∀ (i : grid0.Coords) (v1 : BitVec 32) (k0_hw1 : k0_chk1 i v1) (k0_t3 : Fin (k0_t3_loop i v1).trips), ∀ (k0_h3 : k0_cond3 i v1 = 1#1), 128 ∣ (k0_mult31 i v1 k0_t3).toNat := fun i v1 k0_hw1 k0_t3 k0_h3 => k0_hw1.2.1.2.2.2.2.2.2.2.2.2.2.2.2.2.2.2.2.2.2.1 k0_t3 k0_h3
theorem k0_off22_inb : ∀ (i : grid0.Coords) (v1 : BitVec 32) (k0_hw1 : k0_chk1 i v1) (k0_t3 : Fin (k0_t3_loop i v1).trips), ∀ (k0_h3 : k0_cond3 i v1 = 1#1), ∀ a, (k0_off22 i v1 k0_t3) a + S1x1x8x512.size a ≤ S1x1x32x2048.size a := fun i v1 k0_hw1 k0_t3 k0_h3 => k0_hw1.2.1.2.2.2.2.2.2.2.2.2.2.2.2.2.2.2.2.2.2.2.1 k0_t3 k0_h3
theorem k0_off23_inb : ∀ (i : grid0.Coords) (v1 : BitVec 32) (k0_hw1 : k0_chk1 i v1) (k0_t3 : Fin (k0_t3_loop i v1).trips), ∀ (k0_h3 : k0_cond3 i v1 = 1#1), ∀ a, (k0_off23 i v1 k0_t3) a + S1x1x512.size a ≤ S1x8x2048.size a := fun i v1 k0_hw1 k0_t3 k0_h3 => k0_hw1.2.1.2.2.2.2.2.2.2.2.2.2.2.2.2.2.2.2.2.2.2.2.1 k0_t3 k0_h3
theorem k0_off24_inb : ∀ (i : grid0.Coords) (v1 : BitVec 32) (k0_hw1 : k0_chk1 i v1) (k0_t3 : Fin (k0_t3_loop i v1).trips), ∀ (k0_h3 : k0_cond3 i v1 = 1#1), ∀ a, (k0_off24 i v1 k0_t3) a + S1x1x512.size a ≤ S1x8x2048.size a := fun i v1 k0_hw1 k0_t3 k0_h3 => k0_hw1.2.1.2.2.2.2.2.2.2.2.2.2.2.2.2.2.2.2.2.2.2.2.2.1 k0_t3 k0_h3
theorem k0_off25_inb : ∀ (i : grid0.Coords) (v1 : BitVec 32) (k0_hw1 : k0_chk1 i v1) (k0_t3 : Fin (k0_t3_loop i v1).trips), ∀ (k0_h3 : k0_cond3 i v1 = 1#1), ∀ a, (k0_off25 i v1 k0_t3) a + S1x1x8x512.size a ≤ S1x1x32x2048.size a := fun i v1 k0_hw1 k0_t3 k0_h3 => k0_hw1.2.1.2.2.2.2.2.2.2.2.2.2.2.2.2.2.2.2.2.2.2.2.2.2.1 k0_t3 k0_h3
theorem k0_off26_inb : ∀ (i : grid0.Coords) (v1 : BitVec 32) (k0_hw1 : k0_chk1 i v1) (k0_t3 : Fin (k0_t3_loop i v1).trips), ∀ (k0_h3 : k0_cond3 i v1 = 1#1), ∀ a, (k0_off26 i v1 k0_t3) a + S1x1x512.size a ≤ S1x8x2048.size a := fun i v1 k0_hw1 k0_t3 k0_h3 => k0_hw1.2.1.2.2.2.2.2.2.2.2.2.2.2.2.2.2.2.2.2.2.2.2.2.2.2.1 k0_t3 k0_h3
theorem k0_off27_inb : ∀ (i : grid0.Coords) (v1 : BitVec 32) (k0_hw1 : k0_chk1 i v1) (k0_t3 : Fin (k0_t3_loop i v1).trips), ∀ (k0_h3 : k0_cond3 i v1 = 1#1), ∀ a, (k0_off27 i v1 k0_t3) a + S1x1x512.size a ≤ S1x8x2048.size a := fun i v1 k0_hw1 k0_t3 k0_h3 => k0_hw1.2.1.2.2.2.2.2.2.2.2.2.2.2.2.2.2.2.2.2.2.2.2.2.2.2.2.1 k0_t3 k0_h3
theorem k0_off28_inb : ∀ (i : grid0.Coords) (v1 : BitVec 32) (k0_hw1 : k0_chk1 i v1) (k0_t3 : Fin (k0_t3_loop i v1).trips), ∀ (k0_h3 : k0_cond3 i v1 = 1#1), ∀ a, (k0_off28 i v1 k0_t3) a + S1x1x8x512.size a ≤ S1x1x32x2048.size a := fun i v1 k0_hw1 k0_t3 k0_h3 => k0_hw1.2.1.2.2.2.2.2.2.2.2.2.2.2.2.2.2.2.2.2.2.2.2.2.2.2.2.2.1 k0_t3 k0_h3
theorem k0_off29_inb : ∀ (i : grid0.Coords) (v1 : BitVec 32) (k0_hw1 : k0_chk1 i v1) (k0_t3 : Fin (k0_t3_loop i v1).trips), ∀ (k0_h3 : k0_cond3 i v1 = 1#1), ∀ a, (k0_off29 i v1 k0_t3) a + S1x1x512.size a ≤ S1x8x2048.size a := fun i v1 k0_hw1 k0_t3 k0_h3 => k0_hw1.2.1.2.2.2.2.2.2.2.2.2.2.2.2.2.2.2.2.2.2.2.2.2.2.2.2.2.2.1 k0_t3 k0_h3
theorem k0_off30_inb : ∀ (i : grid0.Coords) (v1 : BitVec 32) (k0_hw1 : k0_chk1 i v1) (k0_t3 : Fin (k0_t3_loop i v1).trips), ∀ (k0_h3 : k0_cond3 i v1 = 1#1), ∀ a, (k0_off30 i v1 k0_t3) a + S1x1x512.size a ≤ S1x8x2048.size a := fun i v1 k0_hw1 k0_t3 k0_h3 => k0_hw1.2.1.2.2.2.2.2.2.2.2.2.2.2.2.2.2.2.2.2.2.2.2.2.2.2.2.2.2.2.1 k0_t3 k0_h3
theorem k0_off31_inb : ∀ (i : grid0.Coords) (v1 : BitVec 32) (k0_hw1 : k0_chk1 i v1) (k0_t3 : Fin (k0_t3_loop i v1).trips), ∀ (k0_h3 : k0_cond3 i v1 = 1#1), ∀ a, (k0_off31 i v1 k0_t3) a + S1x1x8x512.size a ≤ S1x1x32x2048.size a := fun i v1 k0_hw1 k0_t3 k0_h3 => k0_hw1.2.1.2.2.2.2.2.2.2.2.2.2.2.2.2.2.2.2.2.2.2.2.2.2.2.2.2.2.2.2.1 k0_t3 k0_h3
theorem k0_off32_inb : ∀ (i : grid0.Coords) (v1 : BitVec 32) (k0_hw1 : k0_chk1 i v1) (k0_t3 : Fin (k0_t3_loop i v1).trips), ∀ (k0_h3 : k0_cond3 i v1 = 1#1), ∀ a, (k0_off32 i v1 k0_t3) a + S1x1x512.size a ≤ S1x8x2048.size a := fun i v1 k0_hw1 k0_t3 k0_h3 => k0_hw1.2.1.2.2.2.2.2.2.2.2.2.2.2.2.2.2.2.2.2.2.2.2.2.2.2.2.2.2.2.2.2.1 k0_t3 k0_h3
theorem k0_off33_inb : ∀ (i : grid0.Coords) (v1 : BitVec 32) (k0_hw1 : k0_chk1 i v1) (k0_t3 : Fin (k0_t3_loop i v1).trips), ∀ (k0_h3 : k0_cond3 i v1 = 1#1), ∀ a, (k0_off33 i v1 k0_t3) a + S1x1x512.size a ≤ S1x8x2048.size a := fun i v1 k0_hw1 k0_t3 k0_h3 => k0_hw1.2.1.2.2.2.2.2.2.2.2.2.2.2.2.2.2.2.2.2.2.2.2.2.2.2.2.2.2.2.2.2.2.1 k0_t3 k0_h3
theorem k0_t4_ok : ∀ (i : grid0.Coords) (v1 : BitVec 32) (k0_hw1 : k0_chk1 i v1), ∀ (k0_h3 : k0_cond3 i v1 = 1#1), (k0_t4_loop i v1).OK := fun i v1 k0_hw1 k0_h3 => k0_hw1.2.1.2.2.2.2.2.2.2.2.2.2.2.2.2.2.2.2.2.2.2.2.2.2.2.2.2.2.2.2.2.2.2 k0_h3
theorem k0_mult32_dvd : ∀ (i : grid0.Coords) (v1 : BitVec 32) (k0_hw1 : k0_chk1 i v1) (k0_t4 : Fin (k0_t4_loop i v1).trips), ∀ (k0_h3 : k0_cond3 i v1 = 1#1), 512 ∣ (k0_mult32 i v1 k0_t4).toNat := fun i v1 k0_hw1 k0_t4 k0_h3 => k0_hw1.2.2.1 k0_t4 k0_h3
theorem k0_mult33_dvd : ∀ (i : grid0.Coords) (v1 : BitVec 32) (k0_hw1 : k0_chk1 i v1) (k0_t4 : Fin (k0_t4_loop i v1).trips), ∀ (k0_h3 : k0_cond3 i v1 = 1#1), 128 ∣ (k0_mult33 i v1 k0_t4).toNat := fun i v1 k0_hw1 k0_t4 k0_h3 => k0_hw1.2.2.2.1 k0_t4 k0_h3
theorem k0_off34_inb : ∀ (i : grid0.Coords) (v1 : BitVec 32) (k0_hw1 : k0_chk1 i v1) (k0_t4 : Fin (k0_t4_loop i v1).trips), ∀ (k0_h3 : k0_cond3 i v1 = 1#1), ∀ (r : Fin 4), ∀ a, (k0_off34 i v1 k0_t4 (BitVec.ofNat 32 (128 * r.val))) a + S1x8x48x128.size a ≤ S1x8x48x2048.size a := fun i v1 k0_hw1 k0_t4 k0_h3 r => k0_hw1.2.2.2.2.1 k0_t4 k0_h3 r
theorem k0_mult34_dvd : ∀ (i : grid0.Coords) (v1 : BitVec 32) (k0_hw1 : k0_chk1 i v1) (k0_t4 : Fin (k0_t4_loop i v1).trips), ∀ (k0_h3 : k0_cond3 i v1 = 1#1), 128 ∣ (k0_mult34 i v1 k0_t4).toNat := fun i v1 k0_hw1 k0_t4 k0_h3 => k0_hw1.2.2.2.2.2.1 k0_t4 k0_h3
theorem k0_mult35_dvd : ∀ (i : grid0.Coords) (v1 : BitVec 32) (k0_hw1 : k0_chk1 i v1) (k0_t4 : Fin (k0_t4_loop i v1).trips), ∀ (k0_h3 : k0_cond3 i v1 = 1#1), 128 ∣ (k0_mult35 i v1 k0_t4).toNat := fun i v1 k0_hw1 k0_t4 k0_h3 => k0_hw1.2.2.2.2.2.2.1 k0_t4 k0_h3
theorem k0_mult36_dvd : ∀ (i : grid0.Coords) (v1 : BitVec 32) (k0_hw1 : k0_chk1 i v1) (k0_t4 : Fin (k0_t4_loop i v1).trips), ∀ (k0_h3 : k0_cond3 i v1 = 1#1), 128 ∣ (k0_mult36 i v1 k0_t4).toNat := fun i v1 k0_hw1 k0_t4 k0_h3 => k0_hw1.2.2.2.2.2.2.2.1 k0_t4 k0_h3
theorem k0_off35_inb : ∀ (i : grid0.Coords) (v1 : BitVec 32) (k0_hw1 : k0_chk1 i v1) (k0_t4 : Fin (k0_t4_loop i v1).trips), ∀ (k0_h3 : k0_cond3 i v1 = 1#1), ∀ a, (k0_off35 i v1 k0_t4) a + S1x1x8x512.size a ≤ S1x1x32x2048.size a := fun i v1 k0_hw1 k0_t4 k0_h3 => k0_hw1.2.2.2.2.2.2.2.2.1 k0_t4 k0_h3
theorem k0_off36_inb : ∀ (i : grid0.Coords) (v1 : BitVec 32) (k0_hw1 : k0_chk1 i v1) (k0_t4 : Fin (k0_t4_loop i v1).trips), ∀ (k0_h3 : k0_cond3 i v1 = 1#1), ∀ a, (k0_off36 i v1 k0_t4) a + S1x1x512.size a ≤ S1x8x2048.size a := fun i v1 k0_hw1 k0_t4 k0_h3 => k0_hw1.2.2.2.2.2.2.2.2.2.1 k0_t4 k0_h3
theorem k0_off37_inb : ∀ (i : grid0.Coords) (v1 : BitVec 32) (k0_hw1 : k0_chk1 i v1) (k0_t4 : Fin (k0_t4_loop i v1).trips), ∀ (k0_h3 : k0_cond3 i v1 = 1#1), ∀ a, (k0_off37 i v1 k0_t4) a + S1x1x512.size a ≤ S1x8x2048.size a := fun i v1 k0_hw1 k0_t4 k0_h3 => k0_hw1.2.2.2.2.2.2.2.2.2.2.1 k0_t4 k0_h3
theorem k0_off38_inb : ∀ (i : grid0.Coords) (v1 : BitVec 32) (k0_hw1 : k0_chk1 i v1) (k0_t4 : Fin (k0_t4_loop i v1).trips), ∀ (k0_h3 : k0_cond3 i v1 = 1#1), ∀ a, (k0_off38 i v1 k0_t4) a + S1x1x8x512.size a ≤ S1x1x32x2048.size a := fun i v1 k0_hw1 k0_t4 k0_h3 => k0_hw1.2.2.2.2.2.2.2.2.2.2.2.1 k0_t4 k0_h3
theorem k0_off39_inb : ∀ (i : grid0.Coords) (v1 : BitVec 32) (k0_hw1 : k0_chk1 i v1) (k0_t4 : Fin (k0_t4_loop i v1).trips), ∀ (k0_h3 : k0_cond3 i v1 = 1#1), ∀ a, (k0_off39 i v1 k0_t4) a + S1x1x512.size a ≤ S1x8x2048.size a := fun i v1 k0_hw1 k0_t4 k0_h3 => k0_hw1.2.2.2.2.2.2.2.2.2.2.2.2.1 k0_t4 k0_h3
theorem k0_off40_inb : ∀ (i : grid0.Coords) (v1 : BitVec 32) (k0_hw1 : k0_chk1 i v1) (k0_t4 : Fin (k0_t4_loop i v1).trips), ∀ (k0_h3 : k0_cond3 i v1 = 1#1), ∀ a, (k0_off40 i v1 k0_t4) a + S1x1x512.size a ≤ S1x8x2048.size a := fun i v1 k0_hw1 k0_t4 k0_h3 => k0_hw1.2.2.2.2.2.2.2.2.2.2.2.2.2.1 k0_t4 k0_h3
theorem k0_off41_inb : ∀ (i : grid0.Coords) (v1 : BitVec 32) (k0_hw1 : k0_chk1 i v1) (k0_t4 : Fin (k0_t4_loop i v1).trips), ∀ (k0_h3 : k0_cond3 i v1 = 1#1), ∀ a, (k0_off41 i v1 k0_t4) a + S1x1x8x512.size a ≤ S1x1x32x2048.size a := fun i v1 k0_hw1 k0_t4 k0_h3 => k0_hw1.2.2.2.2.2.2.2.2.2.2.2.2.2.2.1 k0_t4 k0_h3
theorem k0_off42_inb : ∀ (i : grid0.Coords) (v1 : BitVec 32) (k0_hw1 : k0_chk1 i v1) (k0_t4 : Fin (k0_t4_loop i v1).trips), ∀ (k0_h3 : k0_cond3 i v1 = 1#1), ∀ a, (k0_off42 i v1 k0_t4) a + S1x1x512.size a ≤ S1x8x2048.size a := fun i v1 k0_hw1 k0_t4 k0_h3 => k0_hw1.2.2.2.2.2.2.2.2.2.2.2.2.2.2.2.1 k0_t4 k0_h3
theorem k0_off43_inb : ∀ (i : grid0.Coords) (v1 : BitVec 32) (k0_hw1 : k0_chk1 i v1) (k0_t4 : Fin (k0_t4_loop i v1).trips), ∀ (k0_h3 : k0_cond3 i v1 = 1#1), ∀ a, (k0_off43 i v1 k0_t4) a + S1x1x512.size a ≤ S1x8x2048.size a := fun i v1 k0_hw1 k0_t4 k0_h3 => k0_hw1.2.2.2.2.2.2.2.2.2.2.2.2.2.2.2.2.1 k0_t4 k0_h3
theorem k0_off44_inb : ∀ (i : grid0.Coords) (v1 : BitVec 32) (k0_hw1 : k0_chk1 i v1) (k0_t4 : Fin (k0_t4_loop i v1).trips), ∀ (k0_h3 : k0_cond3 i v1 = 1#1), ∀ a, (k0_off44 i v1 k0_t4) a + S1x1x8x512.size a ≤ S1x1x32x2048.size a := fun i v1 k0_hw1 k0_t4 k0_h3 => k0_hw1.2.2.2.2.2.2.2.2.2.2.2.2.2.2.2.2.2.1 k0_t4 k0_h3
theorem k0_off45_inb : ∀ (i : grid0.Coords) (v1 : BitVec 32) (k0_hw1 : k0_chk1 i v1) (k0_t4 : Fin (k0_t4_loop i v1).trips), ∀ (k0_h3 : k0_cond3 i v1 = 1#1), ∀ a, (k0_off45 i v1 k0_t4) a + S1x1x512.size a ≤ S1x8x2048.size a := fun i v1 k0_hw1 k0_t4 k0_h3 => k0_hw1.2.2.2.2.2.2.2.2.2.2.2.2.2.2.2.2.2.2.1 k0_t4 k0_h3
theorem k0_off46_inb : ∀ (i : grid0.Coords) (v1 : BitVec 32) (k0_hw1 : k0_chk1 i v1) (k0_t4 : Fin (k0_t4_loop i v1).trips), ∀ (k0_h3 : k0_cond3 i v1 = 1#1), ∀ a, (k0_off46 i v1 k0_t4) a + S1x1x512.size a ≤ S1x8x2048.size a := fun i v1 k0_hw1 k0_t4 k0_h3 => k0_hw1.2.2.2.2.2.2.2.2.2.2.2.2.2.2.2.2.2.2.2.1 k0_t4 k0_h3
theorem k0_t5_ok : ∀ (i : grid0.Coords) (v1 : BitVec 32) (k0_hw1 : k0_chk1 i v1), (k0_t5_loop i v1).OK := fun i v1 k0_hw1 => k0_hw1.2.2.2.2.2.2.2.2.2.2.2.2.2.2.2.2.2.2.2.2.1
theorem k0_mult37_dvd : ∀ (i : grid0.Coords) (v1 : BitVec 32) (k0_hw1 : k0_chk1 i v1) (k0_t5 : Fin (k0_t5_loop i v1).trips), 512 ∣ (k0_mult37 i v1 k0_t5).toNat := fun i v1 k0_hw1 k0_t5 => k0_hw1.2.2.2.2.2.2.2.2.2.2.2.2.2.2.2.2.2.2.2.2.2.1 k0_t5
theorem k0_off47_inb : ∀ (i : grid0.Coords) (v1 : BitVec 32) (k0_hw1 : k0_chk1 i v1) (k0_t5 : Fin (k0_t5_loop i v1).trips), ∀ a, (k0_off47 i v1 k0_t5) a + S1x1x32x512.size a ≤ S1x1x32x2048.size a := fun i v1 k0_hw1 k0_t5 => k0_hw1.2.2.2.2.2.2.2.2.2.2.2.2.2.2.2.2.2.2.2.2.2.2.1 k0_t5
theorem k0_t6_ok : ∀ (i : grid0.Coords) (v1 : BitVec 32) (k0_hw1 : k0_chk1 i v1), (k0_t6_loop i v1).OK := fun i v1 k0_hw1 => k0_hw1.2.2.2.2.2.2.2.2.2.2.2.2.2.2.2.2.2.2.2.2.2.2.2.1
theorem k0_mult38_dvd : ∀ (i : grid0.Coords) (v1 : BitVec 32) (k0_hw1 : k0_chk1 i v1) (k0_t6 : Fin (k0_t6_loop i v1).trips), 512 ∣ (k0_mult38 i v1 k0_t6).toNat := fun i v1 k0_hw1 k0_t6 => k0_hw1.2.2.2.2.2.2.2.2.2.2.2.2.2.2.2.2.2.2.2.2.2.2.2.2.1 k0_t6
theorem k0_off48_inb : ∀ (i : grid0.Coords) (v1 : BitVec 32) (k0_hw1 : k0_chk1 i v1) (k0_t6 : Fin (k0_t6_loop i v1).trips), ∀ a, (k0_off48 i v1 k0_t6) a + S1x1x32x512.size a ≤ S1x1x32x2048.size a := fun i v1 k0_hw1 k0_t6 => k0_hw1.2.2.2.2.2.2.2.2.2.2.2.2.2.2.2.2.2.2.2.2.2.2.2.2.2 k0_t6

def k0_cond4 (i : grid0.Coords) : BitVec 1 :=
  let arg1 : BitVec 32 := BitVec.ofNat 32 (i 1).val
  let c9_i32 : BitVec 32 := 9#32
  let v44 : BitVec 1 := Scalar.cmpi .eq arg1 c9_i32
  let v45 : BitVec 32 := Scalar.extui v44
  let c0_i32_19 : BitVec 32 := 0#32
  let v46 : BitVec 1 := Scalar.cmpi .ne v45 c0_i32_19
  v46

def k0_off49 (i : grid0.Coords) : Fin 3 → Nat :=
  let arg0 : BitVec 32 := BitVec.ofNat 32 (i 0).val
  let v60 : Index := Scalar.indexCast arg0
  let c0 : Index := 0#32
  let c0_22 : Index := 0#32
  ![v60.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (k0_off1_inb : ∀ i : grid0.Coords, ∀ a, (k0_off1 i) a + S1.size a ≤ S10.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S10) ![v0.toNat] S1.size (k0_off1_inb i)) numel1_S1
  let c1_i32 : BitVec 32 := 1#32
  let v2 : BitVec 32 := Scalar.subi v1 c1_i32
  let c0_i32 : BitVec 32 := 0#32
  let v3 : BitVec 32 := Scalar.maxsi v2 c0_i32
  let c2048_i32 : BitVec 32 := 2048#32
  let v4 : BitVec 32 := Scalar.divsi v3 c2048_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c2048_i32 c0_i32_2
  let v11 : BitVec 32 := Scalar.extui v10
  let c0_i32_3 : BitVec 32 := 0#32
  let v12 : BitVec 1 := Scalar.cmpi .slt c2048_i32 c0_i32_3
  let v13 : BitVec 32 := Scalar.extui v12
  let v14 : BitVec 32 := Scalar.subi v11 v13
  let v15 : BitVec 1 := Scalar.cmpi .ne v9 v14
  let v16 : BitVec 32 := Scalar.remsi v3 c2048_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg1 v20
  let c0_i32_6 : BitVec 32 := 0#32
  let c0_i32_7 : BitVec 32 := 0#32
  let c0_i32_8 : BitVec 32 := 0#32
  ![arg0.toNat, c0_i32_6.toNat, c0_i32_7.toNat, v21.toNat]

def cc0_transform_4 (k0_off1_inb : ∀ i : grid0.Coords, ∀ a, (k0_off1 i) a + S1.size a ≤ S10.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S10) ![v0.toNat] S1.size (k0_off1_inb i)) numel1_S1
  let c1_i32 : BitVec 32 := 1#32
  let v2 : BitVec 32 := Scalar.subi v1 c1_i32
  let c0_i32 : BitVec 32 := 0#32
  let v3 : BitVec 32 := Scalar.maxsi v2 c0_i32
  let c2048_i32 : BitVec 32 := 2048#32
  let v4 : BitVec 32 := Scalar.divsi v3 c2048_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c2048_i32 c0_i32_2
  let v11 : BitVec 32 := Scalar.extui v10
  let c0_i32_3 : BitVec 32 := 0#32
  let v12 : BitVec 1 := Scalar.cmpi .slt c2048_i32 c0_i32_3
  let v13 : BitVec 32 := Scalar.extui v12
  let v14 : BitVec 32 := Scalar.subi v11 v13
  let v15 : BitVec 1 := Scalar.cmpi .ne v9 v14
  let v16 : BitVec 32 := Scalar.remsi v3 c2048_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg1 v20
  let c0_i32_6 : BitVec 32 := 0#32
  let c0_i32_7 : BitVec 32 := 0#32
  let c0_i32_8 : BitVec 32 := 0#32
  ![arg0.toNat, c0_i32_6.toNat, c0_i32_7.toNat, v21.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S10) ![v0.toNat] S1.size (k0_off1_inb i)) numel1_S1
  let c1_i32 : BitVec 32 := 1#32
  let v2 : BitVec 32 := Scalar.subi v1 c1_i32
  let c0_i32 : BitVec 32 := 0#32
  let v3 : BitVec 32 := Scalar.maxsi v2 c0_i32
  let c2048_i32 : BitVec 32 := 2048#32
  let v4 : BitVec 32 := Scalar.divsi v3 c2048_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c2048_i32 c0_i32_2
  let v11 : BitVec 32 := Scalar.extui v10
  let c0_i32_3 : BitVec 32 := 0#32
  let v12 : BitVec 1 := Scalar.cmpi .slt c2048_i32 c0_i32_3
  let v13 : BitVec 32 := Scalar.extui v12
  let v14 : BitVec 32 := Scalar.subi v11 v13
  let v15 : BitVec 1 := Scalar.cmpi .ne v9 v14
  let v16 : BitVec 32 := Scalar.remsi v3 c2048_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg1 v20
  let c0_i32_6 : BitVec 32 := 0#32
  let c0_i32_7 : BitVec 32 := 0#32
  ![arg0.toNat, c0_i32_6.toNat, v21.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 1 → Memref sig .tc .vmem S10x32x96 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S10x8x96 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S10x8x96 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x8x48x2048 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x48x2048 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x96x320 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S48x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x48 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x32x96 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x32x96 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x32x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S10x1x32x96 : Shape := ⟨4, ![10, 1, 32, 96]⟩
abbrev S10x1x8x96 : Shape := ⟨4, ![10, 1, 8, 96]⟩
abbrev S10x8x20480x48 : Shape := ⟨4, ![10, 8, 20480, 48]⟩
abbrev S10x8x320x96 : Shape := ⟨4, ![10, 8, 320, 96]⟩
abbrev S10x8x20480 : Shape := ⟨3, ![10, 8, 20480]⟩
abbrev S10 : Shape := ⟨1, ![10]⟩
abbrev S10x1 : Shape := ⟨2, ![10, 1]⟩
abbrev S20480 : Shape := ⟨1, ![20480]⟩
abbrev S1x20480 : Shape := ⟨2, ![1, 20480]⟩
abbrev S10x20480 : Shape := ⟨2, ![10, 20480]⟩
abbrev S1 : Shape := ⟨1, ![1]⟩
abbrev S1x1 : Shape := ⟨2, ![1, 1]⟩
abbrev S48 : Shape := ⟨1, ![48]⟩
abbrev S_ : Shape := ⟨0, ![]⟩
abbrev S10x20480x1 : Shape := ⟨3, ![10, 20480, 1]⟩
abbrev S1x1x48 : Shape := ⟨3, ![1, 1, 48]⟩
abbrev S10x20480x48 : Shape := ⟨3, ![10, 20480, 48]⟩
abbrev S10x1x1 : Shape := ⟨3, ![10, 1, 1]⟩
abbrev S10x1x48 : Shape := ⟨3, ![10, 1, 48]⟩
abbrev S10x1x1x48 : Shape := ⟨4, ![10, 1, 1, 48]⟩
abbrev S10x1x32x48 : Shape := ⟨4, ![10, 1, 32, 48]⟩
abbrev S10x8x320x1x96 : Shape := ⟨5, ![10, 8, 320, 1, 96]⟩
abbrev S10x8x320x1x48 : Shape := ⟨5, ![10, 8, 320, 1, 48]⟩
abbrev S10x8x320x64x48 : Shape := ⟨5, ![10, 8, 320, 64, 48]⟩
abbrev S10x1x20480x48 : Shape := ⟨4, ![10, 1, 20480, 48]⟩
abbrev S10x8x20480x1x48 : Shape := ⟨5, ![10, 8, 20480, 1, 48]⟩
abbrev S10x8x20480x2x48 : Shape := ⟨5, ![10, 8, 20480, 2, 48]⟩
abbrev S10x1x8x4x2x48 : Shape := ⟨6, ![10, 1, 8, 4, 2, 48]⟩
abbrev S10x8x20480x1x4 : Shape := ⟨5, ![10, 8, 20480, 1, 4]⟩
abbrev S10x1x8x4x20480 : Shape := ⟨5, ![10, 1, 8, 4, 20480]⟩
abbrev S10x1x1x1x20480 : Shape := ⟨5, ![10, 1, 1, 1, 20480]⟩
abbrev S10x1x32x20480 : Shape := ⟨4, ![10, 1, 32, 20480]⟩
abbrev S10x32x96 : Shape := ⟨3, ![10, 32, 96]⟩

abbrev nBuf : Space → Nat
  | .hbm => 154
  | .vmem => 0
  | .smem => 0
  | _ => 0

abbrev hbmTy0_0 (i : Nat) : BufTy := match i % 128 with
  | 0 => ⟨S10x1x32x96, .bf16⟩
  | 1 => ⟨S10x1x8x96, .bf16⟩
  | 2 => ⟨S10x1x8x96, .bf16⟩
  | 3 => ⟨S10x8x20480x48, .i8⟩
  | 4 => ⟨S10x8x20480x48, .i8⟩
  | 5 => ⟨S10x8x320x96, .f32⟩
  | 6 => ⟨S10x8x20480, .f32⟩
  | 7 => ⟨S10, .i32⟩
  | 8 => ⟨S10, .i32⟩
  | 9 => ⟨S10x1, .i32⟩
  | 10 => ⟨S20480, .i32⟩
  | 11 => ⟨S1x20480, .i32⟩
  | 12 => ⟨S10x20480, .i32⟩
  | 13 => ⟨S10x20480, .i32⟩
  | 14 => ⟨S10x20480, .i32⟩
  | 15 => ⟨S10, .i32⟩
  | 16 => ⟨S10x1, .i32⟩
  | 17 => ⟨S1, .i32⟩
  | 18 => ⟨S1x1, .i32⟩
  | 19 => ⟨S10x1, .i32⟩
  | 20 => ⟨S10x1, .i32⟩
  | 21 => ⟨S48, .f32⟩
  | 22 => ⟨S_, .f32⟩
  | 23 => ⟨S48, .f32⟩
  | 24 => ⟨S48, .f32⟩
  | 25 => ⟨S_, .f32⟩
  | 26 => ⟨S48, .f32⟩
  | 27 => ⟨S48, .f32⟩
  | 28 => ⟨S_, .f32⟩
  | 29 => ⟨S48, .f32⟩
  | 30 => ⟨S48, .f32⟩
  | 31 => ⟨S_, .f32⟩
  | 32 => ⟨S48, .f32⟩
  | 33 => ⟨S48, .f32⟩
  | 34 => ⟨S10x20480, .f32⟩
  | 35 => ⟨S10x20480x1, .f32⟩
  | 36 => ⟨S1x1x48, .f32⟩
  | 37 => ⟨S10x20480x48, .f32⟩
  | 38 => ⟨S10x20480x48, .f32⟩
  | 39 => ⟨S10x20480x48, .f32⟩
  | 40 => ⟨S10x20480x48, .f32⟩
  | 41 => ⟨S10x20480x48, .f32⟩
  | 42 => ⟨S48, .f32⟩
  | 43 => ⟨S_, .f32⟩
  | 44 => ⟨S48, .f32⟩
  | 45 => ⟨S48, .f32⟩
  | 46 => ⟨S_, .f32⟩
  | 47 => ⟨S48, .f32⟩
  | 48 => ⟨S48, .f32⟩
  | 49 => ⟨S_, .f32⟩
  | 50 => ⟨S48, .f32⟩
  | 51 => ⟨S48, .f32⟩
  | 52 => ⟨S_, .f32⟩
  | 53 => ⟨S48, .f32⟩
  | 54 => ⟨S48, .f32⟩
  | 55 => ⟨S10x1, .f32⟩
  | 56 => ⟨S10x1x1, .f32⟩
  | 57 => ⟨S1x1x48, .f32⟩
  | 58 => ⟨S10x1x48, .f32⟩
  | 59 => ⟨S10x1x48, .f32⟩
  | 60 => ⟨S10x1x48, .f32⟩
  | 61 => ⟨S10x1x48, .f32⟩
  | 62 => ⟨S10x1x48, .f32⟩
  | 63 => ⟨S10x1x1x48, .f32⟩
  | 64 => ⟨S10x1x1x48, .f32⟩
  | 65 => ⟨S10x1x32x96, .f32⟩
  | 66 => ⟨S10x1x32x48, .f32⟩
  | 67 => ⟨S10x1x32x48, .f32⟩
  | 68 => ⟨S10x1x32x48, .f32⟩
  | 69 => ⟨S10x1x32x48, .f32⟩
  | 70 => ⟨S10x1x32x48, .f32⟩
  | 71 => ⟨S10x1x32x48, .f32⟩
  | 72 => ⟨S10x1x32x48, .f32⟩
  | 73 => ⟨S10x1x32x48, .f32⟩
  | 74 => ⟨S10x1x32x48, .f32⟩
  | 75 => ⟨S10x1x32x48, .f32⟩
  | 76 => ⟨S10x1x32x48, .f32⟩
  | 77 => ⟨S10x1x32x48, .f32⟩
  | 78 => ⟨S10x1x32x96, .f32⟩
  | 79 => ⟨S10x1x32x96, .bf16⟩
  | 80 => ⟨S10x8x20480x48, .i32⟩
  | 81 => ⟨S_, .i32⟩
  | 82 => ⟨S10x8x20480x48, .i32⟩
  | 83 => ⟨S10x8x20480x48, .i32⟩
  | 84 => ⟨S10x8x20480x48, .i32⟩
  | 85 => ⟨S_, .i32⟩
  | 86 => ⟨S10x8x20480x48, .i32⟩
  | 87 => ⟨S10x8x20480x48, .i32⟩
  | 88 => ⟨S_, .i32⟩
  | 89 => ⟨S10x8x20480x48, .i32⟩
  | 90 => ⟨S10x8x20480x48, .i1⟩
  | 91 => ⟨S_, .i32⟩
  | 92 => ⟨S10x8x20480x48, .i32⟩
  | 93 => ⟨S10x8x20480x48, .i32⟩
  | 94 => ⟨S10x8x20480x48, .i32⟩
  | 95 => ⟨S_, .i32⟩
  | 96 => ⟨S10x8x20480x48, .i32⟩
  | 97 => ⟨S10x8x20480x48, .i1⟩
  | 98 => ⟨S_, .i32⟩
  | 99 => ⟨S10x8x20480x48, .i32⟩
  | 100 => ⟨S10x8x20480x48, .i32⟩
  | 101 => ⟨S10x8x20480x48, .i32⟩
  | 102 => ⟨S10x8x320x96, .bf16⟩
  | 103 => ⟨S10x8x320x1x96, .bf16⟩
  | 104 => ⟨S10x8x320x1x48, .bf16⟩
  | 105 => ⟨S10x8x20480x48, .bf16⟩
  | 106 => ⟨S10x8x320x64x48, .bf16⟩
  | 107 => ⟨S10x8x320x64x48, .bf16⟩
  | 108 => ⟨S10x8x320x64x48, .bf16⟩
  | 109 => ⟨S10x8x20480x48, .bf16⟩
  | 110 => ⟨S10x8x20480x48, .f32⟩
  | 111 => ⟨S10x8x320x1x48, .bf16⟩
  | 112 => ⟨S10x8x20480x48, .bf16⟩
  | 113 => ⟨S10x8x320x64x48, .bf16⟩
  | 114 => ⟨S10x8x320x64x48, .bf16⟩
  | 115 => ⟨S10x8x320x64x48, .bf16⟩
  | 116 => ⟨S10x8x20480x48, .bf16⟩
  | 117 => ⟨S10x8x20480x48, .f32⟩
  | 118 => ⟨S10x1x20480x48, .f32⟩
  | 119 => ⟨S10x1x20480x48, .f32⟩
  | 120 => ⟨S10x8x20480x48, .f32⟩
  | 121 => ⟨S10x8x20480x48, .f32⟩
  | 122 => ⟨S10x8x20480x48, .f32⟩
  | 123 => ⟨S10x8x20480x48, .f32⟩
  | 124 => ⟨S10x8x20480x48, .f32⟩
  | 125 => ⟨S10x8x20480x48, .f32⟩
  | 126 => ⟨S10x8x20480x48, .f32⟩
  | 127 => ⟨S10x8x20480x48, .f32⟩
  | _ => ⟨S10x1x32x96, .bf16⟩

abbrev hbmTy0_1 (i : Nat) : BufTy := match i % 128 with
  | 0 => ⟨S10x8x20480x48, .f32⟩
  | 1 => ⟨S10x8x20480x48, .f32⟩
  | 2 => ⟨S10x8x20480x1x48, .f32⟩
  | 3 => ⟨S10x8x20480x1x48, .f32⟩
  | 4 => ⟨S10x8x20480x2x48, .f32⟩
  | 5 => ⟨S10x8x20480x2x48, .bf16⟩
  | 6 => ⟨S10x1x8x4x2x48, .bf16⟩
  | 7 => ⟨S10x8x20480x1x4, .f32⟩
  | 8 => ⟨S10x1x8x4x20480, .f32⟩
  | 9 => ⟨S_, .f32⟩
  | 10 => ⟨S10x1x8x4x20480, .f32⟩
  | 11 => ⟨S10x1x8x4x20480, .f32⟩
  | 12 => ⟨S20480, .i32⟩
  | 13 => ⟨S1x20480, .i32⟩
  | 14 => ⟨S10x1, .i32⟩
  | 15 => ⟨S10x20480, .i32⟩
  | 16 => ⟨S10x20480, .i32⟩
  | 17 => ⟨S10x20480, .i1⟩
  | 18 => ⟨S10x1x1x1x20480, .i1⟩
  | 19 => ⟨S_, .f32⟩
  | 20 => ⟨S_, .f32⟩
  | 21 => ⟨S10x1x8x4x20480, .i1⟩
  | 22 => ⟨S10x1x8x4x20480, .f32⟩
  | 23 => ⟨S10x1x8x4x20480, .f32⟩
  | 24 => ⟨S10x1x32x20480, .f32⟩
  | 25 => ⟨S10x32x96, .bf16⟩
  | _ => ⟨S10x1x32x96, .bf16⟩

abbrev hbmTy (i : Nat) : BufTy := match i / 128 with
  | 0 => hbmTy0_0 i
  | 1 => hbmTy0_1 i
  | _ => ⟨S10x1x32x96, .bf16⟩

abbrev bufTy : (tb : Table) → Fin (tcTables nBuf tb) → BufTy
  | .hbm, ⟨i, _⟩ => hbmTy i
  | _, _ => ⟨S10x1x32x96, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_c : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_c_7 : Ref sig .tc := ⟨.hbm, 85, rfl⟩
abbrev main_v67 : Ref sig .tc := ⟨.hbm, 86, rfl⟩
abbrev main_v68 : Ref sig .tc := ⟨.hbm, 87, rfl⟩
abbrev main_c_8 : Ref sig .tc := ⟨.hbm, 88, rfl⟩
abbrev main_v69 : Ref sig .tc := ⟨.hbm, 89, rfl⟩
abbrev main_v70 : Ref sig .tc := ⟨.hbm, 90, rfl⟩
abbrev main_c_9 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_c_10 : Ref sig .tc := ⟨.hbm, 95, rfl⟩
abbrev main_v74 : Ref sig .tc := ⟨.hbm, 96, rfl⟩
abbrev main_v75 : Ref sig .tc := ⟨.hbm, 97, rfl⟩
abbrev main_c_11 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_cst_12 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_cst_13 : Ref sig .tc := ⟨.hbm, 147, rfl⟩
abbrev main_call2_v0 : Ref sig .tc := ⟨.hbm, 148, rfl⟩
abbrev main_call2_v1 : Ref sig .tc := ⟨.hbm, 149, rfl⟩
abbrev main_call2_v2 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩

abbrev nD : Nat := 1
abbrev τ : Topo := Topo.v7x

variable {F : FTy → Type} [FloatOps F]
-- ==== Proof.WordLemmas.lean ====
/-
Facts about 32-bit words, free of the program: the signed floor division as `jnp` lowers it, the clip to
`0 .. 4`, and the run lengths of the counted loops whose bounds are such clips.
-/
module

public import Idealize.ShloMosaic.Lib.Affine
public import Idealize.ShloMosaic.Lib.WordArith
public import Idealize.ShloMosaic.Lib.Routing.BitFacts
public import Idealize.ShloMosaic.Lib.Scf

@[expose] public section

namespace Cert.Words

open Idealize.ShloMosaic

/-- The signed floor division of `v` by `c` as printed: the quotient, less one when the signs differ and the
remainder is not zero. -/
def fdw (v c : BitVec 32) : BitVec 32 :=
  Scalar.select (Scalar.andi
      (Scalar.cmpi .ne (Scalar.subi (Scalar.extui (Scalar.cmpi .sgt v 0#32)) (Scalar.extui (Scalar.cmpi .slt v 0#32)))
        (Scalar.subi (Scalar.extui (Scalar.cmpi .sgt c 0#32)) (Scalar.extui (Scalar.cmpi .slt c 0#32))))
      (Scalar.cmpi .ne (Scalar.remsi v c) 0#32))
    (Scalar.subi (Scalar.divsi v c) 1#32) (Scalar.divsi v c)

theorem sgn_pos {n : Nat} (h0 : 0 < n) (h : n < 2 ^ 31) :
    Scalar.subi (Scalar.extui (Scalar.cmpi .sgt (BitVec.ofNat 32 n) 0#32)) (Scalar.extui (Scalar.cmpi .slt (BitVec.ofNat 32 n) 0#32)) = 1#32 := by
  have e : (BitVec.ofNat 32 n).toInt = n := by
    rw [BitVec.toInt_eq_toNat_of_lt (by rw [BitVec.toNat_ofNat]; omega), BitVec.toNat_ofNat]; omega
  have a : Scalar.cmpi .sgt (BitVec.ofNat 32 n) 0#32 = 1#1 := by
    have : (0#32).slt (BitVec.ofNat 32 n) = true := by rw [BitVec.slt_iff_toInt_lt, e]; simpa using h0
    simp [Scalar.cmpi, IntOp.cmpi, this]
  have b : Scalar.cmpi .slt (BitVec.ofNat 32 n) 0#32 = 0#1 := by
    have : (BitVec.ofNat 32 n).slt 0#32 = false := by
      rw [← Bool.not_eq_true, BitVec.slt_iff_toInt_lt, e]; simp
    simp [Scalar.cmpi, IntOp.cmpi, this]
  rw [a, b]; decide

/-- Of a dividend without its sign bit, by a positive divisor: the quotient of the naturals. -/
theorem fdw_ofNat {n c : Nat} (hn : n < 2 ^ 31) (hc0 : 0 < c) (hc : c < 2 ^ 31) :
    fdw (BitVec.ofNat 32 n) (BitVec.ofNat 32 c) = BitVec.ofNat 32 (n / c) := by
  have hcI : 0 < (BitVec.ofNat 32 c).toInt := by
    rw [BitVec.toInt_eq_toNat_of_lt (by rw [BitVec.toNat_ofNat]; omega), BitVec.toNat_ofNat]; omega
  have hd : Scalar.divsi (BitVec.ofNat 32 n) (BitVec.ofNat 32 c) = BitVec.ofNat 32 (n / c) := by
    show IntOp.divsi _ _ _ = _
    unfold IntOp.divsi
    rw [if_neg (IntOp.not_corner_of_pos hcI)]
    exact Routing.sdiv_ofNat32 hn hc
  unfold fdw
  rw [hd, sgn_pos hc0 hc]
  rcases Nat.eq_zero_or_pos n with rfl | h0
  · have hr : Scalar.remsi (BitVec.ofNat 32 0) (BitVec.ofNat 32 c) = 0#32 := by
      show IntOp.remsi _ _ _ = _
      rw [IntOp.remsi_of_pos _ hcI, Routing.srem_ofNat32 (by omega) hc]; simp
    rw [hr]
    have z : Scalar.cmpi .ne (0#32 : BitVec 32) 0#32 = 0#1 := by decide
    rw [z]
    simp [Scalar.select, Scalar.andi, IntOp.andi]
  · rw [sgn_pos h0 hn]
    have z : Scalar.cmpi .ne (1#32 : BitVec 32) 1#32 = 0#1 := by decide
    rw [z]
    simp [Scalar.select, Scalar.andi, IntOp.andi]

/-- The clip of a word to `0 .. 4`. -/
theorem clip_cases (x : BitVec 32) : ∃ m : Fin 5, Scalar.minsi 4#32 (Scalar.maxsi 0#32 x) = BitVec.ofNat 32 m.val := by
  have h0 : (Scalar.maxsi 0#32 x).toInt = max 0 x.toInt := WordArith.toInt_maxsi_zero x
  generalize Scalar.maxsi 0#32 x = y at h0
  show ∃ m : Fin 5, IntOp.minsi 4#32 y = _
  unfold IntOp.minsi
  split
  · exact ⟨4, rfl⟩
  · next h =>
    have h4 : ¬ (4#32 : BitVec 32).toInt < y.toInt := fun h' => h (BitVec.slt_iff_toInt_lt.mpr h')
    have e4 : (4#32 : BitVec 32).toInt = 4 := by decide
    rw [e4] at h4
    have hy := BitVec.toInt_eq_toNat_cond y
    have hlt := y.isLt
    refine ⟨⟨y.toNat, by split at hy <;> omega⟩, ?_⟩
    simp

/-- The smaller of a block coordinate and a word without its sign bit stays the block coordinate's size. -/
theorem minsi_le {a : Nat} (ha : a < 2 ^ 31) (x : BitVec 32) (hx : x.toNat < 2 ^ 31) :
    (Scalar.minsi (BitVec.ofNat 32 a) x).toNat = min a x.toNat := by
  have e : (BitVec.ofNat 32 a).toNat = a := by rw [BitVec.toNat_ofNat]; omega
  have := WordArith.toNat_minsi_of_lt (BitVec.ofNat 32 a) x (by omega) hx
  rw [e] at this
  exact this

/-- The larger of a word and zero has no sign bit. -/
theorem maxsi_zero_lt (x : BitVec 32) : (Scalar.maxsi x 0#32).toNat < 2 ^ 31 := by
  show (IntOp.maxsi x 0#32).toNat < _
  unfold IntOp.maxsi
  split
  · next h =>
    have hx : ¬ x.toInt < 0 := by
      have := BitVec.slt_iff_toInt_lt.mp h
      simp at this; omega
    have := BitVec.toInt_eq_toNat_cond x
    have := x.isLt
    split at * <;> omega
  · decide

end Cert.Words
-- ==== Proof.ChecksKernel.lean ====
/-
The conditions the kernel states of the words it reads hold for every word: the number of 512-wide tiles a
sequence uses in a block is a clip to `0 .. 4`, so the loops are at most four trips long, and the block index of
the three windows that follow the length table is at most the grid coordinate.
-/
module

public import proofs.«01_k».proof.Proof.Gen.Kernel
public import proofs.«01_k».proof.Proof.WordLemmas

@[expose] public section

set_option maxRecDepth 16384

noncomputable section

namespace Cert.Kernel

open Idealize.ShloMosaic

/-- The number of 512-wide tiles of block `i 1` that a sequence of length `v1` uses. -/
def nsubW (i : grid0.Coords) (v1 : BitVec 32) : BitVec 32 :=
  Scalar.minsi 4#32 (Scalar.maxsi 0#32 (Words.fdw
    (Scalar.subi (Scalar.addi (Scalar.subi v1 (Scalar.muli (BitVec.ofNat 32 (i 1).val) 2048#32)) 512#32) 1#32) 512#32))

theorem nsubW_cases (i : grid0.Coords) (v1 : BitVec 32) : ∃ m : Fin 5, nsubW i v1 = BitVec.ofNat 32 m.val := Words.clip_cases _

/-- The score loop's bounds from the tile count: from zero. -/
def upLoop (n : BitVec 32) : Scf.Loop 32 := ⟨0#32, Scalar.addi 0#32 (Scalar.muli (Scalar.divsi (Scalar.subi n 0#32) 1#32) 1#32), 1#32⟩
/-- Its remainder. -/
def upRest (n : BitVec 32) : Scf.Loop 32 :=
  ⟨Scalar.addi 0#32 (Scalar.muli (Scalar.divsi (Scalar.subi n 0#32) 1#32) 1#32), Scalar.addi 0#32 (Scalar.subi n 0#32), 1#32⟩
/-- The zero-fill loop's bounds: from the tile count to four. -/
def fillLoop (n : BitVec 32) : Scf.Loop 32 := ⟨n, Scalar.addi n (Scalar.muli (Scalar.divsi (Scalar.subi 4#32 n) 1#32) 1#32), 1#32⟩
/-- Its remainder. -/
def fillRest (n : BitVec 32) : Scf.Loop 32 :=
  ⟨Scalar.addi n (Scalar.muli (Scalar.divsi (Scalar.subi 4#32 n) 1#32) 1#32), Scalar.addi n (Scalar.subi 4#32 n), 1#32⟩

theorem t1_loop_eq (i : grid0.Coords) (v1 : BitVec 32) : k0_t1_loop i v1 = upLoop (nsubW i v1) := rfl
theorem t2_loop_eq (i : grid0.Coords) (v1 : BitVec 32) : k0_t2_loop i v1 = upRest (nsubW i v1) := rfl
theorem t3_loop_eq (i : grid0.Coords) (v1 : BitVec 32) : k0_t3_loop i v1 = upLoop (nsubW i v1) := rfl
theorem t4_loop_eq (i : grid0.Coords) (v1 : BitVec 32) : k0_t4_loop i v1 = upRest (nsubW i v1) := rfl
theorem t5_loop_eq (i : grid0.Coords) (v1 : BitVec 32) : k0_t5_loop i v1 = fillLoop (nsubW i v1) := rfl
theorem t6_loop_eq (i : grid0.Coords) (v1 : BitVec 32) : k0_t6_loop i v1 = fillRest (nsubW i v1) := rfl

theorem upLoop_facts : ∀ m : Fin 5, (upLoop (BitVec.ofNat 32 m.val)).OK ∧ (upLoop (BitVec.ofNat 32 m.val)).trips = m.val := by decide +kernel
theorem upRest_facts : ∀ m : Fin 5, (upRest (BitVec.ofNat 32 m.val)).OK ∧ (upRest (BitVec.ofNat 32 m.val)).trips = 0 := by decide +kernel
theorem fillLoop_facts : ∀ m : Fin 5, (fillLoop (BitVec.ofNat 32 m.val)).OK ∧ (fillLoop (BitVec.ofNat 32 m.val)).trips = 4 - m.val := by decide +kernel
theorem fillRest_facts : ∀ m : Fin 5, (fillRest (BitVec.ofNat 32 m.val)).OK ∧ (fillRest (BitVec.ofNat 32 m.val)).trips = 0 := by decide +kernel

/-- The tile count as a natural number. -/
def nsub (i : grid0.Coords) (v1 : BitVec 32) : Nat := (nsubW i v1).toNat

theorem nsub_lt (i : grid0.Coords) (v1 : BitVec 32) : nsub i v1 < 5 := by
  obtain ⟨m, hm⟩ := nsubW_cases i v1
  unfold nsub; rw [hm, BitVec.toNat_ofNat]; omega

theorem nsubW_eq (i : grid0.Coords) (v1 : BitVec 32) : nsubW i v1 = BitVec.ofNat 32 (nsub i v1) := by
  unfold nsub; simp

attribute [irreducible] nsub

theorem t1_trips (i : grid0.Coords) (v1 : BitVec 32) : (k0_t1_loop i v1).trips = nsub i v1 := by
  rw [t1_loop_eq, nsubW_eq]; exact (upLoop_facts ⟨nsub i v1, nsub_lt i v1⟩).2
theorem t2_trips (i : grid0.Coords) (v1 : BitVec 32) : (k0_t2_loop i v1).trips = 0 := by
  rw [t2_loop_eq, nsubW_eq]; exact (upRest_facts ⟨nsub i v1, nsub_lt i v1⟩).2
theorem t3_trips (i : grid0.Coords) (v1 : BitVec 32) : (k0_t3_loop i v1).trips = nsub i v1 := t1_trips i v1
theorem t4_trips (i : grid0.Coords) (v1 : BitVec 32) : (k0_t4_loop i v1).trips = 0 := t2_trips i v1
theorem t5_trips (i : grid0.Coords) (v1 : BitVec 32) : (k0_t5_loop i v1).trips = 4 - nsub i v1 := by
  rw [t5_loop_eq, nsubW_eq]; exact (fillLoop_facts ⟨nsub i v1, nsub_lt i v1⟩).2
theorem t6_trips (i : grid0.Coords) (v1 : BitVec 32) : (k0_t6_loop i v1).trips = 0 := by
  rw [t6_loop_eq, nsubW_eq]; exact (fillRest_facts ⟨nsub i v1, nsub_lt i v1⟩).2

theorem t1_ok' (i : grid0.Coords) (v1 : BitVec 32) : (k0_t1_loop i v1).OK := by
  rw [t1_loop_eq, nsubW_eq]; exact (upLoop_facts ⟨nsub i v1, nsub_lt i v1⟩).1
theorem t2_ok' (i : grid0.Coords) (v1 : BitVec 32) : (k0_t2_loop i v1).OK := by
  rw [t2_loop_eq, nsubW_eq]; exact (upRest_facts ⟨nsub i v1, nsub_lt i v1⟩).1
theorem t5_ok' (i : grid0.Coords) (v1 : BitVec 32) : (k0_t5_loop i v1).OK := by
  rw [t5_loop_eq, nsubW_eq]; exact (fillLoop_facts ⟨nsub i v1, nsub_lt i v1⟩).1
theorem t6_ok' (i : grid0.Coords) (v1 : BitVec 32) : (k0_t6_loop i v1).OK := by
  rw [t6_loop_eq, nsubW_eq]; exact (fillRest_facts ⟨nsub i v1, nsub_lt i v1⟩).1

theorem no_t2 {i : grid0.Coords} {v1 : BitVec 32} (k : Fin (k0_t2_loop i v1).trips) : False := by
  exact absurd (lt_of_lt_of_eq k.isLt (t2_trips i v1)) (Nat.not_lt_zero _)
theorem no_t4 {i : grid0.Coords} {v1 : BitVec 32} (k : Fin (k0_t4_loop i v1).trips) : False := no_t2 k
theorem no_t6 {i : grid0.Coords} {v1 : BitVec 32} (k : Fin (k0_t6_loop i v1).trips) : False := by
  exact absurd (lt_of_lt_of_eq k.isLt (t6_trips i v1)) (Nat.not_lt_zero _)

theorem off47_eq (i : grid0.Coords) (v1 : BitVec 32) (k : Fin (k0_t5_loop i v1).trips) :
    k0_off47 i v1 k = ![0, 0, 0, (Scalar.indexCast (Scalar.muli (Scf.iv (nsubW i v1) 1#32 k.val) 512#32)).toNat] := rfl
theorem mult37_eq (i : grid0.Coords) (v1 : BitVec 32) (k : Fin (k0_t5_loop i v1).trips) :
    k0_mult37 i v1 k = Scalar.muli (Scf.iv (nsubW i v1) 1#32 k.val) 512#32 := rfl

theorem fill_iv : ∀ (m : Fin 5) (k : Fin 4), m.val + k.val < 4 →
    (Scalar.muli (Scf.iv (BitVec.ofNat 32 m.val) 1#32 k.val) 512#32).toNat = 512 * (m.val + k.val) := by decide +kernel

theorem mult37_val (i : grid0.Coords) (v1 : BitVec 32) (k : Fin (k0_t5_loop i v1).trips) :
    (k0_mult37 i v1 k).toNat = 512 * (nsub i v1 + k.val) ∧ nsub i v1 + k.val < 4 := by
  have hk : k.val < 4 - nsub i v1 := lt_of_lt_of_eq k.isLt (t5_trips i v1)
  have hn := nsub_lt i v1
  rw [mult37_eq, nsubW_eq]
  generalize k.val = kk at hk
  generalize nsub i v1 = n at hk hn
  exact ⟨fill_iv ⟨n, hn⟩ ⟨kk, by omega⟩ (by simp; omega), by omega⟩

theorem off47_val (i : grid0.Coords) (v1 : BitVec 32) (k : Fin (k0_t5_loop i v1).trips) :
    k0_off47 i v1 k = ![0, 0, 0, 512 * (nsub i v1 + k.val)] := by
  rw [← (mult37_val i v1 k).1]; rfl

/-- The 128-wide tile number `16 a + 4 k + r`, as printed. -/
def gW (a k : Nat) (r : BitVec 32) : BitVec 32 :=
  Scalar.addi (Scalar.addi (Scalar.muli (BitVec.ofNat 32 a) 16#32) (Scalar.muli (Scf.iv 0#32 1#32 k) 4#32)) r

/-- The induction variable of a score or value loop scaled to a column. -/
def colW (k : Nat) : BitVec 32 := Scalar.muli (Scf.iv 0#32 1#32 k) 512#32

theorem colW_dvd : ∀ k : Fin 4, 512 ∣ (colW k.val).toNat := by decide +kernel
theorem colW_val : ∀ k : Fin 4, (colW k.val).toNat = 512 * k.val := by decide +kernel
theorem colW_add_dvd : ∀ k r : Fin 4, 128 ∣ (Scalar.addi (colW k.val) (BitVec.ofNat 32 (128 * r.val))).toNat := by decide +kernel
theorem colW_add_val : ∀ k r : Fin 4, (Scalar.addi (colW k.val) (BitVec.ofNat 32 (128 * r.val))).toNat = 512 * k.val + 128 * r.val := by decide +kernel
theorem g128_val : ∀ (a : Fin 10) (k r : Fin 4),
    (Scalar.muli (Words.fdw (gW a.val k.val (BitVec.ofNat 32 r.val)) 128#32) 128#32).toNat = (16 * a.val + 4 * k.val + r.val) / 128 * 128 := by decide +kernel
theorem g64_val : ∀ (a : Fin 10) (k r : Fin 4),
    (Scalar.muli (Words.fdw (gW a.val k.val (BitVec.ofNat 32 r.val)) 64#32) 128#32).toNat = (16 * a.val + 4 * k.val + r.val) / 64 * 128 := by decide +kernel
theorem g128_dvd (a : Fin 10) (k r : Fin 4) : 128 ∣ (Scalar.muli (Words.fdw (gW a.val k.val (BitVec.ofNat 32 r.val)) 128#32) 128#32).toNat := by
  rw [g128_val]; exact Nat.dvd_mul_left _ _
theorem g64_dvd (a : Fin 10) (k r : Fin 4) : 128 ∣ (Scalar.muli (Words.fdw (gW a.val k.val (BitVec.ofNat 32 r.val)) 64#32) 128#32).toNat := by
  rw [g64_val]; exact Nat.dvd_mul_left _ _

/-- A trip of a score or value loop as one of four. -/
abbrev tk {i : grid0.Coords} {v1 : BitVec 32} (k : Fin (k0_t1_loop i v1).trips) : Fin 4 :=
  ⟨k.val, Nat.lt_of_lt_of_le (lt_of_lt_of_eq k.isLt (t1_trips i v1)) (Nat.le_of_lt_succ (nsub_lt i v1))⟩

theorem in3 {a b c : Nat} {s t : Fin 3 → Nat} (h0 : a + s 0 ≤ t 0) (h1 : b + s 1 ≤ t 1) (h2 : c + s 2 ≤ t 2) :
    ∀ x, (![a, b, c] : Fin 3 → Nat) x + s x ≤ t x := fun x => match x with
  | ⟨0, _⟩ => h0 | ⟨1, _⟩ => h1 | ⟨2, _⟩ => h2
theorem in4 {a b c d : Nat} {s t : Fin 4 → Nat} (h0 : a + s 0 ≤ t 0) (h1 : b + s 1 ≤ t 1) (h2 : c + s 2 ≤ t 2) (h3 : d + s 3 ≤ t 3) :
    ∀ x, (![a, b, c, d] : Fin 4 → Nat) x + s x ≤ t x := fun x => match x with
  | ⟨0, _⟩ => h0 | ⟨1, _⟩ => h1 | ⟨2, _⟩ => h2 | ⟨3, _⟩ => h3

theorem o5_in (b : Nat) (hb : b + 1 ≤ 2) (a : Fin 10) (k r : Fin 4) : ∀ x, (![b, 0,
    (Scalar.indexCast (Scalar.muli (Words.fdw (gW a.val k.val (BitVec.ofNat 32 r.val)) 128#32) 128#32)).toNat] : Fin 3 → Nat) x + S1x48x128.size x ≤ S2x48x256.size x := by
  have h := g128_val a k r
  refine in3 hb (by decide) ?_
  show (Scalar.muli (Words.fdw (gW a.val k.val (BitVec.ofNat 32 r.val)) 128#32) 128#32).toNat + 128 ≤ 256
  rw [h]; omega
theorem o7_in (a : Fin 10) (k r : Fin 4) : ∀ x, (![0, 0,
    (Scalar.indexCast (Scalar.muli (Words.fdw (gW a.val k.val (BitVec.ofNat 32 r.val)) 64#32) 128#32)).toNat] : Fin 3 → Nat) x + S8x96x128.size x ≤ S8x96x384.size x := by
  have h := g64_val a k r
  refine in3 (by decide) (by decide) ?_
  show (Scalar.muli (Words.fdw (gW a.val k.val (BitVec.ofNat 32 r.val)) 64#32) 128#32).toNat + 128 ≤ 384
  rw [h]; omega
theorem o8_in (k r : Fin 4) : ∀ x, (![0, 0, 0,
    (Scalar.indexCast (Scalar.addi (colW k.val) (BitVec.ofNat 32 (128 * r.val)))).toNat] : Fin 4 → Nat) x + S1x8x48x128.size x ≤ S1x8x48x2048.size x := by
  have h := colW_add_val k r
  refine in4 (by decide) (by decide) (by decide) ?_
  show (Scalar.addi (colW k.val) (BitVec.ofNat 32 (128 * r.val))).toNat + 128 ≤ 2048
  rw [h]; omega
theorem o9_in (b : Nat) (hb : b + 8 ≤ 32) (k : Fin 4) : ∀ x, (![0, 0, b, (Scalar.indexCast (colW k.val)).toNat] : Fin 4 → Nat) x + S1x1x8x512.size x ≤ S1x1x32x2048.size x := by
  have h := colW_val k
  refine in4 (by decide) (by decide) hb ?_
  show (colW k.val).toNat + 512 ≤ 2048
  rw [h]; omega
theorem o23_in (b : Nat) (hb : b + 1 ≤ 8) (k : Fin 4) : ∀ x, (![0, b, (Scalar.indexCast (colW k.val)).toNat] : Fin 3 → Nat) x + S1x1x512.size x ≤ S1x8x2048.size x := by
  have h := colW_val k
  refine in3 (by decide) hb ?_
  show (colW k.val).toNat + 512 ≤ 2048
  rw [h]; omega

theorem chk1_0_all (i : grid0.Coords) (v1 : BitVec 32) : k0_chk1_0 i v1 :=
  ⟨fun _ => t1_ok' i v1, fun k _ => colW_dvd (tk k), fun k _ => colW_add_dvd (tk k) 0, fun k _ => g128_dvd (i 1) (tk k) 0, fun k _ => g64_dvd (i 1) (tk k) 0,
   fun k _ r => o5_in 0 (by decide) (i 1) (tk k) r, fun k _ r => o5_in 1 (by decide) (i 1) (tk k) r, fun k _ r => o7_in (i 1) (tk k) r, fun k _ r => o8_in (tk k) r,
   fun k _ => colW_add_dvd (tk k) 1, fun k _ => g128_dvd (i 1) (tk k) 1, fun k _ => g64_dvd (i 1) (tk k) 1,
   fun k _ => colW_add_dvd (tk k) 2, fun k _ => g128_dvd (i 1) (tk k) 2, fun k _ => g64_dvd (i 1) (tk k) 2,
   fun k _ => colW_add_dvd (tk k) 3, fun k _ => g128_dvd (i 1) (tk k) 3, fun k _ => g64_dvd (i 1) (tk k) 3,
   fun k _ => o9_in 0 (by decide) (tk k), fun k _ => o9_in 8 (by decide) (tk k), fun k _ => o9_in 16 (by decide) (tk k), fun k _ => o9_in 24 (by decide) (tk k),
   fun _ => t2_ok' i v1,
   fun k _ => (no_t2 k).elim, fun k _ => (no_t2 k).elim, fun k _ => (no_t2 k).elim, fun k _ => (no_t2 k).elim, fun k _ => (no_t2 k).elim,
   fun k _ => (no_t2 k).elim, fun k _ => (no_t2 k).elim, fun k _ => (no_t2 k).elim, fun k _ => (no_t2 k).elim⟩

theorem chk1_1_all (i : grid0.Coords) (v1 : BitVec 32) : k0_chk1_1 i v1 :=
  ⟨fun k _ => (no_t2 k).elim, fun k _ => (no_t2 k).elim, fun k _ => (no_t2 k).elim, fun k _ => (no_t2 k).elim, fun k _ => (no_t2 k).elim, fun k _ => (no_t2 k).elim,
   fun k _ => (no_t2 k).elim, fun k _ => (no_t2 k).elim, fun k _ => (no_t2 k).elim, fun k _ => (no_t2 k).elim, fun k _ => (no_t2 k).elim, fun k _ => (no_t2 k).elim,
   fun _ => t1_ok' i v1, fun k _ => colW_dvd (tk k), fun k _ => colW_add_dvd (tk k) 0, fun k _ r => o8_in (tk k) r,
   fun k _ => colW_add_dvd (tk k) 1, fun k _ => colW_add_dvd (tk k) 2, fun k _ => colW_add_dvd (tk k) 3,
   fun k _ => o9_in 0 (by decide) (tk k), fun k _ => o23_in 0 (by decide) (tk k), fun k _ => o23_in 1 (by decide) (tk k),
   fun k _ => o9_in 8 (by decide) (tk k), fun k _ => o23_in 2 (by decide) (tk k), fun k _ => o23_in 3 (by decide) (tk k),
   fun k _ => o9_in 16 (by decide) (tk k), fun k _ => o23_in 4 (by decide) (tk k), fun k _ => o23_in 5 (by decide) (tk k),
   fun k _ => o9_in 24 (by decide) (tk k), fun k _ => o23_in 6 (by decide) (tk k), fun k _ => o23_in 7 (by decide) (tk k),
   fun _ => t2_ok' i v1⟩

theorem o47_in (i : grid0.Coords) (v1 : BitVec 32) (k : Fin (k0_t5_loop i v1).trips) :
    ∀ a, (k0_off47 i v1 k) a + S1x1x32x512.size a ≤ S1x1x32x2048.size a := by
  rw [off47_val]
  have h := (mult37_val i v1 k).2
  generalize nsub i v1 + k.val = n at h
  refine in4 (by decide) (by decide) (by decide) ?_
  show 512 * n + 512 ≤ 2048
  omega

theorem chk1_2_all (i : grid0.Coords) (v1 : BitVec 32) : k0_chk1_2 i v1 :=
  ⟨fun k _ => (no_t4 k).elim, fun k _ => (no_t4 k).elim, fun k _ => (no_t4 k).elim, fun k _ => (no_t4 k).elim, fun k _ => (no_t4 k).elim, fun k _ => (no_t4 k).elim,
   fun k _ => (no_t4 k).elim, fun k _ => (no_t4 k).elim, fun k _ => (no_t4 k).elim, fun k _ => (no_t4 k).elim, fun k _ => (no_t4 k).elim, fun k _ => (no_t4 k).elim,
   fun k _ => (no_t4 k).elim, fun k _ => (no_t4 k).elim, fun k _ => (no_t4 k).elim, fun k _ => (no_t4 k).elim, fun k _ => (no_t4 k).elim, fun k _ => (no_t4 k).elim,
   t5_ok' i v1, fun k => ⟨nsub i v1 + k.val, (mult37_val i v1 k).1⟩, o47_in i v1, t6_ok' i v1, fun k => (no_t6 k).elim, fun k => (no_t6 k).elim⟩

/-- The kernel's condition on a length word holds for every word. -/
theorem chk1_all (i : grid0.Coords) (v1 : BitVec 32) : k0_chk1 i v1 := ⟨chk1_0_all i v1, chk1_1_all i v1, chk1_2_all i v1⟩

/-- The block index of the windows that follow the length table, of a length word. -/
def blkW (i : grid0.Coords) (v1 : BitVec 32) : BitVec 32 :=
  Scalar.minsi (BitVec.ofNat 32 (i 1).val) (Words.fdw (Scalar.maxsi (Scalar.subi v1 1#32) 0#32) 2048#32)

theorem blkW_val (i : grid0.Coords) (v1 : BitVec 32) :
    (blkW i v1).toNat = min (i 1).val ((Scalar.maxsi (Scalar.subi v1 1#32) 0#32).toNat / 2048) := by
  have hlt := Words.maxsi_zero_lt (Scalar.subi v1 1#32)
  have e : Words.fdw (Scalar.maxsi (Scalar.subi v1 1#32) 0#32) 2048#32 = BitVec.ofNat 32 ((Scalar.maxsi (Scalar.subi v1 1#32) 0#32).toNat / 2048) := by
    have := Words.fdw_ofNat (n := (Scalar.maxsi (Scalar.subi v1 1#32) 0#32).toNat) (c := 2048) hlt (by decide) (by decide)
    rw [BitVec.ofNat_toNat, BitVec.setWidth_eq] at this
    exact this
  unfold blkW
  rw [e]
  have h1 : (i 1).val < 10 := (i 1).isLt
  have h2 : (BitVec.ofNat 32 ((Scalar.maxsi (Scalar.subi v1 1#32) 0#32).toNat / 2048)).toNat
      = (Scalar.maxsi (Scalar.subi v1 1#32) 0#32).toNat / 2048 := by rw [BitVec.toNat_ofNat]; omega
  rw [Words.minsi_le (by omega) _ (by rw [h2]; omega), h2]

theorem blkW_lt (i : grid0.Coords) (v1 : BitVec 32) : (blkW i v1).toNat < 10 := by
  rw [blkW_val]; have h1 : (i 1).val < 10 := (i 1).isLt; omega

variable {F : FTy → Type} [FloatOps F]

/-- The length word the index maps read. -/
abbrev lenW (pf : pre0.Contents (Elt F)) (i : grid0.Coords) : BitVec 32 :=
  pf.at 0 (Rect.unit (s := S10) ![(Scalar.indexCast (BitVec.ofNat 32 (i 0).val)).toNat] S1.size (Gen.k0_off1_inb i)) Gen.numel1_S1

theorem transform_3_eq (pf : pre0.Contents (Elt F)) (i : grid0.Coords) :
    cc0_transform_3 Gen.k0_off1_inb Gen.numel1_S1 pf i = ![(BitVec.ofNat 32 (i 0).val).toNat, 0, 0, (blkW i (lenW pf i)).toNat] := rfl
theorem transform_4_eq (pf : pre0.Contents (Elt F)) (i : grid0.Coords) :
    cc0_transform_4 Gen.k0_off1_inb Gen.numel1_S1 pf i = ![(BitVec.ofNat 32 (i 0).val).toNat, 0, 0, (blkW i (lenW pf i)).toNat] := rfl
theorem transform_6_eq (pf : pre0.Contents (Elt F)) (i : grid0.Coords) :
    cc0_transform_6 Gen.k0_off1_inb Gen.numel1_S1 pf i = ![(BitVec.ofNat 32 (i 0).val).toNat, 0, (blkW i (lenW pf i)).toNat] := rfl

theorem coord0 (i : grid0.Coords) : (BitVec.ofNat 32 (i 0).val).toNat < 10 := by
  have h : (i 0).val < 10 := (i 0).isLt
  rw [BitVec.toNat_ofNat]; omega

/-- The region's condition on the tables holds for every contents. -/
theorem ok_all (pf : pre0.Contents (Elt F)) : ok0 pf := by
  refine ⟨fun i => ?_, fun i => ?_, fun i => ?_⟩
  · rw [transform_3_eq]
    have h0 := coord0 i
    have h1 := blkW_lt i (lenW pf i)
    refine ⟨fun a => ?_, .inr (Affine.block_words_dvd (of_decide_eq_true rfl) (by decide))⟩
    revert a
    refine Fin.forall_fin_succ.mpr ⟨?_, Fin.forall_fin_succ.mpr ⟨?_, Fin.forall_fin_succ.mpr ⟨?_, Fin.forall_fin_succ.mpr ⟨?_, fun a => a.elim0⟩⟩⟩⟩
    · show ((BitVec.ofNat 32 (i 0).val).toNat + 1) * 1 ≤ 10; omega
    · show (0 + 1) * 8 ≤ 8; decide
    · show (0 + 1) * 48 ≤ 48; decide
    · show ((blkW i (lenW pf i)).toNat + 1) * 2048 ≤ 20480; omega
  · rw [transform_4_eq]
    have h0 := coord0 i
    have h1 := blkW_lt i (lenW pf i)
    refine ⟨fun a => ?_, .inr (Affine.block_words_dvd (of_decide_eq_true rfl) (by decide))⟩
    revert a
    refine Fin.forall_fin_succ.mpr ⟨?_, Fin.forall_fin_succ.mpr ⟨?_, Fin.forall_fin_succ.mpr ⟨?_, Fin.forall_fin_succ.mpr ⟨?_, fun a => a.elim0⟩⟩⟩⟩
    · show ((BitVec.ofNat 32 (i 0).val).toNat + 1) * 1 ≤ 10; omega
    · show (0 + 1) * 8 ≤ 8; decide
    · show (0 + 1) * 48 ≤ 48; decide
    · show ((blkW i (lenW pf i)).toNat + 1) * 2048 ≤ 20480; omega
  · rw [transform_6_eq]
    have h0 := coord0 i
    have h1 := blkW_lt i (lenW pf i)
    refine ⟨fun a => ?_, .inl rfl⟩
    revert a
    refine Fin.forall_fin_succ.mpr ⟨?_, Fin.forall_fin_succ.mpr ⟨?_, Fin.forall_fin_succ.mpr ⟨?_, fun a => a.elim0⟩⟩⟩
    · show ((BitVec.ofNat 32 (i 0).val).toNat + 1) * 1 ≤ 10; omega
    · show (0 + 1) * 8 ≤ 8; decide
    · show ((blkW i (lenW pf i)).toNat + 1) * 2048 ≤ 20480; omega

end Cert.Kernel
-- ==== Proof.RunKernel.lean ====
/-
The body of the kernel as a run over whole memrefs.
-/
module

public import proofs.«01_k».proof.Proof.Gen.Kernel.Loops
public import proofs.«01_k».proof.Proof.Gen.Kernel.Launch
public import proofs.«01_k».proof.Proof.ChecksKernel
public import Idealize.ShloMosaic.Lib.Pipeline.Kit
public import Idealize.ShloMosaic.Lib.Pipeline.FrameBody
public import Idealize.ShloMosaic.Lib.Tactic
public import Idealize.ShloMosaic.Lib.WordCmp

@[expose] public section

set_option maxRecDepth 16384

noncomputable section

namespace Cert.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F]

local notation "𝕄" => MT nD τ sig Unit (Elt F) ℕ (UR sig nD τ) ℕ

/-- Each table as the body is handed it: its whole buffer as a memref, and that memref's wholeness. -/
abbrev tbM0_0 : Memref sig .tc .smem S10 .i32 := Memref.whole main_arg7
abbrev htbM0_0 : tbM0_0.IsWhole := Memref.isWhole_whole _
abbrev tbM0_1 : Memref sig .tc .smem S10 .i32 := Memref.whole main_arg8
abbrev htbM0_1 : tbM0_1.IsWhole := Memref.isWhole_whole _

/-- A table memref's buffer on core `c`: its contents type, and it held at half the full share, read-only. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

set_option maxHeartbeats 4000000 in
/-- The body's triple: on whole memrefs, the inputs' at their contents, everything else at anything, the body runs to
the continuation holding the inputs' as they were and the rest at contents nothing names. -/
theorem kernelRun0 (c : Dev nD) (i : grid0.Coords) (arg4 : Memref sig .tc .vmem S10x32x96 .bf16) (harg4 : arg4.IsWhole) (arg5 : Memref sig .tc .vmem S10x8x96 .bf16) (harg5 : arg5.IsWhole) (arg6 : Memref sig .tc .vmem S10x8x96 .bf16) (harg6 : arg6.IsWhole) (arg7 : Memref sig .tc .vmem S1x8x48x2048 .i8) (harg7 : arg7.IsWhole) (arg8 : Memref sig .tc .vmem S1x8x48x2048 .i8) (harg8 : arg8.IsWhole) (arg9 : Memref sig .tc .vmem S1x8x96x320 .f32) (harg9 : arg9.IsWhole) (arg10 : Memref sig .tc .vmem S1x8x2048 .f32) (harg10 : arg10.IsWhole) (arg11 : Memref sig .tc .vmem S48x1 .f32) (harg11 : arg11.IsWhole) (arg12 : Memref sig .tc .vmem S1x48 .f32) (harg12 : arg12.IsWhole) (arg13 : Memref sig .tc .vmem S1x32x96 .bf16) (harg13 : arg13.IsWhole) (arg14 : Memref sig .tc .vmem S1x32x96 .bf16) (harg14 : arg14.IsWhole) (arg15 : Memref sig .tc .vmem S1x1x32x2048 .f32) (harg15 : arg15.IsWhole) (arg16 : Memref sig .tc .vmem S2x48x128 .f32) (harg16 : arg16.IsWhole) (arg17 : Memref sig .tc .vmem S2x48x256 .f32) (harg17 : arg17.IsWhole) (arg18 : Memref sig .tc .vmem S2x48x128 .f32) (harg18 : arg18.IsWhole) (arg19 : Memref sig .tc .vmem S2x48x256 .f32) (harg19 : arg19.IsWhole) (arg20 : Memref sig .tc .vmem S2x48x128 .f32) (harg20 : arg20.IsWhole) (arg21 : Memref sig .tc .vmem S8x96x384 .f32) (harg21 : arg21.IsWhole) (arg22 : Memref sig .tc .vmem S4x8x192 .bf16) (harg22 : arg22.IsWhole) (arg23 : Memref sig .tc .vmem S8x8x128 .f32) (harg23 : arg23.IsWhole) (arg24 : Memref sig .tc .vmem S4x8x128 .f32) (harg24 : arg24.IsWhole) (arg25 : Memref sig .tc .vmem S4x8x192 .f32) (harg25 : arg25.IsWhole)
    (x4 : Vec F S10x32x96 .bf16) (x5 : Vec F S10x8x96 .bf16) (x6 : Vec F S10x8x96 .bf16) (x7 : Vec F S1x8x48x2048 .i8) (x8 : Vec F S1x8x48x2048 .i8) (x9 : Vec F S1x8x96x320 .f32) (x10 : Vec F S1x8x2048 .f32) (x11 : Vec F S48x1 .f32) (x12 : Vec F S1x48 .f32) (t2 : TbBuf0 (F := F) c tbM0_0) (t3 : TbBuf0 (F := F) c tbM0_1) :
      ∀ (E : Set ℕ) (K : PUnit → sProp 𝕄),
        iprop(tbPt0 c tbM0_0 t2 ∗ tbPt0 c tbM0_1 t3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
            ∗ (iprop(tbPt0 c tbM0_0 t2 ∗ tbPt0 c tbM0_1 t3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)) -∗ K ⟨⟩))
          ⊢ wp frame (wpE (defs₀ (F := F)) Variants.none c none) E (cc0__attend i tbM0_0 htbM0_0 tbM0_1 htbM0_1 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
    intro E K
    rw [cc0__attend_eq_skeleton]; unfold cc0__attend_skel
    unfold owns
    iintro ⟨HT2, HT3, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, Hk⟩
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    have hchk := chk1_all
    sl_exec
    by_cases hc3 : k0_cond3 i (kernelRun0.sl.r c i t2) = 1#1
    all_goals
      sl_exec
      sl_step
      iapply Hk
      isplitl [HT2]; · iexact HT2
      isplitl [HT3]; · iexact HT3
      isplitl [H4]; · (iexists _; isplitr; (ipureintro; exact harg4.read_unread _); iexact H4)
      isplitl [H5]; · (iexists _; isplitr; (ipureintro; exact harg5.read_unread _); iexact H5)
      isplitl [H6]; · (iexists _; isplitr; (ipureintro; exact harg6.read_unread _); iexact H6)
      isplitl [H7]; · (iexists _; isplitr; (ipureintro; exact harg7.read_unread _); iexact H7)
      isplitl [H8]; · (iexists _; isplitr; (ipureintro; exact harg8.read_unread _); iexact H8)
      isplitl [H9]; · (iexists _; isplitr; (ipureintro; exact harg9.read_unread _); iexact H9)
      isplitl [H10]; · (iexists _; isplitr; (ipureintro; exact harg10.read_unread _); iexact H10)
      isplitl [H11]; · (iexists _; isplitr; (ipureintro; exact harg11.read_unread _); iexact H11)
      isplitl [H12]; · (iexists _; isplitr; (ipureintro; exact harg12.read_unread _); iexact H12)
      isplitl [H13]; · (iexists _, _; isplitr; swap; iexact H13; ipureintro; rfl)
      isplitl [H14]; · (iexists _, _; isplitr; swap; iexact H14; ipureintro; rfl)
      isplitl [H15]; · (iexists _, _; isplitr; swap; iexact H15; ipureintro; rfl)
      isplitl [H16]; · (iexists _, _; isplitr; swap; iexact H16; ipureintro; rfl)
      isplitl [H17]; · (iexists _, _; isplitr; swap; iexact H17; ipureintro; rfl)
      isplitl [H18]; · (iexists _, _; isplitr; swap; iexact H18; ipureintro; rfl)
      isplitl [H19]; · (iexists _, _; isplitr; swap; iexact H19; ipureintro; rfl)
      isplitl [H20]; · (iexists _, _; isplitr; swap; iexact H20; ipureintro; rfl)
      isplitl [H21]; · (iexists _, _; isplitr; swap; iexact H21; ipureintro; rfl)
      isplitl [H22]; · (iexists _, _; isplitr; swap; iexact H22; ipureintro; rfl)
      isplitl [H23]; · (iexists _, _; isplitr; swap; iexact H23; ipureintro; rfl)
      isplitl [H24]; · (iexists _, _; isplitr; swap; iexact H24; ipureintro; rfl)
      (iexists _, _; isplitr; swap; iexact H25; ipureintro; rfl)

end Cert.Kernel
-- ==== Proof.LaunchKernel.lean ====
/-
The launch of the kernel: the host operations before the call, the windows, the body at every point of the grid, and
the frame: the program ends, its arguments as they were, every semaphore counter at zero.
-/
module

public import proofs.«01_k».proof.Proof.Gen.Kernel.Loops
public import proofs.«01_k».proof.Proof.Gen.Kernel.Launch
public import proofs.«01_k».proof.Proof.ChecksKernel
public import proofs.«01_k».proof.Proof.RunKernel
public import Idealize.ShloMosaic.Lib.Claim
public import Idealize.ShloMosaic.Lib.Pipeline.Kit
public import Idealize.ShloMosaic.Lib.Pipeline.FrameBody
public import Idealize.ShloMosaic.Lib.Tactic
public import Idealize.ShloMosaic.Lib.WordCmp

@[expose] public section

set_option maxRecDepth 16384

noncomputable section

namespace Cert.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the call -/

/-- A core's buffers when the call is entered: after the host operations. -/
abbrev V (c : Dev nD) (b : Ref sig .tc) : Buf (Elt F) ((c : Thread nD τ).loc b) := StableHlo.after (hostOps0 (F := F)) (fun b => m (c, b)) b

theorem hostOps0_fresh : (hostOps0 (F := F) : List (HloOp τ sig (Elt F))).Forall fun op => op.fresh = ∅ := by
  simp only [List.Forall]; repeat' constructor

/-- What each host operation writes, in order. -/
abbrev hostOps0_W : List (Ref sig .tc) := [main_v0, main_cst, main_v1, main_v2, main_cst_0, main_v3, main_v4, main_cst_1, main_v5, main_v6, main_cst_2, main_v7, main_v8, main_v9, main_v10, main_v11, main_v12, main_v13, main_v14, main_v15, main_v16]
theorem hostOps0_writes : ((hostOps0 (F := F)) : List (HloOp τ sig (Elt F))).Forall fun op => op.writes ⊆ (hostOps0_W.map (Proc.devRef (τ := τ) .tc)).toFinset :=
  StableHlo.forall_writes_sub_of_map rfl

set_option maxHeartbeats 800000 in
/-- The program up to the call: the host operations, then the call, its buffers at `V`. -/
theorem hmain : Pipeline.HMainP (Ix := Unit) (Name := ℕ) (U := UR sig nD τ) (Lvl := ℕ) (pcfgs (F := F)) 0 defs₀ Variants.none m (main (F := F)) (V m) :=
  Pipeline.hmainP_prefix (pcfgs (F := F)) 0 defs₀ Variants.none m main (hostOps0 (F := F)) hostOps0_sub hostOps0_fresh main_chain

theorem V_main_arg0 (c : Dev nD) : V m c main_arg0 = m ((c : Thread nD τ).loc main_arg0) :=
  StableHlo.after_of_writes_sub (hostOps0 (F := F)) _ hostOps0_writes (by decide)
theorem V_main_arg1 (c : Dev nD) : V m c main_arg1 = m ((c : Thread nD τ).loc main_arg1) :=
  StableHlo.after_of_writes_sub (hostOps0 (F := F)) _ hostOps0_writes (by decide)
theorem V_main_arg2 (c : Dev nD) : V m c main_arg2 = m ((c : Thread nD τ).loc main_arg2) :=
  StableHlo.after_of_writes_sub (hostOps0 (F := F)) _ hostOps0_writes (by decide)
theorem V_main_arg3 (c : Dev nD) : V m c main_arg3 = m ((c : Thread nD τ).loc main_arg3) :=
  StableHlo.after_of_writes_sub (hostOps0 (F := F)) _ hostOps0_writes (by decide)
theorem V_main_arg4 (c : Dev nD) : V m c main_arg4 = m ((c : Thread nD τ).loc main_arg4) :=
  StableHlo.after_of_writes_sub (hostOps0 (F := F)) _ hostOps0_writes (by decide)
theorem V_main_arg5 (c : Dev nD) : V m c main_arg5 = m ((c : Thread nD τ).loc main_arg5) :=
  StableHlo.after_of_writes_sub (hostOps0 (F := F)) _ hostOps0_writes (by decide)
theorem V_main_arg6 (c : Dev nD) : V m c main_arg6 = m ((c : Thread nD τ).loc main_arg6) :=
  StableHlo.after_of_writes_sub (hostOps0 (F := F)) _ hostOps0_writes (by decide)
theorem V_main_arg7 (c : Dev nD) : V m c main_arg7 = m ((c : Thread nD τ).loc main_arg7) :=
  StableHlo.after_of_writes_sub (hostOps0 (F := F)) _ hostOps0_writes (by decide)
theorem V_main_arg8 (c : Dev nD) : V m c main_arg8 = m ((c : Thread nD τ).loc main_arg8) :=
  StableHlo.after_of_writes_sub (hostOps0 (F := F)) _ hostOps0_writes (by decide)

/-! ## The tables -/

/-- The tables' contents when the call is entered. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- The tables' contents as admissible contents: every block the tables name is inside its array (`ok_all`). -/
abbrev adm : (pcfg0 (F := F)).Adm := ⟨tbl m, ok_all _⟩
abbrev cfgM : Pipeline.Cfg sig Λ₀ := cfg0 (adm m)

theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = {(0 : Fin 2), (1 : Fin 2)} from by decide, bigSep_insert (by decide), bigSep_singleton]
  rfl

/-! ## The windows' blocks -/

/-- Window `w`'s block at point `t`, read off its array as the call finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

theorem before0_0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ (cfgM m) c) (hA : dat.A 4 = V m c (Pipeline.arrRef spec0 4))
    (hafter : ∀ t, dat.after 4 t = iblk m c 4 t) (t : Fin (cfgM m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ (cfgM m) c) (hA : dat.A 5 = V m c (Pipeline.arrRef spec0 5))
    (hafter : ∀ t, dat.after 5 t = iblk m c 5 t) (t : Fin (cfgM m).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ (cfgM m) c) (hA : dat.A 6 = V m c (Pipeline.arrRef spec0 6))
    (hafter : ∀ t, dat.after 6 t = iblk m c 6 t) (t : Fin (cfgM m).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ (cfgM m) c) (hA : dat.A 7 = V m c (Pipeline.arrRef spec0 7))
    (hafter : ∀ t, dat.after 7 t = iblk m c 7 t) (t : Fin (cfgM m).N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ (cfgM m) c) (hA : dat.A 8 = V m c (Pipeline.arrRef spec0 8))
    (hafter : ∀ t, dat.after 8 t = iblk m c 8 t) (t : Fin (cfgM m).N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame's post from the run's -/

theorem frame_of (rdat : (c : Dev nD) → Pipeline.RDat τ (Elt F) Unit ℕ (UR sig nD τ) ℕ ((Pipeline.pin pcfgs fun _ => adm m) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      (Pipeline.RDat.FramePost.arr_in h c 6 rfl).trans ((hA c 6).trans (V_main_arg6 m c)),
      ((h c).2 main_arg7 (by decide : main_arg7 ∈ Pipeline.restRefs sig spec0)).trans (V_main_arg7 m c),
      ((h c).2 main_arg8 (by decide : main_arg8 ∈ Pipeline.restRefs sig spec0)).trans (V_main_arg8 m c)⟩) h

/-! ## The body at a point -/

abbrev ms0_0 (t : Fin (cfgM m).N) : Memref sig .tc .vmem S10x32x96 .bf16 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S10x8x96 .bf16 := spec0_1.stage ((cfgM m).slots t 1)
abbrev hs0_1 (t : Fin (cfgM m).N) : (ms0_1 m t).IsWhole := hstage0_1 (((cfgM m).slots t 1).cast nbuf0_1)
abbrev ms0_2 (t : Fin (cfgM m).N) : Memref sig .tc .vmem S10x8x96 .bf16 := spec0_2.stage ((cfgM m).slots t 2)
abbrev hs0_2 (t : Fin (cfgM m).N) : (ms0_2 m t).IsWhole := hstage0_2 (((cfgM m).slots t 2).cast nbuf0_2)
abbrev ms0_3 (t : Fin (cfgM m).N) : Memref sig .tc .vmem S1x8x48x2048 .i8 := spec0_3.stage ((cfgM m).slots t 3)
abbrev hs0_3 (t : Fin (cfgM m).N) : (ms0_3 m t).IsWhole := hstage0_3 (((cfgM m).slots t 3).cast nbuf0_3)
abbrev ms0_4 (t : Fin (cfgM m).N) : Memref sig .tc .vmem S1x8x48x2048 .i8 := spec0_4.stage ((cfgM m).slots t 4)
abbrev hs0_4 (t : Fin (cfgM m).N) : (ms0_4 m t).IsWhole := hstage0_4 (((cfgM m).slots t 4).cast nbuf0_4)
abbrev ms0_5 (t : Fin (cfgM m).N) : Memref sig .tc .vmem S1x8x96x320 .f32 := spec0_5.stage ((cfgM m).slots t 5)
abbrev hs0_5 (t : Fin (cfgM m).N) : (ms0_5 m t).IsWhole := hstage0_5 (((cfgM m).slots t 5).cast nbuf0_5)
abbrev ms0_6 (t : Fin (cfgM m).N) : Memref sig .tc .vmem S1x8x2048 .f32 := spec0_6.stage ((cfgM m).slots t 6)
abbrev hs0_6 (t : Fin (cfgM m).N) : (ms0_6 m t).IsWhole := hstage0_6 (((cfgM m).slots t 6).cast nbuf0_6)
abbrev ms0_7 (t : Fin (cfgM m).N) : Memref sig .tc .vmem S48x1 .f32 := spec0_7.stage ((cfgM m).slots t 7)
abbrev hs0_7 (t : Fin (cfgM m).N) : (ms0_7 m t).IsWhole := hstage0_7 (((cfgM m).slots t 7).cast nbuf0_7)
abbrev ms0_8 (t : Fin (cfgM m).N) : Memref sig .tc .vmem S1x48 .f32 := spec0_8.stage ((cfgM m).slots t 8)
abbrev hs0_8 (t : Fin (cfgM m).N) : (ms0_8 m t).IsWhole := hstage0_8 (((cfgM m).slots t 8).cast nbuf0_8)
abbrev ms0_9 (t : Fin (cfgM m).N) : Memref sig .tc .vmem S1x32x96 .bf16 := spec0_9.stage ((cfgM m).slots t 9)
abbrev hs0_9 (t : Fin (cfgM m).N) : (ms0_9 m t).IsWhole := hstage0_9 (((cfgM m).slots t 9).cast nbuf0_9)
abbrev ms0_10 (t : Fin (cfgM m).N) : Memref sig .tc .vmem S1x32x96 .bf16 := spec0_10.stage ((cfgM m).slots t 10)
abbrev hs0_10 (t : Fin (cfgM m).N) : (ms0_10 m t).IsWhole := hstage0_10 (((cfgM m).slots t 10).cast nbuf0_10)
abbrev ms0_11 (t : Fin (cfgM m).N) : Memref sig .tc .vmem S1x1x32x2048 .f32 := spec0_11.stage ((cfgM m).slots t 11)
abbrev hs0_11 (t : Fin (cfgM m).N) : (ms0_11 m t).IsWhole := hstage0_11 (((cfgM m).slots t 11).cast nbuf0_11)

/-- The kernel's body at point `t`, on what the pipeline calls it with. -/
abbrev bodyAt0 (t : Fin (cfgM m).N) : Prog (TpuEff nD τ sig (Elt F) Λ₀ .tc) PUnit :=
  cc0__attend (grid0.coords t) (Memref.whole main_arg7) (Memref.isWhole_whole _) (Memref.whole main_arg8) (Memref.isWhole_whole _) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (ms0_8 m t) (hs0_8 m t) (ms0_9 m t) (hs0_9 m t) (ms0_10 m t) (hs0_10 m t) (ms0_11 m t) (hs0_11 m t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _)

theorem defs₀_row (t : Fin (cfgM m).N) :
    defs₀ (F := F) .tc (cfgM m).body ((cfgM m).bodyArgs t ((cfgM m).slots t)) = bodyAt0 m t := by
  unfold defs₀; rw [Defs.onTc_tc]

end Cert.Kernel

end
-- ==== Proof.FrameKernel.lean ====
/-
The frame of the kernel, nothing said of what its outputs hold.
-/
module

public import proofs.«01_k».proof.Proof.Gen.Kernel.Loops
public import proofs.«01_k».proof.Proof.Gen.Kernel.Launch
public import proofs.«01_k».proof.Proof.ChecksKernel
public import proofs.«01_k».proof.Proof.LaunchKernel
public import Idealize.ShloMosaic.Lib.Claim
public import Idealize.ShloMosaic.Lib.Pipeline.Kit
public import Idealize.ShloMosaic.Lib.Pipeline.FrameBody
public import Idealize.ShloMosaic.Lib.Tactic
public import Idealize.ShloMosaic.Lib.WordCmp

@[expose] public section

set_option maxRecDepth 16384

noncomputable section

namespace Cert.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

namespace Plain

/-- The outputs, of which nothing is said here. -/
def forgets0 : Fin 12 → Bool := fun w => decide (9 ≤ w.val)

/-- What each window's buffer holds after the body at each point: the inputs' their blocks. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := (cfgM m)) ⟨9, h⟩ t
    | ⟨10, h⟩ => Pipeline.Dat.unnamed (cfg := (cfgM m)) ⟨10, h⟩ t
    | ⟨11, h⟩ => Pipeline.Dat.unnamed (cfg := (cfgM m)) ⟨11, h⟩ t
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after0_0 (c : Dev nD) (t : Fin (cfgM m).N) : (dats m 0 c).after 0 t = iblk m c 0 t := by dsimp only [dats]; try rfl
theorem after0_1 (c : Dev nD) (t : Fin (cfgM m).N) : (dats m 0 c).after 1 t = iblk m c 1 t := by dsimp only [dats]; try rfl
theorem after0_2 (c : Dev nD) (t : Fin (cfgM m).N) : (dats m 0 c).after 2 t = iblk m c 2 t := by dsimp only [dats]; try rfl
theorem after0_3 (c : Dev nD) (t : Fin (cfgM m).N) : (dats m 0 c).after 3 t = iblk m c 3 t := by dsimp only [dats]; try rfl
theorem after0_4 (c : Dev nD) (t : Fin (cfgM m).N) : (dats m 0 c).after 4 t = iblk m c 4 t := by dsimp only [dats]; try rfl
theorem after0_5 (c : Dev nD) (t : Fin (cfgM m).N) : (dats m 0 c).after 5 t = iblk m c 5 t := by dsimp only [dats]; try rfl
theorem after0_6 (c : Dev nD) (t : Fin (cfgM m).N) : (dats m 0 c).after 6 t = iblk m c 6 t := by dsimp only [dats]; try rfl
theorem after0_7 (c : Dev nD) (t : Fin (cfgM m).N) : (dats m 0 c).after 7 t = iblk m c 7 t := by dsimp only [dats]; try rfl
theorem after0_8 (c : Dev nD) (t : Fin (cfgM m).N) : (dats m 0 c).after 8 t = iblk m c 8 t := by dsimp only [dats]; try rfl
theorem before0_0 (c : Dev nD) (t : Fin (cfgM m).N) (d) : (dats m 0 c).before 0 t d = iblk m c 0 t :=
  before0_0_of m (dats m 0 c) (A_eq m c 0) (after0_0 m c) t d
theorem before0_1 (c : Dev nD) (t : Fin (cfgM m).N) (d) : (dats m 0 c).before 1 t d = iblk m c 1 t :=
  before0_1_of m (dats m 0 c) (A_eq m c 1) (after0_1 m c) t d
theorem before0_2 (c : Dev nD) (t : Fin (cfgM m).N) (d) : (dats m 0 c).before 2 t d = iblk m c 2 t :=
  before0_2_of m (dats m 0 c) (A_eq m c 2) (after0_2 m c) t d
theorem before0_3 (c : Dev nD) (t : Fin (cfgM m).N) (d) : (dats m 0 c).before 3 t d = iblk m c 3 t :=
  before0_3_of m (dats m 0 c) (A_eq m c 3) (after0_3 m c) t d
theorem before0_4 (c : Dev nD) (t : Fin (cfgM m).N) (d) : (dats m 0 c).before 4 t d = iblk m c 4 t :=
  before0_4_of m (dats m 0 c) (A_eq m c 4) (after0_4 m c) t d
theorem before0_5 (c : Dev nD) (t : Fin (cfgM m).N) (d) : (dats m 0 c).before 5 t d = iblk m c 5 t :=
  before0_5_of m (dats m 0 c) (A_eq m c 5) (after0_5 m c) t d
theorem before0_6 (c : Dev nD) (t : Fin (cfgM m).N) (d) : (dats m 0 c).before 6 t d = iblk m c 6 t :=
  before0_6_of m (dats m 0 c) (A_eq m c 6) (after0_6 m c) t d
theorem before0_7 (c : Dev nD) (t : Fin (cfgM m).N) (d) : (dats m 0 c).before 7 t d = iblk m c 7 t :=
  before0_7_of m (dats m 0 c) (A_eq m c 7) (after0_7 m c) t d
theorem before0_8 (c : Dev nD) (t : Fin (cfgM m).N) (d) : (dats m 0 c).before 8 t d = iblk m c 8 t :=
  before0_8_of m (dats m 0 c) (A_eq m c 8) (after0_8 m c) t d

/-- What the body is called with at point `t`, and what it returns. -/
def bodyPre (c : Dev nD) (t : Fin (cfgM m).N) : sProp 𝕄 :=
  iprop((dats m 0 c).Φ t.castSucc ∗ (dats m 0 c).owesAt () t.castSucc
    ∗ (∃ d, owns (c : Thread nD τ) (ms0_0 m t) fullShare ((dats m 0 c).before 0 t d))
    ∗ (∃ d, owns (c : Thread nD τ) (ms0_1 m t) fullShare ((dats m 0 c).before 1 t d))
    ∗ (∃ d, owns (c : Thread nD τ) (ms0_2 m t) fullShare ((dats m 0 c).before 2 t d))
    ∗ (∃ d, owns (c : Thread nD τ) (ms0_3 m t) fullShare ((dats m 0 c).before 3 t d))
    ∗ (∃ d, owns (c : Thread nD τ) (ms0_4 m t) fullShare ((dats m 0 c).before 4 t d))
    ∗ (∃ d, owns (c : Thread nD τ) (ms0_5 m t) fullShare ((dats m 0 c).before 5 t d))
    ∗ (∃ d, owns (c : Thread nD τ) (ms0_6 m t) fullShare ((dats m 0 c).before 6 t d))
    ∗ (∃ d, owns (c : Thread nD τ) (ms0_7 m t) fullShare ((dats m 0 c).before 7 t d))
    ∗ (∃ d, owns (c : Thread nD τ) (ms0_8 m t) fullShare ((dats m 0 c).before 8 t d))
    ∗ (∃ d, owns (c : Thread nD τ) (ms0_9 m t) fullShare d)
    ∗ (∃ d, owns (c : Thread nD τ) (ms0_10 m t) fullShare d)
    ∗ (∃ d, owns (c : Thread nD τ) (ms0_11 m t) fullShare d))
def bodyPost (c : Dev nD) (t : Fin (cfgM m).N) : sProp 𝕄 :=
  iprop((dats m 0 c).Φ t.succ ∗ (dats m 0 c).owesAt () t.succ
    ∗ owns (c : Thread nD τ) (ms0_0 m t) fullShare ((dats m 0 c).after 0 t)
    ∗ owns (c : Thread nD τ) (ms0_1 m t) fullShare ((dats m 0 c).after 1 t)
    ∗ owns (c : Thread nD τ) (ms0_2 m t) fullShare ((dats m 0 c).after 2 t)
    ∗ owns (c : Thread nD τ) (ms0_3 m t) fullShare ((dats m 0 c).after 3 t)
    ∗ owns (c : Thread nD τ) (ms0_4 m t) fullShare ((dats m 0 c).after 4 t)
    ∗ owns (c : Thread nD τ) (ms0_5 m t) fullShare ((dats m 0 c).after 5 t)
    ∗ owns (c : Thread nD τ) (ms0_6 m t) fullShare ((dats m 0 c).after 6 t)
    ∗ owns (c : Thread nD τ) (ms0_7 m t) fullShare ((dats m 0 c).after 7 t)
    ∗ owns (c : Thread nD τ) (ms0_8 m t) fullShare ((dats m 0 c).after 8 t)
    ∗ (∃ d, owns (c : Thread nD τ) (ms0_9 m t) fullShare d)
    ∗ (∃ d, owns (c : Thread nD τ) (ms0_10 m t) fullShare d)
    ∗ (∃ d, owns (c : Thread nD τ) (ms0_11 m t) fullShare d))

set_option maxHeartbeats 2000000 in
theorem sound_body (c : Dev nD) (t : Fin (cfgM m).N) :
    bodyPre m c t ⊢ wp frame (wpE (defs₀ (F := F)) Variants.none c none) Set.univ (bodyAt0 m t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = iprop(Pipeline.ΦA spec0 c ∗ Pipeline.ΦT pre0 (tbl m) c) from rfl, PhiT0_eq]
  unfold Pipeline.ΦA
  rw [scopedRest0_eq]
  simp only [← owns_whole]
  iintro ⟨⟨⟨⟨⟨%e0, G0⟩, ⟨%e1, G1⟩, ⟨%e2, G2⟩, ⟨%e3, G3⟩, ⟨%e4, G4⟩, ⟨%e5, G5⟩, ⟨%e6, G6⟩, ⟨%e7, G7⟩, ⟨%e8, G8⟩, ⟨%e9, G9⟩⟩, Hr⟩, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0 c (grid0.coords t) _ _ _ _ _ _ _ _ _ _ _ _ _ _ _ _ _ _ _ _ _ _ _ _ (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (iblk m c 0 t) (iblk m c 1 t) (iblk m c 2 t) (iblk m c 3 t) (iblk m c 4 t) (iblk m c 5 t) (iblk m c 6 t) (iblk m c 7 t) (iblk m c 8 t) (tbl m 0) (tbl m 1)) Set.univ _)
  isplitl [HT0]; · iexact HT0
  isplitl [HT1]; · iexact HT1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [G0]; · iexists _; iexact G0
  isplitl [G1]; · iexists _; iexact G1
  isplitl [G2]; · iexists _; iexact G2
  isplitl [G3]; · iexists _; iexact G3
  isplitl [G4]; · iexists _; iexact G4
  isplitl [G5]; · iexists _; iexact G5
  isplitl [G6]; · iexists _; iexact G6
  isplitl [G7]; · iexists _; iexact G7
  isplitl [G8]; · iexists _; iexact G8
  isplitl [G9]; · iexists _; iexact G9
  iintro ⟨HT0, HT1, H0, H1, H2, H3, H4, H5, H6, H7, H8, H9, H10, H11, G0, G1, G2, G3, G4, G5, G6, G7, G8, G9⟩
  isplitl [G0 G1 G2 G3 G4 G5 G6 G7 G8 G9 Hr HT0 HT1]
  · isplitl [G0 G1 G2 G3 G4 G5 G6 G7 G8 G9 Hr]
    · isplitr [Hr]; swap; · iexact Hr
      isplitl [G0]; · iexact G0
      isplitl [G1]; · iexact G1
      isplitl [G2]; · iexact G2
      isplitl [G3]; · iexact G3
      isplitl [G4]; · iexact G4
      isplitl [G5]; · iexact G5
      isplitl [G6]; · iexact G6
      isplitl [G7]; · iexact G7
      isplitl [G8]; · iexact G8
      iexact G9
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation (c : Dev nD) : BodyObligation (dats (F := F) m 0 c) (defs₀ (F := F)) Variants.none () Set.univ forgets0 := fun t => by
  rw [bigSep_W0, bigSep_W0, defs₀_row m]
  exact triple_restated (sound_body m c t) rfl .rfl fun _ => .rfl

set_option backward.isDefEq.respectTransparency.types false in
theorem run_main_quiescent : θ_run defs (onTc (τ := τ) (main (F := F))) (s₀ m ρ) (fun r => (Pipeline.RDat.FramePost ((Pipeline.pin pcfgs fun _ => adm m) 0) (fun c => (dats m 0 c).toRForget forgets0) (V m)) r ∧ r.2.sem = fun _ => 0) :=
  Pipeline.θ_run_frameP_forget (Q' := _) pcfgs (fun _ => adm m) (dats m) (0 : Fin 1) launch0 defs₀ Variants.none forgets0 m ρ main
    (hbody := fun c => (body_obligation m c).loose) (hshare := fun c => (dats m 0 c).share_full fun _ => rfl)
    (howed := fun _ _ => rfl) (V := V m) (hmain := hmain m) (hA := A_eq m) (hpf := V_pre m) (hΦ := fun _ _ => rfl)

theorem run_main : θ_run defs (onTc (τ := τ) (main (F := F))) (s₀ m ρ) (Pipeline.RDat.FramePost ((Pipeline.pin pcfgs fun _ => adm m) 0) (fun c => (dats m 0 c).toRForget forgets0) (V m)) :=
  (θ_run defs _ _).mono (fun _ h => h.1) (run_main_quiescent m ρ)

/-- The frame: the program ends, its arguments are unchanged, every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (fun c => (dats m 0 c).toRForget forgets0) (A_eq m) (run_main m ρ)) ((θ_run defs _ _).mono (fun _ h => h.2) (run_main_quiescent m ρ))

end Plain

end Cert.Kernel

end
-- ==== Proof.ChecksKernelIdeal.lean ====
/-
The conditions the kernel states of the words it reads hold for every word: the number of 512-wide tiles a
sequence uses in a block is a clip to `0 .. 4`, so the loops are at most four trips long, and the block index of
the three windows that follow the length table is at most the grid coordinate.
-/
module

public import proofs.«01_k».proof.Proof.Gen.KernelIdeal
public import proofs.«01_k».proof.Proof.WordLemmas

@[expose] public section

set_option maxRecDepth 16384

noncomputable section

namespace Cert.KernelIdeal

open Idealize.ShloMosaic

/-- The number of 512-wide tiles of block `i 1` that a sequence of length `v1` uses. -/
def nsubW (i : grid0.Coords) (v1 : BitVec 32) : BitVec 32 :=
  Scalar.minsi 4#32 (Scalar.maxsi 0#32 (Words.fdw
    (Scalar.subi (Scalar.addi (Scalar.subi v1 (Scalar.muli (BitVec.ofNat 32 (i 1).val) 2048#32)) 512#32) 1#32) 512#32))

theorem nsubW_cases (i : grid0.Coords) (v1 : BitVec 32) : ∃ m : Fin 5, nsubW i v1 = BitVec.ofNat 32 m.val := Words.clip_cases _

/-- The score loop's bounds from the tile count: from zero. -/
def upLoop (n : BitVec 32) : Scf.Loop 32 := ⟨0#32, Scalar.addi 0#32 (Scalar.muli (Scalar.divsi (Scalar.subi n 0#32) 1#32) 1#32), 1#32⟩
/-- Its remainder. -/
def upRest (n : BitVec 32) : Scf.Loop 32 :=
  ⟨Scalar.addi 0#32 (Scalar.muli (Scalar.divsi (Scalar.subi n 0#32) 1#32) 1#32), Scalar.addi 0#32 (Scalar.subi n 0#32), 1#32⟩
/-- The zero-fill loop's bounds: from the tile count to four. -/
def fillLoop (n : BitVec 32) : Scf.Loop 32 := ⟨n, Scalar.addi n (Scalar.muli (Scalar.divsi (Scalar.subi 4#32 n) 1#32) 1#32), 1#32⟩
/-- Its remainder. -/
def fillRest (n : BitVec 32) : Scf.Loop 32 :=
  ⟨Scalar.addi n (Scalar.muli (Scalar.divsi (Scalar.subi 4#32 n) 1#32) 1#32), Scalar.addi n (Scalar.subi 4#32 n), 1#32⟩

theorem t1_loop_eq (i : grid0.Coords) (v1 : BitVec 32) : k0_t1_loop i v1 = upLoop (nsubW i v1) := rfl
theorem t2_loop_eq (i : grid0.Coords) (v1 : BitVec 32) : k0_t2_loop i v1 = upRest (nsubW i v1) := rfl
theorem t3_loop_eq (i : grid0.Coords) (v1 : BitVec 32) : k0_t3_loop i v1 = upLoop (nsubW i v1) := rfl
theorem t4_loop_eq (i : grid0.Coords) (v1 : BitVec 32) : k0_t4_loop i v1 = upRest (nsubW i v1) := rfl
theorem t5_loop_eq (i : grid0.Coords) (v1 : BitVec 32) : k0_t5_loop i v1 = fillLoop (nsubW i v1) := rfl
theorem t6_loop_eq (i : grid0.Coords) (v1 : BitVec 32) : k0_t6_loop i v1 = fillRest (nsubW i v1) := rfl

theorem upLoop_facts : ∀ m : Fin 5, (upLoop (BitVec.ofNat 32 m.val)).OK ∧ (upLoop (BitVec.ofNat 32 m.val)).trips = m.val := by decide +kernel
theorem upRest_facts : ∀ m : Fin 5, (upRest (BitVec.ofNat 32 m.val)).OK ∧ (upRest (BitVec.ofNat 32 m.val)).trips = 0 := by decide +kernel
theorem fillLoop_facts : ∀ m : Fin 5, (fillLoop (BitVec.ofNat 32 m.val)).OK ∧ (fillLoop (BitVec.ofNat 32 m.val)).trips = 4 - m.val := by decide +kernel
theorem fillRest_facts : ∀ m : Fin 5, (fillRest (BitVec.ofNat 32 m.val)).OK ∧ (fillRest (BitVec.ofNat 32 m.val)).trips = 0 := by decide +kernel

/-- The tile count as a natural number. -/
def nsub (i : grid0.Coords) (v1 : BitVec 32) : Nat := (nsubW i v1).toNat

theorem nsub_lt (i : grid0.Coords) (v1 : BitVec 32) : nsub i v1 < 5 := by
  obtain ⟨m, hm⟩ := nsubW_cases i v1
  unfold nsub; rw [hm, BitVec.toNat_ofNat]; omega

theorem nsubW_eq (i : grid0.Coords) (v1 : BitVec 32) : nsubW i v1 = BitVec.ofNat 32 (nsub i v1) := by
  unfold nsub; simp

attribute [irreducible] nsub

theorem t1_trips (i : grid0.Coords) (v1 : BitVec 32) : (k0_t1_loop i v1).trips = nsub i v1 := by
  rw [t1_loop_eq, nsubW_eq]; exact (upLoop_facts ⟨nsub i v1, nsub_lt i v1⟩).2
theorem t2_trips (i : grid0.Coords) (v1 : BitVec 32) : (k0_t2_loop i v1).trips = 0 := by
  rw [t2_loop_eq, nsubW_eq]; exact (upRest_facts ⟨nsub i v1, nsub_lt i v1⟩).2
theorem t3_trips (i : grid0.Coords) (v1 : BitVec 32) : (k0_t3_loop i v1).trips = nsub i v1 := t1_trips i v1
theorem t4_trips (i : grid0.Coords) (v1 : BitVec 32) : (k0_t4_loop i v1).trips = 0 := t2_trips i v1
theorem t5_trips (i : grid0.Coords) (v1 : BitVec 32) : (k0_t5_loop i v1).trips = 4 - nsub i v1 := by
  rw [t5_loop_eq, nsubW_eq]; exact (fillLoop_facts ⟨nsub i v1, nsub_lt i v1⟩).2
theorem t6_trips (i : grid0.Coords) (v1 : BitVec 32) : (k0_t6_loop i v1).trips = 0 := by
  rw [t6_loop_eq, nsubW_eq]; exact (fillRest_facts ⟨nsub i v1, nsub_lt i v1⟩).2

theorem t1_ok' (i : grid0.Coords) (v1 : BitVec 32) : (k0_t1_loop i v1).OK := by
  rw [t1_loop_eq, nsubW_eq]; exact (upLoop_facts ⟨nsub i v1, nsub_lt i v1⟩).1
theorem t2_ok' (i : grid0.Coords) (v1 : BitVec 32) : (k0_t2_loop i v1).OK := by
  rw [t2_loop_eq, nsubW_eq]; exact (upRest_facts ⟨nsub i v1, nsub_lt i v1⟩).1
theorem t5_ok' (i : grid0.Coords) (v1 : BitVec 32) : (k0_t5_loop i v1).OK := by
  rw [t5_loop_eq, nsubW_eq]; exact (fillLoop_facts ⟨nsub i v1, nsub_lt i v1⟩).1
theorem t6_ok' (i : grid0.Coords) (v1 : BitVec 32) : (k0_t6_loop i v1).OK := by
  rw [t6_loop_eq, nsubW_eq]; exact (fillRest_facts ⟨nsub i v1, nsub_lt i v1⟩).1

theorem no_t2 {i : grid0.Coords} {v1 : BitVec 32} (k : Fin (k0_t2_loop i v1).trips) : False := by
  exact absurd (lt_of_lt_of_eq k.isLt (t2_trips i v1)) (Nat.not_lt_zero _)
theorem no_t4 {i : grid0.Coords} {v1 : BitVec 32} (k : Fin (k0_t4_loop i v1).trips) : False := no_t2 k
theorem no_t6 {i : grid0.Coords} {v1 : BitVec 32} (k : Fin (k0_t6_loop i v1).trips) : False := by
  exact absurd (lt_of_lt_of_eq k.isLt (t6_trips i v1)) (Nat.not_lt_zero _)

theorem off47_eq (i : grid0.Coords) (v1 : BitVec 32) (k : Fin (k0_t5_loop i v1).trips) :
    k0_off47 i v1 k = ![0, 0, 0, (Scalar.indexCast (Scalar.muli (Scf.iv (nsubW i v1) 1#32 k.val) 512#32)).toNat] := rfl
theorem mult37_eq (i : grid0.Coords) (v1 : BitVec 32) (k : Fin (k0_t5_loop i v1).trips) :
    k0_mult37 i v1 k = Scalar.muli (Scf.iv (nsubW i v1) 1#32 k.val) 512#32 := rfl

theorem fill_iv : ∀ (m : Fin 5) (k : Fin 4), m.val + k.val < 4 →
    (Scalar.muli (Scf.iv (BitVec.ofNat 32 m.val) 1#32 k.val) 512#32).toNat = 512 * (m.val + k.val) := by decide +kernel

theorem mult37_val (i : grid0.Coords) (v1 : BitVec 32) (k : Fin (k0_t5_loop i v1).trips) :
    (k0_mult37 i v1 k).toNat = 512 * (nsub i v1 + k.val) ∧ nsub i v1 + k.val < 4 := by
  have hk : k.val < 4 - nsub i v1 := lt_of_lt_of_eq k.isLt (t5_trips i v1)
  have hn := nsub_lt i v1
  rw [mult37_eq, nsubW_eq]
  generalize k.val = kk at hk
  generalize nsub i v1 = n at hk hn
  exact ⟨fill_iv ⟨n, hn⟩ ⟨kk, by omega⟩ (by simp; omega), by omega⟩

theorem off47_val (i : grid0.Coords) (v1 : BitVec 32) (k : Fin (k0_t5_loop i v1).trips) :
    k0_off47 i v1 k = ![0, 0, 0, 512 * (nsub i v1 + k.val)] := by
  rw [← (mult37_val i v1 k).1]; rfl

/-- The 128-wide tile number `16 a + 4 k + r`, as printed. -/
def gW (a k : Nat) (r : BitVec 32) : BitVec 32 :=
  Scalar.addi (Scalar.addi (Scalar.muli (BitVec.ofNat 32 a) 16#32) (Scalar.muli (Scf.iv 0#32 1#32 k) 4#32)) r

/-- The induction variable of a score or value loop scaled to a column. -/
def colW (k : Nat) : BitVec 32 := Scalar.muli (Scf.iv 0#32 1#32 k) 512#32

theorem colW_dvd : ∀ k : Fin 4, 512 ∣ (colW k.val).toNat := by decide +kernel
theorem colW_val : ∀ k : Fin 4, (colW k.val).toNat = 512 * k.val := by decide +kernel
theorem colW_add_dvd : ∀ k r : Fin 4, 128 ∣ (Scalar.addi (colW k.val) (BitVec.ofNat 32 (128 * r.val))).toNat := by decide +kernel
theorem colW_add_val : ∀ k r : Fin 4, (Scalar.addi (colW k.val) (BitVec.ofNat 32 (128 * r.val))).toNat = 512 * k.val + 128 * r.val := by decide +kernel
theorem g128_val : ∀ (a : Fin 10) (k r : Fin 4),
    (Scalar.muli (Words.fdw (gW a.val k.val (BitVec.ofNat 32 r.val)) 128#32) 128#32).toNat = (16 * a.val + 4 * k.val + r.val) / 128 * 128 := by decide +kernel
theorem g64_val : ∀ (a : Fin 10) (k r : Fin 4),
    (Scalar.muli (Words.fdw (gW a.val k.val (BitVec.ofNat 32 r.val)) 64#32) 128#32).toNat = (16 * a.val + 4 * k.val + r.val) / 64 * 128 := by decide +kernel
theorem g128_dvd (a : Fin 10) (k r : Fin 4) : 128 ∣ (Scalar.muli (Words.fdw (gW a.val k.val (BitVec.ofNat 32 r.val)) 128#32) 128#32).toNat := by
  rw [g128_val]; exact Nat.dvd_mul_left _ _
theorem g64_dvd (a : Fin 10) (k r : Fin 4) : 128 ∣ (Scalar.muli (Words.fdw (gW a.val k.val (BitVec.ofNat 32 r.val)) 64#32) 128#32).toNat := by
  rw [g64_val]; exact Nat.dvd_mul_left _ _

/-- A trip of a score or value loop as one of four. -/
abbrev tk {i : grid0.Coords} {v1 : BitVec 32} (k : Fin (k0_t1_loop i v1).trips) : Fin 4 :=
  ⟨k.val, Nat.lt_of_lt_of_le (lt_of_lt_of_eq k.isLt (t1_trips i v1)) (Nat.le_of_lt_succ (nsub_lt i v1))⟩

theorem in3 {a b c : Nat} {s t : Fin 3 → Nat} (h0 : a + s 0 ≤ t 0) (h1 : b + s 1 ≤ t 1) (h2 : c + s 2 ≤ t 2) :
    ∀ x, (![a, b, c] : Fin 3 → Nat) x + s x ≤ t x := fun x => match x with
  | ⟨0, _⟩ => h0 | ⟨1, _⟩ => h1 | ⟨2, _⟩ => h2
theorem in4 {a b c d : Nat} {s t : Fin 4 → Nat} (h0 : a + s 0 ≤ t 0) (h1 : b + s 1 ≤ t 1) (h2 : c + s 2 ≤ t 2) (h3 : d + s 3 ≤ t 3) :
    ∀ x, (![a, b, c, d] : Fin 4 → Nat) x + s x ≤ t x := fun x => match x with
  | ⟨0, _⟩ => h0 | ⟨1, _⟩ => h1 | ⟨2, _⟩ => h2 | ⟨3, _⟩ => h3

theorem o5_in (b : Nat) (hb : b + 1 ≤ 2) (a : Fin 10) (k r : Fin 4) : ∀ x, (![b, 0,
    (Scalar.indexCast (Scalar.muli (Words.fdw (gW a.val k.val (BitVec.ofNat 32 r.val)) 128#32) 128#32)).toNat] : Fin 3 → Nat) x + S1x48x128.size x ≤ S2x48x256.size x := by
  have h := g128_val a k r
  refine in3 hb (by decide) ?_
  show (Scalar.muli (Words.fdw (gW a.val k.val (BitVec.ofNat 32 r.val)) 128#32) 128#32).toNat + 128 ≤ 256
  rw [h]; omega
theorem o7_in (a : Fin 10) (k r : Fin 4) : ∀ x, (![0, 0,
    (Scalar.indexCast (Scalar.muli (Words.fdw (gW a.val k.val (BitVec.ofNat 32 r.val)) 64#32) 128#32)).toNat] : Fin 3 → Nat) x + S8x96x128.size x ≤ S8x96x384.size x := by
  have h := g64_val a k r
  refine in3 (by decide) (by decide) ?_
  show (Scalar.muli (Words.fdw (gW a.val k.val (BitVec.ofNat 32 r.val)) 64#32) 128#32).toNat + 128 ≤ 384
  rw [h]; omega
theorem o8_in (k r : Fin 4) : ∀ x, (![0, 0, 0,
    (Scalar.indexCast (Scalar.addi (colW k.val) (BitVec.ofNat 32 (128 * r.val)))).toNat] : Fin 4 → Nat) x + S1x8x48x128.size x ≤ S1x8x48x2048.size x := by
  have h := colW_add_val k r
  refine in4 (by decide) (by decide) (by decide) ?_
  show (Scalar.addi (colW k.val) (BitVec.ofNat 32 (128 * r.val))).toNat + 128 ≤ 2048
  rw [h]; omega
theorem o9_in (b : Nat) (hb : b + 8 ≤ 32) (k : Fin 4) : ∀ x, (![0, 0, b, (Scalar.indexCast (colW k.val)).toNat] : Fin 4 → Nat) x + S1x1x8x512.size x ≤ S1x1x32x2048.size x := by
  have h := colW_val k
  refine in4 (by decide) (by decide) hb ?_
  show (colW k.val).toNat + 512 ≤ 2048
  rw [h]; omega
theorem o23_in (b : Nat) (hb : b + 1 ≤ 8) (k : Fin 4) : ∀ x, (![0, b, (Scalar.indexCast (colW k.val)).toNat] : Fin 3 → Nat) x + S1x1x512.size x ≤ S1x8x2048.size x := by
  have h := colW_val k
  refine in3 (by decide) hb ?_
  show (colW k.val).toNat + 512 ≤ 2048
  rw [h]; omega

theorem chk1_0_all (i : grid0.Coords) (v1 : BitVec 32) : k0_chk1_0 i v1 :=
  ⟨fun _ => t1_ok' i v1, fun k _ => colW_dvd (tk k), fun k _ => colW_add_dvd (tk k) 0, fun k _ => g128_dvd (i 1) (tk k) 0, fun k _ => g64_dvd (i 1) (tk k) 0,
   fun k _ r => o5_in 0 (by decide) (i 1) (tk k) r, fun k _ r => o5_in 1 (by decide) (i 1) (tk k) r, fun k _ r => o7_in (i 1) (tk k) r, fun k _ r => o8_in (tk k) r,
   fun k _ => colW_add_dvd (tk k) 1, fun k _ => g128_dvd (i 1) (tk k) 1, fun k _ => g64_dvd (i 1) (tk k) 1,
   fun k _ => colW_add_dvd (tk k) 2, fun k _ => g128_dvd (i 1) (tk k) 2, fun k _ => g64_dvd (i 1) (tk k) 2,
   fun k _ => colW_add_dvd (tk k) 3, fun k _ => g128_dvd (i 1) (tk k) 3, fun k _ => g64_dvd (i 1) (tk k) 3,
   fun k _ => o9_in 0 (by decide) (tk k), fun k _ => o9_in 8 (by decide) (tk k), fun k _ => o9_in 16 (by decide) (tk k), fun k _ => o9_in 24 (by decide) (tk k),
   fun _ => t2_ok' i v1,
   fun k _ => (no_t2 k).elim, fun k _ => (no_t2 k).elim, fun k _ => (no_t2 k).elim, fun k _ => (no_t2 k).elim, fun k _ => (no_t2 k).elim,
   fun k _ => (no_t2 k).elim, fun k _ => (no_t2 k).elim, fun k _ => (no_t2 k).elim, fun k _ => (no_t2 k).elim⟩

theorem chk1_1_all (i : grid0.Coords) (v1 : BitVec 32) : k0_chk1_1 i v1 :=
  ⟨fun k _ => (no_t2 k).elim, fun k _ => (no_t2 k).elim, fun k _ => (no_t2 k).elim, fun k _ => (no_t2 k).elim, fun k _ => (no_t2 k).elim, fun k _ => (no_t2 k).elim,
   fun k _ => (no_t2 k).elim, fun k _ => (no_t2 k).elim, fun k _ => (no_t2 k).elim, fun k _ => (no_t2 k).elim, fun k _ => (no_t2 k).elim, fun k _ => (no_t2 k).elim,
   fun _ => t1_ok' i v1, fun k _ => colW_dvd (tk k), fun k _ => colW_add_dvd (tk k) 0, fun k _ r => o8_in (tk k) r,
   fun k _ => colW_add_dvd (tk k) 1, fun k _ => colW_add_dvd (tk k) 2, fun k _ => colW_add_dvd (tk k) 3,
   fun k _ => o9_in 0 (by decide) (tk k), fun k _ => o23_in 0 (by decide) (tk k), fun k _ => o23_in 1 (by decide) (tk k),
   fun k _ => o9_in 8 (by decide) (tk k), fun k _ => o23_in 2 (by decide) (tk k), fun k _ => o23_in 3 (by decide) (tk k),
   fun k _ => o9_in 16 (by decide) (tk k), fun k _ => o23_in 4 (by decide) (tk k), fun k _ => o23_in 5 (by decide) (tk k),
   fun k _ => o9_in 24 (by decide) (tk k), fun k _ => o23_in 6 (by decide) (tk k), fun k _ => o23_in 7 (by decide) (tk k),
   fun _ => t2_ok' i v1⟩

theorem o47_in (i : grid0.Coords) (v1 : BitVec 32) (k : Fin (k0_t5_loop i v1).trips) :
    ∀ a, (k0_off47 i v1 k) a + S1x1x32x512.size a ≤ S1x1x32x2048.size a := by
  rw [off47_val]
  have h := (mult37_val i v1 k).2
  generalize nsub i v1 + k.val = n at h
  refine in4 (by decide) (by decide) (by decide) ?_
  show 512 * n + 512 ≤ 2048
  omega

theorem chk1_2_all (i : grid0.Coords) (v1 : BitVec 32) : k0_chk1_2 i v1 :=
  ⟨fun k _ => (no_t4 k).elim, fun k _ => (no_t4 k).elim, fun k _ => (no_t4 k).elim, fun k _ => (no_t4 k).elim, fun k _ => (no_t4 k).elim, fun k _ => (no_t4 k).elim,
   fun k _ => (no_t4 k).elim, fun k _ => (no_t4 k).elim, fun k _ => (no_t4 k).elim, fun k _ => (no_t4 k).elim, fun k _ => (no_t4 k).elim, fun k _ => (no_t4 k).elim,
   fun k _ => (no_t4 k).elim, fun k _ => (no_t4 k).elim, fun k _ => (no_t4 k).elim, fun k _ => (no_t4 k).elim, fun k _ => (no_t4 k).elim, fun k _ => (no_t4 k).elim,
   t5_ok' i v1, fun k => ⟨nsub i v1 + k.val, (mult37_val i v1 k).1⟩, o47_in i v1, t6_ok' i v1, fun k => (no_t6 k).elim, fun k => (no_t6 k).elim⟩

/-- The kernel's condition on a length word holds for every word. -/
theorem chk1_all (i : grid0.Coords) (v1 : BitVec 32) : k0_chk1 i v1 := ⟨chk1_0_all i v1, chk1_1_all i v1, chk1_2_all i v1⟩

/-- The block index of the windows that follow the length table, of a length word. -/
def blkW (i : grid0.Coords) (v1 : BitVec 32) : BitVec 32 :=
  Scalar.minsi (BitVec.ofNat 32 (i 1).val) (Words.fdw (Scalar.maxsi (Scalar.subi v1 1#32) 0#32) 2048#32)

theorem blkW_val (i : grid0.Coords) (v1 : BitVec 32) :
    (blkW i v1).toNat = min (i 1).val ((Scalar.maxsi (Scalar.subi v1 1#32) 0#32).toNat / 2048) := by
  have hlt := Words.maxsi_zero_lt (Scalar.subi v1 1#32)
  have e : Words.fdw (Scalar.maxsi (Scalar.subi v1 1#32) 0#32) 2048#32 = BitVec.ofNat 32 ((Scalar.maxsi (Scalar.subi v1 1#32) 0#32).toNat / 2048) := by
    have := Words.fdw_ofNat (n := (Scalar.maxsi (Scalar.subi v1 1#32) 0#32).toNat) (c := 2048) hlt (by decide) (by decide)
    rw [BitVec.ofNat_toNat, BitVec.setWidth_eq] at this
    exact this
  unfold blkW
  rw [e]
  have h1 : (i 1).val < 10 := (i 1).isLt
  have h2 : (BitVec.ofNat 32 ((Scalar.maxsi (Scalar.subi v1 1#32) 0#32).toNat / 2048)).toNat
      = (Scalar.maxsi (Scalar.subi v1 1#32) 0#32).toNat / 2048 := by rw [BitVec.toNat_ofNat]; omega
  rw [Words.minsi_le (by omega) _ (by rw [h2]; omega), h2]

theorem blkW_lt (i : grid0.Coords) (v1 : BitVec 32) : (blkW i v1).toNat < 10 := by
  rw [blkW_val]; have h1 : (i 1).val < 10 := (i 1).isLt; omega

variable {F : FTy → Type} [FloatOps F]

/-- The length word the index maps read. -/
abbrev lenW (pf : pre0.Contents (Elt F)) (i : grid0.Coords) : BitVec 32 :=
  pf.at 0 (Rect.unit (s := S10) ![(Scalar.indexCast (BitVec.ofNat 32 (i 0).val)).toNat] S1.size (Gen.k0_off1_inb i)) Gen.numel1_S1

theorem transform_3_eq (pf : pre0.Contents (Elt F)) (i : grid0.Coords) :
    cc0_transform_3 Gen.k0_off1_inb Gen.numel1_S1 pf i = ![(BitVec.ofNat 32 (i 0).val).toNat, 0, 0, (blkW i (lenW pf i)).toNat] := rfl
theorem transform_4_eq (pf : pre0.Contents (Elt F)) (i : grid0.Coords) :
    cc0_transform_4 Gen.k0_off1_inb Gen.numel1_S1 pf i = ![(BitVec.ofNat 32 (i 0).val).toNat, 0, 0, (blkW i (lenW pf i)).toNat] := rfl
theorem transform_6_eq (pf : pre0.Contents (Elt F)) (i : grid0.Coords) :
    cc0_transform_6 Gen.k0_off1_inb Gen.numel1_S1 pf i = ![(BitVec.ofNat 32 (i 0).val).toNat, 0, (blkW i (lenW pf i)).toNat] := rfl

theorem coord0 (i : grid0.Coords) : (BitVec.ofNat 32 (i 0).val).toNat < 10 := by
  have h : (i 0).val < 10 := (i 0).isLt
  rw [BitVec.toNat_ofNat]; omega

/-- The region's condition on the tables holds for every contents. -/
theorem ok_all (pf : pre0.Contents (Elt F)) : ok0 pf := by
  refine ⟨fun i => ?_, fun i => ?_, fun i => ?_⟩
  · rw [transform_3_eq]
    have h0 := coord0 i
    have h1 := blkW_lt i (lenW pf i)
    refine ⟨fun a => ?_, .inr (Affine.block_words_dvd (of_decide_eq_true rfl) (by decide))⟩
    revert a
    refine Fin.forall_fin_succ.mpr ⟨?_, Fin.forall_fin_succ.mpr ⟨?_, Fin.forall_fin_succ.mpr ⟨?_, Fin.forall_fin_succ.mpr ⟨?_, fun a => a.elim0⟩⟩⟩⟩
    · show ((BitVec.ofNat 32 (i 0).val).toNat + 1) * 1 ≤ 10; omega
    · show (0 + 1) * 8 ≤ 8; decide
    · show (0 + 1) * 48 ≤ 48; decide
    · show ((blkW i (lenW pf i)).toNat + 1) * 2048 ≤ 20480; omega
  · rw [transform_4_eq]
    have h0 := coord0 i
    have h1 := blkW_lt i (lenW pf i)
    refine ⟨fun a => ?_, .inr (Affine.block_words_dvd (of_decide_eq_true rfl) (by decide))⟩
    revert a
    refine Fin.forall_fin_succ.mpr ⟨?_, Fin.forall_fin_succ.mpr ⟨?_, Fin.forall_fin_succ.mpr ⟨?_, Fin.forall_fin_succ.mpr ⟨?_, fun a => a.elim0⟩⟩⟩⟩
    · show ((BitVec.ofNat 32 (i 0).val).toNat + 1) * 1 ≤ 10; omega
    · show (0 + 1) * 8 ≤ 8; decide
    · show (0 + 1) * 48 ≤ 48; decide
    · show ((blkW i (lenW pf i)).toNat + 1) * 2048 ≤ 20480; omega
  · rw [transform_6_eq]
    have h0 := coord0 i
    have h1 := blkW_lt i (lenW pf i)
    refine ⟨fun a => ?_, .inl rfl⟩
    revert a
    refine Fin.forall_fin_succ.mpr ⟨?_, Fin.forall_fin_succ.mpr ⟨?_, Fin.forall_fin_succ.mpr ⟨?_, fun a => a.elim0⟩⟩⟩
    · show ((BitVec.ofNat 32 (i 0).val).toNat + 1) * 1 ≤ 10; omega
    · show (0 + 1) * 8 ≤ 8; decide
    · show ((blkW i (lenW pf i)).toNat + 1) * 2048 ≤ 20480; omega

end Cert.KernelIdeal
-- ==== Proof.RunKernelIdeal.lean ====
/-
The body of the kernel as a run over whole memrefs.
-/
module

public import proofs.«01_k».proof.Proof.Gen.KernelIdeal.Loops
public import proofs.«01_k».proof.Proof.Gen.KernelIdeal.Launch
public import proofs.«01_k».proof.Proof.ChecksKernelIdeal
public import Idealize.ShloMosaic.Lib.Pipeline.Kit
public import Idealize.ShloMosaic.Lib.Pipeline.FrameBody
public import Idealize.ShloMosaic.Lib.Tactic
public import Idealize.ShloMosaic.Lib.WordCmp

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F]

local notation "𝕄" => MT nD τ sig Unit (Elt F) ℕ (UR sig nD τ) ℕ

/-- Each table as the body is handed it: its whole buffer as a memref, and that memref's wholeness. -/
abbrev tbM0_0 : Memref sig .tc .smem S10 .i32 := Memref.whole main_arg7
abbrev htbM0_0 : tbM0_0.IsWhole := Memref.isWhole_whole _
abbrev tbM0_1 : Memref sig .tc .smem S10 .i32 := Memref.whole main_arg8
abbrev htbM0_1 : tbM0_1.IsWhole := Memref.isWhole_whole _

/-- A table memref's buffer on core `c`: its contents type, and it held at half the full share, read-only. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

set_option maxHeartbeats 4000000 in
/-- The body's triple: on whole memrefs, the inputs' at their contents, everything else at anything, the body runs to
the continuation holding the inputs' as they were and the rest at contents nothing names. -/
theorem kernelRun0 (c : Dev nD) (i : grid0.Coords) (arg4 : Memref sig .tc .vmem S10x32x96 .bf16) (harg4 : arg4.IsWhole) (arg5 : Memref sig .tc .vmem S10x8x96 .bf16) (harg5 : arg5.IsWhole) (arg6 : Memref sig .tc .vmem S10x8x96 .bf16) (harg6 : arg6.IsWhole) (arg7 : Memref sig .tc .vmem S1x8x48x2048 .i8) (harg7 : arg7.IsWhole) (arg8 : Memref sig .tc .vmem S1x8x48x2048 .i8) (harg8 : arg8.IsWhole) (arg9 : Memref sig .tc .vmem S1x8x96x320 .f32) (harg9 : arg9.IsWhole) (arg10 : Memref sig .tc .vmem S1x8x2048 .f32) (harg10 : arg10.IsWhole) (arg11 : Memref sig .tc .vmem S48x1 .f32) (harg11 : arg11.IsWhole) (arg12 : Memref sig .tc .vmem S1x48 .f32) (harg12 : arg12.IsWhole) (arg13 : Memref sig .tc .vmem S1x32x96 .bf16) (harg13 : arg13.IsWhole) (arg14 : Memref sig .tc .vmem S1x32x96 .bf16) (harg14 : arg14.IsWhole) (arg15 : Memref sig .tc .vmem S1x1x32x2048 .f32) (harg15 : arg15.IsWhole) (arg16 : Memref sig .tc .vmem S2x48x128 .f32) (harg16 : arg16.IsWhole) (arg17 : Memref sig .tc .vmem S2x48x256 .f32) (harg17 : arg17.IsWhole) (arg18 : Memref sig .tc .vmem S2x48x128 .f32) (harg18 : arg18.IsWhole) (arg19 : Memref sig .tc .vmem S2x48x256 .f32) (harg19 : arg19.IsWhole) (arg20 : Memref sig .tc .vmem S2x48x128 .f32) (harg20 : arg20.IsWhole) (arg21 : Memref sig .tc .vmem S8x96x384 .f32) (harg21 : arg21.IsWhole) (arg22 : Memref sig .tc .vmem S4x8x192 .bf16) (harg22 : arg22.IsWhole) (arg23 : Memref sig .tc .vmem S8x8x128 .f32) (harg23 : arg23.IsWhole) (arg24 : Memref sig .tc .vmem S4x8x128 .f32) (harg24 : arg24.IsWhole) (arg25 : Memref sig .tc .vmem S4x8x192 .f32) (harg25 : arg25.IsWhole)
    (x4 : Vec F S10x32x96 .bf16) (x5 : Vec F S10x8x96 .bf16) (x6 : Vec F S10x8x96 .bf16) (x7 : Vec F S1x8x48x2048 .i8) (x8 : Vec F S1x8x48x2048 .i8) (x9 : Vec F S1x8x96x320 .f32) (x10 : Vec F S1x8x2048 .f32) (x11 : Vec F S48x1 .f32) (x12 : Vec F S1x48 .f32) (t2 : TbBuf0 (F := F) c tbM0_0) (t3 : TbBuf0 (F := F) c tbM0_1) :
      ∀ (E : Set ℕ) (K : PUnit → sProp 𝕄),
        iprop(tbPt0 c tbM0_0 t2 ∗ tbPt0 c tbM0_1 t3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
            ∗ (iprop(tbPt0 c tbM0_0 t2 ∗ tbPt0 c tbM0_1 t3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)) -∗ K ⟨⟩))
          ⊢ wp frame (wpE (defs₀ (F := F)) Variants.none c none) E (cc0__attend i tbM0_0 htbM0_0 tbM0_1 htbM0_1 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
    intro E K
    rw [cc0__attend_eq_skeleton]; unfold cc0__attend_skel
    unfold owns
    iintro ⟨HT2, HT3, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, Hk⟩
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    have hchk := chk1_all
    sl_exec
    by_cases hc3 : k0_cond3 i (kernelRun0.sl.r c i t2) = 1#1
    all_goals
      sl_exec
      sl_step
      iapply Hk
      isplitl [HT2]; · iexact HT2
      isplitl [HT3]; · iexact HT3
      isplitl [H4]; · (iexists _; isplitr; (ipureintro; exact harg4.read_unread _); iexact H4)
      isplitl [H5]; · (iexists _; isplitr; (ipureintro; exact harg5.read_unread _); iexact H5)
      isplitl [H6]; · (iexists _; isplitr; (ipureintro; exact harg6.read_unread _); iexact H6)
      isplitl [H7]; · (iexists _; isplitr; (ipureintro; exact harg7.read_unread _); iexact H7)
      isplitl [H8]; · (iexists _; isplitr; (ipureintro; exact harg8.read_unread _); iexact H8)
      isplitl [H9]; · (iexists _; isplitr; (ipureintro; exact harg9.read_unread _); iexact H9)
      isplitl [H10]; · (iexists _; isplitr; (ipureintro; exact harg10.read_unread _); iexact H10)
      isplitl [H11]; · (iexists _; isplitr; (ipureintro; exact harg11.read_unread _); iexact H11)
      isplitl [H12]; · (iexists _; isplitr; (ipureintro; exact harg12.read_unread _); iexact H12)
      isplitl [H13]; · (iexists _, _; isplitr; swap; iexact H13; ipureintro; rfl)
      isplitl [H14]; · (iexists _, _; isplitr; swap; iexact H14; ipureintro; rfl)
      isplitl [H15]; · (iexists _, _; isplitr; swap; iexact H15; ipureintro; rfl)
      isplitl [H16]; · (iexists _, _; isplitr; swap; iexact H16; ipureintro; rfl)
      isplitl [H17]; · (iexists _, _; isplitr; swap; iexact H17; ipureintro; rfl)
      isplitl [H18]; · (iexists _, _; isplitr; swap; iexact H18; ipureintro; rfl)
      isplitl [H19]; · (iexists _, _; isplitr; swap; iexact H19; ipureintro; rfl)
      isplitl [H20]; · (iexists _, _; isplitr; swap; iexact H20; ipureintro; rfl)
      isplitl [H21]; · (iexists _, _; isplitr; swap; iexact H21; ipureintro; rfl)
      isplitl [H22]; · (iexists _, _; isplitr; swap; iexact H22; ipureintro; rfl)
      isplitl [H23]; · (iexists _, _; isplitr; swap; iexact H23; ipureintro; rfl)
      isplitl [H24]; · (iexists _, _; isplitr; swap; iexact H24; ipureintro; rfl)
      (iexists _, _; isplitr; swap; iexact H25; ipureintro; rfl)

end Cert.KernelIdeal
-- ==== Proof.LaunchKernelIdeal.lean ====
/-
The launch of the kernel: the host operations before the call, the windows, the body at every point of the grid, and
the frame: the program ends, its arguments as they were, every semaphore counter at zero.
-/
module

public import proofs.«01_k».proof.Proof.Gen.KernelIdeal.Loops
public import proofs.«01_k».proof.Proof.Gen.KernelIdeal.Launch
public import proofs.«01_k».proof.Proof.ChecksKernelIdeal
public import proofs.«01_k».proof.Proof.RunKernelIdeal
public import Idealize.ShloMosaic.Lib.Claim
public import Idealize.ShloMosaic.Lib.Pipeline.Kit
public import Idealize.ShloMosaic.Lib.Pipeline.FrameBody
public import Idealize.ShloMosaic.Lib.Tactic
public import Idealize.ShloMosaic.Lib.WordCmp

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the call -/

/-- A core's buffers when the call is entered: after the host operations. -/
abbrev V (c : Dev nD) (b : Ref sig .tc) : Buf (Elt F) ((c : Thread nD τ).loc b) := StableHlo.after (hostOps0 (F := F)) (fun b => m (c, b)) b

theorem hostOps0_fresh : (hostOps0 (F := F) : List (HloOp τ sig (Elt F))).Forall fun op => op.fresh = ∅ := by
  simp only [List.Forall]; repeat' constructor

/-- What each host operation writes, in order. -/
abbrev hostOps0_W : List (Ref sig .tc) := [main_v0, main_cst, main_v1, main_v2, main_cst_0, main_v3, main_v4, main_cst_1, main_v5, main_v6, main_cst_2, main_v7, main_v8, main_v9, main_v10, main_v11, main_v12, main_v13, main_v14, main_v15, main_v16]
theorem hostOps0_writes : ((hostOps0 (F := F)) : List (HloOp τ sig (Elt F))).Forall fun op => op.writes ⊆ (hostOps0_W.map (Proc.devRef (τ := τ) .tc)).toFinset :=
  StableHlo.forall_writes_sub_of_map rfl

set_option maxHeartbeats 800000 in
/-- The program up to the call: the host operations, then the call, its buffers at `V`. -/
theorem hmain : Pipeline.HMainP (Ix := Unit) (Name := ℕ) (U := UR sig nD τ) (Lvl := ℕ) (pcfgs (F := F)) 0 defs₀ Variants.none m (main (F := F)) (V m) :=
  Pipeline.hmainP_prefix (pcfgs (F := F)) 0 defs₀ Variants.none m main (hostOps0 (F := F)) hostOps0_sub hostOps0_fresh main_chain

theorem V_main_arg0 (c : Dev nD) : V m c main_arg0 = m ((c : Thread nD τ).loc main_arg0) :=
  StableHlo.after_of_writes_sub (hostOps0 (F := F)) _ hostOps0_writes (by decide)
theorem V_main_arg1 (c : Dev nD) : V m c main_arg1 = m ((c : Thread nD τ).loc main_arg1) :=
  StableHlo.after_of_writes_sub (hostOps0 (F := F)) _ hostOps0_writes (by decide)
theorem V_main_arg2 (c : Dev nD) : V m c main_arg2 = m ((c : Thread nD τ).loc main_arg2) :=
  StableHlo.after_of_writes_sub (hostOps0 (F := F)) _ hostOps0_writes (by decide)
theorem V_main_arg3 (c : Dev nD) : V m c main_arg3 = m ((c : Thread nD τ).loc main_arg3) :=
  StableHlo.after_of_writes_sub (hostOps0 (F := F)) _ hostOps0_writes (by decide)
theorem V_main_arg4 (c : Dev nD) : V m c main_arg4 = m ((c : Thread nD τ).loc main_arg4) :=
  StableHlo.after_of_writes_sub (hostOps0 (F := F)) _ hostOps0_writes (by decide)
theorem V_main_arg5 (c : Dev nD) : V m c main_arg5 = m ((c : Thread nD τ).loc main_arg5) :=
  StableHlo.after_of_writes_sub (hostOps0 (F := F)) _ hostOps0_writes (by decide)
theorem V_main_arg6 (c : Dev nD) : V m c main_arg6 = m ((c : Thread nD τ).loc main_arg6) :=
  StableHlo.after_of_writes_sub (hostOps0 (F := F)) _ hostOps0_writes (by decide)
theorem V_main_arg7 (c : Dev nD) : V m c main_arg7 = m ((c : Thread nD τ).loc main_arg7) :=
  StableHlo.after_of_writes_sub (hostOps0 (F := F)) _ hostOps0_writes (by decide)
theorem V_main_arg8 (c : Dev nD) : V m c main_arg8 = m ((c : Thread nD τ).loc main_arg8) :=
  StableHlo.after_of_writes_sub (hostOps0 (F := F)) _ hostOps0_writes (by decide)

/-! ## The tables -/

/-- The tables' contents when the call is entered. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- The tables' contents as admissible contents: every block the tables name is inside its array (`ok_all`). -/
abbrev adm : (pcfg0 (F := F)).Adm := ⟨tbl m, ok_all _⟩
abbrev cfgM : Pipeline.Cfg sig Λ₀ := cfg0 (adm m)

theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = {(0 : Fin 2), (1 : Fin 2)} from by decide, bigSep_insert (by decide), bigSep_singleton]
  rfl

/-! ## The windows' blocks -/

/-- Window `w`'s block at point `t`, read off its array as the call finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

theorem before0_0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ (cfgM m) c) (hA : dat.A 4 = V m c (Pipeline.arrRef spec0 4))
    (hafter : ∀ t, dat.after 4 t = iblk m c 4 t) (t : Fin (cfgM m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ (cfgM m) c) (hA : dat.A 5 = V m c (Pipeline.arrRef spec0 5))
    (hafter : ∀ t, dat.after 5 t = iblk m c 5 t) (t : Fin (cfgM m).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ (cfgM m) c) (hA : dat.A 6 = V m c (Pipeline.arrRef spec0 6))
    (hafter : ∀ t, dat.after 6 t = iblk m c 6 t) (t : Fin (cfgM m).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ (cfgM m) c) (hA : dat.A 7 = V m c (Pipeline.arrRef spec0 7))
    (hafter : ∀ t, dat.after 7 t = iblk m c 7 t) (t : Fin (cfgM m).N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ (cfgM m) c) (hA : dat.A 8 = V m c (Pipeline.arrRef spec0 8))
    (hafter : ∀ t, dat.after 8 t = iblk m c 8 t) (t : Fin (cfgM m).N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame's post from the run's -/

theorem frame_of (rdat : (c : Dev nD) → Pipeline.RDat τ (Elt F) Unit ℕ (UR sig nD τ) ℕ ((Pipeline.pin pcfgs fun _ => adm m) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      (Pipeline.RDat.FramePost.arr_in h c 6 rfl).trans ((hA c 6).trans (V_main_arg6 m c)),
      ((h c).2 main_arg7 (by decide : main_arg7 ∈ Pipeline.restRefs sig spec0)).trans (V_main_arg7 m c),
      ((h c).2 main_arg8 (by decide : main_arg8 ∈ Pipeline.restRefs sig spec0)).trans (V_main_arg8 m c)⟩) h

/-! ## The body at a point -/

abbrev ms0_0 (t : Fin (cfgM m).N) : Memref sig .tc .vmem S10x32x96 .bf16 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S10x8x96 .bf16 := spec0_1.stage ((cfgM m).slots t 1)
abbrev hs0_1 (t : Fin (cfgM m).N) : (ms0_1 m t).IsWhole := hstage0_1 (((cfgM m).slots t 1).cast nbuf0_1)
abbrev ms0_2 (t : Fin (cfgM m).N) : Memref sig .tc .vmem S10x8x96 .bf16 := spec0_2.stage ((cfgM m).slots t 2)
abbrev hs0_2 (t : Fin (cfgM m).N) : (ms0_2 m t).IsWhole := hstage0_2 (((cfgM m).slots t 2).cast nbuf0_2)
abbrev ms0_3 (t : Fin (cfgM m).N) : Memref sig .tc .vmem S1x8x48x2048 .i8 := spec0_3.stage ((cfgM m).slots t 3)
abbrev hs0_3 (t : Fin (cfgM m).N) : (ms0_3 m t).IsWhole := hstage0_3 (((cfgM m).slots t 3).cast nbuf0_3)
abbrev ms0_4 (t : Fin (cfgM m).N) : Memref sig .tc .vmem S1x8x48x2048 .i8 := spec0_4.stage ((cfgM m).slots t 4)
abbrev hs0_4 (t : Fin (cfgM m).N) : (ms0_4 m t).IsWhole := hstage0_4 (((cfgM m).slots t 4).cast nbuf0_4)
abbrev ms0_5 (t : Fin (cfgM m).N) : Memref sig .tc .vmem S1x8x96x320 .f32 := spec0_5.stage ((cfgM m).slots t 5)
abbrev hs0_5 (t : Fin (cfgM m).N) : (ms0_5 m t).IsWhole := hstage0_5 (((cfgM m).slots t 5).cast nbuf0_5)
abbrev ms0_6 (t : Fin (cfgM m).N) : Memref sig .tc .vmem S1x8x2048 .f32 := spec0_6.stage ((cfgM m).slots t 6)
abbrev hs0_6 (t : Fin (cfgM m).N) : (ms0_6 m t).IsWhole := hstage0_6 (((cfgM m).slots t 6).cast nbuf0_6)
abbrev ms0_7 (t : Fin (cfgM m).N) : Memref sig .tc .vmem S48x1 .f32 := spec0_7.stage ((cfgM m).slots t 7)
abbrev hs0_7 (t : Fin (cfgM m).N) : (ms0_7 m t).IsWhole := hstage0_7 (((cfgM m).slots t 7).cast nbuf0_7)
abbrev ms0_8 (t : Fin (cfgM m).N) : Memref sig .tc .vmem S1x48 .f32 := spec0_8.stage ((cfgM m).slots t 8)
abbrev hs0_8 (t : Fin (cfgM m).N) : (ms0_8 m t).IsWhole := hstage0_8 (((cfgM m).slots t 8).cast nbuf0_8)
abbrev ms0_9 (t : Fin (cfgM m).N) : Memref sig .tc .vmem S1x32x96 .bf16 := spec0_9.stage ((cfgM m).slots t 9)
abbrev hs0_9 (t : Fin (cfgM m).N) : (ms0_9 m t).IsWhole := hstage0_9 (((cfgM m).slots t 9).cast nbuf0_9)
abbrev ms0_10 (t : Fin (cfgM m).N) : Memref sig .tc .vmem S1x32x96 .bf16 := spec0_10.stage ((cfgM m).slots t 10)
abbrev hs0_10 (t : Fin (cfgM m).N) : (ms0_10 m t).IsWhole := hstage0_10 (((cfgM m).slots t 10).cast nbuf0_10)
abbrev ms0_11 (t : Fin (cfgM m).N) : Memref sig .tc .vmem S1x1x32x2048 .f32 := spec0_11.stage ((cfgM m).slots t 11)
abbrev hs0_11 (t : Fin (cfgM m).N) : (ms0_11 m t).IsWhole := hstage0_11 (((cfgM m).slots t 11).cast nbuf0_11)

/-- The kernel's body at point `t`, on what the pipeline calls it with. -/
abbrev bodyAt0 (t : Fin (cfgM m).N) : Prog (TpuEff nD τ sig (Elt F) Λ₀ .tc) PUnit :=
  cc0__attend (grid0.coords t) (Memref.whole main_arg7) (Memref.isWhole_whole _) (Memref.whole main_arg8) (Memref.isWhole_whole _) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (ms0_8 m t) (hs0_8 m t) (ms0_9 m t) (hs0_9 m t) (ms0_10 m t) (hs0_10 m t) (ms0_11 m t) (hs0_11 m t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _)

theorem defs₀_row (t : Fin (cfgM m).N) :
    defs₀ (F := F) .tc (cfgM m).body ((cfgM m).bodyArgs t ((cfgM m).slots t)) = bodyAt0 m t := by
  unfold defs₀; rw [Defs.onTc_tc]

end Cert.KernelIdeal

end
-- ==== Proof.FrameKernelIdeal.lean ====
/-
The frame of the kernel, nothing said of what its outputs hold.
-/
module

public import proofs.«01_k».proof.Proof.Gen.KernelIdeal.Loops
public import proofs.«01_k».proof.Proof.Gen.KernelIdeal.Launch
public import proofs.«01_k».proof.Proof.ChecksKernelIdeal
public import proofs.«01_k».proof.Proof.LaunchKernelIdeal
public import Idealize.ShloMosaic.Lib.Claim
public import Idealize.ShloMosaic.Lib.Pipeline.Kit
public import Idealize.ShloMosaic.Lib.Pipeline.FrameBody
public import Idealize.ShloMosaic.Lib.Tactic
public import Idealize.ShloMosaic.Lib.WordCmp

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

namespace Plain

/-- The outputs, of which nothing is said here. -/
def forgets0 : Fin 12 → Bool := fun w => decide (9 ≤ w.val)

/-- What each window's buffer holds after the body at each point: the inputs' their blocks. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := (cfgM m)) ⟨9, h⟩ t
    | ⟨10, h⟩ => Pipeline.Dat.unnamed (cfg := (cfgM m)) ⟨10, h⟩ t
    | ⟨11, h⟩ => Pipeline.Dat.unnamed (cfg := (cfgM m)) ⟨11, h⟩ t
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after0_0 (c : Dev nD) (t : Fin (cfgM m).N) : (dats m 0 c).after 0 t = iblk m c 0 t := by dsimp only [dats]; try rfl
theorem after0_1 (c : Dev nD) (t : Fin (cfgM m).N) : (dats m 0 c).after 1 t = iblk m c 1 t := by dsimp only [dats]; try rfl
theorem after0_2 (c : Dev nD) (t : Fin (cfgM m).N) : (dats m 0 c).after 2 t = iblk m c 2 t := by dsimp only [dats]; try rfl
theorem after0_3 (c : Dev nD) (t : Fin (cfgM m).N) : (dats m 0 c).after 3 t = iblk m c 3 t := by dsimp only [dats]; try rfl
theorem after0_4 (c : Dev nD) (t : Fin (cfgM m).N) : (dats m 0 c).after 4 t = iblk m c 4 t := by dsimp only [dats]; try rfl
theorem after0_5 (c : Dev nD) (t : Fin (cfgM m).N) : (dats m 0 c).after 5 t = iblk m c 5 t := by dsimp only [dats]; try rfl
theorem after0_6 (c : Dev nD) (t : Fin (cfgM m).N) : (dats m 0 c).after 6 t = iblk m c 6 t := by dsimp only [dats]; try rfl
theorem after0_7 (c : Dev nD) (t : Fin (cfgM m).N) : (dats m 0 c).after 7 t = iblk m c 7 t := by dsimp only [dats]; try rfl
theorem after0_8 (c : Dev nD) (t : Fin (cfgM m).N) : (dats m 0 c).after 8 t = iblk m c 8 t := by dsimp only [dats]; try rfl
theorem before0_0 (c : Dev nD) (t : Fin (cfgM m).N) (d) : (dats m 0 c).before 0 t d = iblk m c 0 t :=
  before0_0_of m (dats m 0 c) (A_eq m c 0) (after0_0 m c) t d
theorem before0_1 (c : Dev nD) (t : Fin (cfgM m).N) (d) : (dats m 0 c).before 1 t d = iblk m c 1 t :=
  before0_1_of m (dats m 0 c) (A_eq m c 1) (after0_1 m c) t d
theorem before0_2 (c : Dev nD) (t : Fin (cfgM m).N) (d) : (dats m 0 c).before 2 t d = iblk m c 2 t :=
  before0_2_of m (dats m 0 c) (A_eq m c 2) (after0_2 m c) t d
theorem before0_3 (c : Dev nD) (t : Fin (cfgM m).N) (d) : (dats m 0 c).before 3 t d = iblk m c 3 t :=
  before0_3_of m (dats m 0 c) (A_eq m c 3) (after0_3 m c) t d
theorem before0_4 (c : Dev nD) (t : Fin (cfgM m).N) (d) : (dats m 0 c).before 4 t d = iblk m c 4 t :=
  before0_4_of m (dats m 0 c) (A_eq m c 4) (after0_4 m c) t d
theorem before0_5 (c : Dev nD) (t : Fin (cfgM m).N) (d) : (dats m 0 c).before 5 t d = iblk m c 5 t :=
  before0_5_of m (dats m 0 c) (A_eq m c 5) (after0_5 m c) t d
theorem before0_6 (c : Dev nD) (t : Fin (cfgM m).N) (d) : (dats m 0 c).before 6 t d = iblk m c 6 t :=
  before0_6_of m (dats m 0 c) (A_eq m c 6) (after0_6 m c) t d
theorem before0_7 (c : Dev nD) (t : Fin (cfgM m).N) (d) : (dats m 0 c).before 7 t d = iblk m c 7 t :=
  before0_7_of m (dats m 0 c) (A_eq m c 7) (after0_7 m c) t d
theorem before0_8 (c : Dev nD) (t : Fin (cfgM m).N) (d) : (dats m 0 c).before 8 t d = iblk m c 8 t :=
  before0_8_of m (dats m 0 c) (A_eq m c 8) (after0_8 m c) t d

/-- What the body is called with at point `t`, and what it returns. -/
def bodyPre (c : Dev nD) (t : Fin (cfgM m).N) : sProp 𝕄 :=
  iprop((dats m 0 c).Φ t.castSucc ∗ (dats m 0 c).owesAt () t.castSucc
    ∗ (∃ d, owns (c : Thread nD τ) (ms0_0 m t) fullShare ((dats m 0 c).before 0 t d))
    ∗ (∃ d, owns (c : Thread nD τ) (ms0_1 m t) fullShare ((dats m 0 c).before 1 t d))
    ∗ (∃ d, owns (c : Thread nD τ) (ms0_2 m t) fullShare ((dats m 0 c).before 2 t d))
    ∗ (∃ d, owns (c : Thread nD τ) (ms0_3 m t) fullShare ((dats m 0 c).before 3 t d))
    ∗ (∃ d, owns (c : Thread nD τ) (ms0_4 m t) fullShare ((dats m 0 c).before 4 t d))
    ∗ (∃ d, owns (c : Thread nD τ) (ms0_5 m t) fullShare ((dats m 0 c).before 5 t d))
    ∗ (∃ d, owns (c : Thread nD τ) (ms0_6 m t) fullShare ((dats m 0 c).before 6 t d))
    ∗ (∃ d, owns (c : Thread nD τ) (ms0_7 m t) fullShare ((dats m 0 c).before 7 t d))
    ∗ (∃ d, owns (c : Thread nD τ) (ms0_8 m t) fullShare ((dats m 0 c).before 8 t d))
    ∗ (∃ d, owns (c : Thread nD τ) (ms0_9 m t) fullShare d)
    ∗ (∃ d, owns (c : Thread nD τ) (ms0_10 m t) fullShare d)
    ∗ (∃ d, owns (c : Thread nD τ) (ms0_11 m t) fullShare d))
def bodyPost (c : Dev nD) (t : Fin (cfgM m).N) : sProp 𝕄 :=
  iprop((dats m 0 c).Φ t.succ ∗ (dats m 0 c).owesAt () t.succ
    ∗ owns (c : Thread nD τ) (ms0_0 m t) fullShare ((dats m 0 c).after 0 t)
    ∗ owns (c : Thread nD τ) (ms0_1 m t) fullShare ((dats m 0 c).after 1 t)
    ∗ owns (c : Thread nD τ) (ms0_2 m t) fullShare ((dats m 0 c).after 2 t)
    ∗ owns (c : Thread nD τ) (ms0_3 m t) fullShare ((dats m 0 c).after 3 t)
    ∗ owns (c : Thread nD τ) (ms0_4 m t) fullShare ((dats m 0 c).after 4 t)
    ∗ owns (c : Thread nD τ) (ms0_5 m t) fullShare ((dats m 0 c).after 5 t)
    ∗ owns (c : Thread nD τ) (ms0_6 m t) fullShare ((dats m 0 c).after 6 t)
    ∗ owns (c : Thread nD τ) (ms0_7 m t) fullShare ((dats m 0 c).after 7 t)
    ∗ owns (c : Thread nD τ) (ms0_8 m t) fullShare ((dats m 0 c).after 8 t)
    ∗ (∃ d, owns (c : Thread nD τ) (ms0_9 m t) fullShare d)
    ∗ (∃ d, owns (c : Thread nD τ) (ms0_10 m t) fullShare d)
    ∗ (∃ d, owns (c : Thread nD τ) (ms0_11 m t) fullShare d))

set_option maxHeartbeats 2000000 in
theorem sound_body (c : Dev nD) (t : Fin (cfgM m).N) :
    bodyPre m c t ⊢ wp frame (wpE (defs₀ (F := F)) Variants.none c none) Set.univ (bodyAt0 m t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = iprop(Pipeline.ΦA spec0 c ∗ Pipeline.ΦT pre0 (tbl m) c) from rfl, PhiT0_eq]
  unfold Pipeline.ΦA
  rw [scopedRest0_eq]
  simp only [← owns_whole]
  iintro ⟨⟨⟨⟨⟨%e0, G0⟩, ⟨%e1, G1⟩, ⟨%e2, G2⟩, ⟨%e3, G3⟩, ⟨%e4, G4⟩, ⟨%e5, G5⟩, ⟨%e6, G6⟩, ⟨%e7, G7⟩, ⟨%e8, G8⟩, ⟨%e9, G9⟩⟩, Hr⟩, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0 c (grid0.coords t) _ _ _ _ _ _ _ _ _ _ _ _ _ _ _ _ _ _ _ _ _ _ _ _ (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (iblk m c 0 t) (iblk m c 1 t) (iblk m c 2 t) (iblk m c 3 t) (iblk m c 4 t) (iblk m c 5 t) (iblk m c 6 t) (iblk m c 7 t) (iblk m c 8 t) (tbl m 0) (tbl m 1)) Set.univ _)
  isplitl [HT0]; · iexact HT0
  isplitl [HT1]; · iexact HT1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [G0]; · iexists _; iexact G0
  isplitl [G1]; · iexists _; iexact G1
  isplitl [G2]; · iexists _; iexact G2
  isplitl [G3]; · iexists _; iexact G3
  isplitl [G4]; · iexists _; iexact G4
  isplitl [G5]; · iexists _; iexact G5
  isplitl [G6]; · iexists _; iexact G6
  isplitl [G7]; · iexists _; iexact G7
  isplitl [G8]; · iexists _; iexact G8
  isplitl [G9]; · iexists _; iexact G9
  iintro ⟨HT0, HT1, H0, H1, H2, H3, H4, H5, H6, H7, H8, H9, H10, H11, G0, G1, G2, G3, G4, G5, G6, G7, G8, G9⟩
  isplitl [G0 G1 G2 G3 G4 G5 G6 G7 G8 G9 Hr HT0 HT1]
  · isplitl [G0 G1 G2 G3 G4 G5 G6 G7 G8 G9 Hr]
    · isplitr [Hr]; swap; · iexact Hr
      isplitl [G0]; · iexact G0
      isplitl [G1]; · iexact G1
      isplitl [G2]; · iexact G2
      isplitl [G3]; · iexact G3
      isplitl [G4]; · iexact G4
      isplitl [G5]; · iexact G5
      isplitl [G6]; · iexact G6
      isplitl [G7]; · iexact G7
      isplitl [G8]; · iexact G8
      iexact G9
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation (c : Dev nD) : BodyObligation (dats (F := F) m 0 c) (defs₀ (F := F)) Variants.none () Set.univ forgets0 := fun t => by
  rw [bigSep_W0, bigSep_W0, defs₀_row m]
  exact triple_restated (sound_body m c t) rfl .rfl fun _ => .rfl

set_option backward.isDefEq.respectTransparency.types false in
theorem run_main_quiescent : θ_run defs (onTc (τ := τ) (main (F := F))) (s₀ m ρ) (fun r => (Pipeline.RDat.FramePost ((Pipeline.pin pcfgs fun _ => adm m) 0) (fun c => (dats m 0 c).toRForget forgets0) (V m)) r ∧ r.2.sem = fun _ => 0) :=
  Pipeline.θ_run_frameP_forget (Q' := _) pcfgs (fun _ => adm m) (dats m) (0 : Fin 1) launch0 defs₀ Variants.none forgets0 m ρ main
    (hbody := fun c => (body_obligation m c).loose) (hshare := fun c => (dats m 0 c).share_full fun _ => rfl)
    (howed := fun _ _ => rfl) (V := V m) (hmain := hmain m) (hA := A_eq m) (hpf := V_pre m) (hΦ := fun _ _ => rfl)

theorem run_main : θ_run defs (onTc (τ := τ) (main (F := F))) (s₀ m ρ) (Pipeline.RDat.FramePost ((Pipeline.pin pcfgs fun _ => adm m) 0) (fun c => (dats m 0 c).toRForget forgets0) (V m)) :=
  (θ_run defs _ _).mono (fun _ h => h.1) (run_main_quiescent m ρ)

/-- The frame: the program ends, its arguments are unchanged, every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (fun c => (dats m 0 c).toRForget forgets0) (A_eq m) (run_main m ρ)) ((θ_run defs _ _).mono (fun _ h => h.2) (run_main_quiescent m ρ))

end Plain

end Cert.KernelIdeal

end
-- ==== Proof.RefValue.lean ====
/-
The reference's results at an element.
-/
module

public import proofs.«01_k».proof.Proof.Gen.ReferenceIdeal.Read
public import Idealize.ShloMosaic.Lib.Pipeline.ValueKit

@[expose] public section

set_option maxRecDepth 16384

noncomputable section

namespace Cert.ReferenceIdeal

open Idealize.ShloMosaic Idealize.ShloMosaic.Tactic
open Read

/-- The frequency of a channel. -/
def freq (c : Fin 48) : EReal := val_main_v20 (F := Ideal) (ix1 c)

/-- A position times a channel's frequency. -/
def angR (w : BitVec 32) (c : Fin 48) : EReal := ((w.toInt : ℝ) : EReal) * freq c

theorem freq' (c : Fin 48) : val_main_v37 (F := Ideal) (ix1 c) = freq c := rfl

theorem zeroC (i : S_.Idx) : constant (F := Ideal) S_ .f32 0x00000000#32 i = 0 := by
  pointwise

theorem addi_zero (a : BitVec 32) : IntOp.addi a 0#32 = a := BitVec.add_zero a

theorem angNew (x7 x8 : IVec S10 32) (b : Fin 10) (c : Fin 48) :
    val_main_v43 (F := Ideal) x7 x8 (ix3 b 0 c) = angR (x8 (ix1 b) + x7 (ix1 b)) c := by
  pointwise [val_main_v43, val_main_v41, val_main_v39, val_main_v38, val_main_v11, val_main_v7, val_main_v10, val_main_v9, val_main_v8, val_main_v6, val_main_v42, val_main_v40, freq', angR]
  rw [addi_zero]; rfl

theorem angCache (x8 : IVec S10 32) (b : Fin 10) (t : Fin 20480) (c : Fin 48) :
    val_main_v26 (F := Ideal) x8 (ix3 b t c) = angR (x8 (ix1 b) + BitVec.ofNat 32 t.val) c := by
  pointwise [val_main_v26, val_main_v24, val_main_v22, val_main_v21, val_main_v5, val_main_v3, val_main_v0, val_main_v4, val_main_v2, val_main_v1, val_main_v25, val_main_v23, angR, freq]
  rfl

theorem ref61a (x0 x7 x8) (b : Fin 10) (h : Fin 32) (l : Fin 48) : val_main_v61 (F := Ideal) x0 x7 x8 (ix4 b 0 h ⟨l.val, by omega⟩) =
    x0 (ix4 b 0 h ⟨l.val, by omega⟩) * Ideal.cos (angR (x8 (ix1 b) + x7 (ix1 b)) l) - x0 (ix4 b 0 h ⟨48 + l.val, by omega⟩) * Ideal.sin (angR (x8 (ix1 b) + x7 (ix1 b)) l) := by
  pointwise [val_main_v61, val_main_v55, val_main_v52, val_main_v54, val_main_v49, val_main_v50, val_main_v48, val_main_v51, val_main_v53, val_main_v46, val_main_v47, val_main_v44, val_main_v45, angNew]

theorem ref61b (x0 x7 x8) (b : Fin 10) (h : Fin 32) (l : Fin 48) : val_main_v61 (F := Ideal) x0 x7 x8 (ix4 b 0 h ⟨48 + l.val, by omega⟩) =
    x0 (ix4 b 0 h ⟨48 + l.val, by omega⟩) * Ideal.cos (angR (x8 (ix1 b) + x7 (ix1 b)) l) + x0 (ix4 b 0 h ⟨l.val, by omega⟩) * Ideal.sin (angR (x8 (ix1 b) + x7 (ix1 b)) l) := by
  pointwise [val_main_v61, val_main_v60, val_main_v57, val_main_v59, val_main_v49, val_main_v50, val_main_v48, val_main_v56, val_main_v58, val_main_v46, val_main_v47, val_main_v44, val_main_v45, angNew]

/-- The reference's rotated queries. -/
theorem refQ (x0 x7 x8) (b : Fin 10) (h : Fin 32) (l : Fin 96) :
    val_main_v125 (F := Ideal) x0 x7 x8 (ix3 b h l) = val_main_v61 (F := Ideal) x0 x7 x8 (ix4 b 0 h l) := by
  pointwise [val_main_v125, val_main_v62]

/-- The low four bits of a code, read with their sign. -/
def loR (w : BitVec 8) : BitVec 32 :=
  Scalar.select (IntOp.cmpi .sge (IntOp.andi (BitVec.setWidth 32 w) 15#32) 8#32) (IntOp.subi (IntOp.andi (BitVec.setWidth 32 w) 15#32) 16#32) (IntOp.andi (BitVec.setWidth 32 w) 15#32)
/-- The high four bits of a code, read with their sign. -/
def hiR (w : BitVec 8) : BitVec 32 :=
  Scalar.select (IntOp.cmpi .sge (IntOp.shrsi .host (BitVec.setWidth 32 w) 4#32) 8#32) (IntOp.subi (IntOp.shrsi .host (BitVec.setWidth 32 w) 4#32) 16#32) (IntOp.shrsi .host (BitVec.setWidth 32 w) 4#32)

theorem ref73 (x3) (b : Fin 10) (h : Fin 8) (t : Fin 20480) (c : Fin 48) :
    val_main_v73 (F := Ideal) x3 (ix4 b h t c) = loR (x3 (ix4 b h t c)) := by
  pointwise [val_main_v73, val_main_v70, val_main_v65, val_main_v63, val_main_v64, val_main_c, val_main_v69, val_main_c_8, val_main_v72, val_main_v71, val_main_c_9, loR]

theorem ref78 (x3) (b : Fin 10) (h : Fin 8) (t : Fin 20480) (c : Fin 48) :
    val_main_v78 (F := Ideal) x3 (ix4 b h t c) = hiR (x3 (ix4 b h t c)) := by
  pointwise [val_main_v78, val_main_v75, val_main_v68, val_main_v66, val_main_v67, val_main_c_7, val_main_v74, val_main_c_10, val_main_v77, val_main_v76, val_main_c_11, hiR]

theorem ref87 (x3 x5) (b : Fin 10) (h : Fin 8) (t : Fin 20480) (c : Fin 48) :
    val_main_v87 (F := Ideal) x3 x5 (ix4 b h t c) = (((loR (x3 (ix4 b h t c))).toInt : ℝ) : EReal) * x5 (ix4 b h ⟨t.val / 64, by omega⟩ ⟨c.val, by omega⟩) := by
  pointwise [val_main_v87, val_main_v86, val_main_v85, val_main_v83, val_main_v82, val_main_v84, val_main_v81, val_main_v80, val_main_v79, ref73]
  rfl

theorem ref94 (x3 x5) (b : Fin 10) (h : Fin 8) (t : Fin 20480) (c : Fin 48) :
    val_main_v94 (F := Ideal) x3 x5 (ix4 b h t c) = (((hiR (x3 (ix4 b h t c))).toInt : ℝ) : EReal) * x5 (ix4 b h ⟨t.val / 64, by omega⟩ ⟨48 + c.val, by omega⟩) := by
  pointwise [val_main_v94, val_main_v93, val_main_v92, val_main_v90, val_main_v89, val_main_v91, val_main_v88, val_main_v80, val_main_v79, ref78]
  rfl

/-- The first halves of the rotated keys. -/
theorem ref110a (x3 x5 x8) (b : Fin 10) (h : Fin 8) (t : Fin 20480) (c : Fin 48) :
    val_main_v110 (F := Ideal) x3 x5 x8 (ix5 b h t 0 c) = val_main_v87 (F := Ideal) x3 x5 (ix4 b h t c) * Ideal.cos (angR (x8 (ix1 b) + BitVec.ofNat 32 t.val) c)
      - val_main_v94 (F := Ideal) x3 x5 (ix4 b h t c) * Ideal.sin (angR (x8 (ix1 b) + BitVec.ofNat 32 t.val) c) := by
  pointwise [val_main_v110, val_main_v109, val_main_v107, val_main_v101, val_main_v98, val_main_v100, val_main_v97, val_main_v99, val_main_v95, val_main_v96, val_main_v27, val_main_v28, angCache]

/-- The second halves of the rotated keys. -/
theorem ref110b (x3 x5 x8) (b : Fin 10) (h : Fin 8) (t : Fin 20480) (c : Fin 48) :
    val_main_v110 (F := Ideal) x3 x5 x8 (ix5 b h t 1 c) = val_main_v94 (F := Ideal) x3 x5 (ix4 b h t c) * Ideal.cos (angR (x8 (ix1 b) + BitVec.ofNat 32 t.val) c)
      + val_main_v87 (F := Ideal) x3 x5 (ix4 b h t c) * Ideal.sin (angR (x8 (ix1 b) + BitVec.ofNat 32 t.val) c) := by
  pointwise [val_main_v110, val_main_v109, val_main_v108, val_main_v106, val_main_v103, val_main_v105, val_main_v102, val_main_v104, val_main_v95, val_main_v96, val_main_v27, val_main_v28, angCache]

theorem ref111 (x0 x7 x8) (b : Fin 10) (k : Fin 8) (g : Fin 4) (j : Fin 2) (c : Fin 48) :
    val_main_v111 (F := Ideal) x0 x7 x8 (ix6 b 0 k g j c) = val_main_v61 (F := Ideal) x0 x7 x8 (ix4 b 0 ⟨k.val * 4 + g.val, by omega⟩ ⟨j.val * 48 + c.val, by omega⟩) := by
  pointwise [val_main_v111, val_main_v62]

theorem ref112 (x0 x3 x5 x7 x8) (b : Fin 10) (k : Fin 8) (g : Fin 4) (t : Fin 20480) :
    val_main_v112 (F := Ideal) x0 x3 x5 x7 x8 (ix5 b k t 0 g) = ∑ j : Fin 2, ∑ c : Fin 48, val_main_v110 (F := Ideal) x3 x5 x8 (ix5 b k t j c)
      * val_main_v61 (F := Ideal) x0 x7 x8 (ix4 b 0 ⟨k.val * 4 + g.val, by omega⟩ ⟨j.val * 48 + c.val, by omega⟩) := by
  pointwise [val_main_v112]
  simp only [ref111]

/-- The reference's scores. -/
theorem ref124 (x0 x3 x5 x7 x8) (b : Fin 10) (h : Fin 32) (t : Fin 20480) :
    val_main_v124 (F := Ideal) x0 x3 x5 x7 x8 (ix4 b 0 h t) = Scalar.select (IntOp.cmpi .slt (BitVec.ofNat 32 t.val) (x7 (ix1 b)))
      (val_main_v112 (F := Ideal) x0 x3 x5 x7 x8 (ix5 b ⟨h.val / 4, by omega⟩ t 0 ⟨h.val % 4, by omega⟩) * Ideal.ofBits FTy.f32 0x3DD105EC#32) 0 := by
  pointwise [val_main_v124, val_main_v123, val_main_call2_v1, val_main_call2_v2, val_main_call2_v0, val_main_cst_13, val_main_v122, val_main_v121, val_main_v119, val_main_v117, val_main_v116, val_main_v120, val_main_v118,
    val_main_v115, val_main_v114, val_main_cst_12, val_main_v113]
  exact congrArg (Scalar.select _ _) (zeroC ix0)

/-- A channel's frequency, spelt out. -/
theorem freq_eq (c : Fin 48) : freq c = Ideal.div 1 (Ideal.pow (Ideal.ofBits FTy.f32 0x48F42400#32)
    (Ideal.div ((((BitVec.ofNat 32 c.val).toInt : ℝ) : EReal) * Ideal.ofBits FTy.f32 0x40000000#32) (Ideal.ofBits FTy.f32 0x42C00000#32))) := by
  pointwise [freq, val_main_v20, val_main_v19, val_main_cst_2, val_main_v18, val_main_v17, val_main_cst_1, val_main_v16, val_main_v15, val_main_v14, val_main_v13, val_main_v12, val_main_cst, val_main_cst_0]
  rfl

end Cert.ReferenceIdeal

end
-- ==== Proof.StateKernelIdeal.lean ====
/-
What one grid point leaves in the scratch memrefs and the results, as functions of what it found.
-/
module

public import proofs.«01_k».proof.Proof.Gen.KernelIdeal.Loops
public import proofs.«01_k».proof.Proof.Gen.KernelIdeal.Launch
public import proofs.«01_k».proof.Proof.RunKernelIdeal
public import Idealize.ShloMosaic.Lib.Pipeline.Kit
public import Idealize.ShloMosaic.Lib.Pipeline.FrameBody
public import Idealize.ShloMosaic.Lib.Tactic
public import Idealize.ShloMosaic.Lib.WordCmp

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F]

local notation "𝕄" => MT nD τ sig Unit (Elt F) ℕ (UR sig nD τ) ℕ

/-- What one point leaves in scratch or result memref 16. -/
def W16 (c : Dev nD) (i : grid0.Coords) (arg11 : Memref sig .tc .vmem S48x1 .f32) (harg11 : arg11.IsWhole) (arg16 : Memref sig .tc .vmem S2x48x128 .f32) (harg16 : arg16.IsWhole) (x11 : Vec F S48x1 .f32) (d16 : Vec F S2x48x128 .f32)  : BufTy.Contents (Elt F) arg16.view.ty :=
  if hc : kernelRun0.sl.v30 i = 1#1 then arg16.view.writes (Elt F) (harg16.unread d16) ([⟨Rect.unit ![1, 0, 0] S1x48x128.size inb_S2x48x128_S1x48x128_1_0_0, k0_pay14 (View.readAt (Elt F) arg11.view (Rect.unit (s := S48x1) ![0, 0] S48x1.size inb_S48x1_S48x1_0_0).toLoadRect (harg11.unread x11))⟩, ⟨Rect.unit ![0, 0, 0] S1x48x128.size inb_S2x48x128_S1x48x128_0_0_0, k0_pay13 (View.readAt (Elt F) arg11.view (Rect.unit (s := S48x1) ![0, 0] S48x1.size inb_S48x1_S48x1_0_0).toLoadRect (harg11.unread x11))⟩] : List (View.Piece (Elt F) S2x48x128 .f32)) else (harg16.unread d16)

/-- What one point leaves in scratch or result memref 17. -/
def W17 (c : Dev nD) (i : grid0.Coords) (arg11 : Memref sig .tc .vmem S48x1 .f32) (harg11 : arg11.IsWhole) (arg17 : Memref sig .tc .vmem S2x48x256 .f32) (harg17 : arg17.IsWhole) (x11 : Vec F S48x1 .f32) (d17 : Vec F S2x48x256 .f32)  : BufTy.Contents (Elt F) arg17.view.ty :=
  if hc : kernelRun0.sl.v30 i = 1#1 then arg17.view.writes (Elt F) (harg17.unread d17) ([⟨Rect.unit ![1, 0, 128] S1x48x128.size inb_S2x48x256_S1x48x128_1_0_128, k0_pay21 (kernelRun0.sl.r_2 c arg11 harg11 x11)⟩, ⟨Rect.unit ![0, 0, 128] S1x48x128.size inb_S2x48x256_S1x48x128_0_0_128, k0_pay20 (kernelRun0.sl.r_3 c arg11 harg11 x11)⟩, ⟨Rect.unit ![1, 0, 0] S1x48x128.size inb_S2x48x256_S1x48x128_1_0_0, k0_pay17 (View.readAt (Elt F) arg11.view (Rect.unit (s := S48x1) ![0, 0] S48x1.size inb_S48x1_S48x1_0_0).toLoadRect (harg11.unread x11))⟩, ⟨Rect.unit ![0, 0, 0] S1x48x128.size inb_S2x48x256_S1x48x128_0_0_0, k0_pay16 (View.readAt (Elt F) arg11.view (Rect.unit (s := S48x1) ![0, 0] S48x1.size inb_S48x1_S48x1_0_0).toLoadRect (harg11.unread x11))⟩] : List (View.Piece (Elt F) S2x48x256 .f32)) else (harg17.unread d17)

/-- What one point leaves in scratch or result memref 18. -/
def W18 (c : Dev nD) (i : grid0.Coords) (arg11 : Memref sig .tc .vmem S48x1 .f32) (harg11 : arg11.IsWhole) (arg18 : Memref sig .tc .vmem S2x48x128 .f32) (harg18 : arg18.IsWhole) (x11 : Vec F S48x1 .f32) (d18 : Vec F S2x48x128 .f32) (t3 : TbBuf0 (F := F) c tbM0_1) : BufTy.Contents (Elt F) arg18.view.ty :=
  if hc : kernelRun0.sl.v30 i = 1#1 then arg18.view.writes (Elt F) (harg18.unread d18) ([⟨Rect.unit ![1, 0, 0] S1x48x128.size inb_S2x48x128_S1x48x128_1_0_0, k0_pay321 (kernelRun0.sl.r_1 c arg11 harg11 x11) kernelRun0.sl.v51 (kernelRun0.sl.r_10 c t3) (6#32) (kernelRun0.sl.r_11 c t3) (kernelRun0.sl.r_12 c t3) (kernelRun0.sl.r_13 c t3) (kernelRun0.sl.r_14 c t3)⟩, ⟨Rect.unit ![0, 0, 0] S1x48x128.size inb_S2x48x128_S1x48x128_0_0_0, k0_pay320 (kernelRun0.sl.r_1 c arg11 harg11 x11) kernelRun0.sl.v51 (kernelRun0.sl.r_10 c t3) (6#32) (kernelRun0.sl.r_11 c t3) (kernelRun0.sl.r_12 c t3) (kernelRun0.sl.r_13 c t3) (kernelRun0.sl.r_14 c t3)⟩] : List (View.Piece (Elt F) S2x48x128 .f32)) else (harg18.unread d18)

/-- What one point leaves in scratch or result memref 14. -/
def W14 (c : Dev nD) (i : grid0.Coords) (arg4 : Memref sig .tc .vmem S10x32x96 .bf16) (harg4 : arg4.IsWhole) (arg12 : Memref sig .tc .vmem S1x48 .f32) (harg12 : arg12.IsWhole) (arg14 : Memref sig .tc .vmem S1x32x96 .bf16) (harg14 : arg14.IsWhole) (x4 : Vec F S10x32x96 .bf16) (x12 : Vec F S1x48 .f32) (d14 : Vec F S1x32x96 .bf16) (t2 : TbBuf0 (F := F) c tbM0_0) (t3 : TbBuf0 (F := F) c tbM0_1) : BufTy.Contents (Elt F) arg14.view.ty :=
  if hc : k0_cond2 i = 1#1 then arg14.view.writes (Elt F) (harg14.unread d14) ([⟨Rect.unit ![0, 0, 0] S1x32x96.size inb_S1x32x96_S1x32x96_0_0_0, k0_pay48 (kernelRun0.sl.r_21 c i arg12 harg12 x12 t2 t3 hc) (kernelRun0.sl.r_22 c i arg12 harg12 x12 t2 t3 hc) (View.readAt (Elt F) arg4.view (Rect.unit (s := S10x32x96) (k0_off3 i) S1x32x96.size (k0_off3_inb i hc)).toLoadRect (harg4.unread x4))⟩] : List (View.Piece (Elt F) S1x32x96 .bf16)) else (harg14.unread d14)

/-- What one point leaves in scratch or result memref 19. -/
def W19 (c : Dev nD) (i : grid0.Coords) (arg11 : Memref sig .tc .vmem S48x1 .f32) (harg11 : arg11.IsWhole) (arg17 : Memref sig .tc .vmem S2x48x256 .f32) (harg17 : arg17.IsWhole) (arg18 : Memref sig .tc .vmem S2x48x128 .f32) (harg18 : arg18.IsWhole) (arg19 : Memref sig .tc .vmem S2x48x256 .f32) (harg19 : arg19.IsWhole) (x11 : Vec F S48x1 .f32) (d17 : Vec F S2x48x256 .f32) (d18 : Vec F S2x48x128 .f32) (d19 : Vec F S2x48x256 .f32) (t3 : TbBuf0 (F := F) c tbM0_1) : BufTy.Contents (Elt F) arg19.view.ty :=
  if hc : k0_cond2 i = 1#1 then arg19.view.writes (Elt F) (harg19.unread d19) ([⟨Rect.unit ![1, 0, 128] S1x48x128.size inb_S2x48x256_S1x48x128_1_0_128, k0_pay33 (kernelRun0.sl.r_15 c i arg11 harg11 arg18 x11 t3 (harg18.unread d18)) (kernelRun0.sl.r_16 c i arg11 harg11 arg18 x11 t3 (harg18.unread d18)) (kernelRun0.sl.v84 c i arg11 harg11 arg17 x11 (harg17.unread d17)) (kernelRun0.sl.v86 c i arg11 harg11 arg17 x11 (harg17.unread d17))⟩, ⟨Rect.unit ![0, 0, 128] S1x48x128.size inb_S2x48x256_S1x48x128_0_0_128, k0_pay32 (kernelRun0.sl.r_15 c i arg11 harg11 arg18 x11 t3 (harg18.unread d18)) (kernelRun0.sl.r_16 c i arg11 harg11 arg18 x11 t3 (harg18.unread d18)) (kernelRun0.sl.v84 c i arg11 harg11 arg17 x11 (harg17.unread d17)) (kernelRun0.sl.v86 c i arg11 harg11 arg17 x11 (harg17.unread d17))⟩, ⟨Rect.unit ![1, 0, 0] S1x48x128.size inb_S2x48x256_S1x48x128_1_0_0, kernelRun0.sl.r_17 c i arg11 harg11 arg17 arg18 x11 t3 (harg17.unread d17) (harg18.unread d18)⟩, ⟨Rect.unit ![0, 0, 0] S1x48x128.size inb_S2x48x256_S1x48x128_0_0_0, k0_pay28 (BitVec.ofNat 32 ↑(i 0)) (kernelRun0.sl.v48 c i arg11 harg11 arg18 x11 t3 (harg18.unread d18)) (kernelRun0.sl.v58 c i arg11 harg11 arg18 x11 t3 (harg18.unread d18)) (kernelRun0.sl.v68 c i arg11 harg11 arg17 x11 (harg17.unread d17)) (kernelRun0.sl.v70 c i arg11 harg11 arg17 x11 (harg17.unread d17))⟩] : List (View.Piece (Elt F) S2x48x256 .f32)) else (harg19.unread d19)

/-- What one point leaves in scratch or result memref 21. -/
def W21 (c : Dev nD) (i : grid0.Coords) (arg9 : Memref sig .tc .vmem S1x8x96x320 .f32) (harg9 : arg9.IsWhole) (arg21 : Memref sig .tc .vmem S8x96x384 .f32) (harg21 : arg21.IsWhole) (x9 : Vec F S1x8x96x320 .f32) (d21 : Vec F S8x96x384 .f32)  : BufTy.Contents (Elt F) arg21.view.ty :=
  if hc : k0_cond2 i = 1#1 then arg21.view.writes (Elt F) (harg21.unread d21) ([⟨Rect.unit ![7, 0, 0] S1x96x320.size inb_S8x96x384_S1x96x320_7_0_0, k0_pay41 (View.readAt (Elt F) arg9.view (Rect.unit (s := S1x8x96x320) ![0, 7, 0, 0] S1x1x96x320.size inb_S1x8x96x320_S1x1x96x320_0_7_0_0).toLoadRect (harg9.unread x9))⟩, ⟨Rect.unit ![6, 0, 0] S1x96x320.size inb_S8x96x384_S1x96x320_6_0_0, k0_pay40 (View.readAt (Elt F) arg9.view (Rect.unit (s := S1x8x96x320) ![0, 6, 0, 0] S1x1x96x320.size inb_S1x8x96x320_S1x1x96x320_0_6_0_0).toLoadRect (harg9.unread x9))⟩, ⟨Rect.unit ![5, 0, 0] S1x96x320.size inb_S8x96x384_S1x96x320_5_0_0, kernelRun0.sl.r_19 c arg9 harg9 x9⟩, ⟨Rect.unit ![4, 0, 0] S1x96x320.size inb_S8x96x384_S1x96x320_4_0_0, k0_pay38 (View.readAt (Elt F) arg9.view (Rect.unit (s := S1x8x96x320) ![0, 4, 0, 0] S1x1x96x320.size inb_S1x8x96x320_S1x1x96x320_0_4_0_0).toLoadRect (harg9.unread x9))⟩, ⟨Rect.unit ![3, 0, 0] S1x96x320.size inb_S8x96x384_S1x96x320_3_0_0, k0_pay37 (View.readAt (Elt F) arg9.view (Rect.unit (s := S1x8x96x320) ![0, 3, 0, 0] S1x1x96x320.size inb_S1x8x96x320_S1x1x96x320_0_3_0_0).toLoadRect (harg9.unread x9))⟩, ⟨Rect.unit ![2, 0, 0] S1x96x320.size inb_S8x96x384_S1x96x320_2_0_0, k0_pay36 (View.readAt (Elt F) arg9.view (Rect.unit (s := S1x8x96x320) ![0, 2, 0, 0] S1x1x96x320.size inb_S1x8x96x320_S1x1x96x320_0_2_0_0).toLoadRect (harg9.unread x9))⟩, ⟨Rect.unit ![1, 0, 0] S1x96x320.size inb_S8x96x384_S1x96x320_1_0_0, kernelRun0.sl.r_18 c arg9 harg9 x9⟩, ⟨Rect.unit ![0, 0, 0] S1x96x320.size inb_S8x96x384_S1x96x320_0_0_0, k0_pay34 (View.readAt (Elt F) arg9.view (Rect.unit (s := S1x8x96x320) ![0, 0, 0, 0] S1x1x96x320.size inb_S1x8x96x320_S1x1x96x320_0_0_0_0).toLoadRect (harg9.unread x9))⟩] : List (View.Piece (Elt F) S8x96x384 .f32)) else (harg21.unread d21)

/-- What one point leaves in scratch or result memref 22. -/
def W22 (c : Dev nD) (i : grid0.Coords) (arg4 : Memref sig .tc .vmem S10x32x96 .bf16) (harg4 : arg4.IsWhole) (arg12 : Memref sig .tc .vmem S1x48 .f32) (harg12 : arg12.IsWhole) (arg22 : Memref sig .tc .vmem S4x8x192 .bf16) (harg22 : arg22.IsWhole) (x4 : Vec F S10x32x96 .bf16) (x12 : Vec F S1x48 .f32) (d22 : Vec F S4x8x192 .bf16) (t2 : TbBuf0 (F := F) c tbM0_0) (t3 : TbBuf0 (F := F) c tbM0_1) : BufTy.Contents (Elt F) arg22.view.ty :=
  if hc : k0_cond2 i = 1#1 then arg22.view.writes (Elt F) (harg22.unread d22) ([⟨Rect.unit ![3, 0, 0] S1x8x192.size inb_S4x8x192_S1x8x192_3_0_0, k0_pay69 (kernelRun0.sl.r_30 c i arg4 harg4 arg12 harg12 x4 x12 t2 t3 hc)⟩, ⟨Rect.unit ![2, 0, 0] S1x8x192.size inb_S4x8x192_S1x8x192_2_0_0, k0_pay64 (kernelRun0.sl.r_29 c i arg4 harg4 arg12 harg12 x4 x12 t2 t3 hc)⟩, ⟨Rect.unit ![1, 0, 0] S1x8x192.size inb_S4x8x192_S1x8x192_1_0_0, k0_pay59 (kernelRun0.sl.r_28 c i arg4 harg4 arg12 harg12 x4 x12 t2 t3 hc)⟩, ⟨Rect.unit ![0, 0, 0] S1x8x192.size inb_S4x8x192_S1x8x192_0_0_0, k0_pay54 (kernelRun0.sl.r_26 c i arg4 harg4 arg12 harg12 x4 x12 t2 t3 hc) (kernelRun0.sl.r_27 c i arg4 harg4 arg12 harg12 x4 x12 t2 t3 hc)⟩] : List (View.Piece (Elt F) S4x8x192 .bf16)) else (harg22.unread d22)

/-- What one point leaves in the scores' block, where it has keys to score. -/
def W15a (c : Dev nD) (i : grid0.Coords) (arg4 : Memref sig .tc .vmem S10x32x96 .bf16) (harg4 : arg4.IsWhole) (arg5 : Memref sig .tc .vmem S10x8x96 .bf16) (harg5 : arg5.IsWhole) (arg6 : Memref sig .tc .vmem S10x8x96 .bf16) (harg6 : arg6.IsWhole) (arg7 : Memref sig .tc .vmem S1x8x48x2048 .i8) (harg7 : arg7.IsWhole) (arg8 : Memref sig .tc .vmem S1x8x48x2048 .i8) (harg8 : arg8.IsWhole) (arg9 : Memref sig .tc .vmem S1x8x96x320 .f32) (harg9 : arg9.IsWhole) (arg10 : Memref sig .tc .vmem S1x8x2048 .f32) (harg10 : arg10.IsWhole) (arg11 : Memref sig .tc .vmem S48x1 .f32) (harg11 : arg11.IsWhole) (arg12 : Memref sig .tc .vmem S1x48 .f32) (harg12 : arg12.IsWhole) (arg13 : Memref sig .tc .vmem S1x32x96 .bf16) (harg13 : arg13.IsWhole) (arg14 : Memref sig .tc .vmem S1x32x96 .bf16) (harg14 : arg14.IsWhole) (arg15 : Memref sig .tc .vmem S1x1x32x2048 .f32) (harg15 : arg15.IsWhole) (arg16 : Memref sig .tc .vmem S2x48x128 .f32) (harg16 : arg16.IsWhole) (arg17 : Memref sig .tc .vmem S2x48x256 .f32) (harg17 : arg17.IsWhole) (arg18 : Memref sig .tc .vmem S2x48x128 .f32) (harg18 : arg18.IsWhole) (arg19 : Memref sig .tc .vmem S2x48x256 .f32) (harg19 : arg19.IsWhole) (arg20 : Memref sig .tc .vmem S2x48x128 .f32) (harg20 : arg20.IsWhole) (arg21 : Memref sig .tc .vmem S8x96x384 .f32) (harg21 : arg21.IsWhole) (arg22 : Memref sig .tc .vmem S4x8x192 .bf16) (harg22 : arg22.IsWhole) (arg23 : Memref sig .tc .vmem S8x8x128 .f32) (harg23 : arg23.IsWhole) (arg24 : Memref sig .tc .vmem S4x8x128 .f32) (harg24 : arg24.IsWhole) (arg25 : Memref sig .tc .vmem S4x8x192 .f32) (harg25 : arg25.IsWhole) (x7 : Vec F S1x8x48x2048 .i8) (t2 : TbBuf0 (F := F) c tbM0_0) (X16 : BufTy.Contents (Elt F) arg16.view.ty) (X19 : BufTy.Contents (Elt F) arg19.view.ty) (X21 : BufTy.Contents (Elt F) arg21.view.ty) (X22 : BufTy.Contents (Elt F) arg22.view.ty) (hc3 : k0_cond3 i (kernelRun0.sl.r c i t2) = 1#1) (f15 : BufTy.Contents (Elt F) arg15.view.ty) (i1 i2 : FVec F S8x128 .f32 × FVec F S8x128 .f32 × FVec F S8x128 .f32 × FVec F S8x128 .f32) (i6 : BitVec 32) : BufTy.Contents (Elt F) arg15.view.ty :=
  arg15.view.writes (Elt F) f15 ((st_k0_t6 Variants.none c none i tbM0_0 htbM0_0 tbM0_1 htbM0_1 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (kernelRun0.sl.r c i t2) (chk1_all _ _) i6 (Scf.trips (k0_t6_loop i (kernelRun0.sl.r c i t2)).lb (k0_t6_loop i (kernelRun0.sl.r c i t2)).ub (k0_t6_loop i (kernelRun0.sl.r c i t2)).st)).2 ++ ((st_k0_t5 Variants.none c none i tbM0_0 htbM0_0 tbM0_1 htbM0_1 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (kernelRun0.sl.r c i t2) (chk1_all _ _) (0#32) (Scf.trips (k0_t5_loop i (kernelRun0.sl.r c i t2)).lb (k0_t5_loop i (kernelRun0.sl.r c i t2)).ub (k0_t5_loop i (kernelRun0.sl.r c i t2)).st)).2 ++ ((st_k0_t2 Variants.none c none i tbM0_0 htbM0_0 tbM0_1 htbM0_1 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (BitVec.ofNat 32 ↑(i 1)) (kernelRun0.sl.r c i t2) (chk1_all _ _) (kernelRun0.sl.v24 c i t2) kernelRun0.sl.v25 hc3 (kernelRun0.sl.v59_1 c i t2) (harg7.unread x7) X16 X19 X21 X22 i2 (Scf.trips (k0_t2_loop i (kernelRun0.sl.r c i t2)).lb (k0_t2_loop i (kernelRun0.sl.r c i t2)).ub (k0_t2_loop i (kernelRun0.sl.r c i t2)).st)).2 ++ (st_k0_t1 Variants.none c none i tbM0_0 htbM0_0 tbM0_1 htbM0_1 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (BitVec.ofNat 32 ↑(i 1)) (kernelRun0.sl.r c i t2) (chk1_all _ _) (kernelRun0.sl.v24 c i t2) kernelRun0.sl.v25 hc3 (harg7.unread x7) X16 X19 X21 X22 i1 (Scf.trips (k0_t1_loop i (kernelRun0.sl.r c i t2)).lb (k0_t1_loop i (kernelRun0.sl.r c i t2)).ub (k0_t1_loop i (kernelRun0.sl.r c i t2)).st)).2)))

/-- What one point leaves in the scores' block, where it has none. -/
def W15b (c : Dev nD) (i : grid0.Coords) (arg4 : Memref sig .tc .vmem S10x32x96 .bf16) (harg4 : arg4.IsWhole) (arg5 : Memref sig .tc .vmem S10x8x96 .bf16) (harg5 : arg5.IsWhole) (arg6 : Memref sig .tc .vmem S10x8x96 .bf16) (harg6 : arg6.IsWhole) (arg7 : Memref sig .tc .vmem S1x8x48x2048 .i8) (harg7 : arg7.IsWhole) (arg8 : Memref sig .tc .vmem S1x8x48x2048 .i8) (harg8 : arg8.IsWhole) (arg9 : Memref sig .tc .vmem S1x8x96x320 .f32) (harg9 : arg9.IsWhole) (arg10 : Memref sig .tc .vmem S1x8x2048 .f32) (harg10 : arg10.IsWhole) (arg11 : Memref sig .tc .vmem S48x1 .f32) (harg11 : arg11.IsWhole) (arg12 : Memref sig .tc .vmem S1x48 .f32) (harg12 : arg12.IsWhole) (arg13 : Memref sig .tc .vmem S1x32x96 .bf16) (harg13 : arg13.IsWhole) (arg14 : Memref sig .tc .vmem S1x32x96 .bf16) (harg14 : arg14.IsWhole) (arg15 : Memref sig .tc .vmem S1x1x32x2048 .f32) (harg15 : arg15.IsWhole) (arg16 : Memref sig .tc .vmem S2x48x128 .f32) (harg16 : arg16.IsWhole) (arg17 : Memref sig .tc .vmem S2x48x256 .f32) (harg17 : arg17.IsWhole) (arg18 : Memref sig .tc .vmem S2x48x128 .f32) (harg18 : arg18.IsWhole) (arg19 : Memref sig .tc .vmem S2x48x256 .f32) (harg19 : arg19.IsWhole) (arg20 : Memref sig .tc .vmem S2x48x128 .f32) (harg20 : arg20.IsWhole) (arg21 : Memref sig .tc .vmem S8x96x384 .f32) (harg21 : arg21.IsWhole) (arg22 : Memref sig .tc .vmem S4x8x192 .bf16) (harg22 : arg22.IsWhole) (arg23 : Memref sig .tc .vmem S8x8x128 .f32) (harg23 : arg23.IsWhole) (arg24 : Memref sig .tc .vmem S4x8x128 .f32) (harg24 : arg24.IsWhole) (arg25 : Memref sig .tc .vmem S4x8x192 .f32) (harg25 : arg25.IsWhole) (x7 : Vec F S1x8x48x2048 .i8) (t2 : TbBuf0 (F := F) c tbM0_0) (f15 : BufTy.Contents (Elt F) arg15.view.ty) (i6 : BitVec 32) : BufTy.Contents (Elt F) arg15.view.ty :=
  arg15.view.writes (Elt F) f15 ((st_k0_t6 Variants.none c none i tbM0_0 htbM0_0 tbM0_1 htbM0_1 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (kernelRun0.sl.r c i t2) (chk1_all _ _) i6 (Scf.trips (k0_t6_loop i (kernelRun0.sl.r c i t2)).lb (k0_t6_loop i (kernelRun0.sl.r c i t2)).ub (k0_t6_loop i (kernelRun0.sl.r c i t2)).st)).2 ++ (st_k0_t5 Variants.none c none i tbM0_0 htbM0_0 tbM0_1 htbM0_1 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (kernelRun0.sl.r c i t2) (chk1_all _ _) (0#32) (Scf.trips (k0_t5_loop i (kernelRun0.sl.r c i t2)).lb (k0_t5_loop i (kernelRun0.sl.r c i t2)).ub (k0_t5_loop i (kernelRun0.sl.r c i t2)).st)).2)

/-- The scores' block after a point. -/
def Sc15 (c : Dev nD) (i : grid0.Coords) (arg4 : Memref sig .tc .vmem S10x32x96 .bf16) (harg4 : arg4.IsWhole) (arg5 : Memref sig .tc .vmem S10x8x96 .bf16) (harg5 : arg5.IsWhole) (arg6 : Memref sig .tc .vmem S10x8x96 .bf16) (harg6 : arg6.IsWhole) (arg7 : Memref sig .tc .vmem S1x8x48x2048 .i8) (harg7 : arg7.IsWhole) (arg8 : Memref sig .tc .vmem S1x8x48x2048 .i8) (harg8 : arg8.IsWhole) (arg9 : Memref sig .tc .vmem S1x8x96x320 .f32) (harg9 : arg9.IsWhole) (arg10 : Memref sig .tc .vmem S1x8x2048 .f32) (harg10 : arg10.IsWhole) (arg11 : Memref sig .tc .vmem S48x1 .f32) (harg11 : arg11.IsWhole) (arg12 : Memref sig .tc .vmem S1x48 .f32) (harg12 : arg12.IsWhole) (arg13 : Memref sig .tc .vmem S1x32x96 .bf16) (harg13 : arg13.IsWhole) (arg14 : Memref sig .tc .vmem S1x32x96 .bf16) (harg14 : arg14.IsWhole) (arg15 : Memref sig .tc .vmem S1x1x32x2048 .f32) (harg15 : arg15.IsWhole) (arg16 : Memref sig .tc .vmem S2x48x128 .f32) (harg16 : arg16.IsWhole) (arg17 : Memref sig .tc .vmem S2x48x256 .f32) (harg17 : arg17.IsWhole) (arg18 : Memref sig .tc .vmem S2x48x128 .f32) (harg18 : arg18.IsWhole) (arg19 : Memref sig .tc .vmem S2x48x256 .f32) (harg19 : arg19.IsWhole) (arg20 : Memref sig .tc .vmem S2x48x128 .f32) (harg20 : arg20.IsWhole) (arg21 : Memref sig .tc .vmem S8x96x384 .f32) (harg21 : arg21.IsWhole) (arg22 : Memref sig .tc .vmem S4x8x192 .bf16) (harg22 : arg22.IsWhole) (arg23 : Memref sig .tc .vmem S8x8x128 .f32) (harg23 : arg23.IsWhole) (arg24 : Memref sig .tc .vmem S4x8x128 .f32) (harg24 : arg24.IsWhole) (arg25 : Memref sig .tc .vmem S4x8x192 .f32) (harg25 : arg25.IsWhole) (x7 : Vec F S1x8x48x2048 .i8) (t2 : TbBuf0 (F := F) c tbM0_0) (X16 : BufTy.Contents (Elt F) arg16.view.ty) (X19 : BufTy.Contents (Elt F) arg19.view.ty) (X21 : BufTy.Contents (Elt F) arg21.view.ty) (X22 : BufTy.Contents (Elt F) arg22.view.ty) (d15 : Vec F S1x1x32x2048 .f32) : Prop :=
  (∀ hc3 : k0_cond3 i (kernelRun0.sl.r c i t2) = 1#1, ∃ f15 i1 i2 i6, d15 = arg15.view.read (Elt F) (W15a c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x7 t2 X16 X19 X21 X22 hc3 f15 i1 i2 i6))
    ∧ (¬k0_cond3 i (kernelRun0.sl.r c i t2) = 1#1 → ∃ f15 i6, d15 = arg15.view.read (Elt F) (W15b c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x7 t2 f15 i6))

end Cert.KernelIdeal
-- ==== Proof.TileValue.lean ====
/-
One tile of 128 keys: what the body computes of it, at an entry.
-/
module

public import proofs.«01_k».proof.Proof.Gen.KernelIdeal.Skeleton
public import proofs.«01_k».proof.Proof.WordLemmas
public import Idealize.ShloMosaic.Lib.Pointwise
public import Idealize.ShloMosaic.Lib.Tactic

@[expose] public section

set_option maxRecDepth 16384

noncomputable section

namespace Cert.KernelIdeal

open Idealize.ShloMosaic Idealize.ShloMosaic.Tactic
open Gen

/-- The lanes' numbers, as the body has them for the scales' gather. -/
abbrev laneV : IVec S768x128 32 := iota .tc S768x128 32 [1] iota_S768x128_d1_w32

/-- The tile's cosines: the lanes' angle and the tile's, by the sum formula. -/
def cosT (w : BitVec 32) (a b t0 t1 : Vec Ideal S1x48x128 .f32) : FVec Ideal S48x128 .f32 :=
  k0_pay95 (k0_pay91 (k0_pay89 w) a) (k0_pay92 (k0_pay89 w) b) (k0_pay93 t0) t1

/-- The tile's sines. -/
def sinT (w : BitVec 32) (a b t0 t1 : Vec Ideal S1x48x128 .f32) : FVec Ideal S48x128 .f32 :=
  k0_pay96 (k0_pay91 (k0_pay89 w) a) (k0_pay92 (k0_pay89 w) b) (k0_pay93 t0) t1

/-- The tile's rotated keys, the two halves interleaved. -/
def tileT (w : BitVec 32) (a b t0 t1 : Vec Ideal S1x48x128 .f32) (kw : Vec Ideal S8x96x128 .f32) (cd : Vec Ideal S1x8x48x128 .i8) :
    FVec Ideal S8x96x128 .bf16 :=
  k0_pay88 (cosT w a b t0 t1) (sinT w a b t0 t1) (k0_pay86 (k0_pay90 laneV w) kw) (k0_pay87 (F := Ideal) cd) 28#32

theorem row_word : ∀ n : Fin 160, ∀ (a : Fin 48) (b : Fin 128), k0_pay89 (BitVec.ofNat 32 n.val) (ix2 a b) = BitVec.ofNat 32 (n.val % 128) := by
  intro n a b
  pointwise [k0_pay89]
  revert n; decide

theorem grp_base : ∀ n : Fin 160, Scalar.muli (Scalar.select
          (Scalar.andi
            (Scalar.xori
              (Scalar.cmpi CmpIPredicate.slt
                (Scalar.remsi (BitVec.ofNat 32 n.val) (Scalar.select (Scalar.cmpi CmpIPredicate.eq 64#32 0#32) 1#32 64#32))
                0#32)
              (Scalar.cmpi CmpIPredicate.slt (Scalar.select (Scalar.cmpi CmpIPredicate.eq 64#32 0#32) 1#32 64#32) 0#32))
            (Scalar.cmpi CmpIPredicate.ne
              (Scalar.remsi (BitVec.ofNat 32 n.val) (Scalar.select (Scalar.cmpi CmpIPredicate.eq 64#32 0#32) 1#32 64#32))
              0#32))
          (Scalar.addi
            (Scalar.remsi (BitVec.ofNat 32 n.val) (Scalar.select (Scalar.cmpi CmpIPredicate.eq 64#32 0#32) 1#32 64#32))
            (Scalar.select (Scalar.cmpi CmpIPredicate.eq 64#32 0#32) 1#32 64#32))
          (Scalar.remsi (BitVec.ofNat 32 n.val) (Scalar.select (Scalar.cmpi CmpIPredicate.eq 64#32 0#32) 1#32 64#32)))
        2#32 = BitVec.ofNat 32 (n.val % 64 * 2) := by decide

theorem grp_half : ∀ b : Fin 128, BitVec.setWidth 32 (IntOp.cmpi CmpIPredicate.sge (BitVec.ofNat 32 b.val) 64#32)
    = BitVec.ofNat 32 (if 64 ≤ b.val then 1 else 0) := by decide

theorem grp_word (n : Fin 160) (a : Fin 768) (b : Fin 128) :
    k0_pay90 laneV (BitVec.ofNat 32 n.val) (ix2 a b) = BitVec.ofNat 32 (n.val % 64 * 2 + if 64 ≤ b.val then 1 else 0) := by
  pointwise [k0_pay90, laneV]
  rw [grp_base, grp_half, BitVec.ofNat_add]; rfl

theorem wrap_word : ∀ m : Fin 128, (Scalar.select (IntOp.cmpi CmpIPredicate.slt (BitVec.ofNat 32 m.val) 0#32)
    (IntOp.addi (BitVec.ofNat 32 m.val) 128#32) (BitVec.ofNat 32 m.val)).toNat % 128 = m.val := by decide

theorem wrap_nat (m : ℕ) (hm : m < 128) : (Scalar.select (IntOp.cmpi CmpIPredicate.slt (BitVec.ofNat 32 m) 0#32)
    (IntOp.addi (BitVec.ofNat 32 m) 128#32) (BitVec.ofNat 32 m)).toNat % 128 = m := wrap_word ⟨m, hm⟩

theorem cosT_apply (n : Fin 160) (a b t0 t1 : Vec Ideal S1x48x128 .f32) (c : Fin 48) (l : Fin 128) :
    cosT (BitVec.ofNat 32 n.val) a b t0 t1 (ix2 c l)
      = t0 (ix3 0 c l) * a (ix3 0 c ⟨n.val % 128, by omega⟩) - t1 (ix3 0 c l) * b (ix3 0 c ⟨n.val % 128, by omega⟩) := by
  pointwise [cosT, k0_pay95, k0_pay91, k0_pay92, k0_pay93, k0_pay94, row_word]
  simp only [wrap_nat (n.val % 128) (by omega)]

theorem sinT_apply (n : Fin 160) (a b t0 t1 : Vec Ideal S1x48x128 .f32) (c : Fin 48) (l : Fin 128) :
    sinT (BitVec.ofNat 32 n.val) a b t0 t1 (ix2 c l)
      = t1 (ix3 0 c l) * a (ix3 0 c ⟨n.val % 128, by omega⟩) + t0 (ix3 0 c l) * b (ix3 0 c ⟨n.val % 128, by omega⟩) := by
  pointwise [sinT, k0_pay96, k0_pay91, k0_pay92, k0_pay93, k0_pay94, row_word]
  simp only [wrap_nat (n.val % 128) (by omega)]

theorem scT_apply (n : Fin 160) (kw : Vec Ideal S8x96x128 .f32) (h : Fin 8) (r : Fin 96) (l : Fin 128) :
    k0_pay86 (k0_pay90 laneV (BitVec.ofNat 32 n.val)) kw (ix3 h r l)
      = kw (ix3 h r ⟨n.val % 64 * 2 + (if 64 ≤ l.val then 1 else 0), by split <;> omega⟩) := by
  have hb : n.val % 64 * 2 + (if 64 ≤ l.val then 1 else 0) < 128 := by split <;> omega
  pointwise [k0_pay86, grp_word]
  simp only [wrap_nat _ hb]

/-- The low four bits of a code byte, as a signed number. -/
def loW (x : BitVec 8) : EReal :=
  FloatOps.sitofp (F := Ideal) FTy.bf16 (IntOp.shrsi ArithUnit.vector (IntOp.shli ArithUnit.vector (BitVec.setWidth 32 x) 28#32) 28#32)

/-- The high four bits of a code byte, as a signed number. -/
def hiW (x : BitVec 8) : EReal :=
  FloatOps.sitofp (F := Ideal) FTy.bf16 (IntOp.shrsi ArithUnit.vector (IntOp.shli ArithUnit.vector (BitVec.setWidth 32 x) 24#32) 28#32)

/-- A rotated entry of a key: the first of the pair, or the second. -/
def rotE (odd : Prop) [Decidable odd] (lo hi C S : EReal) : EReal :=
  if odd then hi * C + lo * S else lo * C - hi * S

theorem mix_apply (C S : FVec Ideal S48x128 .f32) (W : FVec Ideal S8x96x128 .bf16) (cd : Vec Ideal S1x8x48x128 .i8)
    (h : Fin 8) (r : Fin 96) (l : Fin 128) :
    k0_pay88 (F := Ideal) C S W (k0_pay87 (F := Ideal) cd) 28#32 (ix3 h r l)
      = rotE (r.val % 2 = 1) (loW (cd (ix4 0 h ⟨r.val / 2, by omega⟩ l)) * W (ix3 h ⟨r.val / 2, by omega⟩ l))
          (hiW (cd (ix4 0 h ⟨r.val / 2, by omega⟩ l)) * W (ix3 h ⟨48 + r.val / 2, by omega⟩ l))
          (C (ix2 ⟨r.val / 2, by omega⟩ l)) (S (ix2 ⟨r.val / 2, by omega⟩ l)) := by
  pointwise [k0_pay88, k0_pay87]
  unfold rotE loW hiW
  by_cases h1 : r.val % 2 = 1
  · rw [dif_neg (by omega), if_pos h1]
  · rw [dif_pos (by omega), if_neg h1]

theorem tileT_apply (n : Fin 160) (a b t0 t1 : Vec Ideal S1x48x128 .f32) (kw : Vec Ideal S8x96x128 .f32)
    (cd : Vec Ideal S1x8x48x128 .i8) (h : Fin 8) (r : Fin 96) (l : Fin 128) :
    tileT (BitVec.ofNat 32 n.val) a b t0 t1 kw cd (ix3 h r l)
      = rotE (r.val % 2 = 1)
          (loW (cd (ix4 0 h ⟨r.val / 2, by omega⟩ l))
            * kw (ix3 h ⟨r.val / 2, by omega⟩ ⟨n.val % 64 * 2 + (if 64 ≤ l.val then 1 else 0), by split <;> omega⟩))
          (hiW (cd (ix4 0 h ⟨r.val / 2, by omega⟩ l))
            * kw (ix3 h ⟨48 + r.val / 2, by omega⟩ ⟨n.val % 64 * 2 + (if 64 ≤ l.val then 1 else 0), by split <;> omega⟩))
          (t0 (ix3 0 ⟨r.val / 2, by omega⟩ l) * a (ix3 0 ⟨r.val / 2, by omega⟩ ⟨n.val % 128, by omega⟩)
            - t1 (ix3 0 ⟨r.val / 2, by omega⟩ l) * b (ix3 0 ⟨r.val / 2, by omega⟩ ⟨n.val % 128, by omega⟩))
          (t1 (ix3 0 ⟨r.val / 2, by omega⟩ l) * a (ix3 0 ⟨r.val / 2, by omega⟩ ⟨n.val % 128, by omega⟩)
            + t0 (ix3 0 ⟨r.val / 2, by omega⟩ l) * b (ix3 0 ⟨r.val / 2, by omega⟩ ⟨n.val % 128, by omega⟩)) := by
  rw [tileT, mix_apply]
  simp only [cosT_apply, sinT_apply, scT_apply]

/-- A block of 512 keys out of four tiles. -/
def slabT (A B C D : FVec Ideal S8x96x128 .bf16) : FVec Ideal S8x96x512 .bf16 :=
  concatenate S8x96x512 2 [⟨S8x96x128, A⟩, ⟨S8x96x128, B⟩, ⟨S8x96x128, C⟩, ⟨S8x96x128, D⟩] concatenates_S8x96x128_S8x96x128_S8x96x128_S8x96x128_S8x96x512_d2

theorem slabT_apply (A B C D : FVec Ideal S8x96x128 .bf16) (G : Fin 8 → Fin 96 → ℕ → EReal)
    (hA : ∀ h r (l : Fin 128), A (ix3 h r l) = G h r l.val) (hB : ∀ h r (l : Fin 128), B (ix3 h r l) = G h r (128 + l.val))
    (hC : ∀ h r (l : Fin 128), C (ix3 h r l) = G h r (256 + l.val)) (hD : ∀ h r (l : Fin 128), D (ix3 h r l) = G h r (384 + l.val))
    (h : Fin 8) (r : Fin 96) (u : Fin 512) : slabT A B C D (ix3 h r u) = G h r u.val := by
  pointwise [slabT]
  simp only [hA, hB, hC, hD]
  split_ifs <;> (congr 1 <;> omega)

/-- A score: the scaled product where the key counts, zero elsewhere. -/
def scoreE (v : BitVec 1) (x : EReal) : EReal := Scalar.select v (x * Ideal.ofBits FTy.f32 0x3DD105EC#32) 0

theorem score0_apply (a : BitVec 32) (v1 : Elt Ideal .i32) (w : BitVec 32) (A B C : FVec Ideal S8x96x128 .bf16) (p q : FVec Ideal S48x128 .f32)
    (u v x : _) (K : FVec Ideal S8x96x512 .bf16) (hK : k0_pay129 (F := Ideal) A B C p q u v x = K) (z : Vec Ideal S1x8x192 .bf16) (j : Fin 8) (l : Fin 512) :
    k0_pay132 (F := Ideal) a v1 w A B C p q u v x z (ix4 0 0 j l) = scoreE (k0_pay130 (F := Ideal) a v1 w (ix2 j l))
      (∑ x : Fin 192, z (ix3 0 j x) * K (ix3 ⟨0 + x.val / 96, by omega⟩ ⟨x.val % 96, by omega⟩ l)) := by
  pointwise [k0_pay132, k0_pay131, hK, scoreE]

theorem score1_apply (V : IVec S8x512 1) (K : FVec Ideal S8x96x512 .bf16) (q : Vec Ideal S1x8x192 .bf16) (j : Fin 8) (u : Fin 512) :
    k0_pay137 (F := Ideal) K V q (ix4 0 0 j u) = scoreE (V (ix2 j u))
      (∑ x : Fin 192, q (ix3 0 j x) * K (ix3 ⟨2 + x.val / 96, by omega⟩ ⟨x.val % 96, by omega⟩ u)) := by
  pointwise [k0_pay137, k0_pay136, scoreE]

theorem score2_apply (V : IVec S8x512 1) (K : FVec Ideal S8x96x512 .bf16) (q : Vec Ideal S1x8x192 .bf16) (j : Fin 8) (u : Fin 512) :
    k0_pay140 (F := Ideal) (k0_pay139 K V q) (ix4 0 0 j u) = scoreE (V (ix2 j u))
      (∑ x : Fin 192, q (ix3 0 j x) * K (ix3 ⟨4 + x.val / 96, by omega⟩ ⟨x.val % 96, by omega⟩ u)) := by
  pointwise [k0_pay140, k0_pay139, scoreE]

theorem score3_apply (V : IVec S8x512 1) (K : FVec Ideal S8x96x512 .bf16) (q : Vec Ideal S1x8x192 .bf16) (j : Fin 8) (u : Fin 512) :
    k0_pay143 (F := Ideal) K V q (ix4 0 0 j u) = scoreE (V (ix2 j u))
      (∑ x : Fin 192, q (ix3 0 j x) * K (ix3 ⟨6 + x.val / 96, by omega⟩ ⟨x.val % 96, by omega⟩ u)) := by
  pointwise [k0_pay143, k0_pay142, scoreE]

theorem valid_apply (a v1 w : BitVec 32) (j : Fin 8) (u : Fin 512) :
    k0_pay130 (F := Ideal) a v1 w (ix2 j u) = IntOp.cmpi .slt (Scalar.addi (Scalar.addi (Scalar.muli a 2048#32) w) (BitVec.ofNat 32 u.val)) v1 := by
  pointwise [k0_pay130]
  rfl

theorem zero_apply (j : Fin 32) (u : Fin 512) : k0_pay9 (F := Ideal) (ix4 0 0 j u) = 0 := by
  pointwise [k0_pay9]

end Cert.KernelIdeal
-- ==== Proof.ScoreTrip.lean ====
/-
The score loop: what its trips store, at an entry.
-/
module

public import proofs.«01_k».proof.Proof.StateKernelIdeal
public import proofs.«01_k».proof.Proof.TileValue

@[expose] public section

set_option maxRecDepth 16384

noncomputable section

namespace Cert.KernelIdeal

open Idealize.ShloMosaic Idealize.ShloMosaic.Tactic
open Gen

/-- An element of a rotated key of the block `a`, from the tables and the codes a point holds. -/
def keyG (a : Fin 10) (x7 : Vec Ideal S1x8x48x2048 .i8) (d16 : Vec Ideal S2x48x128 .f32) (d19 : Vec Ideal S2x48x256 .f32)
    (d21 : Vec Ideal S8x96x384 .f32) (h : Fin 8) (r : Fin 96) (y : Fin 2048) : EReal :=
  rotE (r.val % 2 = 1)
    (loW (x7 (ix4 0 h ⟨r.val / 2, by omega⟩ y)) * d21 (ix3 h ⟨r.val / 2, by omega⟩ ⟨(2048 * a.val + y.val) / 64, by omega⟩))
    (hiW (x7 (ix4 0 h ⟨r.val / 2, by omega⟩ y)) * d21 (ix3 h ⟨48 + r.val / 2, by omega⟩ ⟨(2048 * a.val + y.val) / 64, by omega⟩))
    (d16 (ix3 0 ⟨r.val / 2, by omega⟩ ⟨y.val % 128, by omega⟩) * d19 (ix3 0 ⟨r.val / 2, by omega⟩ ⟨(2048 * a.val + y.val) / 128, by omega⟩)
      - d16 (ix3 1 ⟨r.val / 2, by omega⟩ ⟨y.val % 128, by omega⟩) * d19 (ix3 1 ⟨r.val / 2, by omega⟩ ⟨(2048 * a.val + y.val) / 128, by omega⟩))
    (d16 (ix3 1 ⟨r.val / 2, by omega⟩ ⟨y.val % 128, by omega⟩) * d19 (ix3 0 ⟨r.val / 2, by omega⟩ ⟨(2048 * a.val + y.val) / 128, by omega⟩)
      + d16 (ix3 0 ⟨r.val / 2, by omega⟩ ⟨y.val % 128, by omega⟩) * d19 (ix3 1 ⟨r.val / 2, by omega⟩ ⟨(2048 * a.val + y.val) / 128, by omega⟩))

/-- The block of scores of a point. -/
def scG (a : Fin 10) (v1 : BitVec 32) (x7 : Vec Ideal S1x8x48x2048 .i8) (d16 : Vec Ideal S2x48x128 .f32) (d19 : Vec Ideal S2x48x256 .f32)
    (d21 : Vec Ideal S8x96x384 .f32) (d22 : Vec Ideal S4x8x192 .bf16) : Vec Ideal S1x1x32x2048 .f32 := fun y =>
  scoreE (IntOp.cmpi .slt (BitVec.ofNat 32 (2048 * a.val + (y 3).val)) v1)
    (∑ x : Fin 192, d22 (ix3 ⟨(y 2).val / 8, by have h : (y 2).val < 32 := (y 2).isLt; omega⟩ ⟨(y 2).val % 8, by omega⟩ x)
      * keyG a x7 d16 d19 d21 ⟨2 * ((y 2).val / 8) + x.val / 96, by have h : (y 2).val < 32 := (y 2).isLt; omega⟩ ⟨x.val % 96, by omega⟩ (y 3))

theorem gW_nat : ∀ (a : Fin 10) (k r : Fin 4), gW a.val k.val (BitVec.ofNat 32 r.val) = BitVec.ofNat 32 (16 * a.val + 4 * k.val + r.val) := by decide

theorem unit3_idx {n0 n1 n2 : Nat} {off size : Fin 3 → Nat} (inb : ∀ a, off a + size a ≤ (⟨3, ![n0, n1, n2]⟩ : Shape).size a)
    {o0 o1 o2 : Nat} (hoff : off = ![o0, o1, o2])
    (x : (Rect.unit (s := ⟨3, ![n0, n1, n2]⟩) off size inb).shape.Idx) (a : Fin n0) (b : Fin n1) (c : Fin n2)
    (ha : o0 + (x 0).val = a.val) (hb : o1 + (x 1).val = b.val) (hc : o2 + (x 2).val = c.val) :
    (Rect.unit (s := ⟨3, ![n0, n1, n2]⟩) off size inb).idx x = ix3 a b c := by
  subst hoff
  funext d
  apply Fin.ext
  match d with
  | ⟨0, _⟩ => exact (congrArg (o0 + ·) (Nat.one_mul _)).trans ha
  | ⟨1, _⟩ => exact (congrArg (o1 + ·) (Nat.one_mul _)).trans hb
  | ⟨2, _⟩ => exact (congrArg (o2 + ·) (Nat.one_mul _)).trans hc

theorem unit4_idx {n0 n1 n2 n3 : Nat} {off size : Fin 4 → Nat} (inb : ∀ a, off a + size a ≤ (⟨4, ![n0, n1, n2, n3]⟩ : Shape).size a)
    {o0 o1 o2 o3 : Nat} (hoff : off = ![o0, o1, o2, o3])
    (x : (Rect.unit (s := ⟨4, ![n0, n1, n2, n3]⟩) off size inb).shape.Idx) (a : Fin n0) (b : Fin n1) (c : Fin n2) (e : Fin n3)
    (ha : o0 + (x 0).val = a.val) (hb : o1 + (x 1).val = b.val) (hc : o2 + (x 2).val = c.val) (he : o3 + (x 3).val = e.val) :
    (Rect.unit (s := ⟨4, ![n0, n1, n2, n3]⟩) off size inb).idx x = ix4 a b c e := by
  subst hoff
  funext d
  apply Fin.ext
  match d with
  | ⟨0, _⟩ => exact (congrArg (o0 + ·) (Nat.one_mul _)).trans ha
  | ⟨1, _⟩ => exact (congrArg (o1 + ·) (Nat.one_mul _)).trans hb
  | ⟨2, _⟩ => exact (congrArg (o2 + ·) (Nat.one_mul _)).trans hc
  | ⟨3, _⟩ => exact (congrArg (o3 + ·) (Nat.one_mul _)).trans he

theorem off5_val (i : grid0.Coords) (v1 : BitVec 32) (k : Fin (k0_t1_loop i v1).trips) (r : Fin 4) :
    k0_off5 i v1 k (BitVec.ofNat 32 r.val) = ![0, 0, (16 * (i 1).val + 4 * k.val + r.val) / 128 * 128] :=
  congrArg (fun n : Nat => (![0, 0, n] : Fin 3 → Nat)) (g128_val (i 1) (tk k) r)
theorem off6_val (i : grid0.Coords) (v1 : BitVec 32) (k : Fin (k0_t1_loop i v1).trips) (r : Fin 4) :
    k0_off6 i v1 k (BitVec.ofNat 32 r.val) = ![1, 0, (16 * (i 1).val + 4 * k.val + r.val) / 128 * 128] :=
  congrArg (fun n : Nat => (![1, 0, n] : Fin 3 → Nat)) (g128_val (i 1) (tk k) r)
theorem off7_val (i : grid0.Coords) (v1 : BitVec 32) (k : Fin (k0_t1_loop i v1).trips) (r : Fin 4) :
    k0_off7 i v1 k (BitVec.ofNat 32 r.val) = ![0, 0, (16 * (i 1).val + 4 * k.val + r.val) / 64 * 128] :=
  congrArg (fun n : Nat => (![0, 0, n] : Fin 3 → Nat)) (g64_val (i 1) (tk k) r)
theorem off8_val (i : grid0.Coords) (v1 : BitVec 32) (k : Fin (k0_t1_loop i v1).trips) (r : Fin 4) :
    k0_off8 i v1 k (BitVec.ofNat 32 (128 * r.val)) = ![0, 0, 0, 512 * k.val + 128 * r.val] :=
  congrArg (fun n : Nat => (![0, 0, 0, n] : Fin 4 → Nat)) (colW_add_val (tk k) r)

/-- The tile `r` of trip `k`, on the reads of the body. -/
def tileR (i : grid0.Coords) (arg7 : Memref sig .tc .vmem S1x8x48x2048 .i8) (arg16 : Memref sig .tc .vmem S2x48x128 .f32) (arg19 : Memref sig .tc .vmem S2x48x256 .f32) (arg21 : Memref sig .tc .vmem S8x96x384 .f32) (v1 : BitVec 32) (k0_hw1 : k0_chk1 i v1) (k0_h3 : k0_cond3 i v1 = 1#1) (X_arg7 : BufTy.Contents (Elt Ideal) arg7.view.ty) (X_arg16 : BufTy.Contents (Elt Ideal) arg16.view.ty) (X_arg19 : BufTy.Contents (Elt Ideal) arg19.view.ty) (X_arg21 : BufTy.Contents (Elt Ideal) arg21.view.ty) (k : Fin (k0_t1_loop i v1).trips) (r : Fin 4) : FVec Ideal S8x96x128 .bf16 :=
  tileT (gW (i 1).val k.val (BitVec.ofNat 32 r.val))
    (View.readAt (Elt Ideal) arg19.view (Rect.unit (s := S2x48x256) (k0_off5 i v1 k (BitVec.ofNat 32 r.val)) S1x48x128.size (k0_off5_inb i v1 k0_hw1 k k0_h3 r)).toLoadRect X_arg19)
    (View.readAt (Elt Ideal) arg19.view (Rect.unit (s := S2x48x256) (k0_off6 i v1 k (BitVec.ofNat 32 r.val)) S1x48x128.size (k0_off6_inb i v1 k0_hw1 k k0_h3 r)).toLoadRect X_arg19)
    (View.readAt (Elt Ideal) arg16.view (Rect.unit (s := S2x48x128) ![0, 0, 0] S1x48x128.size inb_S2x48x128_S1x48x128_0_0_0).toLoadRect X_arg16)
    (View.readAt (Elt Ideal) arg16.view (Rect.unit (s := S2x48x128) ![1, 0, 0] S1x48x128.size inb_S2x48x128_S1x48x128_1_0_0).toLoadRect X_arg16)
    (View.readAt (Elt Ideal) arg21.view (Rect.unit (s := S8x96x384) (k0_off7 i v1 k (BitVec.ofNat 32 r.val)) S8x96x128.size (k0_off7_inb i v1 k0_hw1 k k0_h3 r)).toLoadRect X_arg21)
    (View.readAt (Elt Ideal) arg7.view (Rect.unit (s := S1x8x48x2048) (k0_off8 i v1 k (BitVec.ofNat 32 (128 * r.val))) S1x8x48x128.size (k0_off8_inb i v1 k0_hw1 k k0_h3 r)).toLoadRect X_arg7)

theorem tileR_apply (i : grid0.Coords) (arg7 : Memref sig .tc .vmem S1x8x48x2048 .i8) (arg16 : Memref sig .tc .vmem S2x48x128 .f32) (arg19 : Memref sig .tc .vmem S2x48x256 .f32) (arg21 : Memref sig .tc .vmem S8x96x384 .f32) (v1 : BitVec 32) (k0_hw1 : k0_chk1 i v1) (k0_h3 : k0_cond3 i v1 = 1#1) (X_arg7 : BufTy.Contents (Elt Ideal) arg7.view.ty) (X_arg16 : BufTy.Contents (Elt Ideal) arg16.view.ty) (X_arg19 : BufTy.Contents (Elt Ideal) arg19.view.ty) (X_arg21 : BufTy.Contents (Elt Ideal) arg21.view.ty) (k : Fin (k0_t1_loop i v1).trips) (r : Fin 4) (h : Fin 8) (e : Fin 96) (l : Fin 128) :
    tileR i arg7 arg16 arg19 arg21 v1 k0_hw1 k0_h3 X_arg7 X_arg16 X_arg19 X_arg21 k r (ix3 h e l)
      = keyG (i 1) (arg7.view.read (Elt Ideal) X_arg7) (arg16.view.read (Elt Ideal) X_arg16) (arg19.view.read (Elt Ideal) X_arg19)
          (arg21.view.read (Elt Ideal) X_arg21) h e ⟨512 * (tk k).val + 128 * r.val + l.val, by have := (tk k).isLt; omega⟩ := by
  have hk : k.val < 4 := (tk k).isLt
  have ha : (i 1).val < 10 := (i 1).isLt
  have hg : gW (i 1).val k.val (BitVec.ofNat 32 r.val) = BitVec.ofNat 32 (⟨16 * (i 1).val + 4 * k.val + r.val, by omega⟩ : Fin 160).val :=
    gW_nat (i 1) (tk k) r
  unfold tileR
  rw [hg, tileT_apply]
  unfold keyG
  have e1 : (2048 * (i 1).val + (512 * k.val + 128 * r.val + l.val)) / 64
      = (16 * (i 1).val + 4 * k.val + r.val) / 64 * 128 + ((16 * (i 1).val + 4 * k.val + r.val) % 64 * 2 + if 64 ≤ l.val then 1 else 0) := by
    split <;> omega
  have e2 : (2048 * (i 1).val + (512 * k.val + 128 * r.val + l.val)) / 128
      = (16 * (i 1).val + 4 * k.val + r.val) / 128 * 128 + (16 * (i 1).val + 4 * k.val + r.val) % 128 := by omega
  have e3 : (512 * k.val + 128 * r.val + l.val) % 128 = l.val := by omega
  have r7 : ∀ c : Fin 48, View.readAt (Elt Ideal) arg7.view (Rect.unit (s := S1x8x48x2048) (k0_off8 i v1 k (BitVec.ofNat 32 (128 * r.val))) S1x8x48x128.size (k0_off8_inb i v1 k0_hw1 k k0_h3 r)).toLoadRect X_arg7 (ix4 0 h c l)
      = arg7.view.read (Elt Ideal) X_arg7 (ix4 0 h c ⟨512 * k.val + 128 * r.val + l.val, by omega⟩) := fun c => by
    refine congrArg (arg7.view.read (Elt Ideal) X_arg7) (unit4_idx (k0_off8_inb i v1 k0_hw1 k k0_h3 r) (off8_val i v1 k r) (ix4 0 h c l) _ _ _ _ ?_ ?_ ?_ ?_) <;> simp
  have r16 : ∀ (o : Fin 2) (inb) (c : Fin 48), View.readAt (Elt Ideal) arg16.view (Rect.unit (s := S2x48x128) ![o.val, 0, 0] S1x48x128.size inb).toLoadRect X_arg16 (ix3 0 c l)
      = arg16.view.read (Elt Ideal) X_arg16 (ix3 o c ⟨(512 * k.val + 128 * r.val + l.val) % 128, by omega⟩) := fun o inb c => by
    refine congrArg (arg16.view.read (Elt Ideal) X_arg16) (unit3_idx inb rfl (ix3 0 c l) _ _ _ ?_ ?_ ?_) <;> simp [e3]
  have r19 : ∀ c : Fin 48, View.readAt (Elt Ideal) arg19.view (Rect.unit (s := S2x48x256) (k0_off5 i v1 k (BitVec.ofNat 32 r.val)) S1x48x128.size (k0_off5_inb i v1 k0_hw1 k k0_h3 r)).toLoadRect X_arg19
        (ix3 0 c ⟨(16 * (i 1).val + 4 * k.val + r.val) % 128, by omega⟩)
      = arg19.view.read (Elt Ideal) X_arg19 (ix3 0 c ⟨(2048 * (i 1).val + (512 * k.val + 128 * r.val + l.val)) / 128, by omega⟩) := fun c => by
    refine congrArg (arg19.view.read (Elt Ideal) X_arg19) (unit3_idx (k0_off5_inb i v1 k0_hw1 k k0_h3 r) (off5_val i v1 k r) (ix3 0 c ⟨_, _⟩) _ _ _ ?_ ?_ ?_) <;> simp [e2]
  have r19' : ∀ c : Fin 48, View.readAt (Elt Ideal) arg19.view (Rect.unit (s := S2x48x256) (k0_off6 i v1 k (BitVec.ofNat 32 r.val)) S1x48x128.size (k0_off6_inb i v1 k0_hw1 k k0_h3 r)).toLoadRect X_arg19
        (ix3 0 c ⟨(16 * (i 1).val + 4 * k.val + r.val) % 128, by omega⟩)
      = arg19.view.read (Elt Ideal) X_arg19 (ix3 1 c ⟨(2048 * (i 1).val + (512 * k.val + 128 * r.val + l.val)) / 128, by omega⟩) := fun c => by
    refine congrArg (arg19.view.read (Elt Ideal) X_arg19) (unit3_idx (k0_off6_inb i v1 k0_hw1 k k0_h3 r) (off6_val i v1 k r) (ix3 0 c ⟨_, _⟩) _ _ _ ?_ ?_ ?_) <;> simp [e2]
  have r21 : ∀ c : Fin 96, View.readAt (Elt Ideal) arg21.view (Rect.unit (s := S8x96x384) (k0_off7 i v1 k (BitVec.ofNat 32 r.val)) S8x96x128.size (k0_off7_inb i v1 k0_hw1 k k0_h3 r)).toLoadRect X_arg21
        (ix3 h c ⟨(16 * (i 1).val + 4 * k.val + r.val) % 64 * 2 + (if 64 ≤ l.val then 1 else 0), by split <;> omega⟩)
      = arg21.view.read (Elt Ideal) X_arg21 (ix3 h c ⟨(2048 * (i 1).val + (512 * k.val + 128 * r.val + l.val)) / 64, by omega⟩) := fun c => by
    refine congrArg (arg21.view.read (Elt Ideal) X_arg21) (unit3_idx (k0_off7_inb i v1 k0_hw1 k k0_h3 r) (off7_val i v1 k r) (ix3 h c ⟨_, _⟩) _ _ _ ?_ ?_ ?_) <;> simp [e1]
  simp only [r7, r19, r19', r21]
  rw [← r16 0 inb_S2x48x128_S1x48x128_0_0_0, ← r16 1 inb_S2x48x128_S1x48x128_1_0_0]
  rfl

theorem tile0_eq (i : grid0.Coords) (arg7 : Memref sig .tc .vmem S1x8x48x2048 .i8) (arg16 : Memref sig .tc .vmem S2x48x128 .f32) (arg19 : Memref sig .tc .vmem S2x48x256 .f32) (arg21 : Memref sig .tc .vmem S8x96x384 .f32) (v1 : BitVec 32) (k0_hw1 : k0_chk1 i v1) (k0_h3 : k0_cond3 i v1 = 1#1) (X_arg7 : BufTy.Contents (Elt Ideal) arg7.view.ty) (X_arg16 : BufTy.Contents (Elt Ideal) arg16.view.ty) (X_arg19 : BufTy.Contents (Elt Ideal) arg19.view.ty) (X_arg21 : BufTy.Contents (Elt Ideal) arg21.view.ty) (k : Fin (k0_t1_loop i v1).trips) : trip_k0_t1.sl.r_4 (F := Ideal) i arg7 arg16 arg19 arg21 (BitVec.ofNat 32 (i 1).val) v1 k0_hw1 laneV k0_h3 X_arg7 X_arg16 X_arg19 X_arg21 k
    = tileR i arg7 arg16 arg19 arg21 v1 k0_hw1 k0_h3 X_arg7 X_arg16 X_arg19 X_arg21 k 0 := rfl
theorem tile1_eq (i : grid0.Coords) (arg7 : Memref sig .tc .vmem S1x8x48x2048 .i8) (arg16 : Memref sig .tc .vmem S2x48x128 .f32) (arg19 : Memref sig .tc .vmem S2x48x256 .f32) (arg21 : Memref sig .tc .vmem S8x96x384 .f32) (v1 : BitVec 32) (k0_hw1 : k0_chk1 i v1) (k0_h3 : k0_cond3 i v1 = 1#1) (X_arg7 : BufTy.Contents (Elt Ideal) arg7.view.ty) (X_arg16 : BufTy.Contents (Elt Ideal) arg16.view.ty) (X_arg19 : BufTy.Contents (Elt Ideal) arg19.view.ty) (X_arg21 : BufTy.Contents (Elt Ideal) arg21.view.ty) (k : Fin (k0_t1_loop i v1).trips) : trip_k0_t1.sl.r_11 (F := Ideal) i arg7 arg16 arg19 arg21 (BitVec.ofNat 32 (i 1).val) v1 k0_hw1 laneV k0_h3 X_arg7 X_arg16 X_arg19 X_arg21 k
    = tileR i arg7 arg16 arg19 arg21 v1 k0_hw1 k0_h3 X_arg7 X_arg16 X_arg19 X_arg21 k 1 := rfl
theorem tile2_eq (i : grid0.Coords) (arg7 : Memref sig .tc .vmem S1x8x48x2048 .i8) (arg16 : Memref sig .tc .vmem S2x48x128 .f32) (arg19 : Memref sig .tc .vmem S2x48x256 .f32) (arg21 : Memref sig .tc .vmem S8x96x384 .f32) (v1 : BitVec 32) (k0_hw1 : k0_chk1 i v1) (k0_h3 : k0_cond3 i v1 = 1#1) (X_arg7 : BufTy.Contents (Elt Ideal) arg7.view.ty) (X_arg16 : BufTy.Contents (Elt Ideal) arg16.view.ty) (X_arg19 : BufTy.Contents (Elt Ideal) arg19.view.ty) (X_arg21 : BufTy.Contents (Elt Ideal) arg21.view.ty) (k : Fin (k0_t1_loop i v1).trips) : trip_k0_t1.sl.r_15 (F := Ideal) i arg7 arg16 arg19 arg21 (BitVec.ofNat 32 (i 1).val) v1 k0_hw1 laneV k0_h3 X_arg7 X_arg16 X_arg19 X_arg21 k
    = tileR i arg7 arg16 arg19 arg21 v1 k0_hw1 k0_h3 X_arg7 X_arg16 X_arg19 X_arg21 k 2 := rfl
theorem slab_eq (i : grid0.Coords) (arg7 : Memref sig .tc .vmem S1x8x48x2048 .i8) (arg16 : Memref sig .tc .vmem S2x48x128 .f32) (arg19 : Memref sig .tc .vmem S2x48x256 .f32) (arg21 : Memref sig .tc .vmem S8x96x384 .f32) (v1 : BitVec 32) (k0_hw1 : k0_chk1 i v1) (k0_h3 : k0_cond3 i v1 = 1#1) (X_arg7 : BufTy.Contents (Elt Ideal) arg7.view.ty) (X_arg16 : BufTy.Contents (Elt Ideal) arg16.view.ty) (X_arg19 : BufTy.Contents (Elt Ideal) arg19.view.ty) (X_arg21 : BufTy.Contents (Elt Ideal) arg21.view.ty) (k : Fin (k0_t1_loop i v1).trips) : trip_k0_t1.sl.r_21 (F := Ideal) i arg7 arg16 arg19 arg21 (BitVec.ofNat 32 (i 1).val) v1 k0_hw1 laneV k0_h3 X_arg7 X_arg16 X_arg19 X_arg21 k
    = slabT (trip_k0_t1.sl.r_4 (F := Ideal) i arg7 arg16 arg19 arg21 (BitVec.ofNat 32 (i 1).val) v1 k0_hw1 laneV k0_h3 X_arg7 X_arg16 X_arg19 X_arg21 k) (trip_k0_t1.sl.r_11 (F := Ideal) i arg7 arg16 arg19 arg21 (BitVec.ofNat 32 (i 1).val) v1 k0_hw1 laneV k0_h3 X_arg7 X_arg16 X_arg19 X_arg21 k) (trip_k0_t1.sl.r_15 (F := Ideal) i arg7 arg16 arg19 arg21 (BitVec.ofNat 32 (i 1).val) v1 k0_hw1 laneV k0_h3 X_arg7 X_arg16 X_arg19 X_arg21 k)
        (tileR i arg7 arg16 arg19 arg21 v1 k0_hw1 k0_h3 X_arg7 X_arg16 X_arg19 X_arg21 k 3) := rfl

end Cert.KernelIdeal
-- ==== Proof.StateValue.lean ====
/-
What the tables held in scratch are, at an entry.
-/
module

public import proofs.«01_k».proof.Proof.ScoreTrip
public import proofs.«01_k».proof.Proof.StateKernelIdeal

@[expose] public section

set_option maxRecDepth 16384

noncomputable section

namespace Cert.KernelIdeal

open Idealize.ShloMosaic Idealize.ShloMosaic.Tactic
open Gen

/-- Cosine at table row 0, sine at row 1. -/
def trig (k : Fin 2) (a : EReal) : EReal := if k = 0 then Ideal.cos a else Ideal.sin a

/-- A position times a frequency. -/
def angE (w : BitVec 32) (f : EReal) : EReal := ((w.toInt : ℝ) : EReal) * f

/-- The lanes' table. -/
def tlG (x11 : Vec Ideal S48x1 .f32) : Vec Ideal S2x48x128 .f32 :=
  fun y => trig (y 0) (angE (BitVec.ofNat 32 (y 2).val) (x11 (ix2 (y 1) 0)))
/-- The tiles' table. -/
def ttG (x11 : Vec Ideal S48x1 .f32) : Vec Ideal S2x48x256 .f32 :=
  fun y => trig (y 0) (angE (BitVec.ofNat 32 (128 * (y 2).val)) (x11 (ix2 (y 1) 0)))
/-- The offsets' table. -/
def toG (off : Fin 10 → BitVec 32) (x11 : Vec Ideal S48x1 .f32) : Vec Ideal S2x48x128 .f32 :=
  fun y => trig (y 0) (angE (if h : (y 2).val < 10 then off ⟨(y 2).val, h⟩ else 0) (x11 (ix2 (y 1) 0)))
/-- The tiles' table turned by one row's offset. -/
def tbG (o : BitVec 32) (x11 : Vec Ideal S48x1 .f32) : Vec Ideal S2x48x256 .f32 :=
  fun y => if (y 0).val = 0 then
      ttG x11 (ix3 0 (y 1) (y 2)) * Ideal.cos (angE o (x11 (ix2 (y 1) 0))) - ttG x11 (ix3 1 (y 1) (y 2)) * Ideal.sin (angE o (x11 (ix2 (y 1) 0)))
    else ttG x11 (ix3 1 (y 1) (y 2)) * Ideal.cos (angE o (x11 (ix2 (y 1) 0))) + ttG x11 (ix3 0 (y 1) (y 2)) * Ideal.sin (angE o (x11 (ix2 (y 1) 0)))

/-- Row `b`'s rotated queries. -/
def qrG (b : Fin 10) (w : BitVec 32) (x4 : Vec Ideal S10x32x96 .bf16) (x12 : Vec Ideal S1x48 .f32) (h : Fin 32) (l : Fin 96) : EReal :=
  if hl : l.val < 48 then
    x4 (ix3 b h ⟨l.val, by omega⟩) * Ideal.cos (angE w (x12 (ix2 0 ⟨l.val, hl⟩))) - x4 (ix3 b h ⟨48 + l.val, by omega⟩) * Ideal.sin (angE w (x12 (ix2 0 ⟨l.val, hl⟩)))
  else x4 (ix3 b h ⟨48 + (l.val - 48), by omega⟩) * Ideal.cos (angE w (x12 (ix2 0 ⟨l.val - 48, by omega⟩)))
    + x4 (ix3 b h ⟨l.val - 48, by omega⟩) * Ideal.sin (angE w (x12 (ix2 0 ⟨l.val - 48, by omega⟩)))

/-- The masked, interleaved queries: rows of the even head on the left, of the odd head on the right. -/
def qmG (q : Fin 32 → Fin 96 → EReal) : Vec Ideal S4x8x192 .bf16 :=
  fun y => if hx : (y 2).val < 96 then
      (if (y 1).val < 4 then q ⟨8 * (y 0).val + (y 1).val, by have h0 : (y 0).val < 4 := (y 0).isLt; have h1 : (y 1).val < 8 := (y 1).isLt; omega⟩ ⟨(y 2).val % 2 * 48 + (y 2).val / 2, by omega⟩ else 0)
    else (if (y 1).val < 4 then 0 else q ⟨8 * (y 0).val + (y 1).val, by have h0 : (y 0).val < 4 := (y 0).isLt; have h1 : (y 1).val < 8 := (y 1).isLt; omega⟩
      ⟨((y 2).val - 96) % 2 * 48 + ((y 2).val - 96) / 2, by have h2 : (y 2).val < 192 := (y 2).isLt; omega⟩)

/-! ## Pieces -/

theorem piece3 {e : EltTy} {n0 n1 n2 A B : ℕ} (G : Vec Ideal ⟨3, ![n0, n1, n2]⟩ e) {off : Fin 3 → ℕ} (inb) (o0 o2 : ℕ) (hoff : off = ![o0, 0, o2])
    (w : Vec Ideal ⟨3, ![1, A, B]⟩ e) (h0 : o0 < n0) (hA : A ≤ n1) (hB : o2 + B ≤ n2)
    (hw : ∀ (a : Fin A) (b : Fin B), w (ix3 0 a b) = G (ix3 ⟨o0, h0⟩ ⟨a.val, by omega⟩ ⟨o2 + b.val, by omega⟩))
    (x : (⟨3, ![1, A, B]⟩ : Shape).Idx) : w x = G ((Rect.unit (s := ⟨3, ![n0, n1, n2]⟩) off (⟨3, ![1, A, B]⟩ : Shape).size inb).emb x) := by
  obtain ⟨a, b, rfl⟩ : ∃ (a : Fin A) (b : Fin B), x = ix3 0 a b := ⟨x 1, x 2, by
    refine (eq_ix3 x).trans ?_
    congr 1; exact Subsingleton.elim (α := Fin 1) _ _⟩
  refine (hw a b).trans (congrArg G (unit3_idx inb hoff (ix3 0 a b) _ _ _ ?_ ?_ ?_).symm) <;> simp

theorem mem3 {n0 n1 n2 A B : ℕ} {off : Fin 3 → ℕ} (inb) (o0 o2 : ℕ) (hoff : off = ![o0, 0, o2]) (y : (⟨3, ![n0, n1, n2]⟩ : Shape).Idx)
    (h0 : (y 0).val = o0) (hA : (y 1).val < A) (hB : o2 ≤ (y 2).val) (hB' : (y 2).val < o2 + B) :
    y ∈ (Rect.unit (s := ⟨3, ![n0, n1, n2]⟩) off (⟨3, ![1, A, B]⟩ : Shape).size inb).set := by
  subst hoff
  refine Rect.mem_set_unit.2 fun a => ?_
  match a with
  | ⟨0, _⟩ => exact ⟨h0.ge, by show (y 0).val < o0 + 1; omega⟩
  | ⟨1, _⟩ => exact ⟨Nat.zero_le _, by show (y 1).val < 0 + A; omega⟩
  | ⟨2, _⟩ => exact ⟨hB, hB'⟩

/-! ## The tables' entries -/

theorem pay12_apply (x : Vec Ideal S48x1 .f32) (a : Fin 48) (l : Fin 128) : k0_pay12 (F := Ideal) x (ix2 a l) = x (ix2 a 0) := by
  pointwise [k0_pay12]
theorem pay13_apply (x : Vec Ideal S48x1 .f32) (a : Fin 48) (l : Fin 128) :
    k0_pay13 (F := Ideal) x (ix3 0 a l) = Ideal.cos (angE (BitVec.ofNat 32 l.val) (x (ix2 a 0))) := by
  pointwise [k0_pay13]
  rw [pay12_apply]; rfl
theorem pay14_apply (x : Vec Ideal S48x1 .f32) (a : Fin 48) (l : Fin 128) :
    k0_pay14 (F := Ideal) x (ix3 0 a l) = Ideal.sin (angE (BitVec.ofNat 32 l.val) (x (ix2 a 0))) := by
  pointwise [k0_pay14]
  rw [pay12_apply]; rfl
theorem mul128_lo : ∀ l : Fin 128, IntOp.muli (IntOp.addi (BitVec.ofNat 32 l.val) 0#32) 128#32 = BitVec.ofNat 32 (128 * l.val) := by decide
theorem mul128_hi : ∀ l : Fin 128, IntOp.muli (IntOp.addi (BitVec.ofNat 32 l.val) 128#32) 128#32 = BitVec.ofNat 32 (128 * (128 + l.val)) := by decide
theorem pay15_apply (x : Vec Ideal S48x1 .f32) (a : Fin 48) (l : Fin 128) :
    k0_pay15 (F := Ideal) x (ix2 a l) = angE (BitVec.ofNat 32 (128 * l.val)) (x (ix2 a 0)) := by
  pointwise [k0_pay15]
  rw [pay12_apply, mul128_lo]; rfl
theorem pay18_apply (x : Vec Ideal S48x1 .f32) (a : Fin 48) (l : Fin 128) :
    k0_pay18 (F := Ideal) x (ix2 a l) = angE (BitVec.ofNat 32 (128 * (128 + l.val))) (x (ix2 a 0)) := by
  pointwise [k0_pay18]
  rw [pay12_apply, mul128_hi]; rfl
theorem pay16_apply (x : Vec Ideal S48x1 .f32) (a : Fin 48) (l : Fin 128) :
    k0_pay16 (F := Ideal) x (ix3 0 a l) = Ideal.cos (angE (BitVec.ofNat 32 (128 * l.val)) (x (ix2 a 0))) := by
  pointwise [k0_pay16]
  rw [pay15_apply]
theorem pay17_apply (x : Vec Ideal S48x1 .f32) (a : Fin 48) (l : Fin 128) :
    k0_pay17 (F := Ideal) x (ix3 0 a l) = Ideal.sin (angE (BitVec.ofNat 32 (128 * l.val)) (x (ix2 a 0))) := by
  pointwise [k0_pay17]
  rw [pay15_apply]
theorem pay20_apply (x : Vec Ideal S48x1 .f32) (a : Fin 48) (l : Fin 128) :
    k0_pay20 (F := Ideal) (k0_pay19 x) (ix3 0 a l) = Ideal.cos (angE (BitVec.ofNat 32 (128 * (128 + l.val))) (x (ix2 a 0))) := by
  pointwise [k0_pay20, k0_pay19]
  rw [pay18_apply]
theorem pay21_apply (x : Vec Ideal S48x1 .f32) (a : Fin 48) (l : Fin 128) :
    k0_pay21 (F := Ideal) (k0_pay18 x) (ix3 0 a l) = Ideal.sin (angE (BitVec.ofNat 32 (128 * (128 + l.val))) (x (ix2 a 0))) := by
  pointwise [k0_pay21]
  rw [pay18_apply]

/-- The word lane `l` of the offsets' table is made from. -/
def laneOff (off : Fin 10 → BitVec 32) (l : ℕ) : BitVec 32 := if h : l < 10 then off ⟨l, h⟩ else 0

theorem cmpi_eq_ofNat (l k : ℕ) (hl : l < 4294967296) (hk : k < 4294967296) : IntOp.cmpi .eq (BitVec.ofNat 32 l) (BitVec.ofNat 32 k) = if l = k then 1#1 else 0#1 := by
  show BitVec.ofBool (BitVec.ofNat 32 l == BitVec.ofNat 32 k) = _
  by_cases h : l = k
  · subst h; simp
  · have : ¬ (BitVec.ofNat 32 l = BitVec.ofNat 32 k) := fun e => h (by
      have := congrArg BitVec.toNat e
      simpa [BitVec.toNat_ofNat, Nat.mod_eq_of_lt hl, Nat.mod_eq_of_lt hk] using this)
    rw [if_neg h, show (BitVec.ofNat 32 l == BitVec.ofNat 32 k) = false from beq_eq_false_iff_ne.2 this]; rfl

theorem sel_lane (off : Fin 10 → BitVec 32) (l : Fin 128) :
    Scalar.select (IntOp.cmpi CmpIPredicate.eq (BitVec.ofNat 32 l.val) 9#32) (off 9)
            (Scalar.select (IntOp.cmpi CmpIPredicate.eq (BitVec.ofNat 32 l.val) 8#32) (off 8)
              (Scalar.select (IntOp.cmpi CmpIPredicate.eq (BitVec.ofNat 32 l.val) 7#32) (off 7)
                (Scalar.select (IntOp.cmpi CmpIPredicate.eq (BitVec.ofNat 32 l.val) 6#32) (off 6)
                  (Scalar.select (IntOp.cmpi CmpIPredicate.eq (BitVec.ofNat 32 l.val) 5#32) (off 5)
                    (Scalar.select (IntOp.cmpi CmpIPredicate.eq (BitVec.ofNat 32 l.val) 4#32) (off 4)
                      (Scalar.select (IntOp.cmpi CmpIPredicate.eq (BitVec.ofNat 32 l.val) 3#32) (off 3)
                        (Scalar.select (IntOp.cmpi CmpIPredicate.eq (BitVec.ofNat 32 l.val) 2#32) (off 2)
                          (Scalar.select (IntOp.cmpi CmpIPredicate.eq (BitVec.ofNat 32 l.val) 1#32) (off 1)
                            (Scalar.select (IntOp.cmpi CmpIPredicate.eq (BitVec.ofNat 32 l.val) 0#32) (off 0) 0#32)))))))))
      = laneOff off l.val := by
  have key : ∀ (k : ℕ) (hk : k < 10) (a b : BitVec 32), Scalar.select (IntOp.cmpi CmpIPredicate.eq (BitVec.ofNat 32 l.val) (BitVec.ofNat 32 k)) a b = if l.val = k then a else b := by
    intro k hk a b
    rw [cmpi_eq_ofNat _ _ (by omega) (by omega)]
    by_cases h : l.val = k
    · rw [if_pos h, if_pos h]; rfl
    · rw [if_neg h, if_neg h]; rfl
  refine (key 9 (by omega) _ _).trans ?_
  unfold laneOff
  by_cases h9 : l.val = 9
  · rw [if_pos h9, dif_pos (by omega)]; congr 1; exact Fin.ext h9.symm
  rw [if_neg h9]; refine (key 8 (by omega) _ _).trans ?_
  by_cases h9 : l.val = 8
  · rw [if_pos h9, dif_pos (by omega)]; congr 1; exact Fin.ext h9.symm
  rw [if_neg h9]; refine (key 7 (by omega) _ _).trans ?_
  by_cases h9 : l.val = 7
  · rw [if_pos h9, dif_pos (by omega)]; congr 1; exact Fin.ext h9.symm
  rw [if_neg h9]; refine (key 6 (by omega) _ _).trans ?_
  by_cases h9 : l.val = 6
  · rw [if_pos h9, dif_pos (by omega)]; congr 1; exact Fin.ext h9.symm
  rw [if_neg h9]; refine (key 5 (by omega) _ _).trans ?_
  by_cases h9 : l.val = 5
  · rw [if_pos h9, dif_pos (by omega)]; congr 1; exact Fin.ext h9.symm
  rw [if_neg h9]; refine (key 4 (by omega) _ _).trans ?_
  by_cases h9 : l.val = 4
  · rw [if_pos h9, dif_pos (by omega)]; congr 1; exact Fin.ext h9.symm
  rw [if_neg h9]; refine (key 3 (by omega) _ _).trans ?_
  by_cases h9 : l.val = 3
  · rw [if_pos h9, dif_pos (by omega)]; congr 1; exact Fin.ext h9.symm
  rw [if_neg h9]; refine (key 2 (by omega) _ _).trans ?_
  by_cases h9 : l.val = 2
  · rw [if_pos h9, dif_pos (by omega)]; congr 1; exact Fin.ext h9.symm
  rw [if_neg h9]; refine (key 1 (by omega) _ _).trans ?_
  by_cases h9 : l.val = 1
  · rw [if_pos h9, dif_pos (by omega)]; congr 1; exact Fin.ext h9.symm
  rw [if_neg h9]; refine (key 0 (by omega) _ _).trans ?_
  by_cases h9 : l.val = 0
  · rw [if_pos h9, dif_pos (by omega)]; congr 1; exact Fin.ext h9.symm
  rw [if_neg h9, dif_neg (by omega)]; rfl

theorem pay319_apply (x : Vec Ideal S48x1 .f32) (off : Fin 10 → BitVec 32) (a : Fin 48) (l : Fin 128) :
    k0_pay319 (F := Ideal) (k0_pay12 x) kernelRun0.sl.v51 (k0_pay22 (F := Ideal) kernelRun0.sl.v51 (off 0) (off 1) (off 2) (off 3) (off 4) (off 5)) 6#32 (off 6) (off 7) (off 8) (off 9) (ix2 a l)
      = angE (laneOff off l.val) (x (ix2 a 0)) := by
  pointwise [k0_pay319, k0_pay22, kernelRun0.sl.v51]
  rw [pay12_apply, sel_lane]; rfl

theorem pay320_apply (x : Vec Ideal S48x1 .f32) (off : Fin 10 → BitVec 32) (a : Fin 48) (l : Fin 128) :
    k0_pay320 (F := Ideal) (k0_pay12 x) kernelRun0.sl.v51 (k0_pay22 (F := Ideal) kernelRun0.sl.v51 (off 0) (off 1) (off 2) (off 3) (off 4) (off 5)) 6#32 (off 6) (off 7) (off 8) (off 9) (ix3 0 a l)
      = Ideal.cos (angE (laneOff off l.val) (x (ix2 a 0))) := by
  pointwise [k0_pay320]
  rw [pay319_apply]
theorem pay321_apply (x : Vec Ideal S48x1 .f32) (off : Fin 10 → BitVec 32) (a : Fin 48) (l : Fin 128) :
    k0_pay321 (F := Ideal) (k0_pay12 x) kernelRun0.sl.v51 (k0_pay22 (F := Ideal) kernelRun0.sl.v51 (off 0) (off 1) (off 2) (off 3) (off 4) (off 5)) 6#32 (off 6) (off 7) (off 8) (off 9) (ix3 0 a l)
      = Ideal.sin (angE (laneOff off l.val) (x (ix2 a 0))) := by
  pointwise [k0_pay321]
  rw [pay319_apply]

theorem lane_b : ∀ b : Fin 10, (Scalar.select (IntOp.cmpi CmpIPredicate.slt (BitVec.ofNat 32 b.val) 0#32)
                    (IntOp.addi (BitVec.ofNat 32 b.val) 128#32) (BitVec.ofNat 32 b.val)).toNat % 128 = b.val := by decide

theorem pay24_apply (b : Fin 10) (v : Vec Ideal S1x48x128 .f32) (a : Fin 48) (l : Fin 128) :
    k0_pay24 (F := Ideal) (BitVec.ofNat 32 b.val) v (ix2 a l) = v (ix3 0 a ⟨b.val, by omega⟩) := by
  pointwise [k0_pay24, k0_pay23]
  exact congrArg v (congrArg (ix3 0 a) (Fin.ext (lane_b b)))
theorem pay25_apply (b : Fin 10) (v : Vec Ideal S1x48x128 .f32) (a : Fin 48) (l : Fin 128) :
    k0_pay25 (F := Ideal) (BitVec.ofNat 32 b.val) v (ix2 a l) = v (ix3 0 a ⟨b.val, by omega⟩) := by
  pointwise [k0_pay25, k0_pay23]
  exact congrArg v (congrArg (ix3 0 a) (Fin.ext (lane_b b)))
theorem pay28_apply (b : Fin 10) (v48 v58 v68 v70 : Vec Ideal S1x48x128 .f32) (a : Fin 48) (l : Fin 128) :
    k0_pay28 (F := Ideal) (BitVec.ofNat 32 b.val) v48 v58 v68 v70 (ix3 0 a l)
      = v68 (ix3 0 a l) * v48 (ix3 0 a ⟨b.val, by omega⟩) - v70 (ix3 0 a l) * v58 (ix3 0 a ⟨b.val, by omega⟩) := by
  pointwise [k0_pay28, k0_pay26, k0_pay27]
  rw [pay24_apply, pay25_apply]
theorem pay29_apply (b : Fin 10) (v48 v58 v68 v70 : Vec Ideal S1x48x128 .f32) (a : Fin 48) (l : Fin 128) :
    k0_pay29 (F := Ideal) (BitVec.ofNat 32 b.val) v48 v58 v68 v70 (ix3 0 a l)
      = v70 (ix3 0 a l) * v48 (ix3 0 a ⟨b.val, by omega⟩) + v68 (ix3 0 a l) * v58 (ix3 0 a ⟨b.val, by omega⟩) := by
  pointwise [k0_pay29, k0_pay26, k0_pay27]
  rw [pay24_apply, pay25_apply]
theorem pay32_apply (b : Fin 10) (v48 v58 v68 v70 : Vec Ideal S1x48x128 .f32) (a : Fin 48) (l : Fin 128) :
    k0_pay32 (F := Ideal) (k0_pay24 (BitVec.ofNat 32 b.val) v48) (k0_pay25 (BitVec.ofNat 32 b.val) v58) v68 v70 (ix3 0 a l)
      = v68 (ix3 0 a l) * v48 (ix3 0 a ⟨b.val, by omega⟩) - v70 (ix3 0 a l) * v58 (ix3 0 a ⟨b.val, by omega⟩) := by
  pointwise [k0_pay32, k0_pay30, k0_pay31]
  rw [pay24_apply, pay25_apply]
theorem pay33_apply (b : Fin 10) (v48 v58 v68 v70 : Vec Ideal S1x48x128 .f32) (a : Fin 48) (l : Fin 128) :
    k0_pay33 (F := Ideal) (k0_pay24 (BitVec.ofNat 32 b.val) v48) (k0_pay25 (BitVec.ofNat 32 b.val) v58) v68 v70 (ix3 0 a l)
      = v70 (ix3 0 a l) * v48 (ix3 0 a ⟨b.val, by omega⟩) + v68 (ix3 0 a l) * v58 (ix3 0 a ⟨b.val, by omega⟩) := by
  pointwise [k0_pay33, k0_pay30, k0_pay31]
  rw [pay24_apply, pay25_apply]

/-! ## The rotated queries -/

/-- The queries of one row, rotated by `C` and `S`. -/
def ropeG (x : Vec Ideal S1x32x96 .bf16) (C S : FVec Ideal S1x48 .f32) (h : Fin 32) (l : Fin 96) : EReal :=
  if h_1 : l.val < 48 then x (ix3 0 h ⟨l.val, by omega⟩) * C (ix2 0 ⟨l.val, by omega⟩) - x (ix3 0 h ⟨48 + l.val, by omega⟩) * S (ix2 0 ⟨l.val, by omega⟩)
    else x (ix3 0 h ⟨48 + (l.val - 48), by omega⟩) * C (ix2 0 ⟨l.val - 48, by omega⟩) + x (ix3 0 h ⟨l.val - 48, by omega⟩) * S (ix2 0 ⟨l.val - 48, by omega⟩)

theorem pay48_apply (C S : FVec Ideal S1x48 .f32) (x) (h : Fin 32) (l : Fin 96) : k0_pay48 (F := Ideal) C S x (ix3 0 h l) = ropeG x C S h l := by
  pointwise [k0_pay48, k0_pay46]
  rfl

theorem pay43_apply (v1 o : BitVec 32) (x : Vec Ideal S1x48 .f32) (l : Fin 48) : k0_pay43 (F := Ideal) v1 o x (ix2 0 l) = Ideal.cos (angE (Scalar.addi o v1) (x (ix2 0 l))) := by
  pointwise [k0_pay43, k0_pay42]
  rfl
theorem pay44_apply (v1 o : BitVec 32) (x : Vec Ideal S1x48 .f32) (l : Fin 48) : k0_pay44 (F := Ideal) v1 o x (ix2 0 l) = Ideal.sin (angE (Scalar.addi o v1) (x (ix2 0 l))) := by
  pointwise [k0_pay44, k0_pay42]
  rfl

theorem perm_word : ∀ l : Fin 96, IntOp.addi (IntOp.muli (IntOp.andi (BitVec.ofNat 32 l.val) 1#32) 48#32)
            (IntOp.shrsi ArithUnit.vector (BitVec.ofNat 32 l.val) 1#32) = BitVec.ofNat 32 (l.val % 2 * 48 + l.val / 2) := by decide

theorem pay45_apply (h l : Fin 96) : k0_pay45 (F := Ideal) (ix2 h l) = if h.val = l.val % 2 * 48 + l.val / 2 then (1 : EReal) else 0 := by
  pointwise [k0_pay45]
  rw [perm_word, cmpi_eq_ofNat _ _ (by omega) (by omega)]
  split
  · show (((BitVec.setWidth 32 1#1).toInt : ℝ) : EReal) = 1
    rw [show (BitVec.setWidth 32 1#1).toInt = 1 from by decide]; norm_num
  · show (((BitVec.setWidth 32 0#1).toInt : ℝ) : EReal) = 0
    rw [show (BitVec.setWidth 32 0#1).toInt = 0 from by decide]; norm_num

theorem onehot_sum (f g u v : Fin 48 → EReal) (T : ℕ) (hT : T < 96) (hu : ∀ x, u x = if x.val = T then 1 else 0) (hv : ∀ x, v x = if 48 + x.val = T then 1 else 0) :
    ∑ x, f x * u x + ∑ x, g x * v x = if hp : T < 48 then f ⟨T, hp⟩ else g ⟨T - 48, by omega⟩ := by
  simp only [hu, hv]
  by_cases hp : T < 48
  · rw [dif_pos hp, Finset.sum_eq_single (⟨T, hp⟩ : Fin 48), Finset.sum_eq_zero]
    · rw [if_pos rfl, mul_one, add_zero]
    · intro x hx; rw [if_neg (by omega), mul_zero]
    · intro b _ hb; rw [if_neg (fun e => hb (Fin.ext e)), mul_zero]
    · intro h; exact absurd (Finset.mem_univ _) h
  · rw [dif_neg hp, Finset.sum_eq_zero, Finset.sum_eq_single (⟨T - 48, by omega⟩ : Fin 48)]
    · rw [if_pos (by show 48 + (T - 48) = T; omega), mul_one, zero_add]
    · intro b _ hb; rw [if_neg (fun e => hb (Fin.ext (by show b.val = T - 48; omega))), mul_zero]
    · intro h; exact absurd (Finset.mem_univ _) h
    · intro x hx; rw [if_neg (by omega), mul_zero]

theorem pay49_apply (C S : FVec Ideal S1x48 .f32) (x) (h : Fin 32) (l : Fin 96) :
    k0_pay49 (F := Ideal) C S k0_pay45 x (ix2 h l) = ropeG x C S h ⟨l.val % 2 * 48 + l.val / 2, by omega⟩ := by
  pointwise [k0_pay49, k0_pay46]
  exact onehot_sum _ _ _ _ (l.val % 2 * 48 + l.val / 2) (by omega) (fun x => pay45_apply _ _) (fun x => pay45_apply _ _)

theorem slt4 : ∀ h : Fin 8, IntOp.cmpi CmpIPredicate.slt (BitVec.ofNat 32 h.val) 4#32 = if h.val < 4 then 1#1 else 0#1 := by decide

/-- The masked rows of one pair of heads. -/
def maskG (q : Fin 96 → EReal) (j : ℕ) (x : Fin 192) : EReal :=
  if hx : x.val < 96 then (if j < 4 then q ⟨x.val, hx⟩ else 0) else (if j < 4 then 0 else q ⟨x.val - 96, by omega⟩)

theorem mask_eq (q : Fin 96 → EReal) (h : Fin 8) (l : Fin 192) :
    (if h_1 : l.val < 96 then
      Scalar.select (IntOp.cmpi CmpIPredicate.slt (BitVec.ofNat 32 h.val) 4#32) (q ⟨l.val, h_1⟩) 0
    else
      Scalar.select (IntOp.cmpi CmpIPredicate.slt (BitVec.ofNat 32 h.val) 4#32) 0 (q ⟨l.val - 96, by omega⟩)) = maskG q h.val l := by
  unfold maskG
  rw [slt4]
  by_cases h4 : h.val < 4
  · simp only [if_pos h4]; rfl
  · simp only [if_neg h4]; rfl

theorem pay54_apply (C S : FVec Ideal S1x48 .f32) (x) (h : Fin 8) (l : Fin 192) :
    k0_pay54 (F := Ideal) (k0_pay52 C S k0_pay45 x) (k0_pay53 C S k0_pay45 x) (ix3 0 h l) = maskG (fun e => k0_pay49 (F := Ideal) C S k0_pay45 x (ix2 ⟨h.val, by omega⟩ e)) h.val l := by
  refine Eq.trans ?_ (mask_eq _ h l)
  pointwise [k0_pay54, k0_pay52, k0_pay53, k0_pay50, k0_pay51]
  done
theorem pay59_apply (r25 : FVec Ideal S32x96 .f32) (h : Fin 8) (l : Fin 192) :
    k0_pay59 (F := Ideal) (k0_pay58 r25 kernelRun0.sl.v219) (ix3 0 h l) = maskG (fun e => r25 (ix2 ⟨8 + h.val, by omega⟩ e)) h.val l := by
  refine Eq.trans ?_ (mask_eq _ h l)
  pointwise [k0_pay59, k0_pay58, kernelRun0.sl.v219]
theorem pay64_apply (r25 : FVec Ideal S32x96 .f32) (h : Fin 8) (l : Fin 192) :
    k0_pay64 (F := Ideal) (k0_pay63 r25 kernelRun0.sl.v219) (ix3 0 h l) = maskG (fun e => r25 (ix2 ⟨16 + h.val, by omega⟩ e)) h.val l := by
  refine Eq.trans ?_ (mask_eq _ h l)
  pointwise [k0_pay64, k0_pay63, kernelRun0.sl.v219]
theorem pay69_apply (r25 : FVec Ideal S32x96 .f32) (h : Fin 8) (l : Fin 192) :
    k0_pay69 (F := Ideal) (k0_pay68 r25 kernelRun0.sl.v219) (ix3 0 h l) = maskG (fun e => r25 (ix2 ⟨24 + h.val, by omega⟩ e)) h.val l := by
  refine Eq.trans ?_ (mask_eq _ h l)
  pointwise [k0_pay69, k0_pay68, kernelRun0.sl.v219]

end Cert.KernelIdeal
-- ==== Proof.StateRead.lean ====
/-
What one grid point leaves in each scratch table, read as a function of the entry.
-/
module

public import proofs.«01_k».proof.Proof.StateValue

@[expose] public section

set_option maxRecDepth 16384

noncomputable section

namespace Cert.KernelIdeal

open Idealize.ShloMosaic Idealize.ShloMosaic.Tactic
open Gen

theorem first_iff : ∀ i : grid0.Coords, kernelRun0.sl.v30 i = 1#1 ↔ ((i 0).val = 0 ∧ (i 1).val = 0) := by decide +kernel
theorem cond2_iff : ∀ i : grid0.Coords, k0_cond2 i = 1#1 ↔ (i 1).val = 0 := by decide +kernel
theorem cond4_iff : ∀ i : grid0.Coords, k0_cond4 i = 1#1 ↔ (i 1).val = 9 := by decide +kernel

/-- The offsets, read off their table. -/
def offW (c : Dev nD) (t3 : TbBuf0 (F := Ideal) c tbM0_1) (k : Fin 10) : BitVec 32 := tbM0_1.view.read (Elt Ideal) t3 (ix1 k)
/-- The lengths, read off their table. -/
def lenV (c : Dev nD) (t2 : TbBuf0 (F := Ideal) c tbM0_0) (k : Fin 10) : BitVec 32 := tbM0_0.view.read (Elt Ideal) t2 (ix1 k)

theorem unit1_first {n : ℕ} {off : Fin 1 → ℕ} (inb) (o : Fin n) (hoff : off = ![o.val]) (x : (⟨1, ![1]⟩ : Shape).Idx) :
    (Rect.unit (s := ⟨1, ![n]⟩) off (⟨1, ![1]⟩ : Shape).size inb).idx x = ix1 o := by
  subst hoff
  funext d
  apply Fin.ext
  match d with
  | ⟨0, _⟩ =>
    show o.val + 1 * (x 0).val = o.val
    have : (x 0).val < 1 := (x 0).isLt
    omega

theorem off1_val : ∀ i : grid0.Coords, k0_off1 i = ![(i 0).val] := by decide +kernel
theorem off2_val : ∀ i : grid0.Coords, k0_off2 i = ![(i 0).val] := by decide +kernel
theorem off3_val : ∀ i : grid0.Coords, k0_off3 i = ![(i 0).val, 0, 0] := by decide +kernel

theorem len_eq (c : Dev nD) (i : grid0.Coords) (t2 : TbBuf0 (F := Ideal) c tbM0_0) : kernelRun0.sl.r (F := Ideal) c i t2 = lenV c t2 (i 0) :=
  congrArg (tbM0_0.view.read (Elt Ideal) t2) (unit1_first _ (i 0) (off1_val i) _)
theorem off_eq (c : Dev nD) (i : grid0.Coords) (t3 : TbBuf0 (F := Ideal) c tbM0_1) (hc) : kernelRun0.sl.r_20 (F := Ideal) c i t3 hc = offW c t3 (i 0) :=
  congrArg (tbM0_1.view.read (Elt Ideal) t3) (unit1_first _ (i 0) (off2_val i) _)
theorem r4_eq (c : Dev nD) (t3 : TbBuf0 (F := Ideal) c tbM0_1) : kernelRun0.sl.r_4 (F := Ideal) c t3 = offW c t3 0 :=
  congrArg (tbM0_1.view.read (Elt Ideal) t3) (unit1_first _ 0 rfl _)
theorem r5_eq (c : Dev nD) (t3 : TbBuf0 (F := Ideal) c tbM0_1) : kernelRun0.sl.r_5 (F := Ideal) c t3 = offW c t3 1 :=
  congrArg (tbM0_1.view.read (Elt Ideal) t3) (unit1_first _ 1 rfl _)
theorem r6_eq (c : Dev nD) (t3 : TbBuf0 (F := Ideal) c tbM0_1) : kernelRun0.sl.r_6 (F := Ideal) c t3 = offW c t3 2 :=
  congrArg (tbM0_1.view.read (Elt Ideal) t3) (unit1_first _ 2 rfl _)
theorem r7_eq (c : Dev nD) (t3 : TbBuf0 (F := Ideal) c tbM0_1) : kernelRun0.sl.r_7 (F := Ideal) c t3 = offW c t3 3 :=
  congrArg (tbM0_1.view.read (Elt Ideal) t3) (unit1_first _ 3 rfl _)
theorem r8_eq (c : Dev nD) (t3 : TbBuf0 (F := Ideal) c tbM0_1) : kernelRun0.sl.r_8 (F := Ideal) c t3 = offW c t3 4 :=
  congrArg (tbM0_1.view.read (Elt Ideal) t3) (unit1_first _ 4 rfl _)
theorem r9_eq (c : Dev nD) (t3 : TbBuf0 (F := Ideal) c tbM0_1) : kernelRun0.sl.r_9 (F := Ideal) c t3 = offW c t3 5 :=
  congrArg (tbM0_1.view.read (Elt Ideal) t3) (unit1_first _ 5 rfl _)
theorem r11_eq (c : Dev nD) (t3 : TbBuf0 (F := Ideal) c tbM0_1) : kernelRun0.sl.r_11 (F := Ideal) c t3 = offW c t3 6 :=
  congrArg (tbM0_1.view.read (Elt Ideal) t3) (unit1_first _ 6 rfl _)
theorem r12_eq (c : Dev nD) (t3 : TbBuf0 (F := Ideal) c tbM0_1) : kernelRun0.sl.r_12 (F := Ideal) c t3 = offW c t3 7 :=
  congrArg (tbM0_1.view.read (Elt Ideal) t3) (unit1_first _ 7 rfl _)
theorem r13_eq (c : Dev nD) (t3 : TbBuf0 (F := Ideal) c tbM0_1) : kernelRun0.sl.r_13 (F := Ideal) c t3 = offW c t3 8 :=
  congrArg (tbM0_1.view.read (Elt Ideal) t3) (unit1_first _ 8 rfl _)
theorem r14_eq (c : Dev nD) (t3 : TbBuf0 (F := Ideal) c tbM0_1) : kernelRun0.sl.r_14 (F := Ideal) c t3 = offW c t3 9 :=
  congrArg (tbM0_1.view.read (Elt Ideal) t3) (unit1_first _ 9 rfl _)

theorem x11_read (arg11 : Memref sig .tc .vmem S48x1 .f32) (harg11 : arg11.IsWhole) (x11 : Vec Ideal S48x1 .f32) :
    View.readAt (Elt Ideal) arg11.view (Rect.unit (s := S48x1) ![0, 0] S48x1.size inb_S48x1_S48x1_0_0).toLoadRect (harg11.unread x11) = x11 := by
  funext x
  refine (congrFun (harg11.read_unread x11) _).trans (congrArg x11 ?_)
  funext d; apply Fin.ext
  match d with
  | ⟨0, _⟩ => exact (Nat.zero_add _).trans (Nat.one_mul _)
  | ⟨1, _⟩ => exact (Nat.zero_add _).trans (Nat.one_mul _)
theorem x12_read (arg12 : Memref sig .tc .vmem S1x48 .f32) (harg12 : arg12.IsWhole) (x12 : Vec Ideal S1x48 .f32) :
    View.readAt (Elt Ideal) arg12.view (Rect.unit (s := S1x48) ![0, 0] S1x48.size inb_S1x48_S1x48_0_0).toLoadRect (harg12.unread x12) = x12 := by
  funext x
  refine (congrFun (harg12.read_unread x12) _).trans (congrArg x12 ?_)
  funext d; apply Fin.ext
  match d with
  | ⟨0, _⟩ => exact (Nat.zero_add _).trans (Nat.one_mul _)
  | ⟨1, _⟩ => exact (Nat.zero_add _).trans (Nat.one_mul _)
theorem x4_read (i : grid0.Coords) (inb) (arg4 : Memref sig .tc .vmem S10x32x96 .bf16) (harg4 : arg4.IsWhole) (x4 : Vec Ideal S10x32x96 .bf16) (h : Fin 32) (l : Fin 96) :
    View.readAt (Elt Ideal) arg4.view (Rect.unit (s := S10x32x96) (k0_off3 i) S1x32x96.size inb).toLoadRect (harg4.unread x4) (ix3 0 h l) = x4 (ix3 (i 0) h l) := by
  refine (congrFun (harg4.read_unread x4) _).trans (congrArg x4 (unit3_idx inb (off3_val i) (ix3 0 h l) _ _ _ ?_ ?_ ?_)) <;> simp
theorem x9_read (o : Fin 8) (inb) (arg9 : Memref sig .tc .vmem S1x8x96x320 .f32) (harg9 : arg9.IsWhole) (x9 : Vec Ideal S1x8x96x320 .f32) (a : Fin 96) (b : Fin 320) :
    View.readAt (Elt Ideal) arg9.view (Rect.unit (s := S1x8x96x320) ![0, o.val, 0, 0] S1x1x96x320.size inb).toLoadRect (harg9.unread x9) (ix4 0 0 a b) = x9 (ix4 0 o a b) := by
  refine (congrFun (harg9.read_unread x9) _).trans (congrArg x9 (unit4_idx inb rfl (ix4 0 0 a b) _ _ _ _ ?_ ?_ ?_ ?_)) <;> simp

theorem w14_keep (c : Dev nD) (i : grid0.Coords) (arg4 : Memref sig .tc .vmem S10x32x96 .bf16) (harg4 : arg4.IsWhole) (arg12 : Memref sig .tc .vmem S1x48 .f32) (harg12 : arg12.IsWhole) (arg14 : Memref sig .tc .vmem S1x32x96 .bf16) (harg14 : arg14.IsWhole) (x4 : Vec Ideal S10x32x96 .bf16) (x12 : Vec Ideal S1x48 .f32) (d14 : Vec Ideal S1x32x96 .bf16) (t2 : TbBuf0 (F := Ideal) c tbM0_0) (t3 : TbBuf0 (F := Ideal) c tbM0_1) (hc : ¬ k0_cond2 i = 1#1) :
    arg14.view.read (Elt Ideal) (W14 c i arg4 harg4 arg12 harg12 arg14 harg14 x4 x12 d14 t2 t3) = d14 := by
  unfold W14; rw [dif_neg hc]; exact harg14.read_unread d14
theorem w16_keep (c : Dev nD) (i : grid0.Coords) (arg11 : Memref sig .tc .vmem S48x1 .f32) (harg11 : arg11.IsWhole) (arg16 : Memref sig .tc .vmem S2x48x128 .f32) (harg16 : arg16.IsWhole) (x11 : Vec Ideal S48x1 .f32) (d16 : Vec Ideal S2x48x128 .f32) (hc : ¬ kernelRun0.sl.v30 i = 1#1) :
    arg16.view.read (Elt Ideal) (W16 c i arg11 harg11 arg16 harg16 x11 d16) = d16 := by
  unfold W16; rw [dif_neg hc]; exact harg16.read_unread d16
theorem w17_keep (c : Dev nD) (i : grid0.Coords) (arg11 : Memref sig .tc .vmem S48x1 .f32) (harg11 : arg11.IsWhole) (arg17 : Memref sig .tc .vmem S2x48x256 .f32) (harg17 : arg17.IsWhole) (x11 : Vec Ideal S48x1 .f32) (d17 : Vec Ideal S2x48x256 .f32) (hc : ¬ kernelRun0.sl.v30 i = 1#1) :
    arg17.view.read (Elt Ideal) (W17 c i arg11 harg11 arg17 harg17 x11 d17) = d17 := by
  unfold W17; rw [dif_neg hc]; exact harg17.read_unread d17
theorem w18_keep (c : Dev nD) (i : grid0.Coords) (arg11 : Memref sig .tc .vmem S48x1 .f32) (harg11 : arg11.IsWhole) (arg18 : Memref sig .tc .vmem S2x48x128 .f32) (harg18 : arg18.IsWhole) (x11 : Vec Ideal S48x1 .f32) (d18 : Vec Ideal S2x48x128 .f32) (t3 : TbBuf0 (F := Ideal) c tbM0_1) (hc : ¬ kernelRun0.sl.v30 i = 1#1) :
    arg18.view.read (Elt Ideal) (W18 c i arg11 harg11 arg18 harg18 x11 d18 t3) = d18 := by
  unfold W18; rw [dif_neg hc]; exact harg18.read_unread d18
theorem w19_keep (c : Dev nD) (i : grid0.Coords) (arg11 : Memref sig .tc .vmem S48x1 .f32) (harg11 : arg11.IsWhole) (arg17 : Memref sig .tc .vmem S2x48x256 .f32) (harg17 : arg17.IsWhole) (arg18 : Memref sig .tc .vmem S2x48x128 .f32) (harg18 : arg18.IsWhole) (arg19 : Memref sig .tc .vmem S2x48x256 .f32) (harg19 : arg19.IsWhole) (x11 : Vec Ideal S48x1 .f32) (d17 : Vec Ideal S2x48x256 .f32) (d18 : Vec Ideal S2x48x128 .f32) (d19 : Vec Ideal S2x48x256 .f32) (t3 : TbBuf0 (F := Ideal) c tbM0_1) (hc : ¬ k0_cond2 i = 1#1) :
    arg19.view.read (Elt Ideal) (W19 c i arg11 harg11 arg17 harg17 arg18 harg18 arg19 harg19 x11 d17 d18 d19 t3) = d19 := by
  unfold W19; rw [dif_neg hc]; exact harg19.read_unread d19
theorem w21_keep (c : Dev nD) (i : grid0.Coords) (arg9 : Memref sig .tc .vmem S1x8x96x320 .f32) (harg9 : arg9.IsWhole) (arg21 : Memref sig .tc .vmem S8x96x384 .f32) (harg21 : arg21.IsWhole) (x9 : Vec Ideal S1x8x96x320 .f32) (d21 : Vec Ideal S8x96x384 .f32) (hc : ¬ k0_cond2 i = 1#1) :
    arg21.view.read (Elt Ideal) (W21 c i arg9 harg9 arg21 harg21 x9 d21) = d21 := by
  unfold W21; rw [dif_neg hc]; exact harg21.read_unread d21
theorem w22_keep (c : Dev nD) (i : grid0.Coords) (arg4 : Memref sig .tc .vmem S10x32x96 .bf16) (harg4 : arg4.IsWhole) (arg12 : Memref sig .tc .vmem S1x48 .f32) (harg12 : arg12.IsWhole) (arg22 : Memref sig .tc .vmem S4x8x192 .bf16) (harg22 : arg22.IsWhole) (x4 : Vec Ideal S10x32x96 .bf16) (x12 : Vec Ideal S1x48 .f32) (d22 : Vec Ideal S4x8x192 .bf16) (t2 : TbBuf0 (F := Ideal) c tbM0_0) (t3 : TbBuf0 (F := Ideal) c tbM0_1) (hc : ¬ k0_cond2 i = 1#1) :
    arg22.view.read (Elt Ideal) (W22 c i arg4 harg4 arg12 harg12 arg22 harg22 x4 x12 d22 t2 t3) = d22 := by
  unfold W22; rw [dif_neg hc]; exact harg22.read_unread d22

theorem w16_new (c : Dev nD) (i : grid0.Coords) (arg11 : Memref sig .tc .vmem S48x1 .f32) (harg11 : arg11.IsWhole) (arg16 : Memref sig .tc .vmem S2x48x128 .f32) (harg16 : arg16.IsWhole) (x11 : Vec Ideal S48x1 .f32) (d16 : Vec Ideal S2x48x128 .f32) (hc : kernelRun0.sl.v30 i = 1#1) :
    arg16.view.read (Elt Ideal) (W16 c i arg11 harg11 arg16 harg16 x11 d16) = tlG x11 := by
  unfold W16; rw [dif_pos hc, x11_read]
  funext y
  refine View.read_writes_apply_of_pieces _ _ (tlG x11) _ ?_ y ?_
  · simp only [List.forall_mem_cons]
    refine ⟨?_, ?_, by simp⟩
    · refine piece3 (n0 := 2) (n1 := 48) (n2 := 128) (A := 48) (B := 128) (tlG x11) inb_S2x48x128_S1x48x128_1_0_0 1 0 rfl _ (by omega) le_rfl le_rfl ?_
      intro a b
      exact (pay14_apply x11 a b).trans (by simp only [Nat.zero_add]; rfl)
    · refine piece3 (n0 := 2) (n1 := 48) (n2 := 128) (A := 48) (B := 128) (tlG x11) inb_S2x48x128_S1x48x128_0_0_0 0 0 rfl _ (by omega) le_rfl le_rfl ?_
      intro a b
      exact (pay13_apply x11 a b).trans (by simp only [Nat.zero_add]; rfl)
  · have h0 : (y 0).val < 2 := (y 0).isLt
    have h1 : (y 1).val < 48 := (y 1).isLt
    have h2 : (y 2).val < 128 := (y 2).isLt
    by_cases c1 : (y 0).val = 1
    · exact ⟨_, List.mem_cons_self, mem3 (n0 := 2) (n1 := 48) (n2 := 128) (A := 48) (B := 128) inb_S2x48x128_S1x48x128_1_0_0 1 0 rfl y c1 h1 (Nat.zero_le _) (by omega)⟩
    · exact ⟨_, List.mem_cons_of_mem _ List.mem_cons_self, mem3 (n0 := 2) (n1 := 48) (n2 := 128) (A := 48) (B := 128) inb_S2x48x128_S1x48x128_0_0_0 0 0 rfl y (by omega) h1 (Nat.zero_le _) (by omega)⟩

theorem w18_new (c : Dev nD) (i : grid0.Coords) (arg11 : Memref sig .tc .vmem S48x1 .f32) (harg11 : arg11.IsWhole) (arg18 : Memref sig .tc .vmem S2x48x128 .f32) (harg18 : arg18.IsWhole) (x11 : Vec Ideal S48x1 .f32) (d18 : Vec Ideal S2x48x128 .f32) (t3 : TbBuf0 (F := Ideal) c tbM0_1) (hc : kernelRun0.sl.v30 i = 1#1) :
    arg18.view.read (Elt Ideal) (W18 c i arg11 harg11 arg18 harg18 x11 d18 t3) = toG (offW c t3) x11 := by
  unfold W18; rw [dif_pos hc]
  unfold kernelRun0.sl.r_1 kernelRun0.sl.r_10
  rw [x11_read, r4_eq, r5_eq, r6_eq, r7_eq, r8_eq, r9_eq, r11_eq, r12_eq, r13_eq, r14_eq]
  funext y
  refine View.read_writes_apply_of_pieces _ _ (toG (offW c t3) x11) _ ?_ y ?_
  · simp only [List.forall_mem_cons]
    refine ⟨?_, ?_, by simp⟩
    · refine piece3 (n0 := 2) (n1 := 48) (n2 := 128) (A := 48) (B := 128) (toG (offW c t3) x11) inb_S2x48x128_S1x48x128_1_0_0 1 0 rfl _ (by omega) le_rfl le_rfl ?_
      intro a b
      exact (pay321_apply x11 (offW c t3) a b).trans (by simp only [Nat.zero_add]; rfl)
    · refine piece3 (n0 := 2) (n1 := 48) (n2 := 128) (A := 48) (B := 128) (toG (offW c t3) x11) inb_S2x48x128_S1x48x128_0_0_0 0 0 rfl _ (by omega) le_rfl le_rfl ?_
      intro a b
      exact (pay320_apply x11 (offW c t3) a b).trans (by simp only [Nat.zero_add]; rfl)
  · have h0 : (y 0).val < 2 := (y 0).isLt
    have h1 : (y 1).val < 48 := (y 1).isLt
    have h2 : (y 2).val < 128 := (y 2).isLt
    by_cases c1 : (y 0).val = 1
    · exact ⟨_, List.mem_cons_self, mem3 (n0 := 2) (n1 := 48) (n2 := 128) (A := 48) (B := 128) inb_S2x48x128_S1x48x128_1_0_0 1 0 rfl y c1 h1 (Nat.zero_le _) (by omega)⟩
    · exact ⟨_, List.mem_cons_of_mem _ List.mem_cons_self, mem3 (n0 := 2) (n1 := 48) (n2 := 128) (A := 48) (B := 128) inb_S2x48x128_S1x48x128_0_0_0 0 0 rfl y (by omega) h1 (Nat.zero_le _) (by omega)⟩

theorem mem256 (y : S2x48x256.Idx) (p3 p2 p1 p0 : View.Piece (Elt Ideal) S2x48x256 .f32)
    (h3 : (y 0).val = 1 → 128 ≤ (y 2).val → y ∈ p3.1.set) (h2 : (y 0).val = 0 → 128 ≤ (y 2).val → y ∈ p2.1.set)
    (h1 : (y 0).val = 1 → (y 2).val < 128 → y ∈ p1.1.set) (h0 : (y 0).val = 0 → (y 2).val < 128 → y ∈ p0.1.set) :
    ∃ p ∈ [p3, p2, p1, p0], y ∈ p.1.set := by
  have h : (y 0).val < 2 := (y 0).isLt
  by_cases c1 : (y 0).val = 1 <;> by_cases c2 : 128 ≤ (y 2).val
  · exact ⟨p3, by simp, h3 c1 c2⟩
  · exact ⟨p1, by simp, h1 c1 (by omega)⟩
  · exact ⟨p2, by simp, h2 (by omega) c2⟩
  · exact ⟨p0, by simp, h0 (by omega) (by omega)⟩

theorem w17_new (c : Dev nD) (i : grid0.Coords) (arg11 : Memref sig .tc .vmem S48x1 .f32) (harg11 : arg11.IsWhole) (arg17 : Memref sig .tc .vmem S2x48x256 .f32) (harg17 : arg17.IsWhole) (x11 : Vec Ideal S48x1 .f32) (d17 : Vec Ideal S2x48x256 .f32) (hc : kernelRun0.sl.v30 i = 1#1) :
    arg17.view.read (Elt Ideal) (W17 c i arg11 harg11 arg17 harg17 x11 d17) = ttG x11 := by
  unfold W17; rw [dif_pos hc]
  unfold kernelRun0.sl.r_2 kernelRun0.sl.r_3
  rw [x11_read]
  funext y
  refine View.read_writes_apply_of_pieces _ _ (ttG x11) _ ?_ y ?_
  · simp only [List.forall_mem_cons]
    refine ⟨?_, ?_, ?_, ?_, by simp⟩
    · refine piece3 (n0 := 2) (n1 := 48) (n2 := 256) (A := 48) (B := 128) (ttG x11) inb_S2x48x256_S1x48x128_1_0_128 1 128 rfl _ (by omega) le_rfl le_rfl ?_
      intro a b
      exact (pay21_apply x11 a b).trans rfl
    · refine piece3 (n0 := 2) (n1 := 48) (n2 := 256) (A := 48) (B := 128) (ttG x11) inb_S2x48x256_S1x48x128_0_0_128 0 128 rfl _ (by omega) le_rfl le_rfl ?_
      intro a b
      exact (pay20_apply x11 a b).trans rfl
    · refine piece3 (n0 := 2) (n1 := 48) (n2 := 256) (A := 48) (B := 128) (ttG x11) inb_S2x48x256_S1x48x128_1_0_0 1 0 rfl _ (by omega) le_rfl (by omega) ?_
      intro a b
      exact (pay17_apply x11 a b).trans (by simp only [Nat.zero_add]; rfl)
    · refine piece3 (n0 := 2) (n1 := 48) (n2 := 256) (A := 48) (B := 128) (ttG x11) inb_S2x48x256_S1x48x128_0_0_0 0 0 rfl _ (by omega) le_rfl (by omega) ?_
      intro a b
      exact (pay16_apply x11 a b).trans (by simp only [Nat.zero_add]; rfl)
  · have h1 : (y 1).val < 48 := (y 1).isLt
    have h2 : (y 2).val < 256 := (y 2).isLt
    exact mem256 y _ _ _ _ (fun e f => mem3 (n0 := 2) (n1 := 48) (n2 := 256) (A := 48) (B := 128) inb_S2x48x256_S1x48x128_1_0_128 1 128 rfl y e h1 f (by omega)) (fun e f => mem3 (n0 := 2) (n1 := 48) (n2 := 256) (A := 48) (B := 128) inb_S2x48x256_S1x48x128_0_0_128 0 128 rfl y e h1 f (by omega))
      (fun e f => mem3 (n0 := 2) (n1 := 48) (n2 := 256) (A := 48) (B := 128) inb_S2x48x256_S1x48x128_1_0_0 1 0 rfl y e h1 (Nat.zero_le _) (by omega)) (fun e f => mem3 (n0 := 2) (n1 := 48) (n2 := 256) (A := 48) (B := 128) inb_S2x48x256_S1x48x128_0_0_0 0 0 rfl y e h1 (Nat.zero_le _) (by omega))

theorem w19_new (c : Dev nD) (i : grid0.Coords) (arg11 : Memref sig .tc .vmem S48x1 .f32) (harg11 : arg11.IsWhole) (arg17 : Memref sig .tc .vmem S2x48x256 .f32) (harg17 : arg17.IsWhole) (arg18 : Memref sig .tc .vmem S2x48x128 .f32) (harg18 : arg18.IsWhole) (arg19 : Memref sig .tc .vmem S2x48x256 .f32) (harg19 : arg19.IsWhole) (x11 : Vec Ideal S48x1 .f32) (d17 : Vec Ideal S2x48x256 .f32) (d18 : Vec Ideal S2x48x128 .f32) (d19 : Vec Ideal S2x48x256 .f32) (t3 : TbBuf0 (F := Ideal) c tbM0_1) (hc : k0_cond2 i = 1#1)
    (h17 : arg17.view.read (Elt Ideal) (W17 c i arg11 harg11 arg17 harg17 x11 d17) = ttG x11) (h18 : arg18.view.read (Elt Ideal) (W18 c i arg11 harg11 arg18 harg18 x11 d18 t3) = toG (offW c t3) x11) :
    arg19.view.read (Elt Ideal) (W19 c i arg11 harg11 arg17 harg17 arg18 harg18 arg19 harg19 x11 d17 d18 d19 t3) = tbG (offW c t3 (i 0)) x11 := by
  have e48 : ∀ a : Fin 48, kernelRun0.sl.v48 (F := Ideal) c i arg11 harg11 arg18 x11 t3 (harg18.unread d18) (ix3 0 a ⟨(i 0).val, lt_trans (i 0).isLt (by decide)⟩) = Ideal.cos (angE (offW c t3 (i 0)) (x11 (ix2 a 0))) := fun a => by
    refine (congrFun h18 _).trans ((congrArg (toG (offW c t3) x11) (unit3_idx inb_S2x48x128_S1x48x128_0_0_0 rfl (ix3 0 a _) 0 a ⟨(i 0).val, lt_trans (i 0).isLt (by decide)⟩ ?_ ?_ ?_)).trans ?_)
    · rfl
    · exact Nat.zero_add _
    · exact Nat.zero_add _
    · show trig 0 (angE (if h : (i 0).val < 10 then offW c t3 ⟨(i 0).val, h⟩ else 0) (x11 (ix2 a 0))) = _
      exact congrArg (fun w => trig 0 (angE w (x11 (ix2 a 0)))) (dif_pos (show (i 0).val < 10 from (i 0).isLt))
  have e58 : ∀ a : Fin 48, kernelRun0.sl.v58 (F := Ideal) c i arg11 harg11 arg18 x11 t3 (harg18.unread d18) (ix3 0 a ⟨(i 0).val, lt_trans (i 0).isLt (by decide)⟩) = Ideal.sin (angE (offW c t3 (i 0)) (x11 (ix2 a 0))) := fun a => by
    refine (congrFun h18 _).trans ((congrArg (toG (offW c t3) x11) (unit3_idx inb_S2x48x128_S1x48x128_1_0_0 rfl (ix3 0 a _) 1 a ⟨(i 0).val, lt_trans (i 0).isLt (by decide)⟩ ?_ ?_ ?_)).trans ?_)
    · rfl
    · exact Nat.zero_add _
    · exact Nat.zero_add _
    · show trig 1 (angE (if h : (i 0).val < 10 then offW c t3 ⟨(i 0).val, h⟩ else 0) (x11 (ix2 a 0))) = _
      exact congrArg (fun w => trig 1 (angE w (x11 (ix2 a 0)))) (dif_pos (show (i 0).val < 10 from (i 0).isLt))
  have e68 : ∀ (a : Fin 48) (l : Fin 128), kernelRun0.sl.v68 (F := Ideal) c i arg11 harg11 arg17 x11 (harg17.unread d17) (ix3 0 a l) = ttG x11 (ix3 0 a ⟨0 + l.val, by omega⟩) := fun a l =>
    (congrFun h17 _).trans (congrArg (ttG x11) (unit3_idx inb_S2x48x256_S1x48x128_0_0_0 rfl (ix3 0 a l) 0 a _ rfl (Nat.zero_add _) rfl))
  have e70 : ∀ (a : Fin 48) (l : Fin 128), kernelRun0.sl.v70 (F := Ideal) c i arg11 harg11 arg17 x11 (harg17.unread d17) (ix3 0 a l) = ttG x11 (ix3 1 a ⟨0 + l.val, by omega⟩) := fun a l =>
    (congrFun h17 _).trans (congrArg (ttG x11) (unit3_idx inb_S2x48x256_S1x48x128_1_0_0 rfl (ix3 0 a l) 1 a _ rfl (Nat.zero_add _) rfl))
  have e84 : ∀ (a : Fin 48) (l : Fin 128), kernelRun0.sl.v84 (F := Ideal) c i arg11 harg11 arg17 x11 (harg17.unread d17) (ix3 0 a l) = ttG x11 (ix3 0 a ⟨128 + l.val, by omega⟩) := fun a l =>
    (congrFun h17 _).trans (congrArg (ttG x11) (unit3_idx inb_S2x48x256_S1x48x128_0_0_128 rfl (ix3 0 a l) 0 a _ rfl (Nat.zero_add _) rfl))
  have e86 : ∀ (a : Fin 48) (l : Fin 128), kernelRun0.sl.v86 (F := Ideal) c i arg11 harg11 arg17 x11 (harg17.unread d17) (ix3 0 a l) = ttG x11 (ix3 1 a ⟨128 + l.val, by omega⟩) := fun a l =>
    (congrFun h17 _).trans (congrArg (ttG x11) (unit3_idx inb_S2x48x256_S1x48x128_1_0_128 rfl (ix3 0 a l) 1 a _ rfl (Nat.zero_add _) rfl))
  unfold W19; rw [dif_pos hc]
  funext y
  refine View.read_writes_apply_of_pieces _ _ (tbG (offW c t3 (i 0)) x11) _ ?_ y ?_
  · simp only [List.forall_mem_cons]
    refine ⟨?_, ?_, ?_, ?_, by simp⟩
    · refine piece3 (n0 := 2) (n1 := 48) (n2 := 256) (A := 48) (B := 128) (tbG (offW c t3 (i 0)) x11) inb_S2x48x256_S1x48x128_1_0_128 1 128 rfl _ (by omega) le_rfl le_rfl ?_
      intro a b
      exact (pay33_apply (i 0) _ _ _ _ a b).trans ((congrArg₂ HAdd.hAdd (congrArg₂ HMul.hMul (e86 a b) (e48 a)) (congrArg₂ HMul.hMul (e84 a b) (e58 a))).trans rfl)
    · refine piece3 (n0 := 2) (n1 := 48) (n2 := 256) (A := 48) (B := 128) (tbG (offW c t3 (i 0)) x11) inb_S2x48x256_S1x48x128_0_0_128 0 128 rfl _ (by omega) le_rfl le_rfl ?_
      intro a b
      exact (pay32_apply (i 0) _ _ _ _ a b).trans ((congrArg₂ HSub.hSub (congrArg₂ HMul.hMul (e84 a b) (e48 a)) (congrArg₂ HMul.hMul (e86 a b) (e58 a))).trans rfl)
    · refine piece3 (n0 := 2) (n1 := 48) (n2 := 256) (A := 48) (B := 128) (tbG (offW c t3 (i 0)) x11) inb_S2x48x256_S1x48x128_1_0_0 1 0 rfl _ (by omega) le_rfl (by omega) ?_
      intro a b
      exact (pay29_apply (i 0) _ _ _ _ a b).trans ((congrArg₂ HAdd.hAdd (congrArg₂ HMul.hMul (e70 a b) (e48 a)) (congrArg₂ HMul.hMul (e68 a b) (e58 a))).trans rfl)
    · refine piece3 (n0 := 2) (n1 := 48) (n2 := 256) (A := 48) (B := 128) (tbG (offW c t3 (i 0)) x11) inb_S2x48x256_S1x48x128_0_0_0 0 0 rfl _ (by omega) le_rfl (by omega) ?_
      intro a b
      exact (pay28_apply (i 0) _ _ _ _ a b).trans ((congrArg₂ HSub.hSub (congrArg₂ HMul.hMul (e68 a b) (e48 a)) (congrArg₂ HMul.hMul (e70 a b) (e58 a))).trans rfl)
  · have h1 : (y 1).val < 48 := (y 1).isLt
    have h2 : (y 2).val < 256 := (y 2).isLt
    exact mem256 y _ _ _ _ (fun e f => mem3 (n0 := 2) (n1 := 48) (n2 := 256) (A := 48) (B := 128) inb_S2x48x256_S1x48x128_1_0_128 1 128 rfl y e h1 f (by omega)) (fun e f => mem3 (n0 := 2) (n1 := 48) (n2 := 256) (A := 48) (B := 128) inb_S2x48x256_S1x48x128_0_0_128 0 128 rfl y e h1 f (by omega))
      (fun e f => mem3 (n0 := 2) (n1 := 48) (n2 := 256) (A := 48) (B := 128) inb_S2x48x256_S1x48x128_1_0_0 1 0 rfl y e h1 (Nat.zero_le _) (by omega)) (fun e f => mem3 (n0 := 2) (n1 := 48) (n2 := 256) (A := 48) (B := 128) inb_S2x48x256_S1x48x128_0_0_0 0 0 rfl y e h1 (Nat.zero_le _) (by omega))

/-- The scales, widened to whole registers. -/
def kwG (x9 : Vec Ideal S1x8x96x320 .f32) : Vec Ideal S8x96x384 .f32 :=
  fun y => if h : (y 2).val < 320 then x9 (ix4 0 (y 0) (y 1) ⟨(y 2).val, h⟩) else 0

theorem w21_new (c : Dev nD) (i : grid0.Coords) (arg9 : Memref sig .tc .vmem S1x8x96x320 .f32) (harg9 : arg9.IsWhole) (arg21 : Memref sig .tc .vmem S8x96x384 .f32) (harg21 : arg21.IsWhole) (x9 : Vec Ideal S1x8x96x320 .f32) (d21 : Vec Ideal S8x96x384 .f32) (hc : k0_cond2 i = 1#1) (y : S8x96x384.Idx) (hy : (y 2).val < 320) :
    arg21.view.read (Elt Ideal) (W21 c i arg9 harg9 arg21 harg21 x9 d21) y = kwG x9 y := by
  unfold W21; rw [dif_pos hc]
  generalize hGe : kwG x9 = G
  have hG : ∀ (h : Fin 8) (a : Fin 96) (b : Fin 320), G (ix3 h a ⟨0 + b.val, by omega⟩) = x9 (ix4 0 h a b) := fun h a b => by
    subst hGe
    show (if h' : 0 + b.val < 320 then x9 (ix4 0 h a ⟨0 + b.val, h'⟩) else 0) = _
    rw [dif_pos (by omega)]; simp only [Nat.zero_add]
  refine View.read_writes_apply_of_pieces _ _ G _ ?_ y ?_
  · simp only [List.forall_mem_cons]
    refine ⟨?_, ?_, ?_, ?_, ?_, ?_, ?_, ?_, by simp⟩
    · refine piece3 (n0 := 8) (n1 := 96) (n2 := 384) (A := 96) (B := 320) G inb_S8x96x384_S1x96x320_7_0_0 7 0 rfl _ (by omega) le_rfl (by omega) ?_
      intro a b
      exact Eq.trans (by pointwise [k0_pay41]) ((x9_read 7 inb_S1x8x96x320_S1x1x96x320_0_7_0_0 arg9 harg9 x9 a b).trans (hG 7 a b).symm)
    · refine piece3 (n0 := 8) (n1 := 96) (n2 := 384) (A := 96) (B := 320) G inb_S8x96x384_S1x96x320_6_0_0 6 0 rfl _ (by omega) le_rfl (by omega) ?_
      intro a b
      exact Eq.trans (by pointwise [k0_pay40]) ((x9_read 6 inb_S1x8x96x320_S1x1x96x320_0_6_0_0 arg9 harg9 x9 a b).trans (hG 6 a b).symm)
    · refine piece3 (n0 := 8) (n1 := 96) (n2 := 384) (A := 96) (B := 320) G inb_S8x96x384_S1x96x320_5_0_0 5 0 rfl _ (by omega) le_rfl (by omega) ?_
      intro a b
      exact Eq.trans (by unfold kernelRun0.sl.r_19; pointwise [k0_pay39]) ((x9_read 5 inb_S1x8x96x320_S1x1x96x320_0_5_0_0 arg9 harg9 x9 a b).trans (hG 5 a b).symm)
    · refine piece3 (n0 := 8) (n1 := 96) (n2 := 384) (A := 96) (B := 320) G inb_S8x96x384_S1x96x320_4_0_0 4 0 rfl _ (by omega) le_rfl (by omega) ?_
      intro a b
      exact Eq.trans (by pointwise [k0_pay38]) ((x9_read 4 inb_S1x8x96x320_S1x1x96x320_0_4_0_0 arg9 harg9 x9 a b).trans (hG 4 a b).symm)
    · refine piece3 (n0 := 8) (n1 := 96) (n2 := 384) (A := 96) (B := 320) G inb_S8x96x384_S1x96x320_3_0_0 3 0 rfl _ (by omega) le_rfl (by omega) ?_
      intro a b
      exact Eq.trans (by pointwise [k0_pay37]) ((x9_read 3 inb_S1x8x96x320_S1x1x96x320_0_3_0_0 arg9 harg9 x9 a b).trans (hG 3 a b).symm)
    · refine piece3 (n0 := 8) (n1 := 96) (n2 := 384) (A := 96) (B := 320) G inb_S8x96x384_S1x96x320_2_0_0 2 0 rfl _ (by omega) le_rfl (by omega) ?_
      intro a b
      exact Eq.trans (by pointwise [k0_pay36]) ((x9_read 2 inb_S1x8x96x320_S1x1x96x320_0_2_0_0 arg9 harg9 x9 a b).trans (hG 2 a b).symm)
    · refine piece3 (n0 := 8) (n1 := 96) (n2 := 384) (A := 96) (B := 320) G inb_S8x96x384_S1x96x320_1_0_0 1 0 rfl _ (by omega) le_rfl (by omega) ?_
      intro a b
      exact Eq.trans (by unfold kernelRun0.sl.r_18; pointwise [k0_pay35]) ((x9_read 1 inb_S1x8x96x320_S1x1x96x320_0_1_0_0 arg9 harg9 x9 a b).trans (hG 1 a b).symm)
    · refine piece3 (n0 := 8) (n1 := 96) (n2 := 384) (A := 96) (B := 320) G inb_S8x96x384_S1x96x320_0_0_0 0 0 rfl _ (by omega) le_rfl (by omega) ?_
      intro a b
      exact Eq.trans (by pointwise [k0_pay34]) ((x9_read 0 inb_S1x8x96x320_S1x1x96x320_0_0_0_0 arg9 harg9 x9 a b).trans (hG 0 a b).symm)
  · have h0 : (y 0).val < 8 := (y 0).isLt
    have h1 : (y 1).val < 96 := (y 1).isLt
    by_cases c7 : (y 0).val = 7
    · exact ⟨_, List.mem_cons_self, mem3 (n0 := 8) (n1 := 96) (n2 := 384) (A := 96) (B := 320) inb_S8x96x384_S1x96x320_7_0_0 7 0 rfl y c7 h1 (Nat.zero_le _) (by omega)⟩
    by_cases c6 : (y 0).val = 6
    · exact ⟨_, List.mem_cons_of_mem _ (List.mem_cons_self), mem3 (n0 := 8) (n1 := 96) (n2 := 384) (A := 96) (B := 320) inb_S8x96x384_S1x96x320_6_0_0 6 0 rfl y c6 h1 (Nat.zero_le _) (by omega)⟩
    by_cases c5 : (y 0).val = 5
    · exact ⟨_, List.mem_cons_of_mem _ (List.mem_cons_of_mem _ (List.mem_cons_self)), mem3 (n0 := 8) (n1 := 96) (n2 := 384) (A := 96) (B := 320) inb_S8x96x384_S1x96x320_5_0_0 5 0 rfl y c5 h1 (Nat.zero_le _) (by omega)⟩
    by_cases c4 : (y 0).val = 4
    · exact ⟨_, List.mem_cons_of_mem _ (List.mem_cons_of_mem _ (List.mem_cons_of_mem _ (List.mem_cons_self))), mem3 (n0 := 8) (n1 := 96) (n2 := 384) (A := 96) (B := 320) inb_S8x96x384_S1x96x320_4_0_0 4 0 rfl y c4 h1 (Nat.zero_le _) (by omega)⟩
    by_cases c3 : (y 0).val = 3
    · exact ⟨_, List.mem_cons_of_mem _ (List.mem_cons_of_mem _ (List.mem_cons_of_mem _ (List.mem_cons_of_mem _ (List.mem_cons_self)))), mem3 (n0 := 8) (n1 := 96) (n2 := 384) (A := 96) (B := 320) inb_S8x96x384_S1x96x320_3_0_0 3 0 rfl y c3 h1 (Nat.zero_le _) (by omega)⟩
    by_cases c2 : (y 0).val = 2
    · exact ⟨_, List.mem_cons_of_mem _ (List.mem_cons_of_mem _ (List.mem_cons_of_mem _ (List.mem_cons_of_mem _ (List.mem_cons_of_mem _ (List.mem_cons_self))))), mem3 (n0 := 8) (n1 := 96) (n2 := 384) (A := 96) (B := 320) inb_S8x96x384_S1x96x320_2_0_0 2 0 rfl y c2 h1 (Nat.zero_le _) (by omega)⟩
    by_cases c1 : (y 0).val = 1
    · exact ⟨_, List.mem_cons_of_mem _ (List.mem_cons_of_mem _ (List.mem_cons_of_mem _ (List.mem_cons_of_mem _ (List.mem_cons_of_mem _ (List.mem_cons_of_mem _ (List.mem_cons_self)))))), mem3 (n0 := 8) (n1 := 96) (n2 := 384) (A := 96) (B := 320) inb_S8x96x384_S1x96x320_1_0_0 1 0 rfl y c1 h1 (Nat.zero_le _) (by omega)⟩
    exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem3 (n0 := 8) (n1 := 96) (n2 := 384) (A := 96) (B := 320) inb_S8x96x384_S1x96x320_0_0_0 0 0 rfl y (by omega) h1 (Nat.zero_le _) (by omega)⟩

theorem rope_eq (c : Dev nD) (i : grid0.Coords) (arg4 : Memref sig .tc .vmem S10x32x96 .bf16) (harg4 : arg4.IsWhole) (arg12 : Memref sig .tc .vmem S1x48 .f32) (harg12 : arg12.IsWhole) (x4 : Vec Ideal S10x32x96 .bf16) (x12 : Vec Ideal S1x48 .f32) (t2 : TbBuf0 (F := Ideal) c tbM0_0) (t3 : TbBuf0 (F := Ideal) c tbM0_1) (hc) (inb) (h : Fin 32) (l : Fin 96) :
    ropeG (View.readAt (Elt Ideal) arg4.view (Rect.unit (s := S10x32x96) (k0_off3 i) S1x32x96.size inb).toLoadRect (harg4.unread x4))
      (kernelRun0.sl.r_21 (F := Ideal) c i arg12 harg12 x12 t2 t3 hc) (kernelRun0.sl.r_22 (F := Ideal) c i arg12 harg12 x12 t2 t3 hc) h l
      = qrG (i 0) (Scalar.addi (offW c t3 (i 0)) (lenV c t2 (i 0))) x4 x12 h l := by
  have e21 : ∀ k : Fin 48, kernelRun0.sl.r_21 (F := Ideal) c i arg12 harg12 x12 t2 t3 hc (ix2 0 k) = Ideal.cos (angE (Scalar.addi (offW c t3 (i 0)) (lenV c t2 (i 0))) (x12 (ix2 0 k))) := fun k => by
    unfold kernelRun0.sl.r_21; rw [x12_read, len_eq, off_eq]; exact pay43_apply _ _ _ _
  have e22 : ∀ k : Fin 48, kernelRun0.sl.r_22 (F := Ideal) c i arg12 harg12 x12 t2 t3 hc (ix2 0 k) = Ideal.sin (angE (Scalar.addi (offW c t3 (i 0)) (lenV c t2 (i 0))) (x12 (ix2 0 k))) := fun k => by
    unfold kernelRun0.sl.r_22; rw [x12_read, len_eq, off_eq]; exact pay44_apply _ _ _ _
  unfold ropeG qrG
  split
  · rw [x4_read, x4_read, e21, e22]
  · rw [x4_read, x4_read, e21, e22]

/-- The rotated queries of one row. -/
def qrB (b : Fin 10) (w : BitVec 32) (x4 : Vec Ideal S10x32x96 .bf16) (x12 : Vec Ideal S1x48 .f32) : Vec Ideal S1x32x96 .bf16 :=
  fun y => qrG b w x4 x12 (y 1) (y 2)

theorem w14_new (c : Dev nD) (i : grid0.Coords) (arg4 : Memref sig .tc .vmem S10x32x96 .bf16) (harg4 : arg4.IsWhole) (arg12 : Memref sig .tc .vmem S1x48 .f32) (harg12 : arg12.IsWhole) (arg14 : Memref sig .tc .vmem S1x32x96 .bf16) (harg14 : arg14.IsWhole) (x4 : Vec Ideal S10x32x96 .bf16) (x12 : Vec Ideal S1x48 .f32) (d14 : Vec Ideal S1x32x96 .bf16) (t2 : TbBuf0 (F := Ideal) c tbM0_0) (t3 : TbBuf0 (F := Ideal) c tbM0_1) (hc : k0_cond2 i = 1#1) :
    arg14.view.read (Elt Ideal) (W14 c i arg4 harg4 arg12 harg12 arg14 harg14 x4 x12 d14 t2 t3) = qrB (i 0) (Scalar.addi (offW c t3 (i 0)) (lenV c t2 (i 0))) x4 x12 := by
  unfold W14; rw [dif_pos hc]
  funext y
  refine View.read_writes_apply_of_pieces _ _ (qrB (i 0) (Scalar.addi (offW c t3 (i 0)) (lenV c t2 (i 0))) x4 x12) _ ?_ y ?_
  · simp only [List.forall_mem_cons]
    refine ⟨?_, by simp⟩
    refine piece3 (n0 := 1) (n1 := 32) (n2 := 96) (A := 32) (B := 96) (qrB (i 0) (Scalar.addi (offW c t3 (i 0)) (lenV c t2 (i 0))) x4 x12) inb_S1x32x96_S1x32x96_0_0_0 0 0 rfl _ (by omega) le_rfl le_rfl ?_
    intro a b
    exact (pay48_apply _ _ _ a b).trans ((rope_eq c i arg4 harg4 arg12 harg12 x4 x12 t2 t3 hc _ a b).trans (by simp only [Nat.zero_add]; rfl))
  · have h0 : (y 0).val < 1 := (y 0).isLt
    have h1 : (y 1).val < 32 := (y 1).isLt
    have h2 : (y 2).val < 96 := (y 2).isLt
    exact ⟨_, List.mem_cons_self, mem3 (n0 := 1) (n1 := 32) (n2 := 96) (A := 32) (B := 96) inb_S1x32x96_S1x32x96_0_0_0 0 0 rfl y (by omega) h1 (Nat.zero_le _) (by omega)⟩

theorem mask_q (q : Fin 32 → Fin 96 → EReal) (p : Fin 4) (a : Fin 8) (b : Fin 192) (f : Fin 96 → EReal)
    (hf : ∀ e : Fin 96, f e = q ⟨8 * p.val + a.val, by omega⟩ ⟨e.val % 2 * 48 + e.val / 2, by omega⟩) :
    maskG f a.val b = qmG q (ix3 p ⟨a.val, a.isLt⟩ ⟨0 + b.val, by omega⟩) := by
  obtain ⟨b, hb⟩ := b
  unfold maskG qmG
  simp only [hf]
  simp only [Nat.zero_add]
  rfl

theorem w22_new (c : Dev nD) (i : grid0.Coords) (arg4 : Memref sig .tc .vmem S10x32x96 .bf16) (harg4 : arg4.IsWhole) (arg12 : Memref sig .tc .vmem S1x48 .f32) (harg12 : arg12.IsWhole) (arg22 : Memref sig .tc .vmem S4x8x192 .bf16) (harg22 : arg22.IsWhole) (x4 : Vec Ideal S10x32x96 .bf16) (x12 : Vec Ideal S1x48 .f32) (d22 : Vec Ideal S4x8x192 .bf16) (t2 : TbBuf0 (F := Ideal) c tbM0_0) (t3 : TbBuf0 (F := Ideal) c tbM0_1) (hc : k0_cond2 i = 1#1) :
    arg22.view.read (Elt Ideal) (W22 c i arg4 harg4 arg12 harg12 arg22 harg22 x4 x12 d22 t2 t3) = qmG (qrG (i 0) (Scalar.addi (offW c t3 (i 0)) (lenV c t2 (i 0))) x4 x12) := by
  unfold W22; rw [dif_pos hc]
  have e25 : ∀ (h : Fin 32) (e : Fin 96), kernelRun0.sl.r_25 (F := Ideal) c i arg4 harg4 arg12 harg12 x4 x12 t2 t3 hc (ix2 h e)
      = qrG (i 0) (Scalar.addi (offW c t3 (i 0)) (lenV c t2 (i 0))) x4 x12 h ⟨e.val % 2 * 48 + e.val / 2, by omega⟩ := fun h e =>
    (pay49_apply _ _ _ h e).trans (rope_eq c i arg4 harg4 arg12 harg12 x4 x12 t2 t3 hc _ h _)
  funext y
  refine View.read_writes_apply_of_pieces _ _ (qmG (qrG (i 0) (Scalar.addi (offW c t3 (i 0)) (lenV c t2 (i 0))) x4 x12)) _ ?_ y ?_
  · simp only [List.forall_mem_cons]
    refine ⟨?_, ?_, ?_, ?_, by simp⟩
    · refine piece3 (n0 := 4) (n1 := 8) (n2 := 192) (A := 8) (B := 192) (qmG (qrG (i 0) (Scalar.addi (offW c t3 (i 0)) (lenV c t2 (i 0))) x4 x12)) inb_S4x8x192_S1x8x192_3_0_0 3 0 rfl _ (by omega) le_rfl le_rfl ?_
      intro a b
      exact (pay69_apply _ a b).trans (mask_q _ 3 a b _ fun e => e25 _ e)
    · refine piece3 (n0 := 4) (n1 := 8) (n2 := 192) (A := 8) (B := 192) (qmG (qrG (i 0) (Scalar.addi (offW c t3 (i 0)) (lenV c t2 (i 0))) x4 x12)) inb_S4x8x192_S1x8x192_2_0_0 2 0 rfl _ (by omega) le_rfl le_rfl ?_
      intro a b
      exact (pay64_apply _ a b).trans (mask_q _ 2 a b _ fun e => e25 _ e)
    · refine piece3 (n0 := 4) (n1 := 8) (n2 := 192) (A := 8) (B := 192) (qmG (qrG (i 0) (Scalar.addi (offW c t3 (i 0)) (lenV c t2 (i 0))) x4 x12)) inb_S4x8x192_S1x8x192_1_0_0 1 0 rfl _ (by omega) le_rfl le_rfl ?_
      intro a b
      exact (pay59_apply _ a b).trans (mask_q _ 1 a b _ fun e => e25 _ e)
    · refine piece3 (n0 := 4) (n1 := 8) (n2 := 192) (A := 8) (B := 192) (qmG (qrG (i 0) (Scalar.addi (offW c t3 (i 0)) (lenV c t2 (i 0))) x4 x12)) inb_S4x8x192_S1x8x192_0_0_0 0 0 rfl _ (by omega) le_rfl le_rfl ?_
      intro a b
      exact (pay54_apply _ _ _ a b).trans (mask_q _ 0 a b _ fun e => (e25 _ e).trans (by congr 1; exact Fin.ext (by show a.val = 8 * 0 + a.val; omega)))
  · have h0 : (y 0).val < 4 := (y 0).isLt
    have h1 : (y 1).val < 8 := (y 1).isLt
    have h2 : (y 2).val < 192 := (y 2).isLt
    by_cases c3 : (y 0).val = 3
    · exact ⟨_, List.mem_cons_self, mem3 (n0 := 4) (n1 := 8) (n2 := 192) (A := 8) (B := 192) inb_S4x8x192_S1x8x192_3_0_0 3 0 rfl y c3 h1 (Nat.zero_le _) (by omega)⟩
    by_cases c2 : (y 0).val = 2
    · exact ⟨_, List.mem_cons_of_mem _ (List.mem_cons_self), mem3 (n0 := 4) (n1 := 8) (n2 := 192) (A := 8) (B := 192) inb_S4x8x192_S1x8x192_2_0_0 2 0 rfl y c2 h1 (Nat.zero_le _) (by omega)⟩
    by_cases c1 : (y 0).val = 1
    · exact ⟨_, List.mem_cons_of_mem _ (List.mem_cons_of_mem _ (List.mem_cons_self)), mem3 (n0 := 4) (n1 := 8) (n2 := 192) (A := 8) (B := 192) inb_S4x8x192_S1x8x192_1_0_0 1 0 rfl y c1 h1 (Nat.zero_le _) (by omega)⟩
    exact ⟨_, List.mem_cons_of_mem _ (List.mem_cons_of_mem _ (List.mem_cons_of_mem _ (List.mem_cons_self))), mem3 (n0 := 4) (n1 := 8) (n2 := 192) (A := 8) (B := 192) inb_S4x8x192_S1x8x192_0_0_0 0 0 rfl y (by omega) h1 (Nat.zero_le _) (by omega)⟩

end Cert.KernelIdeal
-- ==== Proof.ScoreLoop.lean ====
/-
The score loop's trips and the zero fill, put together: the block of scores of a point.
-/
module

public import proofs.«01_k».proof.Proof.ScoreTrip

@[expose] public section

set_option maxRecDepth 16384

noncomputable section

namespace Cert.KernelIdeal

open Idealize.ShloMosaic Idealize.ShloMosaic.Tactic
open Gen

theorem colW_nat : ∀ k : Fin 4, colW k.val = BitVec.ofNat 32 (512 * k.val) := by decide

theorem pos_word (a k u : ℕ) (hk : k < 4) : Scalar.addi (Scalar.addi (Scalar.muli (BitVec.ofNat 32 a) 2048#32) (colW k)) (BitVec.ofNat 32 u)
    = BitVec.ofNat 32 (2048 * a + (512 * k + u)) := by
  rw [colW_nat ⟨k, hk⟩]
  show BitVec.ofNat 32 a * BitVec.ofNat 32 2048 + BitVec.ofNat 32 (512 * k) + BitVec.ofNat 32 u = _
  rw [← BitVec.ofNat_mul, ← BitVec.ofNat_add, ← BitVec.ofNat_add]
  congr 1; omega

theorem scG_at (a : Fin 10) (v1 : BitVec 32) (x7 : Vec Ideal S1x8x48x2048 .i8) (d16 : Vec Ideal S2x48x128 .f32) (d19 : Vec Ideal S2x48x256 .f32)
    (d21 : Vec Ideal S8x96x384 .f32) (d22 : Vec Ideal S4x8x192 .bf16) (p : Fin 4) (j : Fin 8) (y : Fin 2048) :
    scG a v1 x7 d16 d19 d21 d22 (ix4 0 0 ⟨8 * p.val + j.val, by omega⟩ y)
      = scoreE (IntOp.cmpi .slt (BitVec.ofNat 32 (2048 * a.val + y.val)) v1)
          (∑ x : Fin 192, d22 (ix3 p j x) * keyG a x7 d16 d19 d21 ⟨2 * p.val + x.val / 96, by omega⟩ ⟨x.val % 96, by omega⟩ y) := by
  have e1 : (⟨(8 * p.val + j.val) / 8, by omega⟩ : Fin 4) = p := Fin.ext (by show (8 * p.val + j.val) / 8 = p.val; omega)
  have e2 : (⟨(8 * p.val + j.val) % 8, by omega⟩ : Fin 8) = j := Fin.ext (by show (8 * p.val + j.val) % 8 = j.val; omega)
  have e3 : ∀ x : Fin 192, (⟨2 * ((8 * p.val + j.val) / 8) + x.val / 96, by omega⟩ : Fin 8) = ⟨2 * p.val + x.val / 96, by omega⟩ :=
    fun x => Fin.ext (by show 2 * ((8 * p.val + j.val) / 8) + x.val / 96 = 2 * p.val + x.val / 96; omega)
  show scoreE _ (∑ x : Fin 192, d22 (ix3 ⟨(8 * p.val + j.val) / 8, _⟩ ⟨(8 * p.val + j.val) % 8, _⟩ x)
    * keyG a x7 d16 d19 d21 ⟨2 * ((8 * p.val + j.val) / 8) + x.val / 96, _⟩ _ y) = _
  simp only [e1, e2, e3]
  rfl

theorem slab_apply (𝒱 : Variants) (c : Dev nD) (bd : Option 𝒱.V) (i : grid0.Coords) (arg2 : Memref sig .tc .smem S10 .i32) (harg2 : arg2.IsWhole) (arg3 : Memref sig .tc .smem S10 .i32) (harg3 : arg3.IsWhole) (arg4 : Memref sig .tc .vmem S10x32x96 .bf16) (harg4 : arg4.IsWhole) (arg5 : Memref sig .tc .vmem S10x8x96 .bf16) (harg5 : arg5.IsWhole) (arg6 : Memref sig .tc .vmem S10x8x96 .bf16) (harg6 : arg6.IsWhole) (arg7 : Memref sig .tc .vmem S1x8x48x2048 .i8) (harg7 : arg7.IsWhole) (arg8 : Memref sig .tc .vmem S1x8x48x2048 .i8) (harg8 : arg8.IsWhole) (arg9 : Memref sig .tc .vmem S1x8x96x320 .f32) (harg9 : arg9.IsWhole) (arg10 : Memref sig .tc .vmem S1x8x2048 .f32) (harg10 : arg10.IsWhole) (arg11 : Memref sig .tc .vmem S48x1 .f32) (harg11 : arg11.IsWhole) (arg12 : Memref sig .tc .vmem S1x48 .f32) (harg12 : arg12.IsWhole) (arg13 : Memref sig .tc .vmem S1x32x96 .bf16) (harg13 : arg13.IsWhole) (arg14 : Memref sig .tc .vmem S1x32x96 .bf16) (harg14 : arg14.IsWhole) (arg15 : Memref sig .tc .vmem S1x1x32x2048 .f32) (harg15 : arg15.IsWhole) (arg16 : Memref sig .tc .vmem S2x48x128 .f32) (harg16 : arg16.IsWhole) (arg17 : Memref sig .tc .vmem S2x48x256 .f32) (harg17 : arg17.IsWhole) (arg18 : Memref sig .tc .vmem S2x48x128 .f32) (harg18 : arg18.IsWhole) (arg19 : Memref sig .tc .vmem S2x48x256 .f32) (harg19 : arg19.IsWhole) (arg20 : Memref sig .tc .vmem S2x48x128 .f32) (harg20 : arg20.IsWhole) (arg21 : Memref sig .tc .vmem S8x96x384 .f32) (harg21 : arg21.IsWhole) (arg22 : Memref sig .tc .vmem S4x8x192 .bf16) (harg22 : arg22.IsWhole) (arg23 : Memref sig .tc .vmem S8x8x128 .f32) (harg23 : arg23.IsWhole) (arg24 : Memref sig .tc .vmem S4x8x128 .f32) (harg24 : arg24.IsWhole) (arg25 : Memref sig .tc .vmem S4x8x192 .f32) (harg25 : arg25.IsWhole) (v1 : BitVec 32) (k0_hw1 : k0_chk1 i v1) (v24 : BitVec 32) (k0_h3 : k0_cond3 i v1 = 1#1) (X_arg7 : BufTy.Contents (Elt Ideal) arg7.view.ty) (X_arg16 : BufTy.Contents (Elt Ideal) arg16.view.ty) (X_arg19 : BufTy.Contents (Elt Ideal) arg19.view.ty) (X_arg21 : BufTy.Contents (Elt Ideal) arg21.view.ty) (X_arg22 : BufTy.Contents (Elt Ideal) arg22.view.ty) (k : Fin (k0_t1_loop i v1).trips) (h : Fin 8) (e : Fin 96) (u : Fin 512) :
    (trip_k0_t1.sl.r_21 (F := Ideal) i arg7 arg16 arg19 arg21 (BitVec.ofNat 32 (i 1).val) v1 k0_hw1 laneV k0_h3 X_arg7 X_arg16 X_arg19 X_arg21 k) (ix3 h e u) = keyG (i 1) (arg7.view.read (Elt Ideal) X_arg7) (arg16.view.read (Elt Ideal) X_arg16) (arg19.view.read (Elt Ideal) X_arg19)
        (arg21.view.read (Elt Ideal) X_arg21) h e ⟨512 * (tk k).val + u.val, by have := (tk k).isLt; omega⟩ := by
  have hk := (tk k).isLt
  have hG := slabT_apply (trip_k0_t1.sl.r_4 (F := Ideal) i arg7 arg16 arg19 arg21 (BitVec.ofNat 32 (i 1).val) v1 k0_hw1 laneV k0_h3 X_arg7 X_arg16 X_arg19 X_arg21 k) (trip_k0_t1.sl.r_11 (F := Ideal) i arg7 arg16 arg19 arg21 (BitVec.ofNat 32 (i 1).val) v1 k0_hw1 laneV k0_h3 X_arg7 X_arg16 X_arg19 X_arg21 k) (trip_k0_t1.sl.r_15 (F := Ideal) i arg7 arg16 arg19 arg21 (BitVec.ofNat 32 (i 1).val) v1 k0_hw1 laneV k0_h3 X_arg7 X_arg16 X_arg19 X_arg21 k)
        (tileR i arg7 arg16 arg19 arg21 v1 k0_hw1 k0_h3 X_arg7 X_arg16 X_arg19 X_arg21 k 3)
        (fun h e n => if hn : 512 * (tk k).val + n < 2048 then keyG (i 1) (arg7.view.read (Elt Ideal) X_arg7) (arg16.view.read (Elt Ideal) X_arg16) (arg19.view.read (Elt Ideal) X_arg19)
          (arg21.view.read (Elt Ideal) X_arg21) h e ⟨512 * (tk k).val + n, hn⟩ else 0)
        (fun h r l => by rw [tile0_eq, tileR_apply, dif_pos (by omega)]; congr 1)
        (fun h r l => by rw [tile1_eq, tileR_apply, dif_pos (by omega)]; congr 1; exact Fin.ext (Nat.add_assoc _ _ _))
        (fun h r l => by rw [tile2_eq, tileR_apply, dif_pos (by omega)]; congr 1; exact Fin.ext (Nat.add_assoc _ _ _))
        (fun h r l => by rw [tileR_apply, dif_pos (by omega)]; congr 1; exact Fin.ext (Nat.add_assoc _ _ _)) h e u
  rw [slab_eq, hG, dif_pos (by omega)]

theorem off9_val (i : grid0.Coords) (v1 : BitVec 32) (k : Fin (k0_t1_loop i v1).trips) : k0_off9 i v1 k = ![0, 0, 8 * (0 : Fin 4).val, 512 * k.val] :=
  congrArg (fun n : Nat => (![0, 0, 0, n] : Fin 4 → Nat)) (colW_val (tk k))
theorem off10_val (i : grid0.Coords) (v1 : BitVec 32) (k : Fin (k0_t1_loop i v1).trips) : k0_off10 i v1 k = ![0, 0, 8 * (1 : Fin 4).val, 512 * k.val] :=
  congrArg (fun n : Nat => (![0, 0, 8, n] : Fin 4 → Nat)) (colW_val (tk k))
theorem off11_val (i : grid0.Coords) (v1 : BitVec 32) (k : Fin (k0_t1_loop i v1).trips) : k0_off11 i v1 k = ![0, 0, 8 * (2 : Fin 4).val, 512 * k.val] :=
  congrArg (fun n : Nat => (![0, 0, 16, n] : Fin 4 → Nat)) (colW_val (tk k))
theorem off12_val (i : grid0.Coords) (v1 : BitVec 32) (k : Fin (k0_t1_loop i v1).trips) : k0_off12 i v1 k = ![0, 0, 8 * (3 : Fin 4).val, 512 * k.val] :=
  congrArg (fun n : Nat => (![0, 0, 24, n] : Fin 4 → Nat)) (colW_val (tk k))

theorem tripL_eq (𝒱 : Variants) (c : Dev nD) (bd : Option 𝒱.V) (i : grid0.Coords) (arg2 : Memref sig .tc .smem S10 .i32) (harg2 : arg2.IsWhole) (arg3 : Memref sig .tc .smem S10 .i32) (harg3 : arg3.IsWhole) (arg4 : Memref sig .tc .vmem S10x32x96 .bf16) (harg4 : arg4.IsWhole) (arg5 : Memref sig .tc .vmem S10x8x96 .bf16) (harg5 : arg5.IsWhole) (arg6 : Memref sig .tc .vmem S10x8x96 .bf16) (harg6 : arg6.IsWhole) (arg7 : Memref sig .tc .vmem S1x8x48x2048 .i8) (harg7 : arg7.IsWhole) (arg8 : Memref sig .tc .vmem S1x8x48x2048 .i8) (harg8 : arg8.IsWhole) (arg9 : Memref sig .tc .vmem S1x8x96x320 .f32) (harg9 : arg9.IsWhole) (arg10 : Memref sig .tc .vmem S1x8x2048 .f32) (harg10 : arg10.IsWhole) (arg11 : Memref sig .tc .vmem S48x1 .f32) (harg11 : arg11.IsWhole) (arg12 : Memref sig .tc .vmem S1x48 .f32) (harg12 : arg12.IsWhole) (arg13 : Memref sig .tc .vmem S1x32x96 .bf16) (harg13 : arg13.IsWhole) (arg14 : Memref sig .tc .vmem S1x32x96 .bf16) (harg14 : arg14.IsWhole) (arg15 : Memref sig .tc .vmem S1x1x32x2048 .f32) (harg15 : arg15.IsWhole) (arg16 : Memref sig .tc .vmem S2x48x128 .f32) (harg16 : arg16.IsWhole) (arg17 : Memref sig .tc .vmem S2x48x256 .f32) (harg17 : arg17.IsWhole) (arg18 : Memref sig .tc .vmem S2x48x128 .f32) (harg18 : arg18.IsWhole) (arg19 : Memref sig .tc .vmem S2x48x256 .f32) (harg19 : arg19.IsWhole) (arg20 : Memref sig .tc .vmem S2x48x128 .f32) (harg20 : arg20.IsWhole) (arg21 : Memref sig .tc .vmem S8x96x384 .f32) (harg21 : arg21.IsWhole) (arg22 : Memref sig .tc .vmem S4x8x192 .bf16) (harg22 : arg22.IsWhole) (arg23 : Memref sig .tc .vmem S8x8x128 .f32) (harg23 : arg23.IsWhole) (arg24 : Memref sig .tc .vmem S4x8x128 .f32) (harg24 : arg24.IsWhole) (arg25 : Memref sig .tc .vmem S4x8x192 .f32) (harg25 : arg25.IsWhole) (v1 : BitVec 32) (k0_hw1 : k0_chk1 i v1) (v24 : BitVec 32) (k0_h3 : k0_cond3 i v1 = 1#1) (X_arg7 : BufTy.Contents (Elt Ideal) arg7.view.ty) (X_arg16 : BufTy.Contents (Elt Ideal) arg16.view.ty) (X_arg19 : BufTy.Contents (Elt Ideal) arg19.view.ty) (X_arg21 : BufTy.Contents (Elt Ideal) arg21.view.ty) (X_arg22 : BufTy.Contents (Elt Ideal) arg22.view.ty) (k : Fin (k0_t1_loop i v1).trips) (acc : FVec Ideal S8x128 .f32 × FVec Ideal S8x128 .f32 × FVec Ideal S8x128 .f32 × FVec Ideal S8x128 .f32) :
    tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (BitVec.ofNat 32 (i 1).val) v1 k0_hw1 v24 laneV k0_h3 X_arg7 X_arg16 X_arg19 X_arg21 X_arg22 k acc = [⟨Rect.unit (s := S1x1x32x2048) (k0_off12 i v1 k) S1x1x8x512.size (k0_off12_inb i v1 k0_hw1 k k0_h3), k0_pay143 (trip_k0_t1.sl.r_21 (F := Ideal) i arg7 arg16 arg19 arg21 (BitVec.ofNat 32 (i 1).val) v1 k0_hw1 laneV k0_h3 X_arg7 X_arg16 X_arg19 X_arg21 k) (k0_pay130 (F := Ideal) (BitVec.ofNat 32 (i 1).val) v1 (colW k.val)) (View.readAt (Elt Ideal) arg22.view (Rect.unit (s := S4x8x192) ![3, 0, 0] S1x8x192.size inb_S4x8x192_S1x8x192_3_0_0).toLoadRect X_arg22)⟩,
      ⟨Rect.unit (s := S1x1x32x2048) (k0_off11 i v1 k) S1x1x8x512.size (k0_off11_inb i v1 k0_hw1 k k0_h3), k0_pay140 (k0_pay139 (trip_k0_t1.sl.r_21 (F := Ideal) i arg7 arg16 arg19 arg21 (BitVec.ofNat 32 (i 1).val) v1 k0_hw1 laneV k0_h3 X_arg7 X_arg16 X_arg19 X_arg21 k) (k0_pay130 (F := Ideal) (BitVec.ofNat 32 (i 1).val) v1 (colW k.val)) (View.readAt (Elt Ideal) arg22.view (Rect.unit (s := S4x8x192) ![2, 0, 0] S1x8x192.size inb_S4x8x192_S1x8x192_2_0_0).toLoadRect X_arg22))⟩,
      ⟨Rect.unit (s := S1x1x32x2048) (k0_off10 i v1 k) S1x1x8x512.size (k0_off10_inb i v1 k0_hw1 k k0_h3), k0_pay137 (trip_k0_t1.sl.r_21 (F := Ideal) i arg7 arg16 arg19 arg21 (BitVec.ofNat 32 (i 1).val) v1 k0_hw1 laneV k0_h3 X_arg7 X_arg16 X_arg19 X_arg21 k) (k0_pay130 (F := Ideal) (BitVec.ofNat 32 (i 1).val) v1 (colW k.val)) (View.readAt (Elt Ideal) arg22.view (Rect.unit (s := S4x8x192) ![1, 0, 0] S1x8x192.size inb_S4x8x192_S1x8x192_1_0_0).toLoadRect X_arg22)⟩,
      ⟨Rect.unit (s := S1x1x32x2048) (k0_off9 i v1 k) S1x1x8x512.size (k0_off9_inb i v1 k0_hw1 k k0_h3), k0_pay132 (BitVec.ofNat 32 (i 1).val) v1 (colW k.val) (trip_k0_t1.sl.r_4 (F := Ideal) i arg7 arg16 arg19 arg21 (BitVec.ofNat 32 (i 1).val) v1 k0_hw1 laneV k0_h3 X_arg7 X_arg16 X_arg19 X_arg21 k) (trip_k0_t1.sl.r_11 (F := Ideal) i arg7 arg16 arg19 arg21 (BitVec.ofNat 32 (i 1).val) v1 k0_hw1 laneV k0_h3 X_arg7 X_arg16 X_arg19 X_arg21 k) (trip_k0_t1.sl.r_15 (F := Ideal) i arg7 arg16 arg19 arg21 (BitVec.ofNat 32 (i 1).val) v1 k0_hw1 laneV k0_h3 X_arg7 X_arg16 X_arg19 X_arg21 k) (trip_k0_t1.sl.r_16 (F := Ideal) i arg16 arg19 (BitVec.ofNat 32 (i 1).val) v1 k0_hw1 k0_h3 X_arg16 X_arg19 k) (trip_k0_t1.sl.r_17 (F := Ideal) i arg16 arg19 (BitVec.ofNat 32 (i 1).val) v1 k0_hw1 k0_h3 X_arg16 X_arg19 k) (trip_k0_t1.sl.r_18 (F := Ideal) i arg21 (BitVec.ofNat 32 (i 1).val) v1 k0_hw1 laneV k0_h3 X_arg21 k) (trip_k0_t1.sl.r_19 (F := Ideal) i arg7 v1 k0_hw1 k0_h3 X_arg7 k) (trip_k0_t1.sl.r_20 (F := Ideal) i arg7 arg21 (BitVec.ofNat 32 (i 1).val) v1 k0_hw1 laneV k0_h3 X_arg7 X_arg21 k) (View.readAt (Elt Ideal) arg22.view (Rect.unit (s := S4x8x192) ![0, 0, 0] S1x8x192.size inb_S4x8x192_S1x8x192_0_0_0).toLoadRect X_arg22)⟩] := by
  unfold tripL_k0_t1 trip_k0_t1
  rfl

/-- Pieces that hold a target's values, and reach every position of a range. -/
structure Fills (G : Vec Ideal S1x1x32x2048 .f32) (lo hi : ℕ) (L : List (View.Piece (Elt Ideal) S1x1x32x2048 .f32)) : Prop where
  agree : ∀ p ∈ L, ∀ x, p.2 x = G (p.1.emb x)
  reach : ∀ y : S1x1x32x2048.Idx, lo ≤ (y 3).val → (y 3).val < hi → ∃ p ∈ L, y ∈ p.1.set

theorem Fills.nil (G : Vec Ideal S1x1x32x2048 .f32) (n : ℕ) : Fills G n n [] :=
  ⟨fun p hp => absurd hp (List.not_mem_nil), fun y h1 h2 => absurd h1 (by omega)⟩

theorem Fills.append {G : Vec Ideal S1x1x32x2048 .f32} {a b c : ℕ} {L M : List (View.Piece (Elt Ideal) S1x1x32x2048 .f32)}
    (hL : Fills G b c L) (hM : Fills G a b M) : Fills G a c (L ++ M) := by
  refine ⟨fun p hp x => ?_, fun y h1 h2 => ?_⟩
  · rcases List.mem_append.1 hp with h | h
    · exact hL.agree p h x
    · exact hM.agree p h x
  · by_cases h : (y 3).val < b
    · obtain ⟨p, hp, hy⟩ := hM.reach y h1 h
      exact ⟨p, List.mem_append_right _ hp, hy⟩
    · obtain ⟨p, hp, hy⟩ := hL.reach y (by omega) h2
      exact ⟨p, List.mem_append_left _ hp, hy⟩

/-- A stored group of eight rows agrees with the target once its entries do. -/
theorem piece_agree (G : Vec Ideal S1x1x32x2048 .f32) (p : Fin 4) (o : ℕ) (ho : o + 512 ≤ 2048) {off : Fin 4 → ℕ} (inb) (hoff : off = ![0, 0, 8 * p.val, o])
    (w : FVec Ideal S1x1x8x512 .f32) (hw : ∀ (j : Fin 8) (u : Fin 512), w (ix4 0 0 j u) = G (ix4 0 0 ⟨8 * p.val + j.val, by omega⟩ ⟨o + u.val, by omega⟩))
    (x : S1x1x8x512.Idx) : w x = G ((Rect.unit (s := S1x1x32x2048) off S1x1x8x512.size inb).emb x) := by
  obtain ⟨j, u, rfl⟩ : ∃ (j : Fin 8) (u : Fin 512), x = ix4 0 0 j u := ⟨x 2, x 3, by
    refine (eq_ix4 x).trans ?_
    congr 1 <;> exact Subsingleton.elim (α := Fin 1) _ _⟩
  refine (hw j u).trans (congrArg G (unit4_idx inb hoff (ix4 0 0 j u) _ _ _ _ ?_ ?_ ?_ ?_).symm) <;> simp

theorem t1_fills (𝒱 : Variants) (c : Dev nD) (bd : Option 𝒱.V) (i : grid0.Coords) (arg2 : Memref sig .tc .smem S10 .i32) (harg2 : arg2.IsWhole) (arg3 : Memref sig .tc .smem S10 .i32) (harg3 : arg3.IsWhole) (arg4 : Memref sig .tc .vmem S10x32x96 .bf16) (harg4 : arg4.IsWhole) (arg5 : Memref sig .tc .vmem S10x8x96 .bf16) (harg5 : arg5.IsWhole) (arg6 : Memref sig .tc .vmem S10x8x96 .bf16) (harg6 : arg6.IsWhole) (arg7 : Memref sig .tc .vmem S1x8x48x2048 .i8) (harg7 : arg7.IsWhole) (arg8 : Memref sig .tc .vmem S1x8x48x2048 .i8) (harg8 : arg8.IsWhole) (arg9 : Memref sig .tc .vmem S1x8x96x320 .f32) (harg9 : arg9.IsWhole) (arg10 : Memref sig .tc .vmem S1x8x2048 .f32) (harg10 : arg10.IsWhole) (arg11 : Memref sig .tc .vmem S48x1 .f32) (harg11 : arg11.IsWhole) (arg12 : Memref sig .tc .vmem S1x48 .f32) (harg12 : arg12.IsWhole) (arg13 : Memref sig .tc .vmem S1x32x96 .bf16) (harg13 : arg13.IsWhole) (arg14 : Memref sig .tc .vmem S1x32x96 .bf16) (harg14 : arg14.IsWhole) (arg15 : Memref sig .tc .vmem S1x1x32x2048 .f32) (harg15 : arg15.IsWhole) (arg16 : Memref sig .tc .vmem S2x48x128 .f32) (harg16 : arg16.IsWhole) (arg17 : Memref sig .tc .vmem S2x48x256 .f32) (harg17 : arg17.IsWhole) (arg18 : Memref sig .tc .vmem S2x48x128 .f32) (harg18 : arg18.IsWhole) (arg19 : Memref sig .tc .vmem S2x48x256 .f32) (harg19 : arg19.IsWhole) (arg20 : Memref sig .tc .vmem S2x48x128 .f32) (harg20 : arg20.IsWhole) (arg21 : Memref sig .tc .vmem S8x96x384 .f32) (harg21 : arg21.IsWhole) (arg22 : Memref sig .tc .vmem S4x8x192 .bf16) (harg22 : arg22.IsWhole) (arg23 : Memref sig .tc .vmem S8x8x128 .f32) (harg23 : arg23.IsWhole) (arg24 : Memref sig .tc .vmem S4x8x128 .f32) (harg24 : arg24.IsWhole) (arg25 : Memref sig .tc .vmem S4x8x192 .f32) (harg25 : arg25.IsWhole) (v1 : BitVec 32) (k0_hw1 : k0_chk1 i v1) (v24 : BitVec 32) (k0_h3 : k0_cond3 i v1 = 1#1) (X_arg7 : BufTy.Contents (Elt Ideal) arg7.view.ty) (X_arg16 : BufTy.Contents (Elt Ideal) arg16.view.ty) (X_arg19 : BufTy.Contents (Elt Ideal) arg19.view.ty) (X_arg21 : BufTy.Contents (Elt Ideal) arg21.view.ty) (X_arg22 : BufTy.Contents (Elt Ideal) arg22.view.ty) (k : Fin (k0_t1_loop i v1).trips) (acc : FVec Ideal S8x128 .f32 × FVec Ideal S8x128 .f32 × FVec Ideal S8x128 .f32 × FVec Ideal S8x128 .f32) :
    Fills (scG (i 1) v1 (arg7.view.read (Elt Ideal) X_arg7) (arg16.view.read (Elt Ideal) X_arg16) (arg19.view.read (Elt Ideal) X_arg19) (arg21.view.read (Elt Ideal) X_arg21) (arg22.view.read (Elt Ideal) X_arg22)) (512 * k.val) (512 * (k.val + 1)) (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (BitVec.ofNat 32 (i 1).val) v1 k0_hw1 v24 laneV k0_h3 X_arg7 X_arg16 X_arg19 X_arg21 X_arg22 k acc) := by
  have hk : k.val < 4 := (tk k).isLt
  rw [tripL_eq]
  refine ⟨?_, fun y h1 h2 => ?_⟩
  · have key : ∀ (p : Fin 4) (j : Fin 8) (u : Fin 512), (scG (i 1) v1 (arg7.view.read (Elt Ideal) X_arg7) (arg16.view.read (Elt Ideal) X_arg16) (arg19.view.read (Elt Ideal) X_arg19) (arg21.view.read (Elt Ideal) X_arg21) (arg22.view.read (Elt Ideal) X_arg22)) (ix4 0 0 ⟨8 * p.val + j.val, by omega⟩ ⟨512 * k.val + u.val, by omega⟩)
        = scoreE ((k0_pay130 (F := Ideal) (BitVec.ofNat 32 (i 1).val) v1 (colW k.val)) (ix2 j u)) (∑ x : Fin 192, View.readAt (Elt Ideal) arg22.view (Rect.unit (s := S4x8x192) ![p.val, 0, 0] S1x8x192.size (by revert p; decide)).toLoadRect X_arg22 (ix3 0 j x)
          * (trip_k0_t1.sl.r_21 (F := Ideal) i arg7 arg16 arg19 arg21 (BitVec.ofNat 32 (i 1).val) v1 k0_hw1 laneV k0_h3 X_arg7 X_arg16 X_arg19 X_arg21 k) (ix3 ⟨2 * p.val + x.val / 96, by omega⟩ ⟨x.val % 96, by omega⟩ u)) := fun p j u => by
      refine (scG_at _ _ _ _ _ _ _ p j ⟨512 * k.val + u.val, by omega⟩).trans ?_
      rw [valid_apply, pos_word _ _ _ hk]
      refine congrArg _ (Finset.sum_congr rfl fun x _ => ?_)
      rw [slab_apply 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 k0_hw1 v24 k0_h3 X_arg7 X_arg16 X_arg19 X_arg21 X_arg22 k]
      refine congrArg₂ (· * ·) (congrArg (arg22.view.read (Elt Ideal) X_arg22) (unit3_idx _ rfl (ix3 0 j x) p j x ?_ ?_ ?_).symm) rfl <;> simp
    simp only [List.forall_mem_cons]
    refine ⟨?_, ?_, ?_, ?_, fun p hp => absurd hp (List.not_mem_nil)⟩
    · exact piece_agree _ 3 (512 * k.val) (by omega) _ (off12_val i v1 k) _ fun j u => (score3_apply _ _ _ j u).trans (key 3 j u).symm
    · exact piece_agree _ 2 (512 * k.val) (by omega) _ (off11_val i v1 k) _ fun j u => (score2_apply _ _ _ j u).trans (key 2 j u).symm
    · exact piece_agree _ 1 (512 * k.val) (by omega) _ (off10_val i v1 k) _ fun j u => (score1_apply _ _ _ j u).trans (key 1 j u).symm
    · exact piece_agree _ 0 (512 * k.val) (by omega) _ (off9_val i v1 k) _ fun j u => (score0_apply _ _ _ _ _ _ _ _ _ _ _ _ rfl _ j u).trans (key 0 j u).symm
  · have hy2 : (y 2).val < 32 := (y 2).isLt
    have mem : ∀ (p : ℕ) {off : Fin 4 → ℕ} (inb) (hoff : off = ![0, 0, 8 * p, 512 * k.val]), 8 * p ≤ (y 2).val → (y 2).val < 8 * p + 8 →
        y ∈ (Rect.unit (s := S1x1x32x2048) off S1x1x8x512.size inb).set := by
      intro p off inb hoff h3 h4
      subst hoff
      refine Rect.mem_set_unit.2 fun a => ?_
      match a with
      | ⟨0, _⟩ => exact ⟨Nat.zero_le _, (y 0).isLt⟩
      | ⟨1, _⟩ => exact ⟨Nat.zero_le _, (y 1).isLt⟩
      | ⟨2, _⟩ => exact ⟨h3, h4⟩
      | ⟨3, _⟩ => exact ⟨h1, by show (y 3).val < 512 * k.val + 512; omega⟩
    by_cases c3 : 24 ≤ (y 2).val
    · exact ⟨_, List.mem_cons_self, mem 3 (k0_off12_inb i v1 k0_hw1 k k0_h3) (off12_val i v1 k) c3 (by omega)⟩
    by_cases c2 : 16 ≤ (y 2).val
    · exact ⟨_, List.mem_cons_of_mem _ List.mem_cons_self, mem 2 (k0_off11_inb i v1 k0_hw1 k k0_h3) (off11_val i v1 k) c2 (by omega)⟩
    by_cases c1 : 8 ≤ (y 2).val
    · exact ⟨_, List.mem_cons_of_mem _ (List.mem_cons_of_mem _ List.mem_cons_self), mem 1 (k0_off10_inb i v1 k0_hw1 k k0_h3) (off10_val i v1 k) c1 (by omega)⟩
    · exact ⟨_, List.mem_cons_of_mem _ (List.mem_cons_of_mem _ (List.mem_cons_of_mem _ List.mem_cons_self)), mem 0 (k0_off9_inb i v1 k0_hw1 k k0_h3) (off9_val i v1 k) (by omega) (by omega)⟩

theorem st1_fills (𝒱 : Variants) (c : Dev nD) (bd : Option 𝒱.V) (i : grid0.Coords) (arg2 : Memref sig .tc .smem S10 .i32) (harg2 : arg2.IsWhole) (arg3 : Memref sig .tc .smem S10 .i32) (harg3 : arg3.IsWhole) (arg4 : Memref sig .tc .vmem S10x32x96 .bf16) (harg4 : arg4.IsWhole) (arg5 : Memref sig .tc .vmem S10x8x96 .bf16) (harg5 : arg5.IsWhole) (arg6 : Memref sig .tc .vmem S10x8x96 .bf16) (harg6 : arg6.IsWhole) (arg7 : Memref sig .tc .vmem S1x8x48x2048 .i8) (harg7 : arg7.IsWhole) (arg8 : Memref sig .tc .vmem S1x8x48x2048 .i8) (harg8 : arg8.IsWhole) (arg9 : Memref sig .tc .vmem S1x8x96x320 .f32) (harg9 : arg9.IsWhole) (arg10 : Memref sig .tc .vmem S1x8x2048 .f32) (harg10 : arg10.IsWhole) (arg11 : Memref sig .tc .vmem S48x1 .f32) (harg11 : arg11.IsWhole) (arg12 : Memref sig .tc .vmem S1x48 .f32) (harg12 : arg12.IsWhole) (arg13 : Memref sig .tc .vmem S1x32x96 .bf16) (harg13 : arg13.IsWhole) (arg14 : Memref sig .tc .vmem S1x32x96 .bf16) (harg14 : arg14.IsWhole) (arg15 : Memref sig .tc .vmem S1x1x32x2048 .f32) (harg15 : arg15.IsWhole) (arg16 : Memref sig .tc .vmem S2x48x128 .f32) (harg16 : arg16.IsWhole) (arg17 : Memref sig .tc .vmem S2x48x256 .f32) (harg17 : arg17.IsWhole) (arg18 : Memref sig .tc .vmem S2x48x128 .f32) (harg18 : arg18.IsWhole) (arg19 : Memref sig .tc .vmem S2x48x256 .f32) (harg19 : arg19.IsWhole) (arg20 : Memref sig .tc .vmem S2x48x128 .f32) (harg20 : arg20.IsWhole) (arg21 : Memref sig .tc .vmem S8x96x384 .f32) (harg21 : arg21.IsWhole) (arg22 : Memref sig .tc .vmem S4x8x192 .bf16) (harg22 : arg22.IsWhole) (arg23 : Memref sig .tc .vmem S8x8x128 .f32) (harg23 : arg23.IsWhole) (arg24 : Memref sig .tc .vmem S4x8x128 .f32) (harg24 : arg24.IsWhole) (arg25 : Memref sig .tc .vmem S4x8x192 .f32) (harg25 : arg25.IsWhole) (v1 : BitVec 32) (k0_hw1 : k0_chk1 i v1) (v24 : BitVec 32) (k0_h3 : k0_cond3 i v1 = 1#1) (X_arg7 : BufTy.Contents (Elt Ideal) arg7.view.ty) (X_arg16 : BufTy.Contents (Elt Ideal) arg16.view.ty) (X_arg19 : BufTy.Contents (Elt Ideal) arg19.view.ty) (X_arg21 : BufTy.Contents (Elt Ideal) arg21.view.ty) (X_arg22 : BufTy.Contents (Elt Ideal) arg22.view.ty) (acc : FVec Ideal S8x128 .f32 × FVec Ideal S8x128 .f32 × FVec Ideal S8x128 .f32 × FVec Ideal S8x128 .f32) : ∀ n : ℕ, n ≤ (k0_t1_loop i v1).trips →
    Fills (scG (i 1) v1 (arg7.view.read (Elt Ideal) X_arg7) (arg16.view.read (Elt Ideal) X_arg16) (arg19.view.read (Elt Ideal) X_arg19) (arg21.view.read (Elt Ideal) X_arg21) (arg22.view.read (Elt Ideal) X_arg22)) 0 (512 * n) (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (BitVec.ofNat 32 (i 1).val) v1 k0_hw1 v24 laneV k0_h3 X_arg7 X_arg16 X_arg19 X_arg21 X_arg22 acc n).2 := by
  intro n
  induction n with
  | zero => exact fun _ => Fills.nil _ 0
  | succ n ih =>
    intro hn
    have h := st_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (BitVec.ofNat 32 (i 1).val) v1 k0_hw1 v24 laneV k0_h3 X_arg7 X_arg16 X_arg19 X_arg21 X_arg22 acc ⟨n, hn⟩
    rw [show n + 1 = (⟨n, hn⟩ : Fin (k0_t1_loop i v1).trips).val + 1 from rfl, h]
    exact (t1_fills 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 k0_hw1 v24 k0_h3 X_arg7 X_arg16 X_arg19 X_arg21 X_arg22 ⟨n, hn⟩ _).append (ih (Nat.le_of_succ_le hn))

theorem tripL5_eq (𝒱 : Variants) (c : Dev nD) (bd : Option 𝒱.V) (i : grid0.Coords) (arg2 : Memref sig .tc .smem S10 .i32) (harg2 : arg2.IsWhole) (arg3 : Memref sig .tc .smem S10 .i32) (harg3 : arg3.IsWhole) (arg4 : Memref sig .tc .vmem S10x32x96 .bf16) (harg4 : arg4.IsWhole) (arg5 : Memref sig .tc .vmem S10x8x96 .bf16) (harg5 : arg5.IsWhole) (arg6 : Memref sig .tc .vmem S10x8x96 .bf16) (harg6 : arg6.IsWhole) (arg7 : Memref sig .tc .vmem S1x8x48x2048 .i8) (harg7 : arg7.IsWhole) (arg8 : Memref sig .tc .vmem S1x8x48x2048 .i8) (harg8 : arg8.IsWhole) (arg9 : Memref sig .tc .vmem S1x8x96x320 .f32) (harg9 : arg9.IsWhole) (arg10 : Memref sig .tc .vmem S1x8x2048 .f32) (harg10 : arg10.IsWhole) (arg11 : Memref sig .tc .vmem S48x1 .f32) (harg11 : arg11.IsWhole) (arg12 : Memref sig .tc .vmem S1x48 .f32) (harg12 : arg12.IsWhole) (arg13 : Memref sig .tc .vmem S1x32x96 .bf16) (harg13 : arg13.IsWhole) (arg14 : Memref sig .tc .vmem S1x32x96 .bf16) (harg14 : arg14.IsWhole) (arg15 : Memref sig .tc .vmem S1x1x32x2048 .f32) (harg15 : arg15.IsWhole) (arg16 : Memref sig .tc .vmem S2x48x128 .f32) (harg16 : arg16.IsWhole) (arg17 : Memref sig .tc .vmem S2x48x256 .f32) (harg17 : arg17.IsWhole) (arg18 : Memref sig .tc .vmem S2x48x128 .f32) (harg18 : arg18.IsWhole) (arg19 : Memref sig .tc .vmem S2x48x256 .f32) (harg19 : arg19.IsWhole) (arg20 : Memref sig .tc .vmem S2x48x128 .f32) (harg20 : arg20.IsWhole) (arg21 : Memref sig .tc .vmem S8x96x384 .f32) (harg21 : arg21.IsWhole) (arg22 : Memref sig .tc .vmem S4x8x192 .bf16) (harg22 : arg22.IsWhole) (arg23 : Memref sig .tc .vmem S8x8x128 .f32) (harg23 : arg23.IsWhole) (arg24 : Memref sig .tc .vmem S4x8x128 .f32) (harg24 : arg24.IsWhole) (arg25 : Memref sig .tc .vmem S4x8x192 .f32) (harg25 : arg25.IsWhole) (v1 : BitVec 32) (k0_hw1 : k0_chk1 i v1) (k : Fin (k0_t5_loop i v1).trips) (acc : BitVec 32) :
    tripL_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 k0_hw1 k acc
      = [⟨Rect.unit (s := S1x1x32x2048) (k0_off47 i v1 k) S1x1x32x512.size (o47_in i v1 k), k0_pay9 (F := Ideal)⟩] := by
  unfold tripL_k0_t5 trip_k0_t5
  rfl

theorem t5_fills (𝒱 : Variants) (c : Dev nD) (bd : Option 𝒱.V) (i : grid0.Coords) (arg2 : Memref sig .tc .smem S10 .i32) (harg2 : arg2.IsWhole) (arg3 : Memref sig .tc .smem S10 .i32) (harg3 : arg3.IsWhole) (arg4 : Memref sig .tc .vmem S10x32x96 .bf16) (harg4 : arg4.IsWhole) (arg5 : Memref sig .tc .vmem S10x8x96 .bf16) (harg5 : arg5.IsWhole) (arg6 : Memref sig .tc .vmem S10x8x96 .bf16) (harg6 : arg6.IsWhole) (arg7 : Memref sig .tc .vmem S1x8x48x2048 .i8) (harg7 : arg7.IsWhole) (arg8 : Memref sig .tc .vmem S1x8x48x2048 .i8) (harg8 : arg8.IsWhole) (arg9 : Memref sig .tc .vmem S1x8x96x320 .f32) (harg9 : arg9.IsWhole) (arg10 : Memref sig .tc .vmem S1x8x2048 .f32) (harg10 : arg10.IsWhole) (arg11 : Memref sig .tc .vmem S48x1 .f32) (harg11 : arg11.IsWhole) (arg12 : Memref sig .tc .vmem S1x48 .f32) (harg12 : arg12.IsWhole) (arg13 : Memref sig .tc .vmem S1x32x96 .bf16) (harg13 : arg13.IsWhole) (arg14 : Memref sig .tc .vmem S1x32x96 .bf16) (harg14 : arg14.IsWhole) (arg15 : Memref sig .tc .vmem S1x1x32x2048 .f32) (harg15 : arg15.IsWhole) (arg16 : Memref sig .tc .vmem S2x48x128 .f32) (harg16 : arg16.IsWhole) (arg17 : Memref sig .tc .vmem S2x48x256 .f32) (harg17 : arg17.IsWhole) (arg18 : Memref sig .tc .vmem S2x48x128 .f32) (harg18 : arg18.IsWhole) (arg19 : Memref sig .tc .vmem S2x48x256 .f32) (harg19 : arg19.IsWhole) (arg20 : Memref sig .tc .vmem S2x48x128 .f32) (harg20 : arg20.IsWhole) (arg21 : Memref sig .tc .vmem S8x96x384 .f32) (harg21 : arg21.IsWhole) (arg22 : Memref sig .tc .vmem S4x8x192 .bf16) (harg22 : arg22.IsWhole) (arg23 : Memref sig .tc .vmem S8x8x128 .f32) (harg23 : arg23.IsWhole) (arg24 : Memref sig .tc .vmem S4x8x128 .f32) (harg24 : arg24.IsWhole) (arg25 : Memref sig .tc .vmem S4x8x192 .f32) (harg25 : arg25.IsWhole) (v1 : BitVec 32) (k0_hw1 : k0_chk1 i v1) (T : Vec Ideal S1x1x32x2048 .f32) (hT : ∀ y, 512 * nsub i v1 ≤ (y 3).val → T y = 0) (k : Fin (k0_t5_loop i v1).trips) (acc : BitVec 32) :
    Fills T (512 * (nsub i v1 + k.val)) (512 * (nsub i v1 + (k.val + 1))) (tripL_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 k0_hw1 k acc) := by
  have hk := (mult37_val i v1 k).2
  rw [tripL5_eq]
  refine ⟨?_, fun y h1 h2 => ⟨_, List.mem_cons_self, ?_⟩⟩
  · simp only [List.forall_mem_cons]
    refine ⟨fun x => ?_, fun p hp => absurd hp (List.not_mem_nil)⟩
    obtain ⟨j, u, rfl⟩ : ∃ (j : Fin 32) (u : Fin 512), x = ix4 0 0 j u := ⟨x 2, x 3, by
      refine (eq_ix4 x).trans ?_
      congr 1 <;> exact Subsingleton.elim (α := Fin 1) _ _⟩
    refine (zero_apply j u).trans (hT _ ?_).symm
    rw [show (Rect.unit (s := S1x1x32x2048) (k0_off47 i v1 k) S1x1x32x512.size (o47_in i v1 k)).emb (ix4 0 0 j u)
        = ix4 0 0 j ⟨512 * (nsub i v1 + k.val) + u.val, by omega⟩ from
      unit4_idx (o47_in i v1 k) (off47_val i v1 k) (ix4 0 0 j u) _ _ _ _ (by simp) (by simp) (by simp) (by simp)]
    show 512 * nsub i v1 ≤ 512 * (nsub i v1 + k.val) + u.val
    omega
  · have mem : ∀ {off : Fin 4 → ℕ} (inb) (hoff : off = ![0, 0, 0, 512 * (nsub i v1 + k.val)]),
        y ∈ (Rect.unit (s := S1x1x32x2048) off S1x1x32x512.size inb).set := by
      intro off inb hoff
      subst hoff
      refine Rect.mem_set_unit.2 fun a => ?_
      match a with
      | ⟨0, _⟩ => exact ⟨Nat.zero_le _, (y 0).isLt⟩
      | ⟨1, _⟩ => exact ⟨Nat.zero_le _, (y 1).isLt⟩
      | ⟨2, _⟩ => exact ⟨Nat.zero_le _, by show (y 2).val < 0 + 32; rw [Nat.zero_add]; exact (y 2).isLt⟩
      | ⟨3, _⟩ => exact ⟨h1, by show (y 3).val < 512 * (nsub i v1 + k.val) + 512; omega⟩
    exact mem (o47_in i v1 k) (off47_val i v1 k)

theorem st5_fills (𝒱 : Variants) (c : Dev nD) (bd : Option 𝒱.V) (i : grid0.Coords) (arg2 : Memref sig .tc .smem S10 .i32) (harg2 : arg2.IsWhole) (arg3 : Memref sig .tc .smem S10 .i32) (harg3 : arg3.IsWhole) (arg4 : Memref sig .tc .vmem S10x32x96 .bf16) (harg4 : arg4.IsWhole) (arg5 : Memref sig .tc .vmem S10x8x96 .bf16) (harg5 : arg5.IsWhole) (arg6 : Memref sig .tc .vmem S10x8x96 .bf16) (harg6 : arg6.IsWhole) (arg7 : Memref sig .tc .vmem S1x8x48x2048 .i8) (harg7 : arg7.IsWhole) (arg8 : Memref sig .tc .vmem S1x8x48x2048 .i8) (harg8 : arg8.IsWhole) (arg9 : Memref sig .tc .vmem S1x8x96x320 .f32) (harg9 : arg9.IsWhole) (arg10 : Memref sig .tc .vmem S1x8x2048 .f32) (harg10 : arg10.IsWhole) (arg11 : Memref sig .tc .vmem S48x1 .f32) (harg11 : arg11.IsWhole) (arg12 : Memref sig .tc .vmem S1x48 .f32) (harg12 : arg12.IsWhole) (arg13 : Memref sig .tc .vmem S1x32x96 .bf16) (harg13 : arg13.IsWhole) (arg14 : Memref sig .tc .vmem S1x32x96 .bf16) (harg14 : arg14.IsWhole) (arg15 : Memref sig .tc .vmem S1x1x32x2048 .f32) (harg15 : arg15.IsWhole) (arg16 : Memref sig .tc .vmem S2x48x128 .f32) (harg16 : arg16.IsWhole) (arg17 : Memref sig .tc .vmem S2x48x256 .f32) (harg17 : arg17.IsWhole) (arg18 : Memref sig .tc .vmem S2x48x128 .f32) (harg18 : arg18.IsWhole) (arg19 : Memref sig .tc .vmem S2x48x256 .f32) (harg19 : arg19.IsWhole) (arg20 : Memref sig .tc .vmem S2x48x128 .f32) (harg20 : arg20.IsWhole) (arg21 : Memref sig .tc .vmem S8x96x384 .f32) (harg21 : arg21.IsWhole) (arg22 : Memref sig .tc .vmem S4x8x192 .bf16) (harg22 : arg22.IsWhole) (arg23 : Memref sig .tc .vmem S8x8x128 .f32) (harg23 : arg23.IsWhole) (arg24 : Memref sig .tc .vmem S4x8x128 .f32) (harg24 : arg24.IsWhole) (arg25 : Memref sig .tc .vmem S4x8x192 .f32) (harg25 : arg25.IsWhole) (v1 : BitVec 32) (k0_hw1 : k0_chk1 i v1) (T : Vec Ideal S1x1x32x2048 .f32) (hT : ∀ y, 512 * nsub i v1 ≤ (y 3).val → T y = 0) (acc : BitVec 32) :
    ∀ n : ℕ, n ≤ (k0_t5_loop i v1).trips → Fills T (512 * nsub i v1) (512 * (nsub i v1 + n)) (st_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 k0_hw1 acc n).2 := by
  intro n
  induction n with
  | zero => exact fun _ => Fills.nil _ _
  | succ n ih =>
    intro hn
    have h := st_k0_t5_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 k0_hw1 acc ⟨n, hn⟩
    rw [show n + 1 = (⟨n, hn⟩ : Fin (k0_t5_loop i v1).trips).val + 1 from rfl, h]
    exact (t5_fills 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 k0_hw1 T hT ⟨n, hn⟩ _).append (ih (Nat.le_of_succ_le hn))

end Cert.KernelIdeal
-- ==== Proof.ScoreBlock.lean ====
/-
The block of scores a grid point leaves is the block of the keys' scores.
-/
module

public import proofs.«01_k».proof.Proof.ScoreLoop

@[expose] public section

set_option maxRecDepth 16384

noncomputable section

namespace Cert.KernelIdeal

open Idealize.ShloMosaic Idealize.ShloMosaic.Tactic
open Gen

theorem toInt_small {n : ℕ} (h : n < 2 ^ 31) : (BitVec.ofNat 32 n).toInt = n := by
  rw [BitVec.toInt_eq_toNat_of_lt (by rw [BitVec.toNat_ofNat]; omega), BitVec.toNat_ofNat]; omega

theorem cmpi_slt (x y : BitVec 32) : IntOp.cmpi .slt x y = if x.toInt < y.toInt then 1#1 else 0#1 := by
  show BitVec.ofBool (BitVec.slt x y) = _
  rw [BitVec.slt_eq_decide]
  by_cases h : x.toInt < y.toInt <;> simp [h]

/-- How many of the four groups of a block have keys below the length. -/
theorem nsub_val (i : grid0.Coords) (v1 : BitVec 32) (L : ℕ) (hL : v1 = BitVec.ofNat 32 L) (hb : L ≤ 20480) (h : 2048 * (i 1).val ≤ L + 511) :
    nsub i v1 = min 4 ((L + 511 - 2048 * (i 1).val) / 512) := by
  have ha : (i 1).val < 10 := (i 1).isLt
  have e : Scalar.subi (Scalar.addi (Scalar.subi v1 (Scalar.muli (BitVec.ofNat 32 (i 1).val) 2048#32)) 512#32) 1#32
      = BitVec.ofNat 32 (L + 511 - 2048 * (i 1).val) := by
    subst hL
    apply BitVec.eq_of_toNat_eq
    show (BitVec.ofNat 32 L - BitVec.ofNat 32 (i 1).val * 2048#32 + 512#32 - 1#32).toNat = _
    generalize (i 1).val = a at *
    simp only [BitVec.toNat_sub, BitVec.toNat_add, BitVec.toNat_mul, BitVec.toNat_ofNat]
    omega
  have e2 : nsub i v1 = (nsubW i v1).toNat := by rw [nsubW_eq, BitVec.toNat_ofNat]; have := nsub_lt i v1; omega
  have e3 : nsubW i v1 = Scalar.minsi (BitVec.ofNat 32 4) (Scalar.maxsi 0#32 (BitVec.ofNat 32 ((L + 511 - 2048 * (i 1).val) / 512))) := by
    have hf := Words.fdw_ofNat (n := L + 511 - 2048 * (i 1).val) (c := 512) (by omega) (by decide) (by decide)
    show Scalar.minsi 4#32 (Scalar.maxsi 0#32 (Words.fdw (Scalar.subi (Scalar.addi (Scalar.subi v1 (Scalar.muli (BitVec.ofNat 32 (i 1).val) 2048#32)) 512#32) 1#32) 512#32)) = _
    rw [e]
    exact congrArg (fun z => Scalar.minsi 4#32 (Scalar.maxsi 0#32 z)) hf
  have e4 : Scalar.maxsi 0#32 (BitVec.ofNat 32 ((L + 511 - 2048 * (i 1).val) / 512)) = BitVec.ofNat 32 ((L + 511 - 2048 * (i 1).val) / 512) := by
    apply BitVec.eq_of_toInt_eq
    rw [show (Scalar.maxsi 0#32 (BitVec.ofNat 32 ((L + 511 - 2048 * (i 1).val) / 512))).toInt = max 0 (BitVec.ofNat 32 ((L + 511 - 2048 * (i 1).val) / 512)).toInt from
      WordArith.toInt_maxsi_zero _, toInt_small (by omega)]
    omega
  rw [e2, e3, e4, Words.minsi_le (by decide) _ (by rw [BitVec.toNat_ofNat]; omega), BitVec.toNat_ofNat]
  omega

theorem past_end (i : grid0.Coords) (v1 : BitVec 32) (hb : v1.toInt ≤ 20480) (y : ℕ) (hy : 512 * nsub i v1 ≤ y) (hy2 : y < 2048) :
    IntOp.cmpi .slt (BitVec.ofNat 32 (2048 * (i 1).val + y)) v1 = 0#1 := by
  have ha : (i 1).val < 10 := (i 1).isLt
  rw [cmpi_slt, toInt_small (by omega), if_neg]
  intro hlt
  obtain ⟨L, hL⟩ : ∃ L : ℕ, v1.toInt = L := ⟨v1.toInt.toNat, by omega⟩
  have hv : v1 = BitVec.ofNat 32 L := by
    apply BitVec.eq_of_toInt_eq; rw [toInt_small (by omega), hL]
  have := nsub_val i v1 L hv (by omega) (by omega)
  omega

theorem cond3_iff : ∀ (m : Fin 5), Scalar.cmpi .sgt (BitVec.ofNat 32 m.val) 0#32 = 1#1 ↔ 0 < m.val := by decide

theorem cond3_nsub (i : grid0.Coords) (v1 : BitVec 32) (h : ¬ k0_cond3 i v1 = 1#1) : nsub i v1 = 0 := by
  have e : k0_cond3 i v1 = Scalar.cmpi .ne (Scalar.extui (Scalar.cmpi .sgt (nsubW i v1) 0#32)) 0#32 := rfl
  rw [e, nsubW_eq] at h
  have := nsub_lt i v1
  generalize nsub i v1 = m at *
  revert h
  obtain ⟨m', rfl⟩ : ∃ m' : Fin 5, m = m'.val := ⟨⟨m, this⟩, rfl⟩
  revert m'
  decide

theorem scG_zero (i : grid0.Coords) (v1 : BitVec 32) (x7 : Vec Ideal S1x8x48x2048 .i8) (d16 : Vec Ideal S2x48x128 .f32) (d19 : Vec Ideal S2x48x256 .f32)
    (d21 : Vec Ideal S8x96x384 .f32) (d22 : Vec Ideal S4x8x192 .bf16) (hb : v1.toInt ≤ 20480) (y : S1x1x32x2048.Idx) (hy : 512 * nsub i v1 ≤ (y 3).val) :
    scG (i 1) v1 x7 d16 d19 d21 d22 y = 0 := by
  unfold scG scoreE
  rw [past_end i v1 hb _ hy (y 3).isLt]
  rfl

theorem Fills.upto {T : Vec Ideal S1x1x32x2048 .f32} {a n m : ℕ} {L : List (View.Piece (Elt Ideal) S1x1x32x2048 .f32)} (h : Fills T a n L) (e : n = m) : Fills T a m L := e ▸ h

theorem read_fills {sig' : RefSig} {κ : Kind} {sp : Space} (v : View sig' κ sp S1x1x32x2048 .f32) (f : v.ty.Contents (Elt Ideal)) (T : Vec Ideal S1x1x32x2048 .f32)
    (L6 L5 L2 L1 : List (View.Piece (Elt Ideal) S1x1x32x2048 .f32)) (n : ℕ) (h6 : L6 = []) (h5 : Fills T n 2048 L5) (h2 : L2 = []) (h1 : Fills T 0 n L1) :
    v.read (Elt Ideal) (v.writes (Elt Ideal) f (L6 ++ (L5 ++ (L2 ++ L1)))) = T := by
  subst h6 h2
  rw [List.nil_append, List.nil_append]
  have h := h5.append h1
  funext y
  refine View.read_writes_apply_of_pieces v f T _ h.agree y ?_
  exact h.reach y (Nat.zero_le _) (y 3).isLt

theorem read_fills' {sig' : RefSig} {κ : Kind} {sp : Space} (v : View sig' κ sp S1x1x32x2048 .f32) (f : v.ty.Contents (Elt Ideal)) (T : Vec Ideal S1x1x32x2048 .f32)
    (L6 L5 : List (View.Piece (Elt Ideal) S1x1x32x2048 .f32)) (h6 : L6 = []) (h5 : Fills T 0 2048 L5) :
    v.read (Elt Ideal) (v.writes (Elt Ideal) f (L6 ++ L5)) = T := by
  subst h6
  funext y
  refine View.read_writes_apply_of_pieces v f T _ h5.agree y ?_
  exact h5.reach y (Nat.zero_le _) (y 3).isLt

theorem st2_nil (𝒱 : Variants) (c : Dev nD) (bd : Option 𝒱.V) (i : grid0.Coords) (arg2 : Memref sig .tc .smem S10 .i32) (harg2 : arg2.IsWhole) (arg3 : Memref sig .tc .smem S10 .i32) (harg3 : arg3.IsWhole) (arg4 : Memref sig .tc .vmem S10x32x96 .bf16) (harg4 : arg4.IsWhole) (arg5 : Memref sig .tc .vmem S10x8x96 .bf16) (harg5 : arg5.IsWhole) (arg6 : Memref sig .tc .vmem S10x8x96 .bf16) (harg6 : arg6.IsWhole) (arg7 : Memref sig .tc .vmem S1x8x48x2048 .i8) (harg7 : arg7.IsWhole) (arg8 : Memref sig .tc .vmem S1x8x48x2048 .i8) (harg8 : arg8.IsWhole) (arg9 : Memref sig .tc .vmem S1x8x96x320 .f32) (harg9 : arg9.IsWhole) (arg10 : Memref sig .tc .vmem S1x8x2048 .f32) (harg10 : arg10.IsWhole) (arg11 : Memref sig .tc .vmem S48x1 .f32) (harg11 : arg11.IsWhole) (arg12 : Memref sig .tc .vmem S1x48 .f32) (harg12 : arg12.IsWhole) (arg13 : Memref sig .tc .vmem S1x32x96 .bf16) (harg13 : arg13.IsWhole) (arg14 : Memref sig .tc .vmem S1x32x96 .bf16) (harg14 : arg14.IsWhole) (arg15 : Memref sig .tc .vmem S1x1x32x2048 .f32) (harg15 : arg15.IsWhole) (arg16 : Memref sig .tc .vmem S2x48x128 .f32) (harg16 : arg16.IsWhole) (arg17 : Memref sig .tc .vmem S2x48x256 .f32) (harg17 : arg17.IsWhole) (arg18 : Memref sig .tc .vmem S2x48x128 .f32) (harg18 : arg18.IsWhole) (arg19 : Memref sig .tc .vmem S2x48x256 .f32) (harg19 : arg19.IsWhole) (arg20 : Memref sig .tc .vmem S2x48x128 .f32) (harg20 : arg20.IsWhole) (arg21 : Memref sig .tc .vmem S8x96x384 .f32) (harg21 : arg21.IsWhole) (arg22 : Memref sig .tc .vmem S4x8x192 .bf16) (harg22 : arg22.IsWhole) (arg23 : Memref sig .tc .vmem S8x8x128 .f32) (harg23 : arg23.IsWhole) (arg24 : Memref sig .tc .vmem S4x8x128 .f32) (harg24 : arg24.IsWhole) (arg25 : Memref sig .tc .vmem S4x8x192 .f32) (harg25 : arg25.IsWhole) (v1 : BitVec 32) (k0_hw1 : k0_chk1 i v1) (v24 : BitVec 32) (k0_h3 : k0_cond3 i v1 = 1#1) (X_arg7 : BufTy.Contents (Elt Ideal) arg7.view.ty) (X_arg16 : BufTy.Contents (Elt Ideal) arg16.view.ty) (X_arg19 : BufTy.Contents (Elt Ideal) arg19.view.ty) (X_arg21 : BufTy.Contents (Elt Ideal) arg21.view.ty) (X_arg22 : BufTy.Contents (Elt Ideal) arg22.view.ty) (v59 : BitVec 32) (acc : FVec Ideal S8x128 .f32 × FVec Ideal S8x128 .f32 × FVec Ideal S8x128 .f32 × FVec Ideal S8x128 .f32) (n : ℕ) (hn : n = 0) :
    (st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (BitVec.ofNat 32 (i 1).val) v1 k0_hw1 v24 laneV k0_h3 v59 X_arg7 X_arg16 X_arg19 X_arg21 X_arg22 acc n).2 = [] := by
  subst hn; rfl
theorem st6_nil (𝒱 : Variants) (c : Dev nD) (bd : Option 𝒱.V) (i : grid0.Coords) (arg2 : Memref sig .tc .smem S10 .i32) (harg2 : arg2.IsWhole) (arg3 : Memref sig .tc .smem S10 .i32) (harg3 : arg3.IsWhole) (arg4 : Memref sig .tc .vmem S10x32x96 .bf16) (harg4 : arg4.IsWhole) (arg5 : Memref sig .tc .vmem S10x8x96 .bf16) (harg5 : arg5.IsWhole) (arg6 : Memref sig .tc .vmem S10x8x96 .bf16) (harg6 : arg6.IsWhole) (arg7 : Memref sig .tc .vmem S1x8x48x2048 .i8) (harg7 : arg7.IsWhole) (arg8 : Memref sig .tc .vmem S1x8x48x2048 .i8) (harg8 : arg8.IsWhole) (arg9 : Memref sig .tc .vmem S1x8x96x320 .f32) (harg9 : arg9.IsWhole) (arg10 : Memref sig .tc .vmem S1x8x2048 .f32) (harg10 : arg10.IsWhole) (arg11 : Memref sig .tc .vmem S48x1 .f32) (harg11 : arg11.IsWhole) (arg12 : Memref sig .tc .vmem S1x48 .f32) (harg12 : arg12.IsWhole) (arg13 : Memref sig .tc .vmem S1x32x96 .bf16) (harg13 : arg13.IsWhole) (arg14 : Memref sig .tc .vmem S1x32x96 .bf16) (harg14 : arg14.IsWhole) (arg15 : Memref sig .tc .vmem S1x1x32x2048 .f32) (harg15 : arg15.IsWhole) (arg16 : Memref sig .tc .vmem S2x48x128 .f32) (harg16 : arg16.IsWhole) (arg17 : Memref sig .tc .vmem S2x48x256 .f32) (harg17 : arg17.IsWhole) (arg18 : Memref sig .tc .vmem S2x48x128 .f32) (harg18 : arg18.IsWhole) (arg19 : Memref sig .tc .vmem S2x48x256 .f32) (harg19 : arg19.IsWhole) (arg20 : Memref sig .tc .vmem S2x48x128 .f32) (harg20 : arg20.IsWhole) (arg21 : Memref sig .tc .vmem S8x96x384 .f32) (harg21 : arg21.IsWhole) (arg22 : Memref sig .tc .vmem S4x8x192 .bf16) (harg22 : arg22.IsWhole) (arg23 : Memref sig .tc .vmem S8x8x128 .f32) (harg23 : arg23.IsWhole) (arg24 : Memref sig .tc .vmem S4x8x128 .f32) (harg24 : arg24.IsWhole) (arg25 : Memref sig .tc .vmem S4x8x192 .f32) (harg25 : arg25.IsWhole) (v1 : BitVec 32) (k0_hw1 : k0_chk1 i v1) (acc : BitVec 32) (n : ℕ) (hn : n = 0) :
    (st_k0_t6 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 k0_hw1 acc n).2 = [] := by
  subst hn; rfl

theorem sc15_eq (c : Dev nD) (i : grid0.Coords) (arg4 : Memref sig .tc .vmem S10x32x96 .bf16) (harg4 : arg4.IsWhole) (arg5 : Memref sig .tc .vmem S10x8x96 .bf16) (harg5 : arg5.IsWhole) (arg6 : Memref sig .tc .vmem S10x8x96 .bf16) (harg6 : arg6.IsWhole) (arg7 : Memref sig .tc .vmem S1x8x48x2048 .i8) (harg7 : arg7.IsWhole) (arg8 : Memref sig .tc .vmem S1x8x48x2048 .i8) (harg8 : arg8.IsWhole) (arg9 : Memref sig .tc .vmem S1x8x96x320 .f32) (harg9 : arg9.IsWhole) (arg10 : Memref sig .tc .vmem S1x8x2048 .f32) (harg10 : arg10.IsWhole) (arg11 : Memref sig .tc .vmem S48x1 .f32) (harg11 : arg11.IsWhole) (arg12 : Memref sig .tc .vmem S1x48 .f32) (harg12 : arg12.IsWhole) (arg13 : Memref sig .tc .vmem S1x32x96 .bf16) (harg13 : arg13.IsWhole) (arg14 : Memref sig .tc .vmem S1x32x96 .bf16) (harg14 : arg14.IsWhole) (arg15 : Memref sig .tc .vmem S1x1x32x2048 .f32) (harg15 : arg15.IsWhole) (arg16 : Memref sig .tc .vmem S2x48x128 .f32) (harg16 : arg16.IsWhole) (arg17 : Memref sig .tc .vmem S2x48x256 .f32) (harg17 : arg17.IsWhole) (arg18 : Memref sig .tc .vmem S2x48x128 .f32) (harg18 : arg18.IsWhole) (arg19 : Memref sig .tc .vmem S2x48x256 .f32) (harg19 : arg19.IsWhole) (arg20 : Memref sig .tc .vmem S2x48x128 .f32) (harg20 : arg20.IsWhole) (arg21 : Memref sig .tc .vmem S8x96x384 .f32) (harg21 : arg21.IsWhole) (arg22 : Memref sig .tc .vmem S4x8x192 .bf16) (harg22 : arg22.IsWhole) (arg23 : Memref sig .tc .vmem S8x8x128 .f32) (harg23 : arg23.IsWhole) (arg24 : Memref sig .tc .vmem S4x8x128 .f32) (harg24 : arg24.IsWhole) (arg25 : Memref sig .tc .vmem S4x8x192 .f32) (harg25 : arg25.IsWhole) (x7 : Vec Ideal S1x8x48x2048 .i8) (t2 : TbBuf0 (F := Ideal) c tbM0_0) (X16 : BufTy.Contents (Elt Ideal) arg16.view.ty) (X19 : BufTy.Contents (Elt Ideal) arg19.view.ty) (X21 : BufTy.Contents (Elt Ideal) arg21.view.ty) (X22 : BufTy.Contents (Elt Ideal) arg22.view.ty) (d15 : Vec Ideal S1x1x32x2048 .f32)  (h : Sc15 (F := Ideal) c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x7 t2 X16 X19 X21 X22 d15) (hb : (kernelRun0.sl.r c i t2).toInt ≤ 20480) :
    d15 = scG (i 1) (kernelRun0.sl.r c i t2) x7 (arg16.view.read (Elt Ideal) X16) (arg19.view.read (Elt Ideal) X19) (arg21.view.read (Elt Ideal) X21) (arg22.view.read (Elt Ideal) X22) := by
  have hn := nsub_lt i (kernelRun0.sl.r c i t2)
  by_cases hc3 : k0_cond3 i (kernelRun0.sl.r c i t2) = 1#1
  · obtain ⟨f15, i1, i2, i6, rfl⟩ := h.1 hc3
    unfold W15a
    have h6 := st6_nil Variants.none c none i tbM0_0 htbM0_0 tbM0_1 htbM0_1 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (kernelRun0.sl.r c i t2) (chk1_all _ _) i6 _ (t6_trips i (kernelRun0.sl.r c i t2))
    have h2 := st2_nil Variants.none c none i tbM0_0 htbM0_0 tbM0_1 htbM0_1 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (kernelRun0.sl.r c i t2) (chk1_all _ _) (kernelRun0.sl.v24 c i t2) hc3 (harg7.unread x7) X16 X19 X21 X22 (kernelRun0.sl.v59_1 c i t2) i2 _ (t2_trips i (kernelRun0.sl.r c i t2))
    have h1 := st1_fills Variants.none c none i tbM0_0 htbM0_0 tbM0_1 htbM0_1 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (kernelRun0.sl.r c i t2) (chk1_all _ _) (kernelRun0.sl.v24 c i t2) hc3 (harg7.unread x7) X16 X19 X21 X22 i1 _ (le_refl _)
    rw [harg7.read_unread] at h1
    have h5 := st5_fills Variants.none c none i tbM0_0 htbM0_0 tbM0_1 htbM0_1 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (kernelRun0.sl.r c i t2) (chk1_all _ _) _
      (fun y hy => scG_zero i (kernelRun0.sl.r c i t2) x7 (arg16.view.read (Elt Ideal) X16) (arg19.view.read (Elt Ideal) X19) (arg21.view.read (Elt Ideal) X21) (arg22.view.read (Elt Ideal) X22) hb y hy)
      (0#32) _ (le_refl _)
    have e1 : (k0_t1_loop i (kernelRun0.sl.r c i t2)).trips = nsub i (kernelRun0.sl.r c i t2) := t1_trips i _
    have e5 : 512 * (nsub i (kernelRun0.sl.r c i t2) + (k0_t5_loop i (kernelRun0.sl.r c i t2)).trips) = 2048 := by rw [t5_trips]; omega
    rw [e5] at h5
    have h1' := h1.upto (m := 512 * nsub i (kernelRun0.sl.r c i t2)) (congrArg (512 * ·) e1)
    exact read_fills _ _ _ _ _ _ _ _ h6 h5 h2 h1'
  · obtain ⟨f15, i6, rfl⟩ := h.2 hc3
    unfold W15b
    have h6 := st6_nil Variants.none c none i tbM0_0 htbM0_0 tbM0_1 htbM0_1 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (kernelRun0.sl.r c i t2) (chk1_all _ _) i6 _ (t6_trips i (kernelRun0.sl.r c i t2))
    have h5 := st5_fills Variants.none c none i tbM0_0 htbM0_0 tbM0_1 htbM0_1 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (kernelRun0.sl.r c i t2) (chk1_all _ _) _
      (fun y hy => scG_zero i (kernelRun0.sl.r c i t2) x7 (arg16.view.read (Elt Ideal) X16) (arg19.view.read (Elt Ideal) X19) (arg21.view.read (Elt Ideal) X21) (arg22.view.read (Elt Ideal) X22) hb y hy)
      (0#32) _ (le_refl _)
    have e0 := cond3_nsub i (kernelRun0.sl.r c i t2) hc3
    have e5 : 512 * (nsub i (kernelRun0.sl.r c i t2) + (k0_t5_loop i (kernelRun0.sl.r c i t2)).trips) = 2048 := by rw [t5_trips]; omega
    rw [e5, e0, Nat.mul_zero] at h5
    exact read_fills' _ _ _ _ _ h6 h5

end Cert.KernelIdeal
-- ==== Proof.StateStep.lean ====
/-
What the scratch buffers hold between two points of the grid, and that a point keeps it so.
-/
module

public import proofs.«01_k».proof.Proof.StateRead
public import proofs.«01_k».proof.Proof.ScoreBlock

@[expose] public section

set_option maxRecDepth 16384

noncomputable section

namespace Cert.KernelIdeal

open Idealize.ShloMosaic Idealize.ShloMosaic.TcCoe Idealize.ShloMosaic.Tactic
open Gen

/-- The position of a row's query: its offset plus its length. -/
def posW (c : Dev nD) (t2 : TbBuf0 (F := Ideal) c tbM0_0) (t3 : TbBuf0 (F := Ideal) c tbM0_1) (b : Fin 10) : BitVec 32 :=
  Scalar.addi (offW c t3 b) (lenV c t2 b)

/-- What the scratch buffers hold after a point of the row `b`. -/
structure Held (c : Dev nD) (x4 : Vec Ideal S10x32x96 .bf16) (x9 : Vec Ideal S1x8x96x320 .f32) (x11 : Vec Ideal S48x1 .f32) (x12 : Vec Ideal S1x48 .f32)
    (t2 : TbBuf0 (F := Ideal) c tbM0_0) (t3 : TbBuf0 (F := Ideal) c tbM0_1) (b : Fin 10)
    (d16 : Vec Ideal S2x48x128 .f32) (d17 : Vec Ideal S2x48x256 .f32) (d18 : Vec Ideal S2x48x128 .f32) (d19 : Vec Ideal S2x48x256 .f32)
    (d21 : Vec Ideal S8x96x384 .f32) (d22 : Vec Ideal S4x8x192 .bf16) : Prop where
  h16 : d16 = tlG x11
  h17 : d17 = ttG x11
  h18 : d18 = toG (offW c t3) x11
  h19 : d19 = tbG (offW c t3 b) x11
  h21 : ∀ y : S8x96x384.Idx, (y 2).val < 320 → d21 y = kwG x9 y
  h22 : d22 = qmG (qrG b (posW c t2 t3 b) x4 x12)

theorem held_step (c : Dev nD) (i : grid0.Coords) (arg4 : Memref sig .tc .vmem S10x32x96 .bf16) (harg4 : arg4.IsWhole) (arg9 : Memref sig .tc .vmem S1x8x96x320 .f32) (harg9 : arg9.IsWhole) (arg11 : Memref sig .tc .vmem S48x1 .f32) (harg11 : arg11.IsWhole) (arg12 : Memref sig .tc .vmem S1x48 .f32) (harg12 : arg12.IsWhole) (arg16 : Memref sig .tc .vmem S2x48x128 .f32) (harg16 : arg16.IsWhole) (arg17 : Memref sig .tc .vmem S2x48x256 .f32) (harg17 : arg17.IsWhole) (arg18 : Memref sig .tc .vmem S2x48x128 .f32) (harg18 : arg18.IsWhole) (arg19 : Memref sig .tc .vmem S2x48x256 .f32) (harg19 : arg19.IsWhole) (arg21 : Memref sig .tc .vmem S8x96x384 .f32) (harg21 : arg21.IsWhole) (arg22 : Memref sig .tc .vmem S4x8x192 .bf16) (harg22 : arg22.IsWhole)
    (x4 : Vec Ideal S10x32x96 .bf16) (x9 x9' : Vec Ideal S1x8x96x320 .f32) (x11 : Vec Ideal S48x1 .f32) (x12 : Vec Ideal S1x48 .f32) (d16 : Vec Ideal S2x48x128 .f32) (d17 : Vec Ideal S2x48x256 .f32) (d18 : Vec Ideal S2x48x128 .f32) (d19 : Vec Ideal S2x48x256 .f32) (d21 : Vec Ideal S8x96x384 .f32) (d22 : Vec Ideal S4x8x192 .bf16) (t2 : TbBuf0 (F := Ideal) c tbM0_0) (t3 : TbBuf0 (F := Ideal) c tbM0_1)
    (b' : Fin 10) (hfirst : (i 0).val ≠ 0 ∨ (i 1).val ≠ 0 → Held c x4 x9' x11 x12 t2 t3 b' d16 d17 d18 d19 d21 d22)
    (hrow : (i 1).val ≠ 0 → b'.val = (i 0).val ∧ x9' = x9) :
    Held c x4 x9 x11 x12 t2 t3 (i 0) (arg16.view.read (Elt Ideal) (W16 c i arg11 harg11 arg16 harg16 x11 d16))
      (arg17.view.read (Elt Ideal) (W17 c i arg11 harg11 arg17 harg17 x11 d17)) (arg18.view.read (Elt Ideal) (W18 c i arg11 harg11 arg18 harg18 x11 d18 t3))
      (arg19.view.read (Elt Ideal) (W19 c i arg11 harg11 arg17 harg17 arg18 harg18 arg19 harg19 x11 d17 d18 d19 t3))
      (arg21.view.read (Elt Ideal) (W21 c i arg9 harg9 arg21 harg21 x9 d21))
      (arg22.view.read (Elt Ideal) (W22 c i arg4 harg4 arg12 harg12 arg22 harg22 x4 x12 d22 t2 t3)) := by
  have e16 : arg16.view.read (Elt Ideal) (W16 c i arg11 harg11 arg16 harg16 x11 d16) = tlG x11 := by
    by_cases hc : kernelRun0.sl.v30 i = 1#1
    · exact w16_new c i arg11 harg11 arg16 harg16 x11 d16 hc
    · refine (w16_keep c i arg11 harg11 arg16 harg16 x11 d16 hc).trans (hfirst ?_).h16
      have := (first_iff i).not.mp hc; omega
  have e17 : arg17.view.read (Elt Ideal) (W17 c i arg11 harg11 arg17 harg17 x11 d17) = ttG x11 := by
    by_cases hc : kernelRun0.sl.v30 i = 1#1
    · exact w17_new c i arg11 harg11 arg17 harg17 x11 d17 hc
    · refine (w17_keep c i arg11 harg11 arg17 harg17 x11 d17 hc).trans (hfirst ?_).h17
      have := (first_iff i).not.mp hc; omega
  have e18 : arg18.view.read (Elt Ideal) (W18 c i arg11 harg11 arg18 harg18 x11 d18 t3) = toG (offW c t3) x11 := by
    by_cases hc : kernelRun0.sl.v30 i = 1#1
    · exact w18_new c i arg11 harg11 arg18 harg18 x11 d18 t3 hc
    · refine (w18_keep c i arg11 harg11 arg18 harg18 x11 d18 t3 hc).trans (hfirst ?_).h18
      have := (first_iff i).not.mp hc; omega
  by_cases hc : k0_cond2 i = 1#1
  · exact ⟨e16, e17, e18, w19_new c i arg11 harg11 arg17 harg17 arg18 harg18 arg19 harg19 x11 d17 d18 d19 t3 hc e17 e18,
      w21_new c i arg9 harg9 arg21 harg21 x9 d21 hc, w22_new c i arg4 harg4 arg12 harg12 arg22 harg22 x4 x12 d22 t2 t3 hc⟩
  · have hi := (cond2_iff i).not.mp hc
    have H := hfirst (Or.inr hi)
    obtain ⟨hb, rfl⟩ := hrow hi
    obtain rfl : b' = i 0 := Fin.ext hb
    exact ⟨e16, e17, e18, (w19_keep c i arg11 harg11 arg17 harg17 arg18 harg18 arg19 harg19 x11 d17 d18 d19 t3 hc).trans H.h19,
      fun y hy => (congrFun (w21_keep c i arg9 harg9 arg21 harg21 x9' d21 hc) y).trans (H.h21 y hy),
      (w22_keep c i arg4 harg4 arg12 harg12 arg22 harg22 x4 x12 d22 t2 t3 hc).trans H.h22⟩

theorem scG_congr (a : Fin 10) (v1 : BitVec 32) (x7 : Vec Ideal S1x8x48x2048 .i8) (d16 : Vec Ideal S2x48x128 .f32) (d19 : Vec Ideal S2x48x256 .f32)
    (d21 d21' : Vec Ideal S8x96x384 .f32) (d22 : Vec Ideal S4x8x192 .bf16) (h : ∀ y : S8x96x384.Idx, (y 2).val < 320 → d21 y = d21' y) :
    scG a v1 x7 d16 d19 d21 d22 = scG a v1 x7 d16 d19 d21' d22 := by
  funext y
  have hk : ∀ (hh : Fin 8) (r : Fin 96) (y : Fin 2048), keyG a x7 d16 d19 d21 hh r y = keyG a x7 d16 d19 d21' hh r y := fun hh r y => by
    unfold keyG
    rw [h _ (show (2048 * a.val + y.val) / 64 < 320 by omega), h (ix3 hh ⟨48 + r.val / 2, by omega⟩ ⟨(2048 * a.val + y.val) / 64, by omega⟩) (show (2048 * a.val + y.val) / 64 < 320 by omega)]
  exact congrArg (scoreE _) (Finset.sum_congr rfl fun x _ => congrArg (HMul.hMul _) (hk _ _ (y 3)))

/-- The block of scores of a point, from what the scratch buffers hold. -/
def scT (c : Dev nD) (i : grid0.Coords) (x4 : Vec Ideal S10x32x96 .bf16) (x7 : Vec Ideal S1x8x48x2048 .i8) (x9 : Vec Ideal S1x8x96x320 .f32)
    (x11 : Vec Ideal S48x1 .f32) (x12 : Vec Ideal S1x48 .f32) (t2 : TbBuf0 (F := Ideal) c tbM0_0) (t3 : TbBuf0 (F := Ideal) c tbM0_1) : Vec Ideal S1x1x32x2048 .f32 :=
  scG (i 1) (lenV c t2 (i 0)) x7 (tlG x11) (tbG (offW c t3 (i 0)) x11) (kwG x9) (qmG (qrG (i 0) (posW c t2 t3 (i 0)) x4 x12))

theorem scT_eq (c : Dev nD) (i : grid0.Coords) (x4 : Vec Ideal S10x32x96 .bf16) (x7 : Vec Ideal S1x8x48x2048 .i8) (x9 : Vec Ideal S1x8x96x320 .f32)
    (x11 : Vec Ideal S48x1 .f32) (x12 : Vec Ideal S1x48 .f32) (t2 : TbBuf0 (F := Ideal) c tbM0_0) (t3 : TbBuf0 (F := Ideal) c tbM0_1) {d16 d17 d18 d19 d21 d22}
    (H : Held c x4 x9 x11 x12 t2 t3 (i 0) d16 d17 d18 d19 d21 d22) {d15 : Vec Ideal S1x1x32x2048 .f32}
    (h : d15 = scG (i 1) (kernelRun0.sl.r c i t2) x7 d16 d19 d21 d22) : d15 = scT c i x4 x7 x9 x11 x12 t2 t3 := by
  obtain ⟨rfl, -, -, rfl, h21, rfl⟩ := H
  subst h
  exact (scG_congr _ _ _ _ _ _ _ _ h21).trans (congrArg (fun w => scG (i 1) w x7 (tlG x11) (tbG (offW c t3 (i 0)) x11) (kwG x9) (qmG (qrG (i 0) (posW c t2 t3 (i 0)) x4 x12))) (len_eq c i t2))

end Cert.KernelIdeal

end
-- ==== Proof.BlocksKernelIdeal.lean ====
/-
The blocks the points hold, read off the operands' arrays.
-/
module

public import proofs.«01_k».proof.Proof.StateRead
public import proofs.«01_k».proof.Proof.LaunchKernelIdeal
public import Idealize.ShloMosaic.Lib.Pipeline.ValueKit
public import Idealize.ShloMosaic.Lib.Pipeline.TableIdle

@[expose] public section

set_option maxRecDepth 16384

noncomputable section

namespace Cert.KernelIdeal

open Idealize.ShloMosaic Idealize.ShloMosaic.TcCoe Idealize.ShloMosaic.Tactic
open Gen

variable (m : (ℓ : Loc nD τ sig) → Buf (Elt Ideal) ℓ)

theorem coords_val : ∀ t : Fin grid0.N, (grid0.coords t 0).val = t.val / 10 ∧ (grid0.coords t 1).val = t.val % 10 := by decide +kernel

/-- The operands' arrays as the call finds them. -/
def XQ (c : Dev nD) : Vec Ideal S10x32x96 .bf16 := V m c main_v9
def XFC (c : Dev nD) : Vec Ideal S48x1 .f32 := V m c main_v15
def XFR (c : Dev nD) : Vec Ideal S1x48 .f32 := V m c main_v16
def XKC (c : Dev nD) : Vec Ideal S10x8x48x20480 .i8 := V m c main_v12
def XKS (c : Dev nD) : Vec Ideal S10x8x96x320 .f32 := V m c main_v14
/-- A row of the scales. -/
def XKSb (c : Dev nD) (b : Fin 10) : Vec Ideal S1x8x96x320 .f32 := fun y => XKS m c (ix4 b (y 1) (y 2) (y 3))

theorem iblk_0 (c : Dev nD) (t : Fin (cfgM m).N) : iblk m c 0 t = XQ m c := by
  funext y
  refine congrArg (V m c main_v9) (funext fun a => Fin.ext ?_)
  blk_simp
  fin_cases a <;> exact Nat.zero_add _

theorem iblk_7 (c : Dev nD) (t : Fin (cfgM m).N) : iblk m c 7 t = XFC m c := by
  funext y
  refine congrArg (V m c main_v15) (funext fun a => Fin.ext ?_)
  blk_simp
  fin_cases a <;> exact Nat.zero_add _

theorem iblk_8 (c : Dev nD) (t : Fin (cfgM m).N) : iblk m c 8 t = XFR m c := by
  funext y
  refine congrArg (V m c main_v16) (funext fun a => Fin.ext ?_)
  blk_simp
  fin_cases a <;> exact Nat.zero_add _

theorem iblk_5 (c : Dev nD) (t : Fin (cfgM m).N) : iblk m c 5 t = XKSb m c (grid0.coords t 0) := by
  refine funext fun (y : S1x8x96x320.Idx) => congrArg (V m c main_v14) (funext fun a => Fin.ext ?_)
  have h0 : (y 0).val < 1 := (y 0).isLt
  have hb : (grid0.coords t 0).val < 10 := (grid0.coords t 0).isLt
  blk_simp
  fin_cases a
  · show (BitVec.ofNat 32 (grid0.coords t 0).val).toNat * 1 + (y 0).val = (grid0.coords t 0).val
    rw [BitVec.toNat_ofNat]; omega
  · exact Nat.zero_add _
  · exact Nat.zero_add _
  · exact Nat.zero_add _

theorem lenW_eq (c : Dev nD) (i : grid0.Coords) : lenW (tbl m) i = lenV c (tbl m 0) (i 0) :=
  congrArg (tbM0_0.view.read (Elt Ideal) (tbl m 0)) (unit1_first _ (i 0) (off1_val i) _)

/-- The block of codes a point holds. -/
def XKCb (c : Dev nD) (i : grid0.Coords) : Vec Ideal S1x8x48x2048 .i8 := fun y =>
  XKC m c (ix4 (i 0) (y 1) (y 2) ⟨2048 * (min (i 1).val ((Scalar.maxsi (Scalar.subi (lenV c (tbl m 0) (i 0)) 1#32) 0#32).toNat / 2048)) + (y 3).val, by
    have h1 : (i 1).val < 10 := (i 1).isLt
    have h3 : (y 3).val < 2048 := (y 3).isLt
    omega⟩)

theorem iblk_3 (c : Dev nD) (t : Fin (cfgM m).N) : iblk m c 3 t = XKCb m c (grid0.coords t) := by
  refine funext fun (y : S1x8x48x2048.Idx) => congrArg (V m c main_v12) (funext fun a => Fin.ext ?_)
  have h0 : (y 0).val < 1 := (y 0).isLt
  have hb : (grid0.coords t 0).val < 10 := (grid0.coords t 0).isLt
  blk_simp
  fin_cases a
  · show (BitVec.ofNat 32 (grid0.coords t 0).val).toNat * 1 + (y 0).val = (grid0.coords t 0).val
    rw [BitVec.toNat_ofNat]; omega
  · exact Nat.zero_add _
  · exact Nat.zero_add _
  · show (blkW (grid0.coords t) (lenW (tbl m) (grid0.coords t))).toNat * 2048 + (y 3).val = _
    rw [lenW_eq m c, blkW_val, Nat.mul_comm]
    rfl

/-- Where the windows of the results are written back. -/
theorem flush_10 (t : Fin (cfgM m).N) : ((cfgM m).win 10).flush t = decide (t.val % 10 = 9) := by
  have h : (((cfgM m).win 10).flush t = true ↔ t.val % 10 = 9) := (Pipeline.Window.flushOf_reads cc0_transform_10 reads0_10 Gen.facts.hreads0_10 0 (by decide) (by decide) (Pipeline.Window.sep_of_coord cc0_transform_10 0 0 (fun _ => rfl) (by decide)) (P := 10) (m := 9) (by decide) rfl t)
  rw [Bool.eq_iff_iff, h, decide_eq_true_eq]

theorem flush_11 (t : Fin (cfgM m).N) : ((cfgM m).win 11).flush t = true :=
  (Pipeline.Window.flushOf_reads cc0_transform_11 reads0_11 Gen.facts.hreads0_11 1 (by decide) (by decide) (Pipeline.Window.sep_of_coord cc0_transform_11 1 3 (fun _ => rfl) (by decide)) (P := 1) (m := 0) (by decide) rfl t).mpr (Nat.mod_one _)

theorem fresh_10 (n : ℕ) (hn : n ≤ 100) : (cfgM m).fresh 10 n = decide (n % 10 = 0) :=
  Pipeline.Cfg.fresh_tab (cfgM m) 10 (fun n => decide (n % 10 = 0)) rfl (fun t => by
    rw [flush_10]
    exact (by decide +kernel : ∀ t : Fin grid0.N, decide ((t.val + 1) % 10 = 0) = (decide (t.val % 10 = 9) || (idle0 10 (grid0.coords t) && decide (t.val % 10 = 0)))) t) n hn

end Cert.KernelIdeal

end
-- ==== Proof.TrackKernelIdeal.lean ====
/-
The body as a run over whole memrefs, with what it leaves.
-/
module

public import proofs.«01_k».proof.Proof.Gen.KernelIdeal.Loops
public import proofs.«01_k».proof.Proof.Gen.KernelIdeal.Launch
public import proofs.«01_k».proof.Proof.StateKernelIdeal
public import Idealize.ShloMosaic.Lib.Pipeline.Kit
public import Idealize.ShloMosaic.Lib.Pipeline.FrameBody
public import Idealize.ShloMosaic.Lib.Tactic
public import Idealize.ShloMosaic.Lib.WordCmp

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F]

local notation "𝕄" => MT nD τ sig Unit (Elt F) ℕ (UR sig nD τ) ℕ

set_option maxHeartbeats 4000000 in
/-- The body's triple with what it leaves: the inputs as they were, the scratch it carries from point to point and the
results at the values of `StateKernelIdeal`, the rest at contents nothing names. -/
theorem kernelRunT (c : Dev nD) (i : grid0.Coords) (arg4 : Memref sig .tc .vmem S10x32x96 .bf16) (harg4 : arg4.IsWhole) (arg5 : Memref sig .tc .vmem S10x8x96 .bf16) (harg5 : arg5.IsWhole) (arg6 : Memref sig .tc .vmem S10x8x96 .bf16) (harg6 : arg6.IsWhole) (arg7 : Memref sig .tc .vmem S1x8x48x2048 .i8) (harg7 : arg7.IsWhole) (arg8 : Memref sig .tc .vmem S1x8x48x2048 .i8) (harg8 : arg8.IsWhole) (arg9 : Memref sig .tc .vmem S1x8x96x320 .f32) (harg9 : arg9.IsWhole) (arg10 : Memref sig .tc .vmem S1x8x2048 .f32) (harg10 : arg10.IsWhole) (arg11 : Memref sig .tc .vmem S48x1 .f32) (harg11 : arg11.IsWhole) (arg12 : Memref sig .tc .vmem S1x48 .f32) (harg12 : arg12.IsWhole) (arg13 : Memref sig .tc .vmem S1x32x96 .bf16) (harg13 : arg13.IsWhole) (arg14 : Memref sig .tc .vmem S1x32x96 .bf16) (harg14 : arg14.IsWhole) (arg15 : Memref sig .tc .vmem S1x1x32x2048 .f32) (harg15 : arg15.IsWhole) (arg16 : Memref sig .tc .vmem S2x48x128 .f32) (harg16 : arg16.IsWhole) (arg17 : Memref sig .tc .vmem S2x48x256 .f32) (harg17 : arg17.IsWhole) (arg18 : Memref sig .tc .vmem S2x48x128 .f32) (harg18 : arg18.IsWhole) (arg19 : Memref sig .tc .vmem S2x48x256 .f32) (harg19 : arg19.IsWhole) (arg20 : Memref sig .tc .vmem S2x48x128 .f32) (harg20 : arg20.IsWhole) (arg21 : Memref sig .tc .vmem S8x96x384 .f32) (harg21 : arg21.IsWhole) (arg22 : Memref sig .tc .vmem S4x8x192 .bf16) (harg22 : arg22.IsWhole) (arg23 : Memref sig .tc .vmem S8x8x128 .f32) (harg23 : arg23.IsWhole) (arg24 : Memref sig .tc .vmem S4x8x128 .f32) (harg24 : arg24.IsWhole) (arg25 : Memref sig .tc .vmem S4x8x192 .f32) (harg25 : arg25.IsWhole)
    (x4 : Vec F S10x32x96 .bf16) (x5 : Vec F S10x8x96 .bf16) (x6 : Vec F S10x8x96 .bf16) (x7 : Vec F S1x8x48x2048 .i8) (x8 : Vec F S1x8x48x2048 .i8) (x9 : Vec F S1x8x96x320 .f32) (x10 : Vec F S1x8x2048 .f32) (x11 : Vec F S48x1 .f32) (x12 : Vec F S1x48 .f32) (d14 : Vec F S1x32x96 .bf16) (d16 : Vec F S2x48x128 .f32) (d17 : Vec F S2x48x256 .f32) (d18 : Vec F S2x48x128 .f32) (d19 : Vec F S2x48x256 .f32) (d21 : Vec F S8x96x384 .f32) (d22 : Vec F S4x8x192 .bf16) (t2 : TbBuf0 (F := F) c tbM0_0) (t3 : TbBuf0 (F := F) c tbM0_1) :
      ∀ (E : Set ℕ) (K : PUnit → sProp 𝕄),
        iprop(tbPt0 c tbM0_0 t2 ∗ tbPt0 c tbM0_1 t3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ owns (c : Thread nD τ) arg14 fullShare d14 ∗ (∃ d, owns (c : Thread nD τ) arg15 fullShare d) ∗ owns (c : Thread nD τ) arg16 fullShare d16 ∗ owns (c : Thread nD τ) arg17 fullShare d17 ∗ owns (c : Thread nD τ) arg18 fullShare d18 ∗ owns (c : Thread nD τ) arg19 fullShare d19 ∗ (∃ d, owns (c : Thread nD τ) arg20 fullShare d) ∗ owns (c : Thread nD τ) arg21 fullShare d21 ∗ owns (c : Thread nD τ) arg22 fullShare d22 ∗ (∃ d, owns (c : Thread nD τ) arg23 fullShare d) ∗ (∃ d, owns (c : Thread nD τ) arg24 fullShare d) ∗ (∃ d, owns (c : Thread nD τ) arg25 fullShare d)
            ∗ (iprop(tbPt0 c tbM0_0 t2 ∗ tbPt0 c tbM0_1 t3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ owns (c : Thread nD τ) arg14 fullShare (arg14.view.read (Elt F) (W14 c i arg4 harg4 arg12 harg12 arg14 harg14 x4 x12 d14 t2 t3)) ∗ (∃ d, ⌜Sc15 c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x7 t2 (W16 c i arg11 harg11 arg16 harg16 x11 d16) (W19 c i arg11 harg11 arg17 harg17 arg18 harg18 arg19 harg19 x11 d17 d18 d19 t3) (W21 c i arg9 harg9 arg21 harg21 x9 d21) (W22 c i arg4 harg4 arg12 harg12 arg22 harg22 x4 x12 d22 t2 t3) d⌝ ∗ owns (c : Thread nD τ) arg15 fullShare d) ∗ owns (c : Thread nD τ) arg16 fullShare (arg16.view.read (Elt F) (W16 c i arg11 harg11 arg16 harg16 x11 d16)) ∗ owns (c : Thread nD τ) arg17 fullShare (arg17.view.read (Elt F) (W17 c i arg11 harg11 arg17 harg17 x11 d17)) ∗ owns (c : Thread nD τ) arg18 fullShare (arg18.view.read (Elt F) (W18 c i arg11 harg11 arg18 harg18 x11 d18 t3)) ∗ owns (c : Thread nD τ) arg19 fullShare (arg19.view.read (Elt F) (W19 c i arg11 harg11 arg17 harg17 arg18 harg18 arg19 harg19 x11 d17 d18 d19 t3)) ∗ (∃ d, owns (c : Thread nD τ) arg20 fullShare d) ∗ owns (c : Thread nD τ) arg21 fullShare (arg21.view.read (Elt F) (W21 c i arg9 harg9 arg21 harg21 x9 d21)) ∗ owns (c : Thread nD τ) arg22 fullShare (arg22.view.read (Elt F) (W22 c i arg4 harg4 arg12 harg12 arg22 harg22 x4 x12 d22 t2 t3)) ∗ (∃ d, owns (c : Thread nD τ) arg23 fullShare d) ∗ (∃ d, owns (c : Thread nD τ) arg24 fullShare d) ∗ (∃ d, owns (c : Thread nD τ) arg25 fullShare d)) -∗ K ⟨⟩))
          ⊢ wp frame (wpE (defs₀ (F := F)) Variants.none c none) E (cc0__attend i tbM0_0 htbM0_0 tbM0_1 htbM0_1 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
    intro E K
    rw [cc0__attend_eq_skeleton]; unfold cc0__attend_skel
    unfold owns
    iintro ⟨HT2, HT3, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%d15, %f15, -, H15⟩, ⟨%f16, %hf16, H16⟩, ⟨%f17, %hf17, H17⟩, ⟨%f18, %hf18, H18⟩, ⟨%f19, %hf19, H19⟩, ⟨%d20, %f20, -, H20⟩, ⟨%f21, %hf21, H21⟩, ⟨%f22, %hf22, H22⟩, ⟨%d23, %f23, -, H23⟩, ⟨%d24, %f24, -, H24⟩, ⟨%d25, %f25, -, H25⟩, Hk⟩
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg14.eq_unread hf14
    obtain rfl := harg16.eq_unread hf16
    obtain rfl := harg17.eq_unread hf17
    obtain rfl := harg18.eq_unread hf18
    obtain rfl := harg19.eq_unread hf19
    obtain rfl := harg21.eq_unread hf21
    obtain rfl := harg22.eq_unread hf22
    have hchk := chk1_all
    sl_exec
    by_cases hc3 : k0_cond3 i (kernelRunT.sl.r c i t2) = 1#1
    · sl_exec
      sl_step
      iapply Hk
      isplitl [HT2]; · iexact HT2
      isplitl [HT3]; · iexact HT3
      isplitl [H4]; · (iexists _; isplitr; (ipureintro; exact harg4.read_unread _); iexact H4)
      isplitl [H5]; · (iexists _; isplitr; (ipureintro; exact harg5.read_unread _); iexact H5)
      isplitl [H6]; · (iexists _; isplitr; (ipureintro; exact harg6.read_unread _); iexact H6)
      isplitl [H7]; · (iexists _; isplitr; (ipureintro; exact harg7.read_unread _); iexact H7)
      isplitl [H8]; · (iexists _; isplitr; (ipureintro; exact harg8.read_unread _); iexact H8)
      isplitl [H9]; · (iexists _; isplitr; (ipureintro; exact harg9.read_unread _); iexact H9)
      isplitl [H10]; · (iexists _; isplitr; (ipureintro; exact harg10.read_unread _); iexact H10)
      isplitl [H11]; · (iexists _; isplitr; (ipureintro; exact harg11.read_unread _); iexact H11)
      isplitl [H12]; · (iexists _; isplitr; (ipureintro; exact harg12.read_unread _); iexact H12)
      isplitl [H13]; · (iexists _, _; isplitr; swap; iexact H13; ipureintro; rfl)
      isplitl [H14]; · (iexists _; isplitr; swap; iexact H14; ipureintro; rfl)
      isplitl [H15]; · (iexists _; isplitr; swap; (iexists _; isplitr; swap; iexact H15; ipureintro; rfl); ipureintro; exact ⟨fun _ => ⟨_, _, _, _, rfl⟩, fun h => absurd hc3 h⟩)
      isplitl [H16]; · (iexists _; isplitr; swap; iexact H16; ipureintro; rfl)
      isplitl [H17]; · (iexists _; isplitr; swap; iexact H17; ipureintro; rfl)
      isplitl [H18]; · (iexists _; isplitr; swap; iexact H18; ipureintro; rfl)
      isplitl [H19]; · (iexists _; isplitr; swap; iexact H19; ipureintro; rfl)
      isplitl [H20]; · (iexists _, _; isplitr; swap; iexact H20; ipureintro; rfl)
      isplitl [H21]; · (iexists _; isplitr; swap; iexact H21; ipureintro; rfl)
      isplitl [H22]; · (iexists _; isplitr; swap; iexact H22; ipureintro; rfl)
      isplitl [H23]; · (iexists _, _; isplitr; swap; iexact H23; ipureintro; rfl)
      isplitl [H24]; · (iexists _, _; isplitr; swap; iexact H24; ipureintro; rfl)
      (iexists _, _; isplitr; swap; iexact H25; ipureintro; rfl)
    · sl_exec
      sl_step
      iapply Hk
      isplitl [HT2]; · iexact HT2
      isplitl [HT3]; · iexact HT3
      isplitl [H4]; · (iexists _; isplitr; (ipureintro; exact harg4.read_unread _); iexact H4)
      isplitl [H5]; · (iexists _; isplitr; (ipureintro; exact harg5.read_unread _); iexact H5)
      isplitl [H6]; · (iexists _; isplitr; (ipureintro; exact harg6.read_unread _); iexact H6)
      isplitl [H7]; · (iexists _; isplitr; (ipureintro; exact harg7.read_unread _); iexact H7)
      isplitl [H8]; · (iexists _; isplitr; (ipureintro; exact harg8.read_unread _); iexact H8)
      isplitl [H9]; · (iexists _; isplitr; (ipureintro; exact harg9.read_unread _); iexact H9)
      isplitl [H10]; · (iexists _; isplitr; (ipureintro; exact harg10.read_unread _); iexact H10)
      isplitl [H11]; · (iexists _; isplitr; (ipureintro; exact harg11.read_unread _); iexact H11)
      isplitl [H12]; · (iexists _; isplitr; (ipureintro; exact harg12.read_unread _); iexact H12)
      isplitl [H13]; · (iexists _, _; isplitr; swap; iexact H13; ipureintro; rfl)
      isplitl [H14]; · (iexists _; isplitr; swap; iexact H14; ipureintro; rfl)
      isplitl [H15]; · (iexists _; isplitr; swap; (iexists _; isplitr; swap; iexact H15; ipureintro; rfl); ipureintro; exact ⟨fun h => absurd h hc3, fun _ => ⟨_, _, rfl⟩⟩)
      isplitl [H16]; · (iexists _; isplitr; swap; iexact H16; ipureintro; rfl)
      isplitl [H17]; · (iexists _; isplitr; swap; iexact H17; ipureintro; rfl)
      isplitl [H18]; · (iexists _; isplitr; swap; iexact H18; ipureintro; rfl)
      isplitl [H19]; · (iexists _; isplitr; swap; iexact H19; ipureintro; rfl)
      isplitl [H20]; · (iexists _, _; isplitr; swap; iexact H20; ipureintro; rfl)
      isplitl [H21]; · (iexists _; isplitr; swap; iexact H21; ipureintro; rfl)
      isplitl [H22]; · (iexists _; isplitr; swap; iexact H22; ipureintro; rfl)
      isplitl [H23]; · (iexists _, _; isplitr; swap; iexact H23; ipureintro; rfl)
      isplitl [H24]; · (iexists _, _; isplitr; swap; iexact H24; ipureintro; rfl)
      (iexists _, _; isplitr; swap; iexact H25; ipureintro; rfl)

end Cert.KernelIdeal
-- ==== Proof.ValueKernelIdeal.lean ====
/-
The launch of the kernel, followed: what the scratch buffers hold between two points, and what the windows of the
rotated queries and of the scores hold when they are written back.
-/
module

public import proofs.«01_k».proof.Proof.StateStep
public import proofs.«01_k».proof.Proof.BlocksKernelIdeal
public import proofs.«01_k».proof.Proof.TrackKernelIdeal
public import Idealize.ShloMosaic.Lib.Pipeline.ValueKit
public import Idealize.ShloMosaic.Lib.Pipeline.Cells

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

local notation "𝕄" => MT nD τ sig Unit (Elt Ideal) ℕ (UR sig nD τ) ℕ

variable (m : (ℓ : Loc nD τ sig) → Buf (Elt Ideal) ℓ) (ρ : Dev nD → PrngReg)

namespace Tracked

/-- The window of the attention output, of which nothing is said here. -/
def forgets0 : Fin 12 → Bool := fun w => decide (w.val = 9)

/-- What a row's rotated queries are. -/
def qrT (c : Dev nD) (b : Fin 10) : Vec Ideal S1x32x96 .bf16 := qrB b (posW c (tbl m 0) (tbl m 1) b) (XQ m c) (XFR m c)
/-- What a point's scores are. -/
def scP (c : Dev nD) (i : grid0.Coords) : Vec Ideal S1x1x32x2048 .f32 :=
  scT c i (XQ m c) (XKCb m c i) (XKSb m c (i 0)) (XFC m c) (XFR m c) (tbl m 0) (tbl m 1)

/-- What the scratch buffers are known to hold before point `n`. -/
def Known (c : Dev nD) (n : ℕ) (d16 : Vec Ideal S2x48x128 .f32) (d17 : Vec Ideal S2x48x256 .f32) (d18 : Vec Ideal S2x48x128 .f32) (d19 : Vec Ideal S2x48x256 .f32) (d21 : Vec Ideal S8x96x384 .f32) (d22 : Vec Ideal S4x8x192 .bf16) : Prop :=
  n ≠ 0 → ∀ b : Fin 10, b.val = (n - 1) / 10 →
    Held c (XQ m c) (XKSb m c b) (XFC m c) (XFR m c) (tbl m 0) (tbl m 1) b d16 d17 d18 d19 d21 d22

/-- The scratch buffers, the seed register and the tables before point `n`. -/
def PhiV (c : Dev nD) (n : ℕ) : sProp 𝕄 :=
  iprop(∃ (d16 : Vec Ideal S2x48x128 .f32) (d17 : Vec Ideal S2x48x256 .f32) (d18 : Vec Ideal S2x48x128 .f32) (d19 : Vec Ideal S2x48x256 .f32) (d21 : Vec Ideal S8x96x384 .f32) (d22 : Vec Ideal S4x8x192 .bf16),
    ⌜Known m c n d16 d17 d18 d19 d21 d22⌝
    ∗ owns (c : Thread nD τ) (Memref.whole cc0_scratch0) fullShare d16
    ∗ owns (c : Thread nD τ) (Memref.whole cc0_scratch1) fullShare d17
    ∗ owns (c : Thread nD τ) (Memref.whole cc0_scratch2) fullShare d18
    ∗ owns (c : Thread nD τ) (Memref.whole cc0_scratch3) fullShare d19
    ∗ (∃ d, owns (c : Thread nD τ) (Memref.whole cc0_scratch4) fullShare d)
    ∗ owns (c : Thread nD τ) (Memref.whole cc0_scratch5) fullShare d21
    ∗ owns (c : Thread nD τ) (Memref.whole cc0_scratch6) fullShare d22
    ∗ (∃ d, owns (c : Thread nD τ) (Memref.whole cc0_scratch7) fullShare d)
    ∗ (∃ d, owns (c : Thread nD τ) (Memref.whole cc0_scratch8) fullShare d)
    ∗ (∃ d, owns (c : Thread nD τ) (Memref.whole cc0_scratch9) fullShare d)
    ∗ (∃ r, prngReg c r) ∗ tbPt0 c tbM0_0 (tbl m 0) ∗ tbPt0 c tbM0_1 (tbl m 1))

/-- What each window's buffer holds after the body at each point. -/
def dats (_ : Fin 1) (c : Dev nD) : Dat τ (Elt Ideal) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := (cfgM m)) ⟨9, h⟩ t
    | ⟨10, h⟩ => qrT m c (grid0.coords t 0)
    | ⟨11, h⟩ => scP m c (grid0.coords t)
  Φ n := PhiV m c n.val
  q _ := fullShare
  owed _ := 0

theorem A_eq (c : Dev nD) (w : Fin (cfgM m).W) : (dats m 0 c).A w = V m c (Pipeline.arrRef spec0 w) := by
  dsimp only [dats]

theorem after0_0 (c : Dev nD) (t : Fin (cfgM m).N) : (dats m 0 c).after 0 t = iblk m c 0 t := by dsimp only [dats]; try rfl
theorem after0_1 (c : Dev nD) (t : Fin (cfgM m).N) : (dats m 0 c).after 1 t = iblk m c 1 t := by dsimp only [dats]; try rfl
theorem after0_2 (c : Dev nD) (t : Fin (cfgM m).N) : (dats m 0 c).after 2 t = iblk m c 2 t := by dsimp only [dats]; try rfl
theorem after0_3 (c : Dev nD) (t : Fin (cfgM m).N) : (dats m 0 c).after 3 t = iblk m c 3 t := by dsimp only [dats]; try rfl
theorem after0_4 (c : Dev nD) (t : Fin (cfgM m).N) : (dats m 0 c).after 4 t = iblk m c 4 t := by dsimp only [dats]; try rfl
theorem after0_5 (c : Dev nD) (t : Fin (cfgM m).N) : (dats m 0 c).after 5 t = iblk m c 5 t := by dsimp only [dats]; try rfl
theorem after0_6 (c : Dev nD) (t : Fin (cfgM m).N) : (dats m 0 c).after 6 t = iblk m c 6 t := by dsimp only [dats]; try rfl
theorem after0_7 (c : Dev nD) (t : Fin (cfgM m).N) : (dats m 0 c).after 7 t = iblk m c 7 t := by dsimp only [dats]; try rfl
theorem after0_8 (c : Dev nD) (t : Fin (cfgM m).N) : (dats m 0 c).after 8 t = iblk m c 8 t := by dsimp only [dats]; try rfl
theorem before0_0 (c : Dev nD) (t : Fin (cfgM m).N) (d) : (dats m 0 c).before 0 t d = iblk m c 0 t :=
  before0_0_of m (dats m 0 c) (A_eq m c 0) (after0_0 m c) t d
theorem before0_1 (c : Dev nD) (t : Fin (cfgM m).N) (d) : (dats m 0 c).before 1 t d = iblk m c 1 t :=
  before0_1_of m (dats m 0 c) (A_eq m c 1) (after0_1 m c) t d
theorem before0_2 (c : Dev nD) (t : Fin (cfgM m).N) (d) : (dats m 0 c).before 2 t d = iblk m c 2 t :=
  before0_2_of m (dats m 0 c) (A_eq m c 2) (after0_2 m c) t d
theorem before0_3 (c : Dev nD) (t : Fin (cfgM m).N) (d) : (dats m 0 c).before 3 t d = iblk m c 3 t :=
  before0_3_of m (dats m 0 c) (A_eq m c 3) (after0_3 m c) t d
theorem before0_4 (c : Dev nD) (t : Fin (cfgM m).N) (d) : (dats m 0 c).before 4 t d = iblk m c 4 t :=
  before0_4_of m (dats m 0 c) (A_eq m c 4) (after0_4 m c) t d
theorem before0_5 (c : Dev nD) (t : Fin (cfgM m).N) (d) : (dats m 0 c).before 5 t d = iblk m c 5 t :=
  before0_5_of m (dats m 0 c) (A_eq m c 5) (after0_5 m c) t d
theorem before0_6 (c : Dev nD) (t : Fin (cfgM m).N) (d) : (dats m 0 c).before 6 t d = iblk m c 6 t :=
  before0_6_of m (dats m 0 c) (A_eq m c 6) (after0_6 m c) t d
theorem before0_7 (c : Dev nD) (t : Fin (cfgM m).N) (d) : (dats m 0 c).before 7 t d = iblk m c 7 t :=
  before0_7_of m (dats m 0 c) (A_eq m c 7) (after0_7 m c) t d
theorem before0_8 (c : Dev nD) (t : Fin (cfgM m).N) (d) : (dats m 0 c).before 8 t d = iblk m c 8 t :=
  before0_8_of m (dats m 0 c) (A_eq m c 8) (after0_8 m c) t d

theorem after0_10 (c : Dev nD) (t : Fin (cfgM m).N) : (dats m 0 c).after 10 t = qrT m c (grid0.coords t 0) := by dsimp only [dats]; try rfl
theorem after0_11 (c : Dev nD) (t : Fin (cfgM m).N) : (dats m 0 c).after 11 t = scP m c (grid0.coords t) := by dsimp only [dats]; try rfl

theorem row_pred (t u : Fin grid0.N) (ht : t.val % 10 ≠ 0) (hu : u.val = t.val - 1) :
    (grid0.coords t 0) = (grid0.coords u 0) :=
  Fin.ext ((coords_val t).1.trans (((coords_val u).1.trans (show u.val / 10 = t.val / 10 by omega)).symm))

/-- A point that does not begin a row finds the row's rotated queries. -/
theorem before0_10 (c : Dev nD) (t : Fin (cfgM m).N) (ht : t.val % 10 ≠ 0) (d) : (dats m 0 c).before 10 t d = qrT m c (grid0.coords t 0) := by
  have hN : t.val < 100 := t.isLt
  rw [(dats m 0 c).before_out_traj 10 rfl (fun _ _ => rfl) (fun u hu hi _ => by
    rw [after0_10, after0_10]
    refine congrArg (qrT m c) (row_pred u _ ?_ rfl)
    have h2 : (idle0 10 (grid0.coords u)) = true := hi
    have h3 : ¬ k0_cond2 (grid0.coords u) = 1#1 := by simpa [idle0] using h2
    have h4 := (cond2_iff _).not.mp h3
    rw [(coords_val u).2] at h4; exact h4) t.val t rfl d, fresh_10 m t.val (by omega), decide_eq_false ht]
  exact (after0_10 m c _).trans (congrArg (qrT m c) (row_pred t _ ht rfl).symm)

/-- What the body may leave in the window of the rotated queries. -/
theorem leave10 (c : Dev nD) (t : Fin (cfgM m).N) (X d : Vec Ideal S1x32x96 .bf16)
    (hX : (k0_cond2 (grid0.coords t) = 1#1 ∧ X = qrT m c (grid0.coords t 0)) ∨ (¬ k0_cond2 (grid0.coords t) = 1#1 ∧ X = (dats m 0 c).before 10 t d)) :
    (owns (c : Thread nD τ) (ms0_10 m t) fullShare X : sProp 𝕄) ⊢ (dats m 0 c).leavesExact 10 t := by
  have hv := (coords_val t).2
  rcases hX with ⟨hc, rfl⟩ | ⟨hc, rfl⟩
  · have hi : (cfgM m).idle 10 ((cfgM m).grid.coords t) = false := by show idle0 10 (grid0.coords t) = false; simp [idle0, hc]
    unfold Dat.leavesExact; rw [hi, after0_10]
    exact .rfl
  · have hi : (cfgM m).idle 10 ((cfgM m).grid.coords t) = true := by show idle0 10 (grid0.coords t) = true; simp [idle0, hc]
    have h0 := (cond2_iff _).not.mp hc
    rw [hv] at h0
    by_cases hf : t.val % 10 = 9
    · unfold Dat.leavesExact; rw [hi, flush_10, decide_eq_true hf, after0_10]
      exact Eq.rec (motive := fun Z _ => (owns (c : Thread nD τ) (ms0_10 m t) fullShare ((dats m 0 c).before 10 t d) : sProp 𝕄) ⊢ owns (c : Thread nD τ) (ms0_10 m t) fullShare Z) .rfl (before0_10 m c t h0 d)
    · rw [(dats m 0 c).leavesExact_idle 10 t hi ((flush_10 m t).trans (decide_eq_false hf))]
      iintro H; iexists d; iexact H

/-- What the body is called with at point `t`, and what it returns. -/
def bodyPre (c : Dev nD) (t : Fin (cfgM m).N) : sProp 𝕄 :=
  iprop((dats m 0 c).Φ t.castSucc ∗ (dats m 0 c).owesAt () t.castSucc
    ∗ (∃ d, owns (c : Thread nD τ) (ms0_0 m t) fullShare ((dats m 0 c).before 0 t d))
    ∗ (∃ d, owns (c : Thread nD τ) (ms0_1 m t) fullShare ((dats m 0 c).before 1 t d))
    ∗ (∃ d, owns (c : Thread nD τ) (ms0_2 m t) fullShare ((dats m 0 c).before 2 t d))
    ∗ (∃ d, owns (c : Thread nD τ) (ms0_3 m t) fullShare ((dats m 0 c).before 3 t d))
    ∗ (∃ d, owns (c : Thread nD τ) (ms0_4 m t) fullShare ((dats m 0 c).before 4 t d))
    ∗ (∃ d, owns (c : Thread nD τ) (ms0_5 m t) fullShare ((dats m 0 c).before 5 t d))
    ∗ (∃ d, owns (c : Thread nD τ) (ms0_6 m t) fullShare ((dats m 0 c).before 6 t d))
    ∗ (∃ d, owns (c : Thread nD τ) (ms0_7 m t) fullShare ((dats m 0 c).before 7 t d))
    ∗ (∃ d, owns (c : Thread nD τ) (ms0_8 m t) fullShare ((dats m 0 c).before 8 t d))
    ∗ (∃ d, owns (c : Thread nD τ) (ms0_9 m t) fullShare d)
    ∗ (∃ d, owns (c : Thread nD τ) (ms0_10 m t) fullShare ((dats m 0 c).before 10 t d))
    ∗ (∃ d, owns (c : Thread nD τ) (ms0_11 m t) fullShare ((dats m 0 c).before 11 t d)))
def bodyPost (c : Dev nD) (t : Fin (cfgM m).N) : sProp 𝕄 :=
  iprop((dats m 0 c).Φ t.succ ∗ (dats m 0 c).owesAt () t.succ
    ∗ owns (c : Thread nD τ) (ms0_0 m t) fullShare ((dats m 0 c).after 0 t)
    ∗ owns (c : Thread nD τ) (ms0_1 m t) fullShare ((dats m 0 c).after 1 t)
    ∗ owns (c : Thread nD τ) (ms0_2 m t) fullShare ((dats m 0 c).after 2 t)
    ∗ owns (c : Thread nD τ) (ms0_3 m t) fullShare ((dats m 0 c).after 3 t)
    ∗ owns (c : Thread nD τ) (ms0_4 m t) fullShare ((dats m 0 c).after 4 t)
    ∗ owns (c : Thread nD τ) (ms0_5 m t) fullShare ((dats m 0 c).after 5 t)
    ∗ owns (c : Thread nD τ) (ms0_6 m t) fullShare ((dats m 0 c).after 6 t)
    ∗ owns (c : Thread nD τ) (ms0_7 m t) fullShare ((dats m 0 c).after 7 t)
    ∗ owns (c : Thread nD τ) (ms0_8 m t) fullShare ((dats m 0 c).after 8 t)
    ∗ (∃ d, owns (c : Thread nD τ) (ms0_9 m t) fullShare d)
    ∗ (dats m 0 c).leavesExact 10 t
    ∗ owns (c : Thread nD τ) (ms0_11 m t) fullShare ((dats m 0 c).after 11 t))

set_option maxHeartbeats 4000000 in
theorem sound_body (c : Dev nD) (hlen : ∀ b : Fin 10, (lenV c (tbl m 0) b).toInt ≤ 20480) (t : Fin (cfgM m).N) :
    bodyPre m c t ⊢ wp frame (wpE (defs₀ (F := Ideal)) Variants.none c none) Set.univ (bodyAt0 m t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl,
    after0_0, after0_1, after0_2, after0_3, after0_4, after0_5, after0_6, after0_7, after0_8, after0_11]
  rw [show (dats m 0 c).Φ t.castSucc = PhiV m c t.val from rfl, show (dats m 0 c).Φ t.succ = PhiV m c (t.val + 1) from rfl]
  rw [iblk_0, iblk_3, iblk_5, iblk_7, iblk_8]
  have hv := coords_val t
  have hN : t.val < 100 := t.isLt
  unfold PhiV
  iintro ⟨⟨%d16, %d17, %d18, %d19, %d21, %d22, %hk, G0, G1, G2, G3, G4, G5, G6, G7, G8, G9, Hr, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have hst := held_step c (grid0.coords t) (ms0_0 m t) (hs0_0 m t) (ms0_5 m t) (hs0_5 m t) (ms0_7 m t) (hs0_7 m t) (ms0_8 m t) (hs0_8 m t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch5) (Memref.isWhole_whole _) (Memref.whole cc0_scratch6) (Memref.isWhole_whole _) (XQ m c) (XKSb m c (grid0.coords t 0)) (XKSb m c ⟨(t.val - 1) / 10, by omega⟩) (XFC m c) (XFR m c) d16 d17 d18 d19 d21 d22 (tbl m 0) (tbl m 1) ⟨(t.val - 1) / 10, by omega⟩
    (fun h => hk (by omega) _ rfl)
    (fun h => by
      have e : (t.val - 1) / 10 = (grid0.coords t 0).val := by omega
      exact ⟨e, congrArg (XKSb m c) (Fin.ext e)⟩)
  have h14 := leave10 m c t ((ms0_10 m t).view.read (Elt Ideal) (W14 c (grid0.coords t) (ms0_0 m t) (hs0_0 m t) (ms0_8 m t) (hs0_8 m t) (ms0_10 m t) (hs0_10 m t) (XQ m c) (XFR m c) ((dats m 0 c).before 10 t d10) (tbl m 0) (tbl m 1))) d10 (by
    by_cases hc : k0_cond2 (grid0.coords t) = 1#1
    · exact .inl ⟨hc, w14_new _ _ _ _ _ _ _ _ _ _ _ _ _ hc⟩
    · exact .inr ⟨hc, w14_keep _ _ _ _ _ _ _ _ _ _ _ _ _ hc⟩)
  iapply (kernelRunT c (grid0.coords t) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (ms0_8 m t) (hs0_8 m t) (ms0_9 m t) (hs0_9 m t) (ms0_10 m t) (hs0_10 m t) (ms0_11 m t) (hs0_11 m t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (XQ m c) (iblk m c 1 t) (iblk m c 2 t) (XKCb m c (grid0.coords t)) (iblk m c 4 t) (XKSb m c (grid0.coords t 0)) (iblk m c 6 t) (XFC m c) (XFR m c) ((dats m 0 c).before 10 t d10) d16 d17 d18 d19 d21 d22 (tbl m 0) (tbl m 1) Set.univ _)
  isplitl [HT0]; · iexact HT0
  isplitl [HT1]; · iexact HT1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  isplitl [H11]; · iexists _; iexact H11
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  iintro ⟨HT0, HT1, H0, H1, H2, H3, H4, H5, H6, H7, H8, H9, H10, ⟨%d15, %hsc, H11⟩, G0, G1, G2, G3, G4, G5, G6, G7, G8, G9⟩
  have e15 := scT_eq c (grid0.coords t) (XQ m c) (XKCb m c (grid0.coords t)) (XKSb m c (grid0.coords t 0)) (XFC m c) (XFR m c) (tbl m 0) (tbl m 1) hst
    (sc15_eq _ _ _ _ _ _ _ _ _ _ _ _ _ _ _ _ _ _ _ _ _ _ _ _ _ _ _ _ _ _ _ _ _ _ _ _ _ _ _ _ _ _ _ _ _ _ _ _ _ _ _ _ _ hsc (le_of_eq_of_le (congrArg BitVec.toInt (len_eq c (grid0.coords t) (tbl m 0))) (hlen _)))
  isplitl [G0 G1 G2 G3 G4 G5 G6 G7 G8 G9 Hr HT0 HT1]
  · iexists _; iexists _; iexists _; iexists _; iexists _; iexists _
    isplitr
    · ipureintro
      intro _ b hb
      have hb' : b = grid0.coords t 0 := Fin.ext (hb.trans (show (t.val + 1 - 1) / 10 = _ by omega))
      rw [hb']
      exact hst
    isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [Hr]; · iexact Hr
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iapply h14
    iexact H10
  rw [show scP m c (grid0.coords t) = d15 from e15.symm]
  iexact H11

theorem body_obligation (c : Dev nD) (hlen : ∀ b : Fin 10, (lenV c (tbl m 0) b).toInt ≤ 20480) : BodyObligation (dats m 0 c) (defs₀ (F := Ideal)) Variants.none () Set.univ forgets0 := fun t => by
  rw [bigSep_W0, bigSep_W0, defs₀_row m]
  exact triple_restated (sound_body m c hlen t) rfl .rfl fun _ => .rfl

theorem PhiV_in (c : Dev nD) : iprop(Pipeline.ΦA spec0 c ∗ Pipeline.ΦT pre0 (tbl m) c) ⊢ PhiV m c 0 := by
  rw [PhiT0_eq]
  unfold Pipeline.ΦA PhiV
  rw [scopedRest0_eq]
  simp only [← owns_whole]
  iintro ⟨⟨⟨⟨%e0, G0⟩, ⟨%e1, G1⟩, ⟨%e2, G2⟩, ⟨%e3, G3⟩, G4, ⟨%e5, G5⟩, ⟨%e6, G6⟩, G7, G8, G9⟩, Hr⟩, HT0, HT1⟩
  iexists e0; iexists e1; iexists e2; iexists e3; iexists e5; iexists e6
  isplitr
  · ipureintro
    exact fun h => absurd rfl h
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [Hr]; · iexact Hr
  isplitl [HT0]; · iexact HT0
  iexact HT1

theorem PhiV_out (c : Dev nD) (n : ℕ) : PhiV m c n ⊢ Pipeline.ΦA spec0 c := by
  unfold Pipeline.ΦA PhiV
  rw [scopedRest0_eq]
  simp only [← owns_whole]
  iintro ⟨%d16, %d17, %d18, %d19, %d21, %d22, %hk, G0, G1, G2, G3, G4, G5, G6, G7, G8, G9, Hr, HT0, HT1⟩
  isplitr [Hr]; swap; · iexact Hr
  isplitl [G0]; · iexists _; iexact G0
  isplitl [G1]; · iexists _; iexact G1
  isplitl [G2]; · iexists _; iexact G2
  isplitl [G3]; · iexists _; iexact G3
  isplitl [G4]; · iexact G4
  isplitl [G5]; · iexists _; iexact G5
  isplitl [G6]; · iexists _; iexact G6
  isplitl [G7]; · iexact G7
  isplitl [G8]; · iexact G8
  iexact G9

set_option backward.isDefEq.respectTransparency.types false in
theorem run_main (hlen : ∀ (c : Dev nD) (b : Fin 10), (lenV c (tbl m 0) b).toInt ≤ 20480) :
    θ_run defs (onTc (τ := τ) (main (F := Ideal))) (s₀ m ρ) (fun r => (Pipeline.RDat.FramePost ((Pipeline.pin pcfgs fun _ => adm m) 0) (fun c => (dats m 0 c).toRForget forgets0) (V m)) r ∧ r.2.sem = fun _ => 0) :=
  Pipeline.θ_run_frameP_track_forget (Q' := _) pcfgs (fun _ => adm m) (dats m) (0 : Fin 1) launch0 defs₀ Variants.none forgets0 m ρ main
    (hbody := fun c => (body_obligation m c (hlen c)).loose) (hshare := fun c => (dats m 0 c).share_full fun _ => rfl)
    (howed := fun _ _ => rfl) (V := V m) (hmain := hmain m) (hA := A_eq m) (hpf := V_pre m) (hin := fun c => PhiV_in m c) (hout := fun c => PhiV_out m c _)

end Tracked

end Cert.KernelIdeal

end
-- ==== Proof.OutKernelIdeal.lean ====
/-
What the two result arrays of the kernel hold at the end of every run: the rotated queries and the scores.
-/
module

public import proofs.«01_k».proof.Proof.ValueKernelIdeal
public import Idealize.ShloMosaic.Lib.Pipeline.Covers

@[expose] public section

set_option maxRecDepth 16384

noncomputable section

namespace Cert.KernelIdeal

open Idealize.ShloMosaic Idealize.ShloMosaic.TcCoe Idealize.ShloMosaic.Tactic
open Idealize.SL Idealize.SL.RA Idealize.SL.BI Idealize.SL.Sem
open Idealize.ShloMosaic.Pipeline (Dat Cfg Window)
open Gen

variable (m : (ℓ : Loc nD τ sig) → Buf (Elt Ideal) ℓ) (ρ : Dev nD → PrngReg)

namespace Tracked

/-- A window of exact data ends at the contents the data name. -/
theorem arr_of_post {cfg₁ : Cfg sig Λ₀} {U' : Type} [URA U'] {dat : (c : Dev nD) → Dat τ (Elt Ideal) Unit ℕ U' ℕ cfg₁ c} {fgt : Fin cfg₁.W → Bool}
    {V : (c : Dev nD) → (b : Ref sig .tc) → Buf (Elt Ideal) ((c.tc : Thread nD τ).loc b)} {r : PUnit × MemSt nD τ sig (Elt Ideal)}
    (h : Pipeline.RDat.FramePost cfg₁ (fun c => (dat c).toRForget fgt) V r) (c : Dev nD) (w : Fin cfg₁.W) (hw : fgt w = false) :
    r.2.mem ((cfg₁.spec w).arr.view.loc (c.tc : Thread nD τ)) = (dat c).arrAt w cfg₁.N :=
  (Dat.toRForget_arrAt_iff (dat c) hw _ _).mp ((h c).1 w)

/-- The rotated queries of every row. -/
def outQ (c : Dev nD) : Vec Ideal S10x32x96 .bf16 := fun j => qrT m c (j 0) (ix3 0 (j 1) (j 2))

/-- The point of a row and a block. -/
def pt (b : Fin 10) (a : Fin 10) : Fin grid0.N := ⟨10 * b.val + a.val, by show _ < 100; omega⟩

/-- An array of scores from its blocks. -/
def gather (S : grid0.Coords → Vec Ideal S1x1x32x2048 .f32) : Vec Ideal S10x1x32x20480 .f32 := fun j =>
  S (grid0.coords (pt (j 0) ⟨(j 3).val / 2048, by have h : (j 3).val < 20480 := (j 3).isLt; omega⟩)) (ix4 0 0 (j 2) ⟨(j 3).val % 2048, by omega⟩)

theorem gather_block (S : grid0.Coords → Vec Ideal S1x1x32x2048 .f32) (t : Fin grid0.N) (h : Fin 32) (l : Fin 2048) (hl) :
    gather S (ix4 (grid0.coords t 0) 0 h ⟨(grid0.coords t 1).val * 2048 + l.val, hl⟩) = S (grid0.coords t) (ix4 0 0 h l) := by
  have hv := coords_val t
  have et : pt (grid0.coords t 0) ⟨((grid0.coords t 1).val * 2048 + l.val) / 2048, by omega⟩ = t := Fin.ext (show 10 * (grid0.coords t 0).val + ((grid0.coords t 1).val * 2048 + l.val) / 2048 = t.val by omega)
  have el : (⟨((grid0.coords t 1).val * 2048 + l.val) % 2048, by omega⟩ : Fin 2048) = l := Fin.ext (show ((grid0.coords t 1).val * 2048 + l.val) % 2048 = l.val by omega)
  show S (grid0.coords (pt (grid0.coords t 0) ⟨((grid0.coords t 1).val * 2048 + l.val) / 2048, _⟩)) (ix4 0 0 h ⟨((grid0.coords t 1).val * 2048 + l.val) % 2048, _⟩) = _
  rw [et, el]

/-- The scores of every row. -/
def outS (c : Dev nD) : Vec Ideal S10x1x32x20480 .f32 := gather (scP m c)

/-- A point of the grid from its coordinates. -/
def gpt (b a : ℕ) (hb : b < 10) (ha : a < 10) : grid0.Coords := fun k => match k with
  | ⟨0, _⟩ => ⟨b, hb⟩
  | ⟨1, _⟩ => ⟨a, ha⟩

theorem covers10 : ((cfgM m).win 10).Covers :=
  ((cfgM m).win 10).covers_of_indexMap_surj rfl (fun a => by fin_cases a <;> exact Nat.succ_pos _) fun β => by
    have h0 : (β (0 : Fin 3)).val < 10 := lt_of_lt_of_eq (β (0 : Fin 3)).isLt (show ((cfgM m).win 10).nblk (0 : Fin 3) = 10 from (by decide : (10 + 1 - 1) / 1 = 10))
    have h1 : (β (1 : Fin 3)).val < 1 := lt_of_lt_of_eq (β (1 : Fin 3)).isLt (show ((cfgM m).win 10).nblk (1 : Fin 3) = 1 from (by decide : (32 + 32 - 1) / 32 = 1))
    have h2 : (β (2 : Fin 3)).val < 1 := lt_of_lt_of_eq (β (2 : Fin 3)).isLt (show ((cfgM m).win 10).nblk (2 : Fin 3) = 1 from (by decide : (96 + 96 - 1) / 96 = 1))
    refine ⟨gpt (β (0 : Fin 3)).val 0 h0 (by decide), fun a => ?_⟩
    fin_cases a
    · show (BitVec.ofNat 32 (β (0 : Fin 3)).val).toNat = (β (0 : Fin 3)).val
      rw [BitVec.toNat_ofNat]; omega
    · show 0 = (β (1 : Fin 3)).val
      omega
    · show 0 = (β (2 : Fin 3)).val
      omega

theorem covers11 : ((cfgM m).win 11).Covers :=
  ((cfgM m).win 11).covers_of_indexMap_surj rfl (fun a => by fin_cases a <;> exact Nat.succ_pos _) fun β => by
    have h0 : (β (0 : Fin 4)).val < 10 := lt_of_lt_of_eq (β (0 : Fin 4)).isLt (show ((cfgM m).win 11).nblk (0 : Fin 4) = 10 from (by decide : (10 + 1 - 1) / 1 = 10))
    have h1 : (β (1 : Fin 4)).val < 1 := lt_of_lt_of_eq (β (1 : Fin 4)).isLt (show ((cfgM m).win 11).nblk (1 : Fin 4) = 1 from (by decide : (1 + 1 - 1) / 1 = 1))
    have h2 : (β (2 : Fin 4)).val < 1 := lt_of_lt_of_eq (β (2 : Fin 4)).isLt (show ((cfgM m).win 11).nblk (2 : Fin 4) = 1 from (by decide : (32 + 32 - 1) / 32 = 1))
    have h3 : (β (3 : Fin 4)).val < 10 := lt_of_lt_of_eq (β (3 : Fin 4)).isLt (show ((cfgM m).win 11).nblk (3 : Fin 4) = 10 from (by decide : (20480 + 2048 - 1) / 2048 = 10))
    refine ⟨gpt (β (0 : Fin 4)).val (β (3 : Fin 4)).val h0 h3, fun a => ?_⟩
    fin_cases a
    · show (BitVec.ofNat 32 (β (0 : Fin 4)).val).toNat = (β (0 : Fin 4)).val
      rw [BitVec.toNat_ofNat]; omega
    · show 0 = (β (1 : Fin 4)).val
      omega
    · show 0 = (β (2 : Fin 4)).val
      omega
    · show (BitVec.ofNat 32 (β (3 : Fin 4)).val).toNat = (β (3 : Fin 4)).val
      rw [BitVec.toNat_ofNat]; omega

theorem arr10 (c : Dev nD) : (dats m 0 c).arrAt 10 (cfgM m).N = outQ m c := by
  refine (dats m 0 c).arrAt_eq_of_covers 10 (outQ m c) (covers10 m) fun t hf => fun (y : S1x32x96.Idx) => ?_
  rw [after0_10]
  have h0 : (y 0).val < 1 := (y 0).isLt
  have hb : (grid0.coords t 0).val < 10 := (grid0.coords t 0).isLt
  have e : ((((cfgM m).win 10).blk t).view.emb y : S10x32x96.Idx) = ix3 (grid0.coords t 0) (y 1) (y 2) := funext fun a => Fin.ext (by
    blk_simp
    fin_cases a
    · show (BitVec.ofNat 32 (grid0.coords t 0).val).toNat * 1 + (y 0).val = (grid0.coords t 0).val
      rw [BitVec.toNat_ofNat]; omega
    · exact Nat.zero_add _
    · exact Nat.zero_add _)
  exact (congrArg (qrT m c (grid0.coords t 0)) (show y = ix3 0 (y 1) (y 2) from funext fun a => by fin_cases a; exacts [Fin.ext (show (y 0).val = 0 by omega), rfl, rfl])).trans
    (congrArg (outQ m c) e).symm

theorem emb11 (t : Fin grid0.N) (y : S1x1x32x2048.Idx) :
    ((((cfgM m).win 11).blk t).view.emb y : S10x1x32x20480.Idx) = ix4 (grid0.coords t 0) 0 (y 2) ⟨(grid0.coords t 1).val * 2048 + (y 3).val, by
      have h3 : (y 3).val < 2048 := (y 3).isLt
      have ha : (grid0.coords t 1).val < 10 := (grid0.coords t 1).isLt
      omega⟩ := funext fun a => Fin.ext (by
  have h0 : (y 0).val < 1 := (y 0).isLt
  have h1 : (y 1).val < 1 := (y 1).isLt
  have hb : (grid0.coords t 0).val < 10 := (grid0.coords t 0).isLt
  have ha : (grid0.coords t 1).val < 10 := (grid0.coords t 1).isLt
  blk_simp
  fin_cases a
  · show (BitVec.ofNat 32 (grid0.coords t 0).val).toNat * 1 + (y 0).val = (grid0.coords t 0).val
    rw [BitVec.toNat_ofNat]; omega
  · show 0 + (y 1).val = 0
    omega
  · exact Nat.zero_add _
  · show (BitVec.ofNat 32 (grid0.coords t 1).val).toNat * 2048 + (y 3).val = _
    rw [BitVec.toNat_ofNat, Nat.mod_eq_of_lt (by omega)]
    rfl)

theorem arr11 (c : Dev nD) : (dats m 0 c).arrAt 11 (cfgM m).N = outS m c := by
  refine (dats m 0 c).arrAt_eq_of_covers 11 (outS m c) (covers11 m) fun t hf => fun (y : S1x1x32x2048.Idx) => ?_
  rw [after0_11]
  have h0 : (y 0).val < 1 := (y 0).isLt
  have h1 : (y 1).val < 1 := (y 1).isLt
  have ey : y = ix4 0 0 (y 2) (y 3) := funext fun a => by
    fin_cases a; exacts [Fin.ext (show (y 0).val = 0 by omega), Fin.ext (show (y 1).val = 0 by omega), rfl, rfl]
  unfold outS
  generalize scP m c = S
  exact (congrArg (S (grid0.coords t)) ey).trans ((gather_block S t (y 2) (y 3) _).symm.trans (congrArg (gather S) (emb11 m t y)).symm)

/-- What a run leaves: the rotated queries and the scores, the arguments unchanged. -/
theorem run_results (hlen : ∀ (c : Dev nD) (b : Fin 10), (lenV c (tbl m 0) b).toInt ≤ 20480) :
    θ_run defs (onTc (τ := τ) (main (F := Ideal))) ⟨m, fun _ => 0, ρ⟩ (fun r => ∀ c : Dev nD,
        r.2.mem ((c.tc : Thread nD τ).loc main_v17_1) = outQ m c ∧ r.2.mem ((c.tc : Thread nD τ).loc main_v17_2) = outS m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)) :=
  (θ_run defs _ _).mono (fun r h c => ⟨(arr_of_post h.1 c 10 rfl).trans (arr10 m c), (arr_of_post h.1 c 11 rfl).trans (arr11 m c),
      ((h.1 c).2 main_arg0 (by decide : main_arg0 ∈ Pipeline.restRefs sig spec0)).trans (V_main_arg0 m c),
      ((h.1 c).2 main_arg1 (by decide : main_arg1 ∈ Pipeline.restRefs sig spec0)).trans (V_main_arg1 m c),
      ((h.1 c).2 main_arg2 (by decide : main_arg2 ∈ Pipeline.restRefs sig spec0)).trans (V_main_arg2 m c),
      ((h.1 c).2 main_arg3 (by decide : main_arg3 ∈ Pipeline.restRefs sig spec0)).trans (V_main_arg3 m c),
      ((h.1 c).2 main_arg4 (by decide : main_arg4 ∈ Pipeline.restRefs sig spec0)).trans (V_main_arg4 m c),
      ((h.1 c).2 main_arg5 (by decide : main_arg5 ∈ Pipeline.restRefs sig spec0)).trans (V_main_arg5 m c),
      (Pipeline.RDat.FramePost.arr_in h.1 c 6 rfl).trans ((A_eq m c 6).trans (V_main_arg6 m c)),
      ((h.1 c).2 main_arg7 (by decide : main_arg7 ∈ Pipeline.restRefs sig spec0)).trans (V_main_arg7 m c),
      ((h.1 c).2 main_arg8 (by decide : main_arg8 ∈ Pipeline.restRefs sig spec0)).trans (V_main_arg8 m c)⟩) (run_main m ρ hlen)

end Tracked

end Cert.KernelIdeal

end
-- ==== Proof.HostValue.lean ====
/-
The operands the host hands the launch, at an element, from the arguments.
-/
module

public import proofs.«01_k».proof.Proof.OutKernelIdeal

@[expose] public section

set_option maxRecDepth 16384

noncomputable section

namespace Cert.KernelIdeal

open Idealize.ShloMosaic Idealize.ShloMosaic.TcCoe Idealize.ShloMosaic.Tactic
open Gen

variable (m : (ℓ : Loc nD τ sig) → Buf (Elt Ideal) ℓ)

/-- The frequency of a channel, as the host spells it. -/
def freqK (c : Fin 48) : EReal := Ideal.div 1 (Ideal.pow (Ideal.ofBits FTy.f32 0x48F42400#32)
    (Ideal.div ((((BitVec.ofNat 32 c.val).toInt : ℝ) : EReal) * Ideal.ofBits FTy.f32 0x40000000#32) (Ideal.ofBits FTy.f32 0x42C00000#32)))

theorem XQ_apply (c : Dev nD) (b : Fin 10) (h : Fin 32) (l : Fin 96) :
    XQ m c (ix3 b h l) = (m ((c : Thread nD τ).loc main_arg0) : Vec Ideal S10x1x32x96 .bf16) (ix4 b 0 h l) := by
  unfold XQ
  entry_read
  pointwise

theorem XKC_apply (c : Dev nD) (b : Fin 10) (h : Fin 8) (k : Fin 48) (t : Fin 20480) :
    XKC m c (ix4 b h k t) = (m ((c : Thread nD τ).loc main_arg3) : Vec Ideal S10x8x20480x48 .i8) (ix4 b h t k) := by
  unfold XKC
  entry_read
  pointwise

theorem XKS_apply (c : Dev nD) (b : Fin 10) (h : Fin 8) (r : Fin 96) (g : Fin 320) :
    XKS m c (ix4 b h r g) = (m ((c : Thread nD τ).loc main_arg5) : Vec Ideal S10x8x320x96 .f32) (ix4 b h g r) := by
  unfold XKS
  entry_read
  pointwise

theorem XFC_apply (c : Dev nD) (k : Fin 48) : XFC m c (ix2 k 0) = freqK k := by
  unfold XFC
  entry_read
  pointwise [freqK]
  rfl

theorem XFR_apply (c : Dev nD) (k : Fin 48) : XFR m c (ix2 0 k) = freqK k := by
  unfold XFR
  entry_read
  pointwise [freqK]
  rfl

theorem lenV_tbl (c : Dev nD) (b : Fin 10) : lenV c (tbl m 0) b = (m ((c : Thread nD τ).loc main_arg7) : Vec Ideal S10 .i32) (ix1 b) :=
  congrFun ((V_pre m c 0).symm.trans (V_main_arg7 m c)) (ix1 b)

theorem offW_tbl (c : Dev nD) (b : Fin 10) : offW c (tbl m 1) b = (m ((c : Thread nD τ).loc main_arg8) : Vec Ideal S10 .i32) (ix1 b) :=
  congrFun ((V_pre m c 1).symm.trans (V_main_arg8 m c)) (ix1 b)

end Cert.KernelIdeal

end
-- ==== Proof.ScoreMath.lean ====
/-
The arithmetic of the scores: the four-bit codes, the angles, the sum over the masked lanes.
-/
module

public import proofs.«01_k».proof.Proof.RefValue
public import proofs.«01_k».proof.Proof.HostValue

@[expose] public section

set_option maxRecDepth 16384

noncomputable section

namespace Cert.KernelIdeal

open Idealize.ShloMosaic Idealize.ShloMosaic.TcCoe Idealize.ShloMosaic.Tactic
open Gen
open Cert.ReferenceIdeal (loR hiR)

/-! ## The codes -/

theorem lo_bits : ∀ w : Fin 256, IntOp.shrsi ArithUnit.vector (IntOp.shli ArithUnit.vector (BitVec.setWidth 32 (BitVec.ofFin (w := 8) w)) 28#32) 28#32
    = loR (BitVec.ofFin (w := 8) w) := by decide +kernel
theorem hi_bits : ∀ w : Fin 256, IntOp.shrsi ArithUnit.vector (IntOp.shli ArithUnit.vector (BitVec.setWidth 32 (BitVec.ofFin (w := 8) w)) 24#32) 28#32
    = hiR (BitVec.ofFin (w := 8) w) := by decide +kernel

theorem loW_eq (w : BitVec 8) : loW w = (((loR w).toInt : ℝ) : EReal) :=
  congrArg (fun x : BitVec 32 => ((x.toInt : ℝ) : EReal)) (lo_bits w.toFin)
theorem hiW_eq (w : BitVec 8) : hiW w = (((hiR w).toInt : ℝ) : EReal) :=
  congrArg (fun x : BitVec 32 => ((x.toInt : ℝ) : EReal)) (hi_bits w.toFin)

/-! ## The angles -/

theorem ieee_val (b : BitVec 32) (ex fr : ℕ) (h0 : (b.extractLsb' 31 1 == 1#1) = false) (h1 : (b.extractLsb' 23 8).toNat = ex)
    (h2 : (b.extractLsb' 0 23).toNat = fr) (h3 : ex ≠ 255) (h4 : ex ≠ 0) :
    Ideal.ofBits FTy.f32 b = (((1 : ℝ) * (2 ^ 23 + fr : ℕ) * (2 : ℝ) ^ ((ex : ℤ) - 127 - 23) : ℝ) : EReal) := by
  have h5 : ¬ (ex = 2 ^ 8 - 1) := h3
  have h6 : (2 ^ (8 - 1) - 1 : ℤ) = 127 := by norm_num
  simp only [Ideal.ofBits, Ideal.ieee]
  norm_num only [h0, h1, h2, h3, h4, h5, h6, if_false]
  all_goals simp [h0, h1, h2, h3, h4, h5, h6]

theorem base_val : Ideal.ofBits FTy.f32 0x48F42400#32 = ((500000 : ℝ) : EReal) := by
  rw [ieee_val _ 145 7611392 (by decide) (by decide) (by decide) (by decide) (by decide)]; norm_num
theorem two_val : Ideal.ofBits FTy.f32 0x40000000#32 = ((2 : ℝ) : EReal) := by
  rw [ieee_val _ 128 0 (by decide) (by decide) (by decide) (by decide) (by decide)]; norm_num
theorem width_val : Ideal.ofBits FTy.f32 0x42C00000#32 = ((96 : ℝ) : EReal) := by
  rw [ieee_val _ 133 4194304 (by decide) (by decide) (by decide) (by decide) (by decide)]; norm_num

theorem freq_real (c : Fin 48) : ∃ r : ℝ, freqK c = (r : EReal) := by
  unfold freqK
  rw [base_val, two_val, width_val, Ideal.div_coe (by norm_num), ← EReal.coe_mul, ← EReal.coe_mul, Ideal.pow_coe_coe,
    Ideal.div_coe (show Real.rpow 500000 _ ≠ 0 from (Real.rpow_pos_of_pos (by norm_num) _).ne'), one_mul]
  exact ⟨_, rfl⟩

/-- The cosine of a sum of three angles, as the kernel builds it. -/
theorem cos_turn (l t o f : ℝ) :
    ((Real.cos (l * f) : ℝ) : EReal) * (((Real.cos (t * f) : ℝ) : EReal) * ((Real.cos (o * f) : ℝ) : EReal) - ((Real.sin (t * f) : ℝ) : EReal) * ((Real.sin (o * f) : ℝ) : EReal))
      - ((Real.sin (l * f) : ℝ) : EReal) * (((Real.sin (t * f) : ℝ) : EReal) * ((Real.cos (o * f) : ℝ) : EReal) + ((Real.cos (t * f) : ℝ) : EReal) * ((Real.sin (o * f) : ℝ) : EReal))
      = ((Real.cos ((o + (t + l)) * f) : ℝ) : EReal) := by
  norm_cast
  rw [add_mul, add_mul, Real.cos_add, Real.cos_add, Real.sin_add]; ring

theorem sin_turn (l t o f : ℝ) :
    ((Real.sin (l * f) : ℝ) : EReal) * (((Real.cos (t * f) : ℝ) : EReal) * ((Real.cos (o * f) : ℝ) : EReal) - ((Real.sin (t * f) : ℝ) : EReal) * ((Real.sin (o * f) : ℝ) : EReal))
      + ((Real.cos (l * f) : ℝ) : EReal) * (((Real.sin (t * f) : ℝ) : EReal) * ((Real.cos (o * f) : ℝ) : EReal) + ((Real.cos (t * f) : ℝ) : EReal) * ((Real.sin (o * f) : ℝ) : EReal))
      = ((Real.sin ((o + (t + l)) * f) : ℝ) : EReal) := by
  norm_cast
  rw [add_mul, add_mul, Real.sin_add, Real.cos_add, Real.sin_add]; ring

theorem angE_coe (w : BitVec 32) (f : ℝ) : angE w (f : EReal) = (((w.toInt : ℝ) * f : ℝ) : EReal) := (EReal.coe_mul _ _).symm

theorem toInt_nat (n : ℕ) (h : n < 2147483648) : (BitVec.ofNat 32 n).toInt = (n : ℤ) := by
  rw [BitVec.toInt_eq_toNat_cond, BitVec.toNat_ofNat]; omega

/-- The kernel's cosine of the cached position `128 * t + l`. -/
theorem table_cos (x11 : Vec Ideal S48x1 .f32) (k : Fin 48) (f : ℝ) (hf : x11 (ix2 k 0) = (f : EReal)) (o : BitVec 32) (l : Fin 128) (t : Fin 256) :
    tlG x11 (ix3 0 k l) * tbG o x11 (ix3 0 k t) - tlG x11 (ix3 1 k l) * tbG o x11 (ix3 1 k t)
      = Ideal.cos ((((o.toInt + (128 * t.val + l.val : ℕ) : ℤ) : ℝ) * f : ℝ) : EReal) := by
  have := cos_turn (l.val : ℝ) ((128 * t.val : ℕ) : ℝ) (o.toInt : ℝ) f
  have hl : ((BitVec.ofNat 32 l.val).toInt : ℝ) = (l.val : ℝ) := by rw [toInt_nat _ (by omega)]; simp
  have ht : ((BitVec.ofNat 32 (128 * t.val)).toInt : ℝ) = ((128 * t.val : ℕ) : ℝ) := by rw [toInt_nat _ (by omega)]; simp
  show Ideal.cos (angE (BitVec.ofNat 32 l.val) (x11 (ix2 k 0)))
      * (Ideal.cos (angE (BitVec.ofNat 32 (128 * t.val)) (x11 (ix2 k 0))) * Ideal.cos (angE o (x11 (ix2 k 0))) - Ideal.sin (angE (BitVec.ofNat 32 (128 * t.val)) (x11 (ix2 k 0))) * Ideal.sin (angE o (x11 (ix2 k 0))))
    - Ideal.sin (angE (BitVec.ofNat 32 l.val) (x11 (ix2 k 0)))
      * (Ideal.sin (angE (BitVec.ofNat 32 (128 * t.val)) (x11 (ix2 k 0))) * Ideal.cos (angE o (x11 (ix2 k 0))) + Ideal.cos (angE (BitVec.ofNat 32 (128 * t.val)) (x11 (ix2 k 0))) * Ideal.sin (angE o (x11 (ix2 k 0)))) = _
  rw [hf]
  simp only [angE_coe, Ideal.cos_coe, Ideal.sin_coe, hl, ht]
  rw [this]; push_cast; rfl

/-- The kernel's sine of the cached position `128 * t + l`. -/
theorem table_sin (x11 : Vec Ideal S48x1 .f32) (k : Fin 48) (f : ℝ) (hf : x11 (ix2 k 0) = (f : EReal)) (o : BitVec 32) (l : Fin 128) (t : Fin 256) :
    tlG x11 (ix3 1 k l) * tbG o x11 (ix3 0 k t) + tlG x11 (ix3 0 k l) * tbG o x11 (ix3 1 k t)
      = Ideal.sin ((((o.toInt + (128 * t.val + l.val : ℕ) : ℤ) : ℝ) * f : ℝ) : EReal) := by
  have := sin_turn (l.val : ℝ) ((128 * t.val : ℕ) : ℝ) (o.toInt : ℝ) f
  have hl : ((BitVec.ofNat 32 l.val).toInt : ℝ) = (l.val : ℝ) := by rw [toInt_nat _ (by omega)]; simp
  have ht : ((BitVec.ofNat 32 (128 * t.val)).toInt : ℝ) = ((128 * t.val : ℕ) : ℝ) := by rw [toInt_nat _ (by omega)]; simp
  show Ideal.sin (angE (BitVec.ofNat 32 l.val) (x11 (ix2 k 0)))
      * (Ideal.cos (angE (BitVec.ofNat 32 (128 * t.val)) (x11 (ix2 k 0))) * Ideal.cos (angE o (x11 (ix2 k 0))) - Ideal.sin (angE (BitVec.ofNat 32 (128 * t.val)) (x11 (ix2 k 0))) * Ideal.sin (angE o (x11 (ix2 k 0))))
    + Ideal.cos (angE (BitVec.ofNat 32 l.val) (x11 (ix2 k 0)))
      * (Ideal.sin (angE (BitVec.ofNat 32 (128 * t.val)) (x11 (ix2 k 0))) * Ideal.cos (angE o (x11 (ix2 k 0))) + Ideal.cos (angE (BitVec.ofNat 32 (128 * t.val)) (x11 (ix2 k 0))) * Ideal.sin (angE o (x11 (ix2 k 0)))) = _
  rw [hf]
  simp only [angE_coe, Ideal.cos_coe, Ideal.sin_coe, hl, ht]
  rw [this]; push_cast; rfl

/-! ## The sum over the masked lanes -/

theorem sum_halves (F : Fin 192 → EReal) : ∑ x, F x = (∑ e : Fin 96, F ⟨e.val, by omega⟩) + ∑ e : Fin 96, F ⟨96 + e.val, by omega⟩ := by
  have h := (Fintype.sum_equiv (finProdFinEquiv (m := 2) (n := 96)) (fun p => F (finProdFinEquiv p)) F (fun _ => rfl)).symm
  rw [h, Fintype.sum_prod_type, Fin.sum_univ_two]
  congr 1 <;> refine Finset.sum_congr rfl fun e _ => congrArg F (Fin.ext ?_)
  all_goals simp [finProdFinEquiv, add_comm]

theorem sum_pairs (F : Fin 96 → EReal) : ∑ e, F e = ∑ j : Fin 2, ∑ c : Fin 48, F ⟨2 * c.val + j.val, by omega⟩ := by
  have h := (Fintype.sum_equiv (finProdFinEquiv (m := 48) (n := 2)) (fun p => F (finProdFinEquiv p)) F (fun _ => rfl)).symm
  rw [h, Fintype.sum_prod_type, Finset.sum_comm]
  refine Finset.sum_congr rfl fun j _ => Finset.sum_congr rfl fun c _ => congrArg F (Fin.ext ?_)
  simp [finProdFinEquiv]; omega

/-- The masked product, summed over the lanes of a pair of heads, is the plain product of one head. -/
theorem masked_sum (q : Fin 32 → Fin 96 → EReal) (K : Fin 8 → Fin 96 → EReal) (h : Fin 32) :
    (∑ x : Fin 192, qmG q (ix3 ⟨h.val / 8, by omega⟩ ⟨h.val % 8, by omega⟩ x) * K ⟨2 * (h.val / 8) + x.val / 96, by omega⟩ ⟨x.val % 96, by omega⟩)
      = ∑ j : Fin 2, ∑ c : Fin 48, K ⟨h.val / 4, by omega⟩ ⟨2 * c.val + j.val, by omega⟩ * q h ⟨j.val * 48 + c.val, by omega⟩ := by
  have left : ∀ e : Fin 96, qmG q (ix3 ⟨h.val / 8, by omega⟩ ⟨h.val % 8, by omega⟩ ⟨e.val, by omega⟩) = if h.val % 8 < 4 then q h ⟨e.val % 2 * 48 + e.val / 2, by omega⟩ else 0 := fun e => by
    refine (dif_pos (show e.val < 96 from e.isLt)).trans ?_
    refine if_congr Iff.rfl ?_ rfl
    congr 1; exact Fin.ext (by show 8 * (h.val / 8) + h.val % 8 = h.val; omega)
  have right : ∀ e : Fin 96, qmG q (ix3 ⟨h.val / 8, by omega⟩ ⟨h.val % 8, by omega⟩ ⟨96 + e.val, by omega⟩) = if h.val % 8 < 4 then 0 else q h ⟨e.val % 2 * 48 + e.val / 2, by omega⟩ := fun e => by
    refine (dif_neg (show ¬ 96 + e.val < 96 by omega)).trans ?_
    refine if_congr Iff.rfl rfl ?_
    congr 1
    · exact Fin.ext (by show 8 * (h.val / 8) + h.val % 8 = h.val; omega)
    · exact Fin.ext (by show (96 + e.val - 96) % 2 * 48 + (96 + e.val - 96) / 2 = _; rw [Nat.add_sub_cancel_left])
  have R := sum_pairs (fun e => K ⟨h.val / 4, by omega⟩ e * q h ⟨e.val % 2 * 48 + e.val / 2, by omega⟩)
  refine (sum_halves _).trans (Eq.trans ?_ (R.trans (Finset.sum_congr rfl fun j _ => Finset.sum_congr rfl fun c _ =>
    congrArg (fun e => K ⟨h.val / 4, by omega⟩ ⟨2 * c.val + j.val, by omega⟩ * q h e) (Fin.ext ?_))))
  · by_cases hh : h.val % 8 < 4
    · refine (congrArg₂ (· + ·) (Finset.sum_congr rfl fun e _ => ?_) (Finset.sum_eq_zero fun e _ => ?_)).trans (add_zero _)
      · rw [left, if_pos hh, mul_comm]
        congr 1
        exact congrArg₂ K (Fin.ext (by show 2 * (h.val / 8) + e.val / 96 = h.val / 4; omega)) (Fin.ext (by show e.val % 96 = e.val; omega))
      · rw [right, if_pos hh, zero_mul]
    · refine (congrArg₂ (· + ·) (Finset.sum_eq_zero fun e _ => ?_) (Finset.sum_congr rfl fun e _ => ?_)).trans (zero_add _)
      · rw [left, if_neg hh, zero_mul]
      · rw [right, if_neg hh, mul_comm]
        congr 1
        exact congrArg₂ K (Fin.ext (by show 2 * (h.val / 8) + (96 + e.val) / 96 = h.val / 4; omega)) (Fin.ext (by show (96 + e.val) % 96 = e.val; omega))
  · show (2 * c.val + j.val) % 2 * 48 + (2 * c.val + j.val) / 2 = j.val * 48 + c.val
    omega

end Cert.KernelIdeal

end
-- ==== Proof.ScoreEq.lean ====
/-
The kernel's results are the reference's.
-/
module

public import proofs.«01_k».proof.Proof.ScoreMath

@[expose] public section

set_option maxRecDepth 16384

noncomputable section

namespace Cert.KernelIdeal

open Idealize.ShloMosaic Idealize.ShloMosaic.TcCoe Idealize.ShloMosaic.Tactic
open Gen
open Cert.ReferenceIdeal (loR hiR angR freq freq_eq ref61a ref61b refQ ref87 ref94 ref110a ref110b ref112 ref124)
open Cert.ReferenceIdeal.Read

theorem freq_freqK (k : Fin 48) : freq k = freqK k := freq_eq k

/-! ## A key -/

/-- A rotated key of the kernel, its tables and codes unfolded. -/
theorem keyG_row (a : Fin 10) (x7 : Vec Ideal S1x8x48x2048 .i8) (x11 : Vec Ideal S48x1 .f32) (o : BitVec 32) (x9 : Vec Ideal S1x8x96x320 .f32)
    (h : Fin 8) (r : Fin 96) (y : Fin 2048) (f : ℝ) (hf : x11 (ix2 ⟨r.val / 2, by omega⟩ 0) = (f : EReal)) :
    keyG a x7 (tlG x11) (tbG o x11) (kwG x9) h r y = rotE (r.val % 2 = 1)
      ((((loR (x7 (ix4 0 h ⟨r.val / 2, by omega⟩ y))).toInt : ℝ) : EReal) * x9 (ix4 0 h ⟨r.val / 2, by omega⟩ ⟨(2048 * a.val + y.val) / 64, by omega⟩))
      ((((hiR (x7 (ix4 0 h ⟨r.val / 2, by omega⟩ y))).toInt : ℝ) : EReal) * x9 (ix4 0 h ⟨48 + r.val / 2, by omega⟩ ⟨(2048 * a.val + y.val) / 64, by omega⟩))
      (Ideal.cos ((((o.toInt + (2048 * a.val + y.val : ℕ) : ℤ) : ℝ) * f : ℝ) : EReal))
      (Ideal.sin ((((o.toInt + (2048 * a.val + y.val : ℕ) : ℤ) : ℝ) * f : ℝ) : EReal)) := by
  have hp : 128 * ((2048 * a.val + y.val) / 128) + y.val % 128 = 2048 * a.val + y.val := by omega
  have hC := table_cos x11 ⟨r.val / 2, by omega⟩ f hf o ⟨y.val % 128, by omega⟩ ⟨(2048 * a.val + y.val) / 128, by omega⟩
  have hS := table_sin x11 ⟨r.val / 2, by omega⟩ f hf o ⟨y.val % 128, by omega⟩ ⟨(2048 * a.val + y.val) / 128, by omega⟩
  simp only [hp] at hC hS
  have hk : ∀ (k : Fin 96), kwG x9 (ix3 h k ⟨(2048 * a.val + y.val) / 64, by omega⟩) = x9 (ix4 0 h k ⟨(2048 * a.val + y.val) / 64, by omega⟩) := fun k =>
    dif_pos (show (2048 * a.val + y.val) / 64 < 320 by omega)
  unfold keyG
  rw [hC, hS, hk, hk, loW_eq, hiW_eq]

/-- Where a cached position lies below the row's length, the kernel's rotated key is the reference's. -/
theorem key_eq (a : Fin 10) (x7 : Vec Ideal S1x8x48x2048 .i8) (x11 : Vec Ideal S48x1 .f32) (x9 : Vec Ideal S1x8x96x320 .f32)
    (x3 : Vec Ideal S10x8x20480x48 .i8) (x5 : Vec Ideal S10x8x320x96 .f32) (x8 : Vec Ideal S10 .i32) (b : Fin 10) (h : Fin 8) (r : Fin 96) (y : Fin 2048) (t : Fin 20480)
    (ht : t.val = 2048 * a.val + y.val)
    (hf : ∀ k, x11 (ix2 k 0) = freqK k) (hx7 : ∀ k, x7 (ix4 0 h k y) = x3 (ix4 b h t k)) (hx9 : ∀ k g, x9 (ix4 0 h k g) = x5 (ix4 b h g k))
    (ho : ((x8 (ix1 b) : BitVec 32) + BitVec.ofNat 32 t.val).toInt = (x8 (ix1 b) : BitVec 32).toInt + t.val) :
    keyG a x7 (tlG x11) (tbG (x8 (ix1 b)) x11) (kwG x9) h r y
      = val_main_v110 (F := Ideal) x3 x5 x8 (ix5 b h t ⟨r.val % 2, by omega⟩ ⟨r.val / 2, by omega⟩) := by
  obtain ⟨f, e⟩ := freq_real ⟨r.val / 2, by omega⟩
  rw [keyG_row a x7 x11 _ x9 h r y f ((hf _).trans e), hx7, hx9, hx9]
  have hang : angR (x8 (ix1 b) + BitVec.ofNat 32 t.val) ⟨r.val / 2, by omega⟩
      = (((((x8 (ix1 b) : BitVec 32).toInt + (2048 * a.val + y.val : ℕ) : ℤ) : ℝ) * f : ℝ) : EReal) := by
    unfold angR
    rw [freq_freqK, e, ho, ht]
    exact (EReal.coe_mul _ _).symm
  have hg : (⟨t.val / 64, by omega⟩ : Fin 320) = ⟨(2048 * a.val + y.val) / 64, by omega⟩ := Fin.ext (by show t.val / 64 = _; rw [ht])
  by_cases hr : r.val % 2 = 1
  · have hj : (⟨r.val % 2, by omega⟩ : Fin 2) = 1 := Fin.ext hr
    rw [hj, ref110b, ref87, ref94, hang, hg]
    exact if_pos hr
  · have hj : (⟨r.val % 2, by omega⟩ : Fin 2) = 0 := Fin.ext (by show r.val % 2 = 0; omega)
    rw [hj, ref110a, ref87, ref94, hang, hg]
    exact if_neg hr

/-! ## The queries -/

theorem query_eq (x4 : Vec Ideal S10x32x96 .bf16) (x12 : Vec Ideal S1x48 .f32) (x0 : Vec Ideal S10x1x32x96 .bf16) (x7 x8 : Vec Ideal S10 .i32) (b : Fin 10) (w : BitVec 32)
    (hx4 : ∀ h l, x4 (ix3 b h l) = x0 (ix4 b 0 h l)) (hf : ∀ k, x12 (ix2 0 k) = freqK k) (hw : w = x8 (ix1 b) + x7 (ix1 b)) (h : Fin 32) (l : Fin 96) :
    qrG b w x4 x12 h l = val_main_v61 (F := Ideal) x0 x7 x8 (ix4 b 0 h l) := by
  have ha : ∀ k : Fin 48, angE w (x12 (ix2 0 k)) = angR (x8 (ix1 b) + x7 (ix1 b)) k := fun k => by
    rw [hf, hw, ← freq_freqK]; rfl
  unfold qrG
  by_cases hl : l.val < 48
  · rw [dif_pos hl, ha, hx4, hx4]
    exact (ref61a x0 x7 x8 b h ⟨l.val, hl⟩).symm
  · rw [dif_neg hl, ha, hx4, hx4]
    have hj : l = ⟨48 + (⟨l.val - 48, by omega⟩ : Fin 48).val, by show 48 + (l.val - 48) < 96; omega⟩ := Fin.ext (by show l.val = 48 + (l.val - 48); omega)
    exact ((congrArg (fun l' => val_main_v61 (F := Ideal) x0 x7 x8 (ix4 b 0 h l')) hj).trans (ref61b x0 x7 x8 b h ⟨l.val - 48, by omega⟩)).symm

/-! ## A score -/

/-- The block a point reads is its own, as long as it holds a position below the length. -/
theorem block_min (v : BitVec 32) (a y : ℕ) (hv : v.toInt ≤ 20480) (h : ((2048 * a + y : ℕ) : ℤ) < v.toInt) :
    min a ((Scalar.maxsi (Scalar.subi v 1#32) 0#32).toNat / 2048) = a := by
  have h1 : (v - 1#32).toNat = v.toNat - 1 ∧ (v - 1#32).toInt = v.toInt - 1 := by
    have e := BitVec.toInt_eq_toNat_cond v
    have e' := BitVec.toInt_eq_toNat_cond (v - 1#32)
    have hl := v.isLt
    have hs : (v - 1#32).toNat = (2 ^ 32 - 1 + v.toNat) % 2 ^ 32 := BitVec.toNat_sub v 1#32
    omega
  have h2 : Scalar.maxsi (Scalar.subi v 1#32) 0#32 = v - 1#32 ∨ Scalar.maxsi (Scalar.subi v 1#32) 0#32 = 0#32 ∧ v.toInt = 1 := by
    show (if (0#32).slt (v - 1#32) then v - 1#32 else 0#32) = _ ∨ (if (0#32).slt (v - 1#32) then v - 1#32 else 0#32) = _ ∧ _
    by_cases hs : (0#32).slt (v - 1#32) = true
    · exact Or.inl (if_pos hs)
    · refine Or.inr ⟨if_neg hs, ?_⟩
      rw [BitVec.slt_iff_toInt_lt] at hs
      have z : (0#32 : BitVec 32).toInt = 0 := by decide
      omega
  have e := BitVec.toInt_eq_toNat_cond v
  have hl := v.isLt
  rcases h2 with h2 | ⟨h2, h3⟩
  · rw [h2, h1.1]; omega
  · have : a = 0 := by omega
    rw [this]; exact Nat.zero_min _

theorem toInt_addPos (o : BitVec 32) (t : ℕ) (ht : t < 20480) (ho : o.toInt + t ≤ 2147483647) : (o + BitVec.ofNat 32 t).toInt = o.toInt + t := by
  have e := BitVec.toInt_eq_toNat_cond o
  have e' := BitVec.toInt_eq_toNat_cond (o + BitVec.ofNat 32 t)
  have hs : (o + BitVec.ofNat 32 t).toNat = (o.toNat + t % 2 ^ 32) % 2 ^ 32 := by rw [BitVec.toNat_add, BitVec.toNat_ofNat]
  have hl := o.isLt
  omega

/-- One score of a block, from what the block's operands are. -/
theorem score_eq (a : Fin 10) (x7 : Vec Ideal S1x8x48x2048 .i8) (x11 : Vec Ideal S48x1 .f32) (x9 : Vec Ideal S1x8x96x320 .f32) (q : Fin 32 → Fin 96 → EReal)
    (x0 : Vec Ideal S10x1x32x96 .bf16) (x3 : Vec Ideal S10x8x20480x48 .i8) (x5 : Vec Ideal S10x8x320x96 .f32) (xl x8 : Vec Ideal S10 .i32)
    (b : Fin 10) (h : Fin 32) (y : Fin 2048) (t : Fin 20480) (ht : t.val = 2048 * a.val + y.val)
    (hf : ∀ k, x11 (ix2 k 0) = freqK k) (hx7 : ((t.val : ℤ) < (xl (ix1 b) : BitVec 32).toInt) → ∀ h k, x7 (ix4 0 h k y) = x3 (ix4 b h t k)) (hx9 : ∀ h k g, x9 (ix4 0 h k g) = x5 (ix4 b h g k))
    (hq : ∀ h l, q h l = val_main_v61 (F := Ideal) x0 xl x8 (ix4 b 0 h l))
    (ho : ((t.val : ℤ) < (xl (ix1 b) : BitVec 32).toInt) → ((x8 (ix1 b) : BitVec 32) + BitVec.ofNat 32 t.val).toInt = (x8 (ix1 b) : BitVec 32).toInt + t.val) :
    scG a (xl (ix1 b)) x7 (tlG x11) (tbG (x8 (ix1 b)) x11) (kwG x9) (qmG q) (ix4 0 0 h y)
      = val_main_v124 (F := Ideal) x0 x3 x5 xl x8 (ix4 b 0 h t) := by
  refine Eq.trans ?_ (ref124 x0 x3 x5 xl x8 b h t).symm
  show scoreE (IntOp.cmpi .slt (BitVec.ofNat 32 (2048 * a.val + y.val)) (xl (ix1 b))) _ = _
  rw [← ht]
  unfold scoreE
  by_cases hv : IntOp.cmpi .slt (BitVec.ofNat 32 t.val) (xl (ix1 b) : BitVec 32) = 1#1
  · have hlt : (t.val : ℤ) < (xl (ix1 b) : BitVec 32).toInt := by
      have := IntOp.cmpi_slt.mp hv
      rwa [toInt_nat _ (by omega)] at this
    refine congrArg (fun z => Scalar.select _ (z * Ideal.ofBits FTy.f32 0x3DD105EC#32) 0) ?_
    refine (masked_sum q (fun h' r => keyG a x7 (tlG x11) (tbG (x8 (ix1 b)) x11) (kwG x9) h' r y) h).trans ?_
    rw [ref112]
    refine Finset.sum_congr rfl fun j _ => Finset.sum_congr rfl fun k _ => congrArg₂ (· * ·) ?_ ?_
    · refine (key_eq a x7 x11 x9 x3 x5 x8 b ⟨h.val / 4, by omega⟩ ⟨2 * k.val + j.val, by omega⟩ y t ht hf (fun k => hx7 hlt _ k) (hx9 _) (ho hlt)).trans ?_
      exact congrArg₂ (fun j' k' => val_main_v110 (F := Ideal) x3 x5 x8 (ix5 b ⟨h.val / 4, by omega⟩ t j' k'))
        (Fin.ext (by show (2 * k.val + j.val) % 2 = j.val; omega)) (Fin.ext (by show (2 * k.val + j.val) / 2 = k.val; omega))
    · rw [hq]
      exact congrArg (fun h' => val_main_v61 (F := Ideal) x0 xl x8 (ix4 b 0 h' _)) (Fin.ext (by show h.val = h.val / 4 * 4 + h.val % 4; omega))
  · exact (if_neg hv).trans (if_neg hv).symm

/-! ## The two results -/

variable (m : (ℓ : Loc nD τ sig) → Buf (Elt Ideal) ℓ)

/-- The lengths. -/
abbrev lenA (c : Dev nD) : Vec Ideal S10 .i32 := m ((c : Thread nD τ).loc main_arg7)
/-- The offsets. -/
abbrev offA (c : Dev nD) : Vec Ideal S10 .i32 := m ((c : Thread nD τ).loc main_arg8)

theorem posW_tbl (c : Dev nD) (b : Fin 10) : posW c (tbl m 0) (tbl m 1) b = (offA m c (ix1 b) : BitVec 32) + (lenA m c (ix1 b) : BitVec 32) := by
  unfold posW
  rw [lenV_tbl, offW_tbl]; rfl

theorem query_run (c : Dev nD) (b : Fin 10) (h : Fin 32) (l : Fin 96) :
    qrG b (posW c (tbl m 0) (tbl m 1) b) (XQ m c) (XFR m c) h l
      = val_main_v61 (F := Ideal) (m ((c : Thread nD τ).loc main_arg0)) (m ((c : Thread nD τ).loc main_arg7)) (m ((c : Thread nD τ).loc main_arg8)) (ix4 b 0 h l) :=
  query_eq (XQ m c) (XFR m c) _ _ _ b _ (XQ_apply m c b) (XFR_apply m c) (posW_tbl m c b) h l

/-- The kernel's rotated queries are the reference's. -/
theorem outQ_eq (c : Dev nD) : Tracked.outQ m c
    = val_main_v125 (F := Ideal) (m ((c : Thread nD τ).loc main_arg0)) (m ((c : Thread nD τ).loc main_arg7)) (m ((c : Thread nD τ).loc main_arg8)) := by
  funext (j : S10x32x96.Idx)
  refine Eq.trans ?_ (congrArg _ (eq_ix3 j).symm)
  exact (query_run m c (j 0) (j 1) (j 2)).trans (refQ _ _ _ (j 0) (j 1) (j 2)).symm

/-- The block of codes of a point, below the length. -/
theorem codes_run (c : Dev nD) (i : grid0.Coords) (a b : Fin 10) (ha : i 1 = a) (hb : i 0 = b) (hlen : (lenA m c (ix1 b) : BitVec 32).toInt ≤ 20480) (t : Fin 20480) (y : Fin 2048)
    (ht : t.val = 2048 * a.val + y.val) (hlt : (t.val : ℤ) < (lenA m c (ix1 b) : BitVec 32).toInt) (h : Fin 8) (k : Fin 48) :
    XKCb m c i (ix4 0 h k y) = (m ((c : Thread nD τ).loc main_arg3) : Vec Ideal S10x8x20480x48 .i8) (ix4 b h t k) := by
  subst ha hb
  refine (congrArg (fun z : Fin 20480 => XKC m c (ix4 (i 0) h k z)) (Fin.ext ?_ : _ = t)).trans (XKC_apply m c (i 0) h k t)
  show 2048 * (min (i 1).val ((Scalar.maxsi (Scalar.subi (lenV c (tbl m 0) (i 0)) 1#32) 0#32).toNat / 2048)) + y.val = t.val
  rw [lenV_tbl m c (i 0), block_min _ (i 1).val y.val hlen (by rw [← ht]; exact hlt)]
  exact ht.symm

/-- A point's scores, by its two coordinates. -/
theorem scP_at (c : Dev nD) (i : grid0.Coords) (a b : Fin 10) (ha : i 1 = a) (hb : i 0 = b) : Tracked.scP m c i
    = scG a (lenA m c (ix1 b)) (XKCb m c i) (tlG (XFC m c)) (tbG (offA m c (ix1 b)) (XFC m c)) (kwG (XKSb m c b))
      (qmG (qrG b (posW c (tbl m 0) (tbl m 1) b) (XQ m c) (XFR m c))) := by
  subst ha hb
  unfold Tracked.scP scT
  rw [lenV_tbl m c (i 0), offW_tbl m c (i 0)]

theorem scores_run (c : Dev nD) (i : grid0.Coords) (a b : Fin 10) (ha : i 1 = a) (hb : i 0 = b) (hlen : (lenA m c (ix1 b) : BitVec 32).toInt ≤ 20480)
    (hoff : (offA m c (ix1 b) : BitVec 32).toInt + max (lenA m c (ix1 b) : BitVec 32).toInt 0 ≤ 2147483647) (h : Fin 32) (t : Fin 20480) (y : Fin 2048) (ht : t.val = 2048 * a.val + y.val) :
    Tracked.scP m c i (ix4 0 0 h y) = val_main_v124 (F := Ideal) (m ((c : Thread nD τ).loc main_arg0)) (m ((c : Thread nD τ).loc main_arg3)) (m ((c : Thread nD τ).loc main_arg5))
      (lenA m c) (offA m c) (ix4 b 0 h t) :=
  (congrFun (scP_at m c i a b ha hb) (ix4 0 0 h y)).trans
    (score_eq a (XKCb m c i) (XFC m c) (XKSb m c b) _ (m ((c : Thread nD τ).loc main_arg0)) (m ((c : Thread nD τ).loc main_arg3)) (m ((c : Thread nD τ).loc main_arg5))
      (lenA m c) (offA m c) b h y t ht (XFC_apply m c) (fun hlt h' k => codes_run m c i a b ha hb hlen t y ht hlt h' k) (fun h' k g => XKS_apply m c b h' k g) (query_run m c b)
      (fun hlt => toInt_addPos _ _ t.isLt (by omega)))

/-- An array of scores is another when its blocks are. -/
theorem gather_eq (S : grid0.Coords → Vec Ideal S1x1x32x2048 .f32) (R : Vec Ideal S10x1x32x20480 .f32)
    (H : ∀ (i : grid0.Coords) (a b : Fin 10), i 1 = a → i 0 = b → ∀ (h : Fin 32) (t : Fin 20480) (y : Fin 2048), t.val = 2048 * a.val + y.val → S i (ix4 0 0 h y) = R (ix4 b 0 h t)) :
    Tracked.gather S = R := by
  funext (j : S10x1x32x20480.Idx)
  have hj : j = ix4 (j 0) 0 (j 2) (j 3) := (eq_ix4 j).trans (congrArg (fun z : Fin 1 => ix4 (j 0) z (j 2) (j 3)) (Subsingleton.elim _ _))
  have h3 : (j 3).val < 20480 := (j 3).isLt
  have h0 : (j 0).val < 10 := (j 0).isLt
  have hv := coords_val (Tracked.pt (j 0) ⟨(j 3).val / 2048, by omega⟩)
  refine (H (grid0.coords (Tracked.pt (j 0) ⟨(j 3).val / 2048, by omega⟩)) (⟨(j 3).val / 2048, by omega⟩ : Fin 10) (j 0)
    (Fin.ext (hv.2.trans (by show (10 * (j 0).val + (j 3).val / 2048) % 10 = (j 3).val / 2048; omega)))
    (Fin.ext (hv.1.trans (by show (10 * (j 0).val + (j 3).val / 2048) / 10 = (j 0).val; omega)))
    (j 2) (j 3) ⟨(j 3).val % 2048, by omega⟩ (by show (j 3).val = 2048 * ((j 3).val / 2048) + (j 3).val % 2048; omega)).trans (congrArg R hj.symm)

/-- The kernel's scores are the reference's. -/
theorem outS_eq (c : Dev nD) (hlen : ∀ b : Fin 10, (lenA m c (ix1 b) : BitVec 32).toInt ≤ 20480)
    (hoff : ∀ b : Fin 10, (offA m c (ix1 b) : BitVec 32).toInt + max (lenA m c (ix1 b) : BitVec 32).toInt 0 ≤ 2147483647) : Tracked.outS m c
    = val_main_v124 (F := Ideal) (m ((c : Thread nD τ).loc main_arg0)) (m ((c : Thread nD τ).loc main_arg3)) (m ((c : Thread nD τ).loc main_arg5)) (lenA m c) (offA m c) :=
  gather_eq (Tracked.scP m c) _ fun i a b ha hb h t y ht => scores_run m c i a b ha hb (hlen b) (hoff b) h t y ht

end Cert.KernelIdeal

end
-- ==== Proof.lean ====
/- The proof of the claims of this certificate: the three programs' frames, that the idealized kernel is the
   kernel's program, and that its two results are the reference's. `Proof/Run*.lean` runs the body, `Proof/Launch*.lean`
   and `Proof/Frame*.lean` the launch for the frames, `Proof/ValueKernelIdeal.lean` and `Proof/OutKernelIdeal.lean` the
   launch with what its buffers hold, `Proof/ScoreEq.lean` the equality with the reference. -/
module

public import proofs.«01_k».proof.Defs
public import proofs.«01_k».proof.Proof.FrameKernel
public import proofs.«01_k».proof.Proof.FrameKernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_in_range
public import proofs.«01_k».proof.Proof.ScoreEq
public import Idealize.ShloMosaic.Adequacy
public import Idealize.ShloMosaic.Init

@[expose] public section

noncomputable section

namespace Cert.Proof

open Idealize.ShloMosaic Idealize.ShloMosaic.Tactic Idealize.SL.Sem

/-- The kernel's frame. -/
theorem frame_p : Cert.quiescent_Kernel := fun m ρ _ => Cert.Kernel.Plain.frame m ρ

/-- The idealized kernel's frame. -/
theorem frame_pi : Cert.quiescent_KernelIdeal := fun m ρ _ => Cert.KernelIdeal.Plain.frame m ρ

/-- The reference's frame: its generated run read at the arguments; it declares no semaphore. -/
theorem frame_ri : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- What the precondition says of a row: its length is within the cache, and its positions stay within the words. -/
theorem pre_row (x0 x1 x2 x3 x4 x5 x6) (x7 x8 : IVec Cert.Pre_in_range.S10 32) [Cert.Pre_in_range.Facts]
    (h : Cert.Pre_in_range.fn (F := Ideal) x0 x1 x2 x3 x4 x5 x6 x7 x8 = fun _ => 1#1) (b : Fin 10) :
    (x7 (ix1 b)).toInt ≤ 20480 ∧ (x8 (ix1 b)).toInt + max (x7 (ix1 b)).toInt 0 ≤ 2147483647 := by
  have e : IntOp.andi (IntOp.cmpi .sle (x7 (ix1 b)) 20480#32)
      (IntOp.cmpi .sle (x8 (ix1 b)) (IntOp.subi 2147483647#32 (IntOp.maxsi (x7 (ix1 b)) 0#32))) = 1#1 := congrFun h (ix1 b)
  obtain ⟨h1, h2⟩ := IntOp.andi_eq_one.mp e
  have h1 := IntOp.cmpi_sle.mp h1
  have h2 := IntOp.cmpi_sle.mp h2
  have c1 : (20480#32 : BitVec 32).toInt = 20480 := by decide
  have c0 : (0#32 : BitVec 32).toInt = 0 := by decide
  have hm : (IntOp.maxsi (x7 (ix1 b)) 0#32).toInt = max (x7 (ix1 b)).toInt 0 := by
    show (if (0#32).slt (x7 (ix1 b)) then x7 (ix1 b) else 0#32).toInt = _
    by_cases hs : (0#32).slt (x7 (ix1 b)) = true
    · have := BitVec.slt_iff_toInt_lt.mp hs
      rw [c0] at this
      rw [if_pos hs]
      exact (max_eq_left (le_of_lt this)).symm
    · have := fun h => hs (BitVec.slt_iff_toInt_lt.mpr h)
      rw [c0] at this
      rw [if_neg hs, c0]
      exact (max_eq_right (not_lt.mp this)).symm
  have hb : (IntOp.subi 2147483647#32 (IntOp.maxsi (x7 (ix1 b)) 0#32)).toInt = 2147483647 - (IntOp.maxsi (x7 (ix1 b)) 0#32).toInt := by
    generalize IntOp.maxsi (x7 (ix1 b)) 0#32 = y at hm ⊢
    show (2147483647#32 - y).toInt = _
    have e1 := BitVec.toInt_eq_toNat_cond y
    have e2 := BitVec.toInt_eq_toNat_cond (2147483647#32 - y)
    have e3 : (2147483647#32 - y).toNat = (2 ^ 32 - y.toNat + 2147483647) % 2 ^ 32 := BitVec.toNat_sub _ _
    have := y.isLt
    have : 0 ≤ y.toInt := hm ▸ le_max_right _ _
    omega
  rw [hb, hm] at h2
  exact ⟨by omega, by linarith⟩

/-- The kernel's rotated queries and scores are the reference's. -/
theorem values : Cert.algebraic_KernelIdeal_ReferenceIdeal_pre_in_range := fun m g m' g' hpre hargs => by
  have hrow := fun (c : Dev Cert.KernelIdeal.nD) (b : Fin 10) => pre_row _ _ _ _ _ _ _ _ _ (hpre c) b
  refine ⟨Cert.KernelIdeal.Tracked.outQ m, Cert.KernelIdeal.Tracked.outS m, Cert.KernelIdeal.Tracked.run_results m g fun c b => ?_, ?_⟩
  · exact le_of_eq_of_le (congrArg BitVec.toInt (Cert.KernelIdeal.lenV_tbl m c b)) (hrow c b).1
  · refine (θ_run Cert.ReferenceIdeal.defs _ _).mono (fun r h c => ?_) (Cert.ReferenceIdeal.Value.run (F := Ideal) m' g')
    obtain ⟨a0, -, -, a3, -, a5, -, a7, a8⟩ := hargs c
    refine ⟨(h c).1.trans ?_, (h c).2.1.trans ?_, (h c).2.2⟩
    · refine (Cert.ReferenceIdeal.Read.val_main_v125_eq m' c).trans (Eq.trans ?_ (Cert.KernelIdeal.outQ_eq m c).symm)
      exact congr (congr (congrArg _ a0) a7) a8
    · refine (Cert.ReferenceIdeal.Read.val_main_v124_eq m' c).trans (Eq.trans ?_ (Cert.KernelIdeal.outS_eq m c (fun b => (hrow c b).1) (fun b => (hrow c b).2)).symm)
      exact congr (congr (congr (congr (congrArg _ a0) a3) a5) a7) a8

theorem claim : Cert.Claim := ⟨Cert.Kernel.Gen.facts, Cert.KernelIdeal.Gen.facts, Cert.ReferenceIdeal.Gen.facts, Cert.Pre_in_range.Gen.facts,
  frame_p, frame_pi, fun m ρ _ => frame_pi m ρ trivial, frame_ri, fun m ρ _ => frame_ri m ρ trivial, trivial, values⟩

end Cert.Proof

end
